-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_ProjQkv (m : (ℓ : Loc Cert.ProjQkv.nD Cert.ProjQkv.τ Cert.ProjQkv.sig) → Buf (Elt Bits) ℓ) : Prop :=
  True

def Pre_ProjQkvIdeal (m : (ℓ : Loc Cert.ProjQkvIdeal.nD Cert.ProjQkvIdeal.τ Cert.ProjQkvIdeal.sig) → Buf (Elt Ideal) ℓ) : Prop :=
  True

def Pre_RefQkvIdeal (m : (ℓ : Loc Cert.RefQkvIdeal.nD Cert.RefQkvIdeal.τ Cert.RefQkvIdeal.sig) → Buf (Elt Ideal) ℓ) : Prop :=
  True

def Pre_ProjGate (m : (ℓ : Loc Cert.ProjGate.nD Cert.ProjGate.τ Cert.ProjGate.sig) → Buf (Elt Bits) ℓ) : Prop :=
  True

def Pre_ProjGateIdeal (m : (ℓ : Loc Cert.ProjGateIdeal.nD Cert.ProjGateIdeal.τ Cert.ProjGateIdeal.sig) → Buf (Elt Ideal) ℓ) : Prop :=
  True

def Pre_RefGateIdeal (m : (ℓ : Loc Cert.RefGateIdeal.nD Cert.RefGateIdeal.τ Cert.RefGateIdeal.sig) → Buf (Elt Ideal) ℓ) : Prop :=
  True

def Pre_ProjRwkv (m : (ℓ : Loc Cert.ProjRwkv.nD Cert.ProjRwkv.τ Cert.ProjRwkv.sig) → Buf (Elt Bits) ℓ) : Prop :=
  True

def Pre_ProjRwkvIdeal (m : (ℓ : Loc Cert.ProjRwkvIdeal.nD Cert.ProjRwkvIdeal.τ Cert.ProjRwkvIdeal.sig) → Buf (Elt Ideal) ℓ) : Prop :=
  True

def Pre_RefRwkvIdeal (m : (ℓ : Loc Cert.RefRwkvIdeal.nD Cert.RefRwkvIdeal.τ Cert.RefRwkvIdeal.sig) → Buf (Elt Ideal) ℓ) : Prop :=
  True

def Pre_NormMix (m : (ℓ : Loc Cert.NormMix.nD Cert.NormMix.τ Cert.NormMix.sig) → Buf (Elt Bits) ℓ) : Prop :=
  True

def Pre_NormMixIdeal (m : (ℓ : Loc Cert.NormMixIdeal.nD Cert.NormMixIdeal.τ Cert.NormMixIdeal.sig) → Buf (Elt Ideal) ℓ) : Prop :=
  True

def Pre_RefNormMixIdeal (m : (ℓ : Loc Cert.RefNormMixIdeal.nD Cert.RefNormMixIdeal.τ Cert.RefNormMixIdeal.sig) → Buf (Elt Ideal) ℓ) : Prop :=
  True

def Pre_NormLast (m : (ℓ : Loc Cert.NormLast.nD Cert.NormLast.τ Cert.NormLast.sig) → Buf (Elt Bits) ℓ) : Prop :=
  True

def Pre_NormLastIdeal (m : (ℓ : Loc Cert.NormLastIdeal.nD Cert.NormLastIdeal.τ Cert.NormLastIdeal.sig) → Buf (Elt Ideal) ℓ) : Prop :=
  True

def Pre_RefNormLastIdeal (m : (ℓ : Loc Cert.RefNormLastIdeal.nD Cert.RefNormLastIdeal.τ Cert.RefNormLastIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMergeIdeal (m : (ℓ : Loc Cert.RefMergeIdeal.nD Cert.RefMergeIdeal.τ Cert.RefMergeIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_finite_route [hPre_finite_route : Cert.Pre_finite_route.Facts] (m : (ℓ : Loc Cert.RouteIdeal.nD Cert.RouteIdeal.τ Cert.RouteIdeal.sig) → Buf (Elt Ideal) ℓ) : Prop :=
  ∀ c : Dev Cert.RouteIdeal.nD,
    (Cert.Pre_finite_route.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4)) (m ((c.tc : Thread Cert.RouteIdeal.nD Cert.RouteIdeal.τ).loc Cert.RouteIdeal.main_arg5)) (m ((c.tc : Thread Cert.RouteIdeal.nD Cert.RouteIdeal.τ).loc Cert.RouteIdeal.main_arg6)) (m ((c.tc : Thread Cert.RouteIdeal.nD Cert.RouteIdeal.τ).loc Cert.RouteIdeal.main_arg7)) (m ((c.tc : Thread Cert.RouteIdeal.nD Cert.RouteIdeal.τ).loc Cert.RouteIdeal.main_arg8)) (m ((c.tc : Thread Cert.RouteIdeal.nD Cert.RouteIdeal.τ).loc Cert.RouteIdeal.main_arg9)) (m ((c.tc : Thread Cert.RouteIdeal.nD Cert.RouteIdeal.τ).loc Cert.RouteIdeal.main_arg10)) (m ((c.tc : Thread Cert.RouteIdeal.nD Cert.RouteIdeal.τ).loc Cert.RouteIdeal.main_arg11))).1 = (fun _ => 1#1)
    ∧ (Cert.Pre_finite_route.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4)) (m ((c.tc : Thread Cert.RouteIdeal.nD Cert.RouteIdeal.τ).loc Cert.RouteIdeal.main_arg5)) (m ((c.tc : Thread Cert.RouteIdeal.nD Cert.RouteIdeal.τ).loc Cert.RouteIdeal.main_arg6)) (m ((c.tc : Thread Cert.RouteIdeal.nD Cert.RouteIdeal.τ).loc Cert.RouteIdeal.main_arg7)) (m ((c.tc : Thread Cert.RouteIdeal.nD Cert.RouteIdeal.τ).loc Cert.RouteIdeal.main_arg8)) (m ((c.tc : Thread Cert.RouteIdeal.nD Cert.RouteIdeal.τ).loc Cert.RouteIdeal.main_arg9)) (m ((c.tc : Thread Cert.RouteIdeal.nD Cert.RouteIdeal.τ).loc Cert.RouteIdeal.main_arg10)) (m ((c.tc : Thread Cert.RouteIdeal.nD Cert.RouteIdeal.τ).loc Cert.RouteIdeal.main_arg11))).2.1 = (fun _ => 1#1)
    ∧ (Cert.Pre_finite_route.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4)) (m ((c.tc : Thread Cert.RouteIdeal.nD Cert.RouteIdeal.τ).loc Cert.RouteIdeal.main_arg5)) (m ((c.tc : Thread Cert.RouteIdeal.nD Cert.RouteIdeal.τ).loc Cert.RouteIdeal.main_arg6)) (m ((c.tc : Thread Cert.RouteIdeal.nD Cert.RouteIdeal.τ).loc Cert.RouteIdeal.main_arg7)) (m ((c.tc : Thread Cert.RouteIdeal.nD Cert.RouteIdeal.τ).loc Cert.RouteIdeal.main_arg8)) (m ((c.tc : Thread Cert.RouteIdeal.nD Cert.RouteIdeal.τ).loc Cert.RouteIdeal.main_arg9)) (m ((c.tc : Thread Cert.RouteIdeal.nD Cert.RouteIdeal.τ).loc Cert.RouteIdeal.main_arg10)) (m ((c.tc : Thread Cert.RouteIdeal.nD Cert.RouteIdeal.τ).loc Cert.RouteIdeal.main_arg11))).2.2.1 = (fun _ => 1#1)
    ∧ (Cert.Pre_finite_route.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4)) (m ((c.tc : Thread Cert.RouteIdeal.nD Cert.RouteIdeal.τ).loc Cert.RouteIdeal.main_arg5)) (m ((c.tc : Thread Cert.RouteIdeal.nD Cert.RouteIdeal.τ).loc Cert.RouteIdeal.main_arg6)) (m ((c.tc : Thread Cert.RouteIdeal.nD Cert.RouteIdeal.τ).loc Cert.RouteIdeal.main_arg7)) (m ((c.tc : Thread Cert.RouteIdeal.nD Cert.RouteIdeal.τ).loc Cert.RouteIdeal.main_arg8)) (m ((c.tc : Thread Cert.RouteIdeal.nD Cert.RouteIdeal.τ).loc Cert.RouteIdeal.main_arg9)) (m ((c.tc : Thread Cert.RouteIdeal.nD Cert.RouteIdeal.τ).loc Cert.RouteIdeal.main_arg10)) (m ((c.tc : Thread Cert.RouteIdeal.nD Cert.RouteIdeal.τ).loc Cert.RouteIdeal.main_arg11))).2.2.2.1 = (fun _ => 1#1)
    ∧ (Cert.Pre_finite_route.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4)) (m ((c.tc : Thread Cert.RouteIdeal.nD Cert.RouteIdeal.τ).loc Cert.RouteIdeal.main_arg5)) (m ((c.tc : Thread Cert.RouteIdeal.nD Cert.RouteIdeal.τ).loc Cert.RouteIdeal.main_arg6)) (m ((c.tc : Thread Cert.RouteIdeal.nD Cert.RouteIdeal.τ).loc Cert.RouteIdeal.main_arg7)) (m ((c.tc : Thread Cert.RouteIdeal.nD Cert.RouteIdeal.τ).loc Cert.RouteIdeal.main_arg8)) (m ((c.tc : Thread Cert.RouteIdeal.nD Cert.RouteIdeal.τ).loc Cert.RouteIdeal.main_arg9)) (m ((c.tc : Thread Cert.RouteIdeal.nD Cert.RouteIdeal.τ).loc Cert.RouteIdeal.main_arg10)) (m ((c.tc : Thread Cert.RouteIdeal.nD Cert.RouteIdeal.τ).loc Cert.RouteIdeal.main_arg11))).2.2.2.2 = (fun _ => 1#1)

def Pre_RefRouteIdeal (m : (ℓ : Loc Cert.RefRouteIdeal.nD Cert.RefRouteIdeal.τ Cert.RefRouteIdeal.sig) → Buf (Elt Ideal) ℓ) : Prop :=
  True

def Pre_RefRouteIdeal_finite_route [hPre_finite_route : Cert.Pre_finite_route.Facts] (m : (ℓ : Loc Cert.RefRouteIdeal.nD Cert.RefRouteIdeal.τ Cert.RefRouteIdeal.sig) → Buf (Elt Ideal) ℓ) : Prop :=
  ∀ c : Dev Cert.RefRouteIdeal.nD,
    (Cert.Pre_finite_route.fn (F := Ideal) (m ((c.tc : Thread Cert.RefRouteIdeal.nD Cert.RefRouteIdeal.τ).loc Cert.RefRouteIdeal.main_arg0)) (m ((c.tc : Thread Cert.RefRouteIdeal.nD Cert.RefRouteIdeal.τ).loc Cert.RefRouteIdeal.main_arg1)) (m ((c.tc : Thread Cert.RefRouteIdeal.nD Cert.RefRouteIdeal.τ).loc Cert.RefRouteIdeal.main_arg2)) (m ((c.tc : Thread Cert.RefRouteIdeal.nD Cert.RefRouteIdeal.τ).loc Cert.RefRouteIdeal.main_arg3)) (m ((c.tc : Thread Cert.RefRouteIdeal.nD Cert.RefRouteIdeal.τ).loc Cert.RefRouteIdeal.main_arg4)) (m ((c.tc : Thread Cert.RefRouteIdeal.nD Cert.RefRouteIdeal.τ).loc Cert.RefRouteIdeal.main_arg5)) (m ((c.tc : Thread Cert.RefRouteIdeal.nD Cert.RefRouteIdeal.τ).loc Cert.RefRouteIdeal.main_arg6)) (m ((c.tc : Thread Cert.RefRouteIdeal.nD Cert.RefRouteIdeal.τ).loc Cert.RefRouteIdeal.main_arg7)) (m ((c.tc : Thread Cert.RefRouteIdeal.nD Cert.RefRouteIdeal.τ).loc Cert.RefRouteIdeal.main_arg8)) (m ((c.tc : Thread Cert.RefRouteIdeal.nD Cert.RefRouteIdeal.τ).loc Cert.RefRouteIdeal.main_arg9)) (m ((c.tc : Thread Cert.RefRouteIdeal.nD Cert.RefRouteIdeal.τ).loc Cert.RefRouteIdeal.main_arg10)) (m ((c.tc : Thread Cert.RefRouteIdeal.nD Cert.RefRouteIdeal.τ).loc Cert.RefRouteIdeal.main_arg11))).1 = (fun _ => 1#1)
    ∧ (Cert.Pre_finite_route.fn (F := Ideal) (m ((c.tc : Thread Cert.RefRouteIdeal.nD Cert.RefRouteIdeal.τ).loc Cert.RefRouteIdeal.main_arg0)) (m ((c.tc : Thread Cert.RefRouteIdeal.nD Cert.RefRouteIdeal.τ).loc Cert.RefRouteIdeal.main_arg1)) (m ((c.tc : Thread Cert.RefRouteIdeal.nD Cert.RefRouteIdeal.τ).loc Cert.RefRouteIdeal.main_arg2)) (m ((c.tc : Thread Cert.RefRouteIdeal.nD Cert.RefRouteIdeal.τ).loc Cert.RefRouteIdeal.main_arg3)) (m ((c.tc : Thread Cert.RefRouteIdeal.nD Cert.RefRouteIdeal.τ).loc Cert.RefRouteIdeal.main_arg4)) (m ((c.tc : Thread Cert.RefRouteIdeal.nD Cert.RefRouteIdeal.τ).loc Cert.RefRouteIdeal.main_arg5)) (m ((c.tc : Thread Cert.RefRouteIdeal.nD Cert.RefRouteIdeal.τ).loc Cert.RefRouteIdeal.main_arg6)) (m ((c.tc : Thread Cert.RefRouteIdeal.nD Cert.RefRouteIdeal.τ).loc Cert.RefRouteIdeal.main_arg7)) (m ((c.tc : Thread Cert.RefRouteIdeal.nD Cert.RefRouteIdeal.τ).loc Cert.RefRouteIdeal.main_arg8)) (m ((c.tc : Thread Cert.RefRouteIdeal.nD Cert.RefRouteIdeal.τ).loc Cert.RefRouteIdeal.main_arg9)) (m ((c.tc : Thread Cert.RefRouteIdeal.nD Cert.RefRouteIdeal.τ).loc Cert.RefRouteIdeal.main_arg10)) (m ((c.tc : Thread Cert.RefRouteIdeal.nD Cert.RefRouteIdeal.τ).loc Cert.RefRouteIdeal.main_arg11))).2.1 = (fun _ => 1#1)
    ∧ (Cert.Pre_finite_route.fn (F := Ideal) (m ((c.tc : Thread Cert.RefRouteIdeal.nD Cert.RefRouteIdeal.τ).loc Cert.RefRouteIdeal.main_arg0)) (m ((c.tc : Thread Cert.RefRouteIdeal.nD Cert.RefRouteIdeal.τ).loc Cert.RefRouteIdeal.main_arg1)) (m ((c.tc : Thread Cert.RefRouteIdeal.nD Cert.RefRouteIdeal.τ).loc Cert.RefRouteIdeal.main_arg2)) (m ((c.tc : Thread Cert.RefRouteIdeal.nD Cert.RefRouteIdeal.τ).loc Cert.RefRouteIdeal.main_arg3)) (m ((c.tc : Thread Cert.RefRouteIdeal.nD Cert.RefRouteIdeal.τ).loc Cert.RefRouteIdeal.main_arg4)) (m ((c.tc : Thread Cert.RefRouteIdeal.nD Cert.RefRouteIdeal.τ).loc Cert.RefRouteIdeal.main_arg5)) (m ((c.tc : Thread Cert.RefRouteIdeal.nD Cert.RefRouteIdeal.τ).loc Cert.RefRouteIdeal.main_arg6)) (m ((c.tc : Thread Cert.RefRouteIdeal.nD Cert.RefRouteIdeal.τ).loc Cert.RefRouteIdeal.main_arg7)) (m ((c.tc : Thread Cert.RefRouteIdeal.nD Cert.RefRouteIdeal.τ).loc Cert.RefRouteIdeal.main_arg8)) (m ((c.tc : Thread Cert.RefRouteIdeal.nD Cert.RefRouteIdeal.τ).loc Cert.RefRouteIdeal.main_arg9)) (m ((c.tc : Thread Cert.RefRouteIdeal.nD Cert.RefRouteIdeal.τ).loc Cert.RefRouteIdeal.main_arg10)) (m ((c.tc : Thread Cert.RefRouteIdeal.nD Cert.RefRouteIdeal.τ).loc Cert.RefRouteIdeal.main_arg11))).2.2.1 = (fun _ => 1#1)
    ∧ (Cert.Pre_finite_route.fn (F := Ideal) (m ((c.tc : Thread Cert.RefRouteIdeal.nD Cert.RefRouteIdeal.τ).loc Cert.RefRouteIdeal.main_arg0)) (m ((c.tc : Thread Cert.RefRouteIdeal.nD Cert.RefRouteIdeal.τ).loc Cert.RefRouteIdeal.main_arg1)) (m ((c.tc : Thread Cert.RefRouteIdeal.nD Cert.RefRouteIdeal.τ).loc Cert.RefRouteIdeal.main_arg2)) (m ((c.tc : Thread Cert.RefRouteIdeal.nD Cert.RefRouteIdeal.τ).loc Cert.RefRouteIdeal.main_arg3)) (m ((c.tc : Thread Cert.RefRouteIdeal.nD Cert.RefRouteIdeal.τ).loc Cert.RefRouteIdeal.main_arg4)) (m ((c.tc : Thread Cert.RefRouteIdeal.nD Cert.RefRouteIdeal.τ).loc Cert.RefRouteIdeal.main_arg5)) (m ((c.tc : Thread Cert.RefRouteIdeal.nD Cert.RefRouteIdeal.τ).loc Cert.RefRouteIdeal.main_arg6)) (m ((c.tc : Thread Cert.RefRouteIdeal.nD Cert.RefRouteIdeal.τ).loc Cert.RefRouteIdeal.main_arg7)) (m ((c.tc : Thread Cert.RefRouteIdeal.nD Cert.RefRouteIdeal.τ).loc Cert.RefRouteIdeal.main_arg8)) (m ((c.tc : Thread Cert.RefRouteIdeal.nD Cert.RefRouteIdeal.τ).loc Cert.RefRouteIdeal.main_arg9)) (m ((c.tc : Thread Cert.RefRouteIdeal.nD Cert.RefRouteIdeal.τ).loc Cert.RefRouteIdeal.main_arg10)) (m ((c.tc : Thread Cert.RefRouteIdeal.nD Cert.RefRouteIdeal.τ).loc Cert.RefRouteIdeal.main_arg11))).2.2.2.1 = (fun _ => 1#1)
    ∧ (Cert.Pre_finite_route.fn (F := Ideal) (m ((c.tc : Thread Cert.RefRouteIdeal.nD Cert.RefRouteIdeal.τ).loc Cert.RefRouteIdeal.main_arg0)) (m ((c.tc : Thread Cert.RefRouteIdeal.nD Cert.RefRouteIdeal.τ).loc Cert.RefRouteIdeal.main_arg1)) (m ((c.tc : Thread Cert.RefRouteIdeal.nD Cert.RefRouteIdeal.τ).loc Cert.RefRouteIdeal.main_arg2)) (m ((c.tc : Thread Cert.RefRouteIdeal.nD Cert.RefRouteIdeal.τ).loc Cert.RefRouteIdeal.main_arg3)) (m ((c.tc : Thread Cert.RefRouteIdeal.nD Cert.RefRouteIdeal.τ).loc Cert.RefRouteIdeal.main_arg4)) (m ((c.tc : Thread Cert.RefRouteIdeal.nD Cert.RefRouteIdeal.τ).loc Cert.RefRouteIdeal.main_arg5)) (m ((c.tc : Thread Cert.RefRouteIdeal.nD Cert.RefRouteIdeal.τ).loc Cert.RefRouteIdeal.main_arg6)) (m ((c.tc : Thread Cert.RefRouteIdeal.nD Cert.RefRouteIdeal.τ).loc Cert.RefRouteIdeal.main_arg7)) (m ((c.tc : Thread Cert.RefRouteIdeal.nD Cert.RefRouteIdeal.τ).loc Cert.RefRouteIdeal.main_arg8)) (m ((c.tc : Thread Cert.RefRouteIdeal.nD Cert.RefRouteIdeal.τ).loc Cert.RefRouteIdeal.main_arg9)) (m ((c.tc : Thread Cert.RefRouteIdeal.nD Cert.RefRouteIdeal.τ).loc Cert.RefRouteIdeal.main_arg10)) (m ((c.tc : Thread Cert.RefRouteIdeal.nD Cert.RefRouteIdeal.τ).loc Cert.RefRouteIdeal.main_arg11))).2.2.2.2 = (fun _ => 1#1)

def Pre_Rwkv (m : (ℓ : Loc Cert.Rwkv.nD Cert.Rwkv.τ Cert.Rwkv.sig) → Buf (Elt Bits) ℓ) : Prop :=
  True

def Pre_RwkvIdeal (m : (ℓ : Loc Cert.RwkvIdeal.nD Cert.RwkvIdeal.τ Cert.RwkvIdeal.sig) → Buf (Elt Ideal) ℓ) : Prop :=
  True

def Pre_RefRwkvFirstIdeal (m : (ℓ : Loc Cert.RefRwkvFirstIdeal.nD Cert.RefRwkvFirstIdeal.τ Cert.RefRwkvFirstIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ProjQkv [hProjQkv : Cert.ProjQkv.Facts] : Prop :=
  ∀ (m : (ℓ : Loc Cert.ProjQkv.nD Cert.ProjQkv.τ Cert.ProjQkv.sig) → Buf (Elt Bits) ℓ) (g : Dev Cert.ProjQkv.nD → PrngReg), Pre_ProjQkv m →
    θ_run (Cert.ProjQkv.defs (F := Bits)) (onTc (τ := Cert.ProjQkv.τ) (Cert.ProjQkv.main (F := Bits))) ⟨m, fun _ => 0, g⟩ (fun r => (∀ c : Dev Cert.ProjQkv.nD,
      r.2.mem ((c.tc : Thread Cert.ProjQkv.nD Cert.ProjQkv.τ).loc Cert.ProjQkv.main_arg0) = m ((c.tc : Thread Cert.ProjQkv.nD Cert.ProjQkv.τ).loc Cert.ProjQkv.main_arg0)
      ∧ r.2.mem ((c.tc : Thread Cert.ProjQkv.nD Cert.ProjQkv.τ).loc Cert.ProjQkv.main_arg1) = m ((c.tc : Thread Cert.ProjQkv.nD Cert.ProjQkv.τ).loc Cert.ProjQkv.main_arg1)
      ∧ r.2.mem ((c.tc : Thread Cert.ProjQkv.nD Cert.ProjQkv.τ).loc Cert.ProjQkv.main_arg2) = m ((c.tc : Thread Cert.ProjQkv.nD Cert.ProjQkv.τ).loc Cert.ProjQkv.main_arg2))
      ∧ r.2.sem = fun _ => 0)

def quiescent_ProjQkvIdeal [hProjQkvIdeal : Cert.ProjQkvIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg), Pre_ProjQkvIdeal m →
    θ_run (Cert.ProjQkvIdeal.defs (F := Ideal)) (onTc (τ := Cert.ProjQkvIdeal.τ) (Cert.ProjQkvIdeal.main (F := Ideal))) ⟨m, fun _ => 0, g⟩ (fun r => (∀ c : Dev Cert.ProjQkvIdeal.nD,
      r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
      ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1)
      ∧ r.2.mem ((c.tc : Thread Cert.ProjQkvIdeal.nD Cert.ProjQkvIdeal.τ).loc Cert.ProjQkvIdeal.main_arg2) = m ((c.tc : Thread Cert.ProjQkvIdeal.nD Cert.ProjQkvIdeal.τ).loc Cert.ProjQkvIdeal.main_arg2))
      ∧ r.2.sem = fun _ => 0)

def quiescent_RefQkvIdeal [hRefQkvIdeal : Cert.RefQkvIdeal.Facts] : Prop :=
  ∀ (m : (ℓ : Loc Cert.RefQkvIdeal.nD Cert.RefQkvIdeal.τ Cert.RefQkvIdeal.sig) → Buf (Elt Ideal) ℓ) (g : Dev Cert.RefQkvIdeal.nD → PrngReg), Pre_RefQkvIdeal m →
    θ_run (Cert.RefQkvIdeal.defs (F := Ideal)) (onTc (τ := Cert.RefQkvIdeal.τ) (Cert.RefQkvIdeal.main (F := Ideal))) ⟨m, fun _ => 0, g⟩ (fun r => (∀ c : Dev Cert.RefQkvIdeal.nD,
      r.2.mem ((c.tc : Thread Cert.RefQkvIdeal.nD Cert.RefQkvIdeal.τ).loc Cert.RefQkvIdeal.main_arg0) = m ((c.tc : Thread Cert.RefQkvIdeal.nD Cert.RefQkvIdeal.τ).loc Cert.RefQkvIdeal.main_arg0)
      ∧ r.2.mem ((c.tc : Thread Cert.RefQkvIdeal.nD Cert.RefQkvIdeal.τ).loc Cert.RefQkvIdeal.main_arg1) = m ((c.tc : Thread Cert.RefQkvIdeal.nD Cert.RefQkvIdeal.τ).loc Cert.RefQkvIdeal.main_arg1)
      ∧ r.2.mem ((c.tc : Thread Cert.RefQkvIdeal.nD Cert.RefQkvIdeal.τ).loc Cert.RefQkvIdeal.main_arg2) = m ((c.tc : Thread Cert.RefQkvIdeal.nD Cert.RefQkvIdeal.τ).loc Cert.RefQkvIdeal.main_arg2))
      ∧ r.2.sem = fun _ => 0)

def quiescent_ProjGate [hProjGate : Cert.ProjGate.Facts] : Prop :=
  ∀ (m : (ℓ : Loc Cert.ProjGate.nD Cert.ProjGate.τ Cert.ProjGate.sig) → Buf (Elt Bits) ℓ) (g : Dev Cert.ProjGate.nD → PrngReg), Pre_ProjGate m →
    θ_run (Cert.ProjGate.defs (F := Bits)) (onTc (τ := Cert.ProjGate.τ) (Cert.ProjGate.main (F := Bits))) ⟨m, fun _ => 0, g⟩ (fun r => (∀ c : Dev Cert.ProjGate.nD,
      r.2.mem ((c.tc : Thread Cert.ProjGate.nD Cert.ProjGate.τ).loc Cert.ProjGate.main_arg0) = m ((c.tc : Thread Cert.ProjGate.nD Cert.ProjGate.τ).loc Cert.ProjGate.main_arg0)
      ∧ r.2.mem ((c.tc : Thread Cert.ProjGate.nD Cert.ProjGate.τ).loc Cert.ProjGate.main_arg1) = m ((c.tc : Thread Cert.ProjGate.nD Cert.ProjGate.τ).loc Cert.ProjGate.main_arg1))
      ∧ r.2.sem = fun _ => 0)

def quiescent_ProjGateIdeal [hProjGateIdeal : Cert.ProjGateIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg), Pre_ProjGateIdeal m →
    θ_run (Cert.ProjGateIdeal.defs (F := Ideal)) (onTc (τ := Cert.ProjGateIdeal.τ) (Cert.ProjGateIdeal.main (F := Ideal))) ⟨m, fun _ => 0, g⟩ (fun r => (∀ c : Dev Cert.ProjGateIdeal.nD,
      r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
      ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1))
      ∧ r.2.sem = fun _ => 0)

def quiescent_RefGateIdeal [hRefGateIdeal : Cert.RefGateIdeal.Facts] : Prop :=
  ∀ (m : (ℓ : Loc Cert.RefGateIdeal.nD Cert.RefGateIdeal.τ Cert.RefGateIdeal.sig) → Buf (Elt Ideal) ℓ) (g : Dev Cert.RefGateIdeal.nD → PrngReg), Pre_RefGateIdeal m →
    θ_run (Cert.RefGateIdeal.defs (F := Ideal)) (onTc (τ := Cert.RefGateIdeal.τ) (Cert.RefGateIdeal.main (F := Ideal))) ⟨m, fun _ => 0, g⟩ (fun r => (∀ c : Dev Cert.RefGateIdeal.nD,
      r.2.mem ((c.tc : Thread Cert.RefGateIdeal.nD Cert.RefGateIdeal.τ).loc Cert.RefGateIdeal.main_arg0) = m ((c.tc : Thread Cert.RefGateIdeal.nD Cert.RefGateIdeal.τ).loc Cert.RefGateIdeal.main_arg0)
      ∧ r.2.mem ((c.tc : Thread Cert.RefGateIdeal.nD Cert.RefGateIdeal.τ).loc Cert.RefGateIdeal.main_arg1) = m ((c.tc : Thread Cert.RefGateIdeal.nD Cert.RefGateIdeal.τ).loc Cert.RefGateIdeal.main_arg1))
      ∧ r.2.sem = fun _ => 0)

def quiescent_ProjRwkv [hProjRwkv : Cert.ProjRwkv.Facts] : Prop :=
  ∀ (m : (ℓ : Loc Cert.ProjRwkv.nD Cert.ProjRwkv.τ Cert.ProjRwkv.sig) → Buf (Elt Bits) ℓ) (g : Dev Cert.ProjRwkv.nD → PrngReg), Pre_ProjRwkv m →
    θ_run (Cert.ProjRwkv.defs (F := Bits)) (onTc (τ := Cert.ProjRwkv.τ) (Cert.ProjRwkv.main (F := Bits))) ⟨m, fun _ => 0, g⟩ (fun r => (∀ c : Dev Cert.ProjRwkv.nD,
      r.2.mem ((c.tc : Thread Cert.ProjRwkv.nD Cert.ProjRwkv.τ).loc Cert.ProjRwkv.main_arg0) = m ((c.tc : Thread Cert.ProjRwkv.nD Cert.ProjRwkv.τ).loc Cert.ProjRwkv.main_arg0)
      ∧ r.2.mem ((c.tc : Thread Cert.ProjRwkv.nD Cert.ProjRwkv.τ).loc Cert.ProjRwkv.main_arg1) = m ((c.tc : Thread Cert.ProjRwkv.nD Cert.ProjRwkv.τ).loc Cert.ProjRwkv.main_arg1)
      ∧ r.2.mem ((c.tc : Thread Cert.ProjRwkv.nD Cert.ProjRwkv.τ).loc Cert.ProjRwkv.main_arg2) = m ((c.tc : Thread Cert.ProjRwkv.nD Cert.ProjRwkv.τ).loc Cert.ProjRwkv.main_arg2))
      ∧ r.2.sem = fun _ => 0)

def quiescent_ProjRwkvIdeal [hProjRwkvIdeal : Cert.ProjRwkvIdeal.Facts] : Prop :=
  ∀ (m : (ℓ : Loc Cert.ProjRwkvIdeal.nD Cert.ProjRwkvIdeal.τ Cert.ProjRwkvIdeal.sig) → Buf (Elt Ideal) ℓ) (g : Dev Cert.ProjRwkvIdeal.nD → PrngReg), Pre_ProjRwkvIdeal m →
    θ_run (Cert.ProjRwkvIdeal.defs (F := Ideal)) (onTc (τ := Cert.ProjRwkvIdeal.τ) (Cert.ProjRwkvIdeal.main (F := Ideal))) ⟨m, fun _ => 0, g⟩ (fun r => (∀ c : Dev Cert.ProjRwkvIdeal.nD,
      r.2.mem ((c.tc : Thread Cert.ProjRwkvIdeal.nD Cert.ProjRwkvIdeal.τ).loc Cert.ProjRwkvIdeal.main_arg0) = m ((c.tc : Thread Cert.ProjRwkvIdeal.nD Cert.ProjRwkvIdeal.τ).loc Cert.ProjRwkvIdeal.main_arg0)
      ∧ r.2.mem ((c.tc : Thread Cert.ProjRwkvIdeal.nD Cert.ProjRwkvIdeal.τ).loc Cert.ProjRwkvIdeal.main_arg1) = m ((c.tc : Thread Cert.ProjRwkvIdeal.nD Cert.ProjRwkvIdeal.τ).loc Cert.ProjRwkvIdeal.main_arg1)
      ∧ r.2.mem ((c.tc : Thread Cert.ProjRwkvIdeal.nD Cert.ProjRwkvIdeal.τ).loc Cert.ProjRwkvIdeal.main_arg2) = m ((c.tc : Thread Cert.ProjRwkvIdeal.nD Cert.ProjRwkvIdeal.τ).loc Cert.ProjRwkvIdeal.main_arg2))
      ∧ r.2.sem = fun _ => 0)

def quiescent_RefRwkvIdeal [hRefRwkvIdeal : Cert.RefRwkvIdeal.Facts] : Prop :=
  ∀ (m : (ℓ : Loc Cert.RefRwkvIdeal.nD Cert.RefRwkvIdeal.τ Cert.RefRwkvIdeal.sig) → Buf (Elt Ideal) ℓ) (g : Dev Cert.RefRwkvIdeal.nD → PrngReg), Pre_RefRwkvIdeal m →
    θ_run (Cert.RefRwkvIdeal.defs (F := Ideal)) (onTc (τ := Cert.RefRwkvIdeal.τ) (Cert.RefRwkvIdeal.main (F := Ideal))) ⟨m, fun _ => 0, g⟩ (fun r => (∀ c : Dev Cert.RefRwkvIdeal.nD,
      r.2.mem ((c.tc : Thread Cert.RefRwkvIdeal.nD Cert.RefRwkvIdeal.τ).loc Cert.RefRwkvIdeal.main_arg0) = m ((c.tc : Thread Cert.RefRwkvIdeal.nD Cert.RefRwkvIdeal.τ).loc Cert.RefRwkvIdeal.main_arg0)
      ∧ r.2.mem ((c.tc : Thread Cert.RefRwkvIdeal.nD Cert.RefRwkvIdeal.τ).loc Cert.RefRwkvIdeal.main_arg1) = m ((c.tc : Thread Cert.RefRwkvIdeal.nD Cert.RefRwkvIdeal.τ).loc Cert.RefRwkvIdeal.main_arg1)
      ∧ r.2.mem ((c.tc : Thread Cert.RefRwkvIdeal.nD Cert.RefRwkvIdeal.τ).loc Cert.RefRwkvIdeal.main_arg2) = m ((c.tc : Thread Cert.RefRwkvIdeal.nD Cert.RefRwkvIdeal.τ).loc Cert.RefRwkvIdeal.main_arg2))
      ∧ r.2.sem = fun _ => 0)

def quiescent_NormMix [hNormMix : Cert.NormMix.Facts] : Prop :=
  ∀ (m : (ℓ : Loc Cert.NormMix.nD Cert.NormMix.τ Cert.NormMix.sig) → Buf (Elt Bits) ℓ) (g : Dev Cert.NormMix.nD → PrngReg), Pre_NormMix m →
    θ_run (Cert.NormMix.defs (F := Bits)) (onTc (τ := Cert.NormMix.τ) (Cert.NormMix.main (F := Bits))) ⟨m, fun _ => 0, g⟩ (fun r => (∀ c : Dev Cert.NormMix.nD,
      r.2.mem ((c.tc : Thread Cert.NormMix.nD Cert.NormMix.τ).loc Cert.NormMix.main_arg0) = m ((c.tc : Thread Cert.NormMix.nD Cert.NormMix.τ).loc Cert.NormMix.main_arg0)
      ∧ r.2.mem ((c.tc : Thread Cert.NormMix.nD Cert.NormMix.τ).loc Cert.NormMix.main_arg1) = m ((c.tc : Thread Cert.NormMix.nD Cert.NormMix.τ).loc Cert.NormMix.main_arg1))
      ∧ r.2.sem = fun _ => 0)

def quiescent_NormMixIdeal [hNormMixIdeal : Cert.NormMixIdeal.Facts] : Prop :=
  ∀ (m : (ℓ : Loc Cert.NormMixIdeal.nD Cert.NormMixIdeal.τ Cert.NormMixIdeal.sig) → Buf (Elt Ideal) ℓ) (g : Dev Cert.NormMixIdeal.nD → PrngReg), Pre_NormMixIdeal m →
    θ_run (Cert.NormMixIdeal.defs (F := Ideal)) (onTc (τ := Cert.NormMixIdeal.τ) (Cert.NormMixIdeal.main (F := Ideal))) ⟨m, fun _ => 0, g⟩ (fun r => (∀ c : Dev Cert.NormMixIdeal.nD,
      r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
      ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1))
      ∧ r.2.sem = fun _ => 0)

def quiescent_RefNormMixIdeal [hRefNormMixIdeal : Cert.RefNormMixIdeal.Facts] : Prop :=
  ∀ (m : (ℓ : Loc Cert.RefNormMixIdeal.nD Cert.RefNormMixIdeal.τ Cert.RefNormMixIdeal.sig) → Buf (Elt Ideal) ℓ) (g : Dev Cert.RefNormMixIdeal.nD → PrngReg), Pre_RefNormMixIdeal m →
    θ_run (Cert.RefNormMixIdeal.defs (F := Ideal)) (onTc (τ := Cert.RefNormMixIdeal.τ) (Cert.RefNormMixIdeal.main (F := Ideal))) ⟨m, fun _ => 0, g⟩ (fun r => (∀ c : Dev Cert.RefNormMixIdeal.nD,
      r.2.mem ((c.tc : Thread Cert.RefNormMixIdeal.nD Cert.RefNormMixIdeal.τ).loc Cert.RefNormMixIdeal.main_arg0) = m ((c.tc : Thread Cert.RefNormMixIdeal.nD Cert.RefNormMixIdeal.τ).loc Cert.RefNormMixIdeal.main_arg0)
      ∧ r.2.mem ((c.tc : Thread Cert.RefNormMixIdeal.nD Cert.RefNormMixIdeal.τ).loc Cert.RefNormMixIdeal.main_arg1) = m ((c.tc : Thread Cert.RefNormMixIdeal.nD Cert.RefNormMixIdeal.τ).loc Cert.RefNormMixIdeal.main_arg1))
      ∧ r.2.sem = fun _ => 0)

def quiescent_NormLast [hNormLast : Cert.NormLast.Facts] : Prop :=
  ∀ (m : (ℓ : Loc Cert.NormLast.nD Cert.NormLast.τ Cert.NormLast.sig) → Buf (Elt Bits) ℓ) (g : Dev Cert.NormLast.nD → PrngReg), Pre_NormLast m →
    θ_run (Cert.NormLast.defs (F := Bits)) (onTc (τ := Cert.NormLast.τ) (Cert.NormLast.main (F := Bits))) ⟨m, fun _ => 0, g⟩ (fun r => (∀ c : Dev Cert.NormLast.nD,
      r.2.mem ((c.tc : Thread Cert.NormLast.nD Cert.NormLast.τ).loc Cert.NormLast.main_arg0) = m ((c.tc : Thread Cert.NormLast.nD Cert.NormLast.τ).loc Cert.NormLast.main_arg0)
      ∧ r.2.mem ((c.tc : Thread Cert.NormLast.nD Cert.NormLast.τ).loc Cert.NormLast.main_arg1) = m ((c.tc : Thread Cert.NormLast.nD Cert.NormLast.τ).loc Cert.NormLast.main_arg1))
      ∧ r.2.sem = fun _ => 0)

def quiescent_NormLastIdeal [hNormLastIdeal : Cert.NormLastIdeal.Facts] : Prop :=
  ∀ (m : (ℓ : Loc Cert.NormLastIdeal.nD Cert.NormLastIdeal.τ Cert.NormLastIdeal.sig) → Buf (Elt Ideal) ℓ) (g : Dev Cert.NormLastIdeal.nD → PrngReg), Pre_NormLastIdeal m →
    θ_run (Cert.NormLastIdeal.defs (F := Ideal)) (onTc (τ := Cert.NormLastIdeal.τ) (Cert.NormLastIdeal.main (F := Ideal))) ⟨m, fun _ => 0, g⟩ (fun r => (∀ c : Dev Cert.NormLastIdeal.nD,
      r.2.mem ((c.tc : Thread Cert.NormLastIdeal.nD Cert.NormLastIdeal.τ).loc Cert.NormLastIdeal.main_arg0) = m ((c.tc : Thread Cert.NormLastIdeal.nD Cert.NormLastIdeal.τ).loc Cert.NormLastIdeal.main_arg0)
      ∧ r.2.mem ((c.tc : Thread Cert.NormLastIdeal.nD Cert.NormLastIdeal.τ).loc Cert.NormLastIdeal.main_arg1) = m ((c.tc : Thread Cert.NormLastIdeal.nD Cert.NormLastIdeal.τ).loc Cert.NormLastIdeal.main_arg1))
      ∧ r.2.sem = fun _ => 0)

def quiescent_RefNormLastIdeal [hRefNormLastIdeal : Cert.RefNormLastIdeal.Facts] : Prop :=
  ∀ (m : (ℓ : Loc Cert.RefNormLastIdeal.nD Cert.RefNormLastIdeal.τ Cert.RefNormLastIdeal.sig) → Buf (Elt Ideal) ℓ) (g : Dev Cert.RefNormLastIdeal.nD → PrngReg), Pre_RefNormLastIdeal m →
    θ_run (Cert.RefNormLastIdeal.defs (F := Ideal)) (onTc (τ := Cert.RefNormLastIdeal.τ) (Cert.RefNormLastIdeal.main (F := Ideal))) ⟨m, fun _ => 0, g⟩ (fun r => (∀ c : Dev Cert.RefNormLastIdeal.nD,
      r.2.mem ((c.tc : Thread Cert.RefNormLastIdeal.nD Cert.RefNormLastIdeal.τ).loc Cert.RefNormLastIdeal.main_arg0) = m ((c.tc : Thread Cert.RefNormLastIdeal.nD Cert.RefNormLastIdeal.τ).loc Cert.RefNormLastIdeal.main_arg0)
      ∧ r.2.mem ((c.tc : Thread Cert.RefNormLastIdeal.nD Cert.RefNormLastIdeal.τ).loc Cert.RefNormLastIdeal.main_arg1) = m ((c.tc : Thread Cert.RefNormLastIdeal.nD Cert.RefNormLastIdeal.τ).loc Cert.RefNormLastIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4)
      ∧ r.2.mem ((c.tc : Thread Cert.RefMergeIdeal.nD Cert.RefMergeIdeal.τ).loc Cert.RefMergeIdeal.main_arg5) = m ((c.tc : Thread Cert.RefMergeIdeal.nD Cert.RefMergeIdeal.τ).loc Cert.RefMergeIdeal.main_arg5)
      ∧ r.2.mem ((c.tc : Thread Cert.RefMergeIdeal.nD Cert.RefMergeIdeal.τ).loc Cert.RefMergeIdeal.main_arg6) = m ((c.tc : Thread Cert.RefMergeIdeal.nD Cert.RefMergeIdeal.τ).loc Cert.RefMergeIdeal.main_arg6)
      ∧ r.2.mem ((c.tc : Thread Cert.RefMergeIdeal.nD Cert.RefMergeIdeal.τ).loc Cert.RefMergeIdeal.main_arg7) = m ((c.tc : Thread Cert.RefMergeIdeal.nD Cert.RefMergeIdeal.τ).loc Cert.RefMergeIdeal.main_arg7)
      ∧ r.2.mem ((c.tc : Thread Cert.RefMergeIdeal.nD Cert.RefMergeIdeal.τ).loc Cert.RefMergeIdeal.main_arg8) = m ((c.tc : Thread Cert.RefMergeIdeal.nD Cert.RefMergeIdeal.τ).loc Cert.RefMergeIdeal.main_arg8)
      ∧ r.2.mem ((c.tc : Thread Cert.RefMergeIdeal.nD Cert.RefMergeIdeal.τ).loc Cert.RefMergeIdeal.main_arg9) = m ((c.tc : Thread Cert.RefMergeIdeal.nD Cert.RefMergeIdeal.τ).loc Cert.RefMergeIdeal.main_arg9)
      ∧ r.2.mem ((c.tc : Thread Cert.RefMergeIdeal.nD Cert.RefMergeIdeal.τ).loc Cert.RefMergeIdeal.main_arg10) = m ((c.tc : Thread Cert.RefMergeIdeal.nD Cert.RefMergeIdeal.τ).loc Cert.RefMergeIdeal.main_arg10)
      ∧ r.2.mem ((c.tc : Thread Cert.RefMergeIdeal.nD Cert.RefMergeIdeal.τ).loc Cert.RefMergeIdeal.main_arg11) = m ((c.tc : Thread Cert.RefMergeIdeal.nD Cert.RefMergeIdeal.τ).loc Cert.RefMergeIdeal.main_arg11))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3)
      ∧ r.2.mem ((c.tc : Thread Cert.Route.nD Cert.Route.τ).loc Cert.Route.main_arg4) = m ((c.tc : Thread Cert.Route.nD Cert.Route.τ).loc Cert.Route.main_arg4)
      ∧ r.2.mem ((c.tc : Thread Cert.Route.nD Cert.Route.τ).loc Cert.Route.main_arg5) = m ((c.tc : Thread Cert.Route.nD Cert.Route.τ).loc Cert.Route.main_arg5)
      ∧ r.2.mem ((c.tc : Thread Cert.Route.nD Cert.Route.τ).loc Cert.Route.main_arg6) = m ((c.tc : Thread Cert.Route.nD Cert.Route.τ).loc Cert.Route.main_arg6)
      ∧ r.2.mem ((c.tc : Thread Cert.Route.nD Cert.Route.τ).loc Cert.Route.main_arg7) = m ((c.tc : Thread Cert.Route.nD Cert.Route.τ).loc Cert.Route.main_arg7)
      ∧ r.2.mem ((c.tc : Thread Cert.Route.nD Cert.Route.τ).loc Cert.Route.main_arg8) = m ((c.tc : Thread Cert.Route.nD Cert.Route.τ).loc Cert.Route.main_arg8)
      ∧ r.2.mem ((c.tc : Thread Cert.Route.nD Cert.Route.τ).loc Cert.Route.main_arg9) = m ((c.tc : Thread Cert.Route.nD Cert.Route.τ).loc Cert.Route.main_arg9)
      ∧ r.2.mem ((c.tc : Thread Cert.Route.nD Cert.Route.τ).loc Cert.Route.main_arg10) = m ((c.tc : Thread Cert.Route.nD Cert.Route.τ).loc Cert.Route.main_arg10)
      ∧ r.2.mem ((c.tc : Thread Cert.Route.nD Cert.Route.τ).loc Cert.Route.main_arg11) = m ((c.tc : Thread Cert.Route.nD Cert.Route.τ).loc Cert.Route.main_arg11))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
      ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5)
      ∧ r.2.mem ((c.tc : Thread Cert.RouteIdeal.nD Cert.RouteIdeal.τ).loc Cert.RouteIdeal.main_arg6) = m ((c.tc : Thread Cert.RouteIdeal.nD Cert.RouteIdeal.τ).loc Cert.RouteIdeal.main_arg6)
      ∧ r.2.mem ((c.tc : Thread Cert.RouteIdeal.nD Cert.RouteIdeal.τ).loc Cert.RouteIdeal.main_arg7) = m ((c.tc : Thread Cert.RouteIdeal.nD Cert.RouteIdeal.τ).loc Cert.RouteIdeal.main_arg7)
      ∧ r.2.mem ((c.tc : Thread Cert.RouteIdeal.nD Cert.RouteIdeal.τ).loc Cert.RouteIdeal.main_arg8) = m ((c.tc : Thread Cert.RouteIdeal.nD Cert.RouteIdeal.τ).loc Cert.RouteIdeal.main_arg8)
      ∧ r.2.mem ((c.tc : Thread Cert.RouteIdeal.nD Cert.RouteIdeal.τ).loc Cert.RouteIdeal.main_arg9) = m ((c.tc : Thread Cert.RouteIdeal.nD Cert.RouteIdeal.τ).loc Cert.RouteIdeal.main_arg9)
      ∧ r.2.mem ((c.tc : Thread Cert.RouteIdeal.nD Cert.RouteIdeal.τ).loc Cert.RouteIdeal.main_arg10) = m ((c.tc : Thread Cert.RouteIdeal.nD Cert.RouteIdeal.τ).loc Cert.RouteIdeal.main_arg10)
      ∧ r.2.mem ((c.tc : Thread Cert.RouteIdeal.nD Cert.RouteIdeal.τ).loc Cert.RouteIdeal.main_arg11) = m ((c.tc : Thread Cert.RouteIdeal.nD Cert.RouteIdeal.τ).loc Cert.RouteIdeal.main_arg11))
      ∧ r.2.sem = fun _ => 0)

def quiescent_RouteIdeal_pre_finite_route [hRouteIdeal : Cert.RouteIdeal.Facts] [hPre_finite_route : Cert.Pre_finite_route.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_finite_route m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
      ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5)
      ∧ r.2.mem ((c.tc : Thread Cert.RouteIdeal.nD Cert.RouteIdeal.τ).loc Cert.RouteIdeal.main_arg6) = m ((c.tc : Thread Cert.RouteIdeal.nD Cert.RouteIdeal.τ).loc Cert.RouteIdeal.main_arg6)
      ∧ r.2.mem ((c.tc : Thread Cert.RouteIdeal.nD Cert.RouteIdeal.τ).loc Cert.RouteIdeal.main_arg7) = m ((c.tc : Thread Cert.RouteIdeal.nD Cert.RouteIdeal.τ).loc Cert.RouteIdeal.main_arg7)
      ∧ r.2.mem ((c.tc : Thread Cert.RouteIdeal.nD Cert.RouteIdeal.τ).loc Cert.RouteIdeal.main_arg8) = m ((c.tc : Thread Cert.RouteIdeal.nD Cert.RouteIdeal.τ).loc Cert.RouteIdeal.main_arg8)
      ∧ r.2.mem ((c.tc : Thread Cert.RouteIdeal.nD Cert.RouteIdeal.τ).loc Cert.RouteIdeal.main_arg9) = m ((c.tc : Thread Cert.RouteIdeal.nD Cert.RouteIdeal.τ).loc Cert.RouteIdeal.main_arg9)
      ∧ r.2.mem ((c.tc : Thread Cert.RouteIdeal.nD Cert.RouteIdeal.τ).loc Cert.RouteIdeal.main_arg10) = m ((c.tc : Thread Cert.RouteIdeal.nD Cert.RouteIdeal.τ).loc Cert.RouteIdeal.main_arg10)
      ∧ r.2.mem ((c.tc : Thread Cert.RouteIdeal.nD Cert.RouteIdeal.τ).loc Cert.RouteIdeal.main_arg11) = m ((c.tc : Thread Cert.RouteIdeal.nD Cert.RouteIdeal.τ).loc Cert.RouteIdeal.main_arg11))
      ∧ r.2.sem = fun _ => 0)

def quiescent_RefRouteIdeal [hRefRouteIdeal : Cert.RefRouteIdeal.Facts] : Prop :=
  ∀ (m : (ℓ : Loc Cert.RefRouteIdeal.nD Cert.RefRouteIdeal.τ Cert.RefRouteIdeal.sig) → Buf (Elt Ideal) ℓ) (g : Dev Cert.RefRouteIdeal.nD → PrngReg), Pre_RefRouteIdeal m →
    θ_run (Cert.RefRouteIdeal.defs (F := Ideal)) (onTc (τ := Cert.RefRouteIdeal.τ) (Cert.RefRouteIdeal.main (F := Ideal))) ⟨m, fun _ => 0, g⟩ (fun r => (∀ c : Dev Cert.RefRouteIdeal.nD,
      r.2.mem ((c.tc : Thread Cert.RefRouteIdeal.nD Cert.RefRouteIdeal.τ).loc Cert.RefRouteIdeal.main_arg0) = m ((c.tc : Thread Cert.RefRouteIdeal.nD Cert.RefRouteIdeal.τ).loc Cert.RefRouteIdeal.main_arg0)
      ∧ r.2.mem ((c.tc : Thread Cert.RefRouteIdeal.nD Cert.RefRouteIdeal.τ).loc Cert.RefRouteIdeal.main_arg1) = m ((c.tc : Thread Cert.RefRouteIdeal.nD Cert.RefRouteIdeal.τ).loc Cert.RefRouteIdeal.main_arg1)
      ∧ r.2.mem ((c.tc : Thread Cert.RefRouteIdeal.nD Cert.RefRouteIdeal.τ).loc Cert.RefRouteIdeal.main_arg2) = m ((c.tc : Thread Cert.RefRouteIdeal.nD Cert.RefRouteIdeal.τ).loc Cert.RefRouteIdeal.main_arg2)
      ∧ r.2.mem ((c.tc : Thread Cert.RefRouteIdeal.nD Cert.RefRouteIdeal.τ).loc Cert.RefRouteIdeal.main_arg3) = m ((c.tc : Thread Cert.RefRouteIdeal.nD Cert.RefRouteIdeal.τ).loc Cert.RefRouteIdeal.main_arg3)
      ∧ r.2.mem ((c.tc : Thread Cert.RefRouteIdeal.nD Cert.RefRouteIdeal.τ).loc Cert.RefRouteIdeal.main_arg4) = m ((c.tc : Thread Cert.RefRouteIdeal.nD Cert.RefRouteIdeal.τ).loc Cert.RefRouteIdeal.main_arg4)
      ∧ r.2.mem ((c.tc : Thread Cert.RefRouteIdeal.nD Cert.RefRouteIdeal.τ).loc Cert.RefRouteIdeal.main_arg5) = m ((c.tc : Thread Cert.RefRouteIdeal.nD Cert.RefRouteIdeal.τ).loc Cert.RefRouteIdeal.main_arg5)
      ∧ r.2.mem ((c.tc : Thread Cert.RefRouteIdeal.nD Cert.RefRouteIdeal.τ).loc Cert.RefRouteIdeal.main_arg6) = m ((c.tc : Thread Cert.RefRouteIdeal.nD Cert.RefRouteIdeal.τ).loc Cert.RefRouteIdeal.main_arg6)
      ∧ r.2.mem ((c.tc : Thread Cert.RefRouteIdeal.nD Cert.RefRouteIdeal.τ).loc Cert.RefRouteIdeal.main_arg7) = m ((c.tc : Thread Cert.RefRouteIdeal.nD Cert.RefRouteIdeal.τ).loc Cert.RefRouteIdeal.main_arg7)
      ∧ r.2.mem ((c.tc : Thread Cert.RefRouteIdeal.nD Cert.RefRouteIdeal.τ).loc Cert.RefRouteIdeal.main_arg8) = m ((c.tc : Thread Cert.RefRouteIdeal.nD Cert.RefRouteIdeal.τ).loc Cert.RefRouteIdeal.main_arg8)
      ∧ r.2.mem ((c.tc : Thread Cert.RefRouteIdeal.nD Cert.RefRouteIdeal.τ).loc Cert.RefRouteIdeal.main_arg9) = m ((c.tc : Thread Cert.RefRouteIdeal.nD Cert.RefRouteIdeal.τ).loc Cert.RefRouteIdeal.main_arg9)
      ∧ r.2.mem ((c.tc : Thread Cert.RefRouteIdeal.nD Cert.RefRouteIdeal.τ).loc Cert.RefRouteIdeal.main_arg10) = m ((c.tc : Thread Cert.RefRouteIdeal.nD Cert.RefRouteIdeal.τ).loc Cert.RefRouteIdeal.main_arg10)
      ∧ r.2.mem ((c.tc : Thread Cert.RefRouteIdeal.nD Cert.RefRouteIdeal.τ).loc Cert.RefRouteIdeal.main_arg11) = m ((c.tc : Thread Cert.RefRouteIdeal.nD Cert.RefRouteIdeal.τ).loc Cert.RefRouteIdeal.main_arg11))
      ∧ r.2.sem = fun _ => 0)

def quiescent_RefRouteIdeal_pre_finite_route [hRefRouteIdeal : Cert.RefRouteIdeal.Facts] [hPre_finite_route : Cert.Pre_finite_route.Facts] : Prop :=
  ∀ (m : (ℓ : Loc Cert.RefRouteIdeal.nD Cert.RefRouteIdeal.τ Cert.RefRouteIdeal.sig) → Buf (Elt Ideal) ℓ) (g : Dev Cert.RefRouteIdeal.nD → PrngReg), Pre_RefRouteIdeal_finite_route m →
    θ_run (Cert.RefRouteIdeal.defs (F := Ideal)) (onTc (τ := Cert.RefRouteIdeal.τ) (Cert.RefRouteIdeal.main (F := Ideal))) ⟨m, fun _ => 0, g⟩ (fun r => (∀ c : Dev Cert.RefRouteIdeal.nD,
      r.2.mem ((c.tc : Thread Cert.RefRouteIdeal.nD Cert.RefRouteIdeal.τ).loc Cert.RefRouteIdeal.main_arg0) = m ((c.tc : Thread Cert.RefRouteIdeal.nD Cert.RefRouteIdeal.τ).loc Cert.RefRouteIdeal.main_arg0)
      ∧ r.2.mem ((c.tc : Thread Cert.RefRouteIdeal.nD Cert.RefRouteIdeal.τ).loc Cert.RefRouteIdeal.main_arg1) = m ((c.tc : Thread Cert.RefRouteIdeal.nD Cert.RefRouteIdeal.τ).loc Cert.RefRouteIdeal.main_arg1)
      ∧ r.2.mem ((c.tc : Thread Cert.RefRouteIdeal.nD Cert.RefRouteIdeal.τ).loc Cert.RefRouteIdeal.main_arg2) = m ((c.tc : Thread Cert.RefRouteIdeal.nD Cert.RefRouteIdeal.τ).loc Cert.RefRouteIdeal.main_arg2)
      ∧ r.2.mem ((c.tc : Thread Cert.RefRouteIdeal.nD Cert.RefRouteIdeal.τ).loc Cert.RefRouteIdeal.main_arg3) = m ((c.tc : Thread Cert.RefRouteIdeal.nD Cert.RefRouteIdeal.τ).loc Cert.RefRouteIdeal.main_arg3)
      ∧ r.2.mem ((c.tc : Thread Cert.RefRouteIdeal.nD Cert.RefRouteIdeal.τ).loc Cert.RefRouteIdeal.main_arg4) = m ((c.tc : Thread Cert.RefRouteIdeal.nD Cert.RefRouteIdeal.τ).loc Cert.RefRouteIdeal.main_arg4)
      ∧ r.2.mem ((c.tc : Thread Cert.RefRouteIdeal.nD Cert.RefRouteIdeal.τ).loc Cert.RefRouteIdeal.main_arg5) = m ((c.tc : Thread Cert.RefRouteIdeal.nD Cert.RefRouteIdeal.τ).loc Cert.RefRouteIdeal.main_arg5)
      ∧ r.2.mem ((c.tc : Thread Cert.RefRouteIdeal.nD Cert.RefRouteIdeal.τ).loc Cert.RefRouteIdeal.main_arg6) = m ((c.tc : Thread Cert.RefRouteIdeal.nD Cert.RefRouteIdeal.τ).loc Cert.RefRouteIdeal.main_arg6)
      ∧ r.2.mem ((c.tc : Thread Cert.RefRouteIdeal.nD Cert.RefRouteIdeal.τ).loc Cert.RefRouteIdeal.main_arg7) = m ((c.tc : Thread Cert.RefRouteIdeal.nD Cert.RefRouteIdeal.τ).loc Cert.RefRouteIdeal.main_arg7)
      ∧ r.2.mem ((c.tc : Thread Cert.RefRouteIdeal.nD Cert.RefRouteIdeal.τ).loc Cert.RefRouteIdeal.main_arg8) = m ((c.tc : Thread Cert.RefRouteIdeal.nD Cert.RefRouteIdeal.τ).loc Cert.RefRouteIdeal.main_arg8)
      ∧ r.2.mem ((c.tc : Thread Cert.RefRouteIdeal.nD Cert.RefRouteIdeal.τ).loc Cert.RefRouteIdeal.main_arg9) = m ((c.tc : Thread Cert.RefRouteIdeal.nD Cert.RefRouteIdeal.τ).loc Cert.RefRouteIdeal.main_arg9)
      ∧ r.2.mem ((c.tc : Thread Cert.RefRouteIdeal.nD Cert.RefRouteIdeal.τ).loc Cert.RefRouteIdeal.main_arg10) = m ((c.tc : Thread Cert.RefRouteIdeal.nD Cert.RefRouteIdeal.τ).loc Cert.RefRouteIdeal.main_arg10)
      ∧ r.2.mem ((c.tc : Thread Cert.RefRouteIdeal.nD Cert.RefRouteIdeal.τ).loc Cert.RefRouteIdeal.main_arg11) = m ((c.tc : Thread Cert.RefRouteIdeal.nD Cert.RefRouteIdeal.τ).loc Cert.RefRouteIdeal.main_arg11))
      ∧ r.2.sem = fun _ => 0)

def quiescent_Rwkv [hRwkv : Cert.Rwkv.Facts] : Prop :=
  ∀ (m : (ℓ : Loc Cert.Rwkv.nD Cert.Rwkv.τ Cert.Rwkv.sig) → Buf (Elt Bits) ℓ) (g : Dev Cert.Rwkv.nD → PrngReg), Pre_Rwkv m →
    θ_run (Cert.Rwkv.defs (F := Bits)) (onTc (τ := Cert.Rwkv.τ) (Cert.Rwkv.main (F := Bits))) ⟨m, fun _ => 0, g⟩ (fun r => (∀ c : Dev Cert.Rwkv.nD,
      r.2.mem ((c.tc : Thread Cert.Rwkv.nD Cert.Rwkv.τ).loc Cert.Rwkv.main_arg0) = m ((c.tc : Thread Cert.Rwkv.nD Cert.Rwkv.τ).loc Cert.Rwkv.main_arg0)
      ∧ r.2.mem ((c.tc : Thread Cert.Rwkv.nD Cert.Rwkv.τ).loc Cert.Rwkv.main_arg1) = m ((c.tc : Thread Cert.Rwkv.nD Cert.Rwkv.τ).loc Cert.Rwkv.main_arg1)
      ∧ r.2.mem ((c.tc : Thread Cert.Rwkv.nD Cert.Rwkv.τ).loc Cert.Rwkv.main_arg2) = m ((c.tc : Thread Cert.Rwkv.nD Cert.Rwkv.τ).loc Cert.Rwkv.main_arg2)
      ∧ r.2.mem ((c.tc : Thread Cert.Rwkv.nD Cert.Rwkv.τ).loc Cert.Rwkv.main_arg3) = m ((c.tc : Thread Cert.Rwkv.nD Cert.Rwkv.τ).loc Cert.Rwkv.main_arg3)
      ∧ r.2.mem ((c.tc : Thread Cert.Rwkv.nD Cert.Rwkv.τ).loc Cert.Rwkv.main_arg4) = m ((c.tc : Thread Cert.Rwkv.nD Cert.Rwkv.τ).loc Cert.Rwkv.main_arg4)
      ∧ r.2.mem ((c.tc : Thread Cert.Rwkv.nD Cert.Rwkv.τ).loc Cert.Rwkv.main_arg5) = m ((c.tc : Thread Cert.Rwkv.nD Cert.Rwkv.τ).loc Cert.Rwkv.main_arg5)
      ∧ r.2.mem ((c.tc : Thread Cert.Rwkv.nD Cert.Rwkv.τ).loc Cert.Rwkv.main_arg6) = m ((c.tc : Thread Cert.Rwkv.nD Cert.Rwkv.τ).loc Cert.Rwkv.main_arg6)
      ∧ r.2.mem ((c.tc : Thread Cert.Rwkv.nD Cert.Rwkv.τ).loc Cert.Rwkv.main_arg7) = m ((c.tc : Thread Cert.Rwkv.nD Cert.Rwkv.τ).loc Cert.Rwkv.main_arg7)
      ∧ r.2.mem ((c.tc : Thread Cert.Rwkv.nD Cert.Rwkv.τ).loc Cert.Rwkv.main_arg8) = m ((c.tc : Thread Cert.Rwkv.nD Cert.Rwkv.τ).loc Cert.Rwkv.main_arg8)
      ∧ r.2.mem ((c.tc : Thread Cert.Rwkv.nD Cert.Rwkv.τ).loc Cert.Rwkv.main_arg9) = m ((c.tc : Thread Cert.Rwkv.nD Cert.Rwkv.τ).loc Cert.Rwkv.main_arg9)
      ∧ r.2.mem ((c.tc : Thread Cert.Rwkv.nD Cert.Rwkv.τ).loc Cert.Rwkv.main_arg10) = m ((c.tc : Thread Cert.Rwkv.nD Cert.Rwkv.τ).loc Cert.Rwkv.main_arg10)
      ∧ r.2.mem ((c.tc : Thread Cert.Rwkv.nD Cert.Rwkv.τ).loc Cert.Rwkv.main_arg11) = m ((c.tc : Thread Cert.Rwkv.nD Cert.Rwkv.τ).loc Cert.Rwkv.main_arg11))
      ∧ r.2.sem = fun _ => 0)

def quiescent_RwkvIdeal [hRwkvIdeal : Cert.RwkvIdeal.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
      ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
      ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
      ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
      ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
      ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
      ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
      ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
      ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
      ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
      ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11))
      ∧ r.2.sem = fun _ => 0)

def quiescent_RefRwkvFirstIdeal [hRefRwkvFirstIdeal : Cert.RefRwkvFirstIdeal.Facts] : Prop :=
  ∀ (m : (ℓ : Loc Cert.RefRwkvFirstIdeal.nD Cert.RefRwkvFirstIdeal.τ Cert.RefRwkvFirstIdeal.sig) → Buf (Elt Ideal) ℓ) (g : Dev Cert.RefRwkvFirstIdeal.nD → PrngReg), Pre_RefRwkvFirstIdeal m →
    θ_run (Cert.RefRwkvFirstIdeal.defs (F := Ideal)) (onTc (τ := Cert.RefRwkvFirstIdeal.τ) (Cert.RefRwkvFirstIdeal.main (F := Ideal))) ⟨m, fun _ => 0, g⟩ (fun r => (∀ c : Dev Cert.RefRwkvFirstIdeal.nD,
      r.2.mem ((c.tc : Thread Cert.RefRwkvFirstIdeal.nD Cert.RefRwkvFirstIdeal.τ).loc Cert.RefRwkvFirstIdeal.main_arg0) = m ((c.tc : Thread Cert.RefRwkvFirstIdeal.nD Cert.RefRwkvFirstIdeal.τ).loc Cert.RefRwkvFirstIdeal.main_arg0)
      ∧ r.2.mem ((c.tc : Thread Cert.RefRwkvFirstIdeal.nD Cert.RefRwkvFirstIdeal.τ).loc Cert.RefRwkvFirstIdeal.main_arg1) = m ((c.tc : Thread Cert.RefRwkvFirstIdeal.nD Cert.RefRwkvFirstIdeal.τ).loc Cert.RefRwkvFirstIdeal.main_arg1)
      ∧ r.2.mem ((c.tc : Thread Cert.RefRwkvFirstIdeal.nD Cert.RefRwkvFirstIdeal.τ).loc Cert.RefRwkvFirstIdeal.main_arg2) = m ((c.tc : Thread Cert.RefRwkvFirstIdeal.nD Cert.RefRwkvFirstIdeal.τ).loc Cert.RefRwkvFirstIdeal.main_arg2)
      ∧ r.2.mem ((c.tc : Thread Cert.RefRwkvFirstIdeal.nD Cert.RefRwkvFirstIdeal.τ).loc Cert.RefRwkvFirstIdeal.main_arg3) = m ((c.tc : Thread Cert.RefRwkvFirstIdeal.nD Cert.RefRwkvFirstIdeal.τ).loc Cert.RefRwkvFirstIdeal.main_arg3)
      ∧ r.2.mem ((c.tc : Thread Cert.RefRwkvFirstIdeal.nD Cert.RefRwkvFirstIdeal.τ).loc Cert.RefRwkvFirstIdeal.main_arg4) = m ((c.tc : Thread Cert.RefRwkvFirstIdeal.nD Cert.RefRwkvFirstIdeal.τ).loc Cert.RefRwkvFirstIdeal.main_arg4)
      ∧ r.2.mem ((c.tc : Thread Cert.RefRwkvFirstIdeal.nD Cert.RefRwkvFirstIdeal.τ).loc Cert.RefRwkvFirstIdeal.main_arg5) = m ((c.tc : Thread Cert.RefRwkvFirstIdeal.nD Cert.RefRwkvFirstIdeal.τ).loc Cert.RefRwkvFirstIdeal.main_arg5)
      ∧ r.2.mem ((c.tc : Thread Cert.RefRwkvFirstIdeal.nD Cert.RefRwkvFirstIdeal.τ).loc Cert.RefRwkvFirstIdeal.main_arg6) = m ((c.tc : Thread Cert.RefRwkvFirstIdeal.nD Cert.RefRwkvFirstIdeal.τ).loc Cert.RefRwkvFirstIdeal.main_arg6)
      ∧ r.2.mem ((c.tc : Thread Cert.RefRwkvFirstIdeal.nD Cert.RefRwkvFirstIdeal.τ).loc Cert.RefRwkvFirstIdeal.main_arg7) = m ((c.tc : Thread Cert.RefRwkvFirstIdeal.nD Cert.RefRwkvFirstIdeal.τ).loc Cert.RefRwkvFirstIdeal.main_arg7)
      ∧ r.2.mem ((c.tc : Thread Cert.RefRwkvFirstIdeal.nD Cert.RefRwkvFirstIdeal.τ).loc Cert.RefRwkvFirstIdeal.main_arg8) = m ((c.tc : Thread Cert.RefRwkvFirstIdeal.nD Cert.RefRwkvFirstIdeal.τ).loc Cert.RefRwkvFirstIdeal.main_arg8)
      ∧ r.2.mem ((c.tc : Thread Cert.RefRwkvFirstIdeal.nD Cert.RefRwkvFirstIdeal.τ).loc Cert.RefRwkvFirstIdeal.main_arg9) = m ((c.tc : Thread Cert.RefRwkvFirstIdeal.nD Cert.RefRwkvFirstIdeal.τ).loc Cert.RefRwkvFirstIdeal.main_arg9)
      ∧ r.2.mem ((c.tc : Thread Cert.RefRwkvFirstIdeal.nD Cert.RefRwkvFirstIdeal.τ).loc Cert.RefRwkvFirstIdeal.main_arg10) = m ((c.tc : Thread Cert.RefRwkvFirstIdeal.nD Cert.RefRwkvFirstIdeal.τ).loc Cert.RefRwkvFirstIdeal.main_arg10)
      ∧ r.2.mem ((c.tc : Thread Cert.RefRwkvFirstIdeal.nD Cert.RefRwkvFirstIdeal.τ).loc Cert.RefRwkvFirstIdeal.main_arg11) = m ((c.tc : Thread Cert.RefRwkvFirstIdeal.nD Cert.RefRwkvFirstIdeal.τ).loc Cert.RefRwkvFirstIdeal.main_arg11))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_ProjQkv_ProjQkvIdeal : Prop :=
  True

def algebraic_ProjQkvIdeal_RefQkvIdeal [hProjQkvIdeal : Cert.ProjQkvIdeal.Facts] [hRefQkvIdeal : Cert.RefQkvIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg)
    (m' : (ℓ : Loc Cert.RefQkvIdeal.nD Cert.RefQkvIdeal.τ Cert.RefQkvIdeal.sig) → Buf (Elt Ideal) ℓ) (g' : Dev Cert.RefQkvIdeal.nD → PrngReg), Pre_ProjQkvIdeal m →
    (∀ c : Dev Cert.ProjQkvIdeal.nD,
      m' ((c.tc : Thread Cert.RefQkvIdeal.nD Cert.RefQkvIdeal.τ).loc Cert.RefQkvIdeal.main_arg0) = m ((c.tc : Thread Cert.ProjQkvIdeal.nD Cert.ProjQkvIdeal.τ).loc Cert.ProjQkvIdeal.main_arg0)
      ∧ m' ((c.tc : Thread Cert.RefQkvIdeal.nD Cert.RefQkvIdeal.τ).loc Cert.RefQkvIdeal.main_arg1) = m ((c.tc : Thread Cert.ProjQkvIdeal.nD Cert.ProjQkvIdeal.τ).loc Cert.ProjQkvIdeal.main_arg1)
      ∧ m' ((c.tc : Thread Cert.RefQkvIdeal.nD Cert.RefQkvIdeal.τ).loc Cert.RefQkvIdeal.main_arg2) = m ((c.tc : Thread Cert.ProjQkvIdeal.nD Cert.ProjQkvIdeal.τ).loc Cert.ProjQkvIdeal.main_arg2)) →
    ∃ (v0 : (c : Dev Cert.ProjQkvIdeal.nD) → Buf (Elt Ideal) ((c.tc : Thread Cert.ProjQkvIdeal.nD Cert.ProjQkvIdeal.τ).loc Cert.ProjQkvIdeal.main_v3)),
      θ_run (Cert.ProjQkvIdeal.defs (F := Ideal)) (onTc (τ := Cert.ProjQkvIdeal.τ) (Cert.ProjQkvIdeal.main (F := Ideal))) ⟨m, fun _ => 0, g⟩ (fun r => ∀ c : Dev Cert.ProjQkvIdeal.nD,
          r.2.mem ((c.tc : Thread Cert.ProjQkvIdeal.nD Cert.ProjQkvIdeal.τ).loc Cert.ProjQkvIdeal.main_v3) = v0 c
          ∧ r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
          ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1)
          ∧ r.2.mem ((c.tc : Thread Cert.ProjQkvIdeal.nD Cert.ProjQkvIdeal.τ).loc Cert.ProjQkvIdeal.main_arg2) = m ((c.tc : Thread Cert.ProjQkvIdeal.nD Cert.ProjQkvIdeal.τ).loc Cert.ProjQkvIdeal.main_arg2))
      ∧ θ_run (Cert.RefQkvIdeal.defs (F := Ideal)) (onTc (τ := Cert.RefQkvIdeal.τ) (Cert.RefQkvIdeal.main (F := Ideal))) ⟨m', fun _ => 0, g'⟩ (fun r => ∀ c : Dev Cert.RefQkvIdeal.nD,
          r.2.mem ((c.tc : Thread Cert.RefQkvIdeal.nD Cert.RefQkvIdeal.τ).loc Cert.RefQkvIdeal.main_v5) = v0 c
          ∧ r.2.mem ((c.tc : Thread Cert.RefQkvIdeal.nD Cert.RefQkvIdeal.τ).loc Cert.RefQkvIdeal.main_arg0) = m' ((c.tc : Thread Cert.RefQkvIdeal.nD Cert.RefQkvIdeal.τ).loc Cert.RefQkvIdeal.main_arg0)
          ∧ r.2.mem ((c.tc : Thread Cert.RefQkvIdeal.nD Cert.RefQkvIdeal.τ).loc Cert.RefQkvIdeal.main_arg1) = m' ((c.tc : Thread Cert.RefQkvIdeal.nD Cert.RefQkvIdeal.τ).loc Cert.RefQkvIdeal.main_arg1)
          ∧ r.2.mem ((c.tc : Thread Cert.RefQkvIdeal.nD Cert.RefQkvIdeal.τ).loc Cert.RefQkvIdeal.main_arg2) = m' ((c.tc : Thread Cert.RefQkvIdeal.nD Cert.RefQkvIdeal.τ).loc Cert.RefQkvIdeal.main_arg2))

def preserves_ProjGate_ProjGateIdeal : Prop :=
  True

def algebraic_ProjGateIdeal_RefGateIdeal [hProjGateIdeal : Cert.ProjGateIdeal.Facts] [hRefGateIdeal : Cert.RefGateIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg)
    (m' : (ℓ : Loc Cert.RefGateIdeal.nD Cert.RefGateIdeal.τ Cert.RefGateIdeal.sig) → Buf (Elt Ideal) ℓ) (g' : Dev Cert.RefGateIdeal.nD → PrngReg), Pre_ProjGateIdeal m →
    (∀ c : Dev Cert.ProjGateIdeal.nD,
      m' ((c.tc : Thread Cert.RefGateIdeal.nD Cert.RefGateIdeal.τ).loc Cert.RefGateIdeal.main_arg0) = m ((c.tc : Thread Cert.ProjGateIdeal.nD Cert.ProjGateIdeal.τ).loc Cert.ProjGateIdeal.main_arg0)
      ∧ m' ((c.tc : Thread Cert.RefGateIdeal.nD Cert.RefGateIdeal.τ).loc Cert.RefGateIdeal.main_arg1) = m ((c.tc : Thread Cert.ProjGateIdeal.nD Cert.ProjGateIdeal.τ).loc Cert.ProjGateIdeal.main_arg1)) →
    ∃ (v0 : (c : Dev Cert.ProjGateIdeal.nD) → Buf (Elt Ideal) ((c.tc : Thread Cert.ProjGateIdeal.nD Cert.ProjGateIdeal.τ).loc Cert.ProjGateIdeal.main_v4)),
      θ_run (Cert.ProjGateIdeal.defs (F := Ideal)) (onTc (τ := Cert.ProjGateIdeal.τ) (Cert.ProjGateIdeal.main (F := Ideal))) ⟨m, fun _ => 0, g⟩ (fun r => ∀ c : Dev Cert.ProjGateIdeal.nD,
          r.2.mem ((c.tc : Thread Cert.ProjGateIdeal.nD Cert.ProjGateIdeal.τ).loc Cert.ProjGateIdeal.main_v4) = v0 c
          ∧ r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
          ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1))
      ∧ θ_run (Cert.RefGateIdeal.defs (F := Ideal)) (onTc (τ := Cert.RefGateIdeal.τ) (Cert.RefGateIdeal.main (F := Ideal))) ⟨m', fun _ => 0, g'⟩ (fun r => ∀ c : Dev Cert.RefGateIdeal.nD,
          r.2.mem ((c.tc : Thread Cert.RefGateIdeal.nD Cert.RefGateIdeal.τ).loc Cert.RefGateIdeal.main_v18) = v0 c
          ∧ r.2.mem ((c.tc : Thread Cert.RefGateIdeal.nD Cert.RefGateIdeal.τ).loc Cert.RefGateIdeal.main_arg0) = m' ((c.tc : Thread Cert.RefGateIdeal.nD Cert.RefGateIdeal.τ).loc Cert.RefGateIdeal.main_arg0)
          ∧ r.2.mem ((c.tc : Thread Cert.RefGateIdeal.nD Cert.RefGateIdeal.τ).loc Cert.RefGateIdeal.main_arg1) = m' ((c.tc : Thread Cert.RefGateIdeal.nD Cert.RefGateIdeal.τ).loc Cert.RefGateIdeal.main_arg1))

def preserves_ProjRwkv_ProjRwkvIdeal : Prop :=
  True

def algebraic_ProjRwkvIdeal_RefRwkvIdeal [hProjRwkvIdeal : Cert.ProjRwkvIdeal.Facts] [hRefRwkvIdeal : Cert.RefRwkvIdeal.Facts] : Prop :=
  ∀ (m : (ℓ : Loc Cert.ProjRwkvIdeal.nD Cert.ProjRwkvIdeal.τ Cert.ProjRwkvIdeal.sig) → Buf (Elt Ideal) ℓ) (g : Dev Cert.ProjRwkvIdeal.nD → PrngReg)
    (m' : (ℓ : Loc Cert.RefRwkvIdeal.nD Cert.RefRwkvIdeal.τ Cert.RefRwkvIdeal.sig) → Buf (Elt Ideal) ℓ) (g' : Dev Cert.RefRwkvIdeal.nD → PrngReg), Pre_ProjRwkvIdeal m →
    (∀ c : Dev Cert.ProjRwkvIdeal.nD,
      m' ((c.tc : Thread Cert.RefRwkvIdeal.nD Cert.RefRwkvIdeal.τ).loc Cert.RefRwkvIdeal.main_arg0) = m ((c.tc : Thread Cert.ProjRwkvIdeal.nD Cert.ProjRwkvIdeal.τ).loc Cert.ProjRwkvIdeal.main_arg0)
      ∧ m' ((c.tc : Thread Cert.RefRwkvIdeal.nD Cert.RefRwkvIdeal.τ).loc Cert.RefRwkvIdeal.main_arg1) = m ((c.tc : Thread Cert.ProjRwkvIdeal.nD Cert.ProjRwkvIdeal.τ).loc Cert.ProjRwkvIdeal.main_arg1)
      ∧ m' ((c.tc : Thread Cert.RefRwkvIdeal.nD Cert.RefRwkvIdeal.τ).loc Cert.RefRwkvIdeal.main_arg2) = m ((c.tc : Thread Cert.ProjRwkvIdeal.nD Cert.ProjRwkvIdeal.τ).loc Cert.ProjRwkvIdeal.main_arg2)) →
    ∃ (v0 : (c : Dev Cert.ProjRwkvIdeal.nD) → Buf (Elt Ideal) ((c.tc : Thread Cert.ProjRwkvIdeal.nD Cert.ProjRwkvIdeal.τ).loc Cert.ProjRwkvIdeal.main_v7)),
      θ_run (Cert.ProjRwkvIdeal.defs (F := Ideal)) (onTc (τ := Cert.ProjRwkvIdeal.τ) (Cert.ProjRwkvIdeal.main (F := Ideal))) ⟨m, fun _ => 0, g⟩ (fun r => ∀ c : Dev Cert.ProjRwkvIdeal.nD,
          r.2.mem ((c.tc : Thread Cert.ProjRwkvIdeal.nD Cert.ProjRwkvIdeal.τ).loc Cert.ProjRwkvIdeal.main_v7) = v0 c
          ∧ r.2.mem ((c.tc : Thread Cert.ProjRwkvIdeal.nD Cert.ProjRwkvIdeal.τ).loc Cert.ProjRwkvIdeal.main_arg0) = m ((c.tc : Thread Cert.ProjRwkvIdeal.nD Cert.ProjRwkvIdeal.τ).loc Cert.ProjRwkvIdeal.main_arg0)
          ∧ r.2.mem ((c.tc : Thread Cert.ProjRwkvIdeal.nD Cert.ProjRwkvIdeal.τ).loc Cert.ProjRwkvIdeal.main_arg1) = m ((c.tc : Thread Cert.ProjRwkvIdeal.nD Cert.ProjRwkvIdeal.τ).loc Cert.ProjRwkvIdeal.main_arg1)
          ∧ r.2.mem ((c.tc : Thread Cert.ProjRwkvIdeal.nD Cert.ProjRwkvIdeal.τ).loc Cert.ProjRwkvIdeal.main_arg2) = m ((c.tc : Thread Cert.ProjRwkvIdeal.nD Cert.ProjRwkvIdeal.τ).loc Cert.ProjRwkvIdeal.main_arg2))
      ∧ θ_run (Cert.RefRwkvIdeal.defs (F := Ideal)) (onTc (τ := Cert.RefRwkvIdeal.τ) (Cert.RefRwkvIdeal.main (F := Ideal))) ⟨m', fun _ => 0, g'⟩ (fun r => ∀ c : Dev Cert.RefRwkvIdeal.nD,
          r.2.mem ((c.tc : Thread Cert.RefRwkvIdeal.nD Cert.RefRwkvIdeal.τ).loc Cert.RefRwkvIdeal.main_v5) = v0 c
          ∧ r.2.mem ((c.tc : Thread Cert.RefRwkvIdeal.nD Cert.RefRwkvIdeal.τ).loc Cert.RefRwkvIdeal.main_arg0) = m' ((c.tc : Thread Cert.RefRwkvIdeal.nD Cert.RefRwkvIdeal.τ).loc Cert.RefRwkvIdeal.main_arg0)
          ∧ r.2.mem ((c.tc : Thread Cert.RefRwkvIdeal.nD Cert.RefRwkvIdeal.τ).loc Cert.RefRwkvIdeal.main_arg1) = m' ((c.tc : Thread Cert.RefRwkvIdeal.nD Cert.RefRwkvIdeal.τ).loc Cert.RefRwkvIdeal.main_arg1)
          ∧ r.2.mem ((c.tc : Thread Cert.RefRwkvIdeal.nD Cert.RefRwkvIdeal.τ).loc Cert.RefRwkvIdeal.main_arg2) = m' ((c.tc : Thread Cert.RefRwkvIdeal.nD Cert.RefRwkvIdeal.τ).loc Cert.RefRwkvIdeal.main_arg2))

def preserves_NormMix_NormMixIdeal : Prop :=
  True

def algebraic_NormMixIdeal_RefNormMixIdeal [hNormMixIdeal : Cert.NormMixIdeal.Facts] [hRefNormMixIdeal : Cert.RefNormMixIdeal.Facts] : Prop :=
  ∀ (m : (ℓ : Loc Cert.NormMixIdeal.nD Cert.NormMixIdeal.τ Cert.NormMixIdeal.sig) → Buf (Elt Ideal) ℓ) (g : Dev Cert.NormMixIdeal.nD → PrngReg)
    (m' : (ℓ : Loc Cert.RefNormMixIdeal.nD Cert.RefNormMixIdeal.τ Cert.RefNormMixIdeal.sig) → Buf (Elt Ideal) ℓ) (g' : Dev Cert.RefNormMixIdeal.nD → PrngReg), Pre_NormMixIdeal m →
    (∀ c : Dev Cert.NormMixIdeal.nD,
      m' ((c.tc : Thread Cert.RefNormMixIdeal.nD Cert.RefNormMixIdeal.τ).loc Cert.RefNormMixIdeal.main_arg0) = m ((c.tc : Thread Cert.NormMixIdeal.nD Cert.NormMixIdeal.τ).loc Cert.NormMixIdeal.main_arg0)
      ∧ m' ((c.tc : Thread Cert.RefNormMixIdeal.nD Cert.RefNormMixIdeal.τ).loc Cert.RefNormMixIdeal.main_arg1) = m ((c.tc : Thread Cert.NormMixIdeal.nD Cert.NormMixIdeal.τ).loc Cert.NormMixIdeal.main_arg1)) →
    ∃ (v0 : (c : Dev Cert.NormMixIdeal.nD) → Buf (Elt Ideal) ((c.tc : Thread Cert.NormMixIdeal.nD Cert.NormMixIdeal.τ).loc Cert.NormMixIdeal.main_v1)),
      θ_run (Cert.NormMixIdeal.defs (F := Ideal)) (onTc (τ := Cert.NormMixIdeal.τ) (Cert.NormMixIdeal.main (F := Ideal))) ⟨m, fun _ => 0, g⟩ (fun r => ∀ c : Dev Cert.NormMixIdeal.nD,
          r.2.mem ((c.tc : Thread Cert.NormMixIdeal.nD Cert.NormMixIdeal.τ).loc Cert.NormMixIdeal.main_v1) = v0 c
          ∧ r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
          ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1))
      ∧ θ_run (Cert.RefNormMixIdeal.defs (F := Ideal)) (onTc (τ := Cert.RefNormMixIdeal.τ) (Cert.RefNormMixIdeal.main (F := Ideal))) ⟨m', fun _ => 0, g'⟩ (fun r => ∀ c : Dev Cert.RefNormMixIdeal.nD,
          r.2.mem ((c.tc : Thread Cert.RefNormMixIdeal.nD Cert.RefNormMixIdeal.τ).loc Cert.RefNormMixIdeal.main_v13) = v0 c
          ∧ r.2.mem ((c.tc : Thread Cert.RefNormMixIdeal.nD Cert.RefNormMixIdeal.τ).loc Cert.RefNormMixIdeal.main_arg0) = m' ((c.tc : Thread Cert.RefNormMixIdeal.nD Cert.RefNormMixIdeal.τ).loc Cert.RefNormMixIdeal.main_arg0)
          ∧ r.2.mem ((c.tc : Thread Cert.RefNormMixIdeal.nD Cert.RefNormMixIdeal.τ).loc Cert.RefNormMixIdeal.main_arg1) = m' ((c.tc : Thread Cert.RefNormMixIdeal.nD Cert.RefNormMixIdeal.τ).loc Cert.RefNormMixIdeal.main_arg1))

def preserves_NormLast_NormLastIdeal : Prop :=
  True

def algebraic_NormLastIdeal_RefNormLastIdeal [hNormLastIdeal : Cert.NormLastIdeal.Facts] [hRefNormLastIdeal : Cert.RefNormLastIdeal.Facts] : Prop :=
  ∀ (m : (ℓ : Loc Cert.NormLastIdeal.nD Cert.NormLastIdeal.τ Cert.NormLastIdeal.sig) → Buf (Elt Ideal) ℓ) (g : Dev Cert.NormLastIdeal.nD → PrngReg)
    (m' : (ℓ : Loc Cert.RefNormLastIdeal.nD Cert.RefNormLastIdeal.τ Cert.RefNormLastIdeal.sig) → Buf (Elt Ideal) ℓ) (g' : Dev Cert.RefNormLastIdeal.nD → PrngReg), Pre_NormLastIdeal m →
    (∀ c : Dev Cert.NormLastIdeal.nD,
      m' ((c.tc : Thread Cert.RefNormLastIdeal.nD Cert.RefNormLastIdeal.τ).loc Cert.RefNormLastIdeal.main_arg0) = m ((c.tc : Thread Cert.NormLastIdeal.nD Cert.NormLastIdeal.τ).loc Cert.NormLastIdeal.main_arg0)
      ∧ m' ((c.tc : Thread Cert.RefNormLastIdeal.nD Cert.RefNormLastIdeal.τ).loc Cert.RefNormLastIdeal.main_arg1) = m ((c.tc : Thread Cert.NormLastIdeal.nD Cert.NormLastIdeal.τ).loc Cert.NormLastIdeal.main_arg1)) →
    ∃ (v0 : (c : Dev Cert.NormLastIdeal.nD) → Buf (Elt Ideal) ((c.tc : Thread Cert.NormLastIdeal.nD Cert.NormLastIdeal.τ).loc Cert.NormLastIdeal.main_v1)),
      θ_run (Cert.NormLastIdeal.defs (F := Ideal)) (onTc (τ := Cert.NormLastIdeal.τ) (Cert.NormLastIdeal.main (F := Ideal))) ⟨m, fun _ => 0, g⟩ (fun r => ∀ c : Dev Cert.NormLastIdeal.nD,
          r.2.mem ((c.tc : Thread Cert.NormLastIdeal.nD Cert.NormLastIdeal.τ).loc Cert.NormLastIdeal.main_v1) = v0 c
          ∧ r.2.mem ((c.tc : Thread Cert.NormLastIdeal.nD Cert.NormLastIdeal.τ).loc Cert.NormLastIdeal.main_arg0) = m ((c.tc : Thread Cert.NormLastIdeal.nD Cert.NormLastIdeal.τ).loc Cert.NormLastIdeal.main_arg0)
          ∧ r.2.mem ((c.tc : Thread Cert.NormLastIdeal.nD Cert.NormLastIdeal.τ).loc Cert.NormLastIdeal.main_arg1) = m ((c.tc : Thread Cert.NormLastIdeal.nD Cert.NormLastIdeal.τ).loc Cert.NormLastIdeal.main_arg1))
      ∧ θ_run (Cert.RefNormLastIdeal.defs (F := Ideal)) (onTc (τ := Cert.RefNormLastIdeal.τ) (Cert.RefNormLastIdeal.main (F := Ideal))) ⟨m', fun _ => 0, g'⟩ (fun r => ∀ c : Dev Cert.RefNormLastIdeal.nD,
          r.2.mem ((c.tc : Thread Cert.RefNormLastIdeal.nD Cert.RefNormLastIdeal.τ).loc Cert.RefNormLastIdeal.main_v16) = v0 c
          ∧ r.2.mem ((c.tc : Thread Cert.RefNormLastIdeal.nD Cert.RefNormLastIdeal.τ).loc Cert.RefNormLastIdeal.main_arg0) = m' ((c.tc : Thread Cert.RefNormLastIdeal.nD Cert.RefNormLastIdeal.τ).loc Cert.RefNormLastIdeal.main_arg0)
          ∧ r.2.mem ((c.tc : Thread Cert.RefNormLastIdeal.nD Cert.RefNormLastIdeal.τ).loc Cert.RefNormLastIdeal.main_arg1) = m' ((c.tc : Thread Cert.RefNormLastIdeal.nD Cert.RefNormLastIdeal.τ).loc Cert.RefNormLastIdeal.main_arg1))

def preserves_Merge_MergeIdeal : Prop :=
  True

def algebraic_MergeIdeal_RefMergeIdeal [hMergeIdeal : Cert.MergeIdeal.Facts] [hRefMergeIdeal : Cert.RefMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)
      ∧ m' ((c.tc : Thread Cert.RefMergeIdeal.nD Cert.RefMergeIdeal.τ).loc Cert.RefMergeIdeal.main_arg3) = m ((c.tc : Thread Cert.MergeIdeal.nD Cert.MergeIdeal.τ).loc Cert.MergeIdeal.main_arg3)
      ∧ m' ((c.tc : Thread Cert.RefMergeIdeal.nD Cert.RefMergeIdeal.τ).loc Cert.RefMergeIdeal.main_arg4) = m ((c.tc : Thread Cert.MergeIdeal.nD Cert.MergeIdeal.τ).loc Cert.MergeIdeal.main_arg4)
      ∧ m' ((c.tc : Thread Cert.RefMergeIdeal.nD Cert.RefMergeIdeal.τ).loc Cert.RefMergeIdeal.main_arg5) = m ((c.tc : Thread Cert.MergeIdeal.nD Cert.MergeIdeal.τ).loc Cert.MergeIdeal.main_arg5)
      ∧ m' ((c.tc : Thread Cert.RefMergeIdeal.nD Cert.RefMergeIdeal.τ).loc Cert.RefMergeIdeal.main_arg6) = m ((c.tc : Thread Cert.MergeIdeal.nD Cert.MergeIdeal.τ).loc Cert.MergeIdeal.main_arg6)
      ∧ m' ((c.tc : Thread Cert.RefMergeIdeal.nD Cert.RefMergeIdeal.τ).loc Cert.RefMergeIdeal.main_arg7) = m ((c.tc : Thread Cert.MergeIdeal.nD Cert.MergeIdeal.τ).loc Cert.MergeIdeal.main_arg7)
      ∧ m' ((c.tc : Thread Cert.RefMergeIdeal.nD Cert.RefMergeIdeal.τ).loc Cert.RefMergeIdeal.main_arg8) = m ((c.tc : Thread Cert.MergeIdeal.nD Cert.MergeIdeal.τ).loc Cert.MergeIdeal.main_arg8)
      ∧ m' ((c.tc : Thread Cert.RefMergeIdeal.nD Cert.RefMergeIdeal.τ).loc Cert.RefMergeIdeal.main_arg9) = m ((c.tc : Thread Cert.MergeIdeal.nD Cert.MergeIdeal.τ).loc Cert.MergeIdeal.main_arg9)
      ∧ m' ((c.tc : Thread Cert.RefMergeIdeal.nD Cert.RefMergeIdeal.τ).loc Cert.RefMergeIdeal.main_arg10) = m ((c.tc : Thread Cert.MergeIdeal.nD Cert.MergeIdeal.τ).loc Cert.MergeIdeal.main_arg10)
      ∧ m' ((c.tc : Thread Cert.RefMergeIdeal.nD Cert.RefMergeIdeal.τ).loc Cert.RefMergeIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v15_0)) (v1 : (c : Dev Cert.MergeIdeal.nD) → Buf (Elt Ideal) ((c.tc : Thread Cert.MergeIdeal.nD Cert.MergeIdeal.τ).loc Cert.MergeIdeal.main_v15_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v15_0) = v0 c
          ∧ r.2.mem ((c.tc : Thread Cert.MergeIdeal.nD Cert.MergeIdeal.τ).loc Cert.MergeIdeal.main_v15_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v34) = v0 c
          ∧ r.2.mem ((c.tc : Thread Cert.RefMergeIdeal.nD Cert.RefMergeIdeal.τ).loc Cert.RefMergeIdeal.main_v36) = v1 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2)
          ∧ r.2.mem ((c.tc : Thread Cert.RefMergeIdeal.nD Cert.RefMergeIdeal.τ).loc Cert.RefMergeIdeal.main_arg3) = m' ((c.tc : Thread Cert.RefMergeIdeal.nD Cert.RefMergeIdeal.τ).loc Cert.RefMergeIdeal.main_arg3)
          ∧ r.2.mem ((c.tc : Thread Cert.RefMergeIdeal.nD Cert.RefMergeIdeal.τ).loc Cert.RefMergeIdeal.main_arg4) = m' ((c.tc : Thread Cert.RefMergeIdeal.nD Cert.RefMergeIdeal.τ).loc Cert.RefMergeIdeal.main_arg4)
          ∧ r.2.mem ((c.tc : Thread Cert.RefMergeIdeal.nD Cert.RefMergeIdeal.τ).loc Cert.RefMergeIdeal.main_arg5) = m' ((c.tc : Thread Cert.RefMergeIdeal.nD Cert.RefMergeIdeal.τ).loc Cert.RefMergeIdeal.main_arg5)
          ∧ r.2.mem ((c.tc : Thread Cert.RefMergeIdeal.nD Cert.RefMergeIdeal.τ).loc Cert.RefMergeIdeal.main_arg6) = m' ((c.tc : Thread Cert.RefMergeIdeal.nD Cert.RefMergeIdeal.τ).loc Cert.RefMergeIdeal.main_arg6)
          ∧ r.2.mem ((c.tc : Thread Cert.RefMergeIdeal.nD Cert.RefMergeIdeal.τ).loc Cert.RefMergeIdeal.main_arg7) = m' ((c.tc : Thread Cert.RefMergeIdeal.nD Cert.RefMergeIdeal.τ).loc Cert.RefMergeIdeal.main_arg7)
          ∧ r.2.mem ((c.tc : Thread Cert.RefMergeIdeal.nD Cert.RefMergeIdeal.τ).loc Cert.RefMergeIdeal.main_arg8) = m' ((c.tc : Thread Cert.RefMergeIdeal.nD Cert.RefMergeIdeal.τ).loc Cert.RefMergeIdeal.main_arg8)
          ∧ r.2.mem ((c.tc : Thread Cert.RefMergeIdeal.nD Cert.RefMergeIdeal.τ).loc Cert.RefMergeIdeal.main_arg9) = m' ((c.tc : Thread Cert.RefMergeIdeal.nD Cert.RefMergeIdeal.τ).loc Cert.RefMergeIdeal.main_arg9)
          ∧ r.2.mem ((c.tc : Thread Cert.RefMergeIdeal.nD Cert.RefMergeIdeal.τ).loc Cert.RefMergeIdeal.main_arg10) = m' ((c.tc : Thread Cert.RefMergeIdeal.nD Cert.RefMergeIdeal.τ).loc Cert.RefMergeIdeal.main_arg10)
          ∧ r.2.mem ((c.tc : Thread Cert.RefMergeIdeal.nD Cert.RefMergeIdeal.τ).loc Cert.RefMergeIdeal.main_arg11) = m' ((c.tc : Thread Cert.RefMergeIdeal.nD Cert.RefMergeIdeal.τ).loc Cert.RefMergeIdeal.main_arg11))

def preserves_Route_RouteIdeal : Prop :=
  True

def algebraic_RouteIdeal_RefRouteIdeal_pre_finite_route [hRouteIdeal : Cert.RouteIdeal.Facts] [hRefRouteIdeal : Cert.RefRouteIdeal.Facts] [hPre_finite_route : Cert.Pre_finite_route.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RefRouteIdeal.nD Cert.RefRouteIdeal.τ Cert.RefRouteIdeal.sig) → Buf (Elt Ideal) ℓ) (g' : Dev Cert.RefRouteIdeal.nD → PrngReg), Pre_RouteIdeal_finite_route m →
    (∀ c : Dev Cert.RouteIdeal.nD,
      m' ((c.tc : Thread Cert.RefRouteIdeal.nD Cert.RefRouteIdeal.τ).loc Cert.RefRouteIdeal.main_arg0) = m ((c.tc : Thread Cert.RouteIdeal.nD Cert.RouteIdeal.τ).loc Cert.RouteIdeal.main_arg0)
      ∧ m' ((c.tc : Thread Cert.RefRouteIdeal.nD Cert.RefRouteIdeal.τ).loc Cert.RefRouteIdeal.main_arg1) = m ((c.tc : Thread Cert.RouteIdeal.nD Cert.RouteIdeal.τ).loc Cert.RouteIdeal.main_arg1)
      ∧ m' ((c.tc : Thread Cert.RefRouteIdeal.nD Cert.RefRouteIdeal.τ).loc Cert.RefRouteIdeal.main_arg2) = m ((c.tc : Thread Cert.RouteIdeal.nD Cert.RouteIdeal.τ).loc Cert.RouteIdeal.main_arg2)
      ∧ m' ((c.tc : Thread Cert.RefRouteIdeal.nD Cert.RefRouteIdeal.τ).loc Cert.RefRouteIdeal.main_arg3) = m ((c.tc : Thread Cert.RouteIdeal.nD Cert.RouteIdeal.τ).loc Cert.RouteIdeal.main_arg3)
      ∧ m' ((c.tc : Thread Cert.RefRouteIdeal.nD Cert.RefRouteIdeal.τ).loc Cert.RefRouteIdeal.main_arg4) = m ((c.tc : Thread Cert.RouteIdeal.nD Cert.RouteIdeal.τ).loc Cert.RouteIdeal.main_arg4)
      ∧ m' ((c.tc : Thread Cert.RefRouteIdeal.nD Cert.RefRouteIdeal.τ).loc Cert.RefRouteIdeal.main_arg5) = m ((c.tc : Thread Cert.RouteIdeal.nD Cert.RouteIdeal.τ).loc Cert.RouteIdeal.main_arg5)
      ∧ m' ((c.tc : Thread Cert.RefRouteIdeal.nD Cert.RefRouteIdeal.τ).loc Cert.RefRouteIdeal.main_arg6) = m ((c.tc : Thread Cert.RouteIdeal.nD Cert.RouteIdeal.τ).loc Cert.RouteIdeal.main_arg6)
      ∧ m' ((c.tc : Thread Cert.RefRouteIdeal.nD Cert.RefRouteIdeal.τ).loc Cert.RefRouteIdeal.main_arg7) = m ((c.tc : Thread Cert.RouteIdeal.nD Cert.RouteIdeal.τ).loc Cert.RouteIdeal.main_arg7)
      ∧ m' ((c.tc : Thread Cert.RefRouteIdeal.nD Cert.RefRouteIdeal.τ).loc Cert.RefRouteIdeal.main_arg8) = m ((c.tc : Thread Cert.RouteIdeal.nD Cert.RouteIdeal.τ).loc Cert.RouteIdeal.main_arg8)
      ∧ m' ((c.tc : Thread Cert.RefRouteIdeal.nD Cert.RefRouteIdeal.τ).loc Cert.RefRouteIdeal.main_arg9) = m ((c.tc : Thread Cert.RouteIdeal.nD Cert.RouteIdeal.τ).loc Cert.RouteIdeal.main_arg9)
      ∧ m' ((c.tc : Thread Cert.RefRouteIdeal.nD Cert.RefRouteIdeal.τ).loc Cert.RefRouteIdeal.main_arg10) = m ((c.tc : Thread Cert.RouteIdeal.nD Cert.RouteIdeal.τ).loc Cert.RouteIdeal.main_arg10)
      ∧ m' ((c.tc : Thread Cert.RefRouteIdeal.nD Cert.RefRouteIdeal.τ).loc Cert.RefRouteIdeal.main_arg11) = m ((c.tc : Thread Cert.RouteIdeal.nD Cert.RouteIdeal.τ).loc Cert.RouteIdeal.main_arg11)) →
    ∃ (v0 : (c : Dev Cert.RouteIdeal.nD) → Buf (Elt Ideal) ((c.tc : Thread Cert.RouteIdeal.nD Cert.RouteIdeal.τ).loc Cert.RouteIdeal.main_v15_2)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v15_2) = v0 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
          ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
          ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5)
          ∧ r.2.mem ((c.tc : Thread Cert.RouteIdeal.nD Cert.RouteIdeal.τ).loc Cert.RouteIdeal.main_arg6) = m ((c.tc : Thread Cert.RouteIdeal.nD Cert.RouteIdeal.τ).loc Cert.RouteIdeal.main_arg6)
          ∧ r.2.mem ((c.tc : Thread Cert.RouteIdeal.nD Cert.RouteIdeal.τ).loc Cert.RouteIdeal.main_arg7) = m ((c.tc : Thread Cert.RouteIdeal.nD Cert.RouteIdeal.τ).loc Cert.RouteIdeal.main_arg7)
          ∧ r.2.mem ((c.tc : Thread Cert.RouteIdeal.nD Cert.RouteIdeal.τ).loc Cert.RouteIdeal.main_arg8) = m ((c.tc : Thread Cert.RouteIdeal.nD Cert.RouteIdeal.τ).loc Cert.RouteIdeal.main_arg8)
          ∧ r.2.mem ((c.tc : Thread Cert.RouteIdeal.nD Cert.RouteIdeal.τ).loc Cert.RouteIdeal.main_arg9) = m ((c.tc : Thread Cert.RouteIdeal.nD Cert.RouteIdeal.τ).loc Cert.RouteIdeal.main_arg9)
          ∧ r.2.mem ((c.tc : Thread Cert.RouteIdeal.nD Cert.RouteIdeal.τ).loc Cert.RouteIdeal.main_arg10) = m ((c.tc : Thread Cert.RouteIdeal.nD Cert.RouteIdeal.τ).loc Cert.RouteIdeal.main_arg10)
          ∧ r.2.mem ((c.tc : Thread Cert.RouteIdeal.nD Cert.RouteIdeal.τ).loc Cert.RouteIdeal.main_arg11) = m ((c.tc : Thread Cert.RouteIdeal.nD Cert.RouteIdeal.τ).loc Cert.RouteIdeal.main_arg11))
      ∧ θ_run (Cert.RefRouteIdeal.defs (F := Ideal)) (onTc (τ := Cert.RefRouteIdeal.τ) (Cert.RefRouteIdeal.main (F := Ideal))) ⟨m', fun _ => 0, g'⟩ (fun r => ∀ c : Dev Cert.RefRouteIdeal.nD,
          r.2.mem ((c.tc : Thread Cert.RefRouteIdeal.nD Cert.RefRouteIdeal.τ).loc Cert.RefRouteIdeal.main_v84) = v0 c
          ∧ r.2.mem ((c.tc : Thread Cert.RefRouteIdeal.nD Cert.RefRouteIdeal.τ).loc Cert.RefRouteIdeal.main_arg0) = m' ((c.tc : Thread Cert.RefRouteIdeal.nD Cert.RefRouteIdeal.τ).loc Cert.RefRouteIdeal.main_arg0)
          ∧ r.2.mem ((c.tc : Thread Cert.RefRouteIdeal.nD Cert.RefRouteIdeal.τ).loc Cert.RefRouteIdeal.main_arg1) = m' ((c.tc : Thread Cert.RefRouteIdeal.nD Cert.RefRouteIdeal.τ).loc Cert.RefRouteIdeal.main_arg1)
          ∧ r.2.mem ((c.tc : Thread Cert.RefRouteIdeal.nD Cert.RefRouteIdeal.τ).loc Cert.RefRouteIdeal.main_arg2) = m' ((c.tc : Thread Cert.RefRouteIdeal.nD Cert.RefRouteIdeal.τ).loc Cert.RefRouteIdeal.main_arg2)
          ∧ r.2.mem ((c.tc : Thread Cert.RefRouteIdeal.nD Cert.RefRouteIdeal.τ).loc Cert.RefRouteIdeal.main_arg3) = m' ((c.tc : Thread Cert.RefRouteIdeal.nD Cert.RefRouteIdeal.τ).loc Cert.RefRouteIdeal.main_arg3)
          ∧ r.2.mem ((c.tc : Thread Cert.RefRouteIdeal.nD Cert.RefRouteIdeal.τ).loc Cert.RefRouteIdeal.main_arg4) = m' ((c.tc : Thread Cert.RefRouteIdeal.nD Cert.RefRouteIdeal.τ).loc Cert.RefRouteIdeal.main_arg4)
          ∧ r.2.mem ((c.tc : Thread Cert.RefRouteIdeal.nD Cert.RefRouteIdeal.τ).loc Cert.RefRouteIdeal.main_arg5) = m' ((c.tc : Thread Cert.RefRouteIdeal.nD Cert.RefRouteIdeal.τ).loc Cert.RefRouteIdeal.main_arg5)
          ∧ r.2.mem ((c.tc : Thread Cert.RefRouteIdeal.nD Cert.RefRouteIdeal.τ).loc Cert.RefRouteIdeal.main_arg6) = m' ((c.tc : Thread Cert.RefRouteIdeal.nD Cert.RefRouteIdeal.τ).loc Cert.RefRouteIdeal.main_arg6)
          ∧ r.2.mem ((c.tc : Thread Cert.RefRouteIdeal.nD Cert.RefRouteIdeal.τ).loc Cert.RefRouteIdeal.main_arg7) = m' ((c.tc : Thread Cert.RefRouteIdeal.nD Cert.RefRouteIdeal.τ).loc Cert.RefRouteIdeal.main_arg7)
          ∧ r.2.mem ((c.tc : Thread Cert.RefRouteIdeal.nD Cert.RefRouteIdeal.τ).loc Cert.RefRouteIdeal.main_arg8) = m' ((c.tc : Thread Cert.RefRouteIdeal.nD Cert.RefRouteIdeal.τ).loc Cert.RefRouteIdeal.main_arg8)
          ∧ r.2.mem ((c.tc : Thread Cert.RefRouteIdeal.nD Cert.RefRouteIdeal.τ).loc Cert.RefRouteIdeal.main_arg9) = m' ((c.tc : Thread Cert.RefRouteIdeal.nD Cert.RefRouteIdeal.τ).loc Cert.RefRouteIdeal.main_arg9)
          ∧ r.2.mem ((c.tc : Thread Cert.RefRouteIdeal.nD Cert.RefRouteIdeal.τ).loc Cert.RefRouteIdeal.main_arg10) = m' ((c.tc : Thread Cert.RefRouteIdeal.nD Cert.RefRouteIdeal.τ).loc Cert.RefRouteIdeal.main_arg10)
          ∧ r.2.mem ((c.tc : Thread Cert.RefRouteIdeal.nD Cert.RefRouteIdeal.τ).loc Cert.RefRouteIdeal.main_arg11) = m' ((c.tc : Thread Cert.RefRouteIdeal.nD Cert.RefRouteIdeal.τ).loc Cert.RefRouteIdeal.main_arg11))

def preserves_Rwkv_RwkvIdeal : Prop :=
  True

def algebraic_RwkvIdeal_RefRwkvFirstIdeal [hRwkvIdeal : Cert.RwkvIdeal.Facts] [hRefRwkvFirstIdeal : Cert.RefRwkvFirstIdeal.Facts] : Prop :=
  ∀ (m : (ℓ : Loc Cert.RwkvIdeal.nD Cert.RwkvIdeal.τ Cert.RwkvIdeal.sig) → Buf (Elt Ideal) ℓ) (g : Dev Cert.RwkvIdeal.nD → PrngReg)
    (m' : (ℓ : Loc Cert.RefRwkvFirstIdeal.nD Cert.RefRwkvFirstIdeal.τ Cert.RefRwkvFirstIdeal.sig) → Buf (Elt Ideal) ℓ) (g' : Dev Cert.RefRwkvFirstIdeal.nD → PrngReg), Pre_RwkvIdeal m →
    (∀ c : Dev Cert.RwkvIdeal.nD,
      m' ((c.tc : Thread Cert.RefRwkvFirstIdeal.nD Cert.RefRwkvFirstIdeal.τ).loc Cert.RefRwkvFirstIdeal.main_arg0) = m ((c.tc : Thread Cert.RwkvIdeal.nD Cert.RwkvIdeal.τ).loc Cert.RwkvIdeal.main_arg0)
      ∧ m' ((c.tc : Thread Cert.RefRwkvFirstIdeal.nD Cert.RefRwkvFirstIdeal.τ).loc Cert.RefRwkvFirstIdeal.main_arg1) = m ((c.tc : Thread Cert.RwkvIdeal.nD Cert.RwkvIdeal.τ).loc Cert.RwkvIdeal.main_arg1)
      ∧ m' ((c.tc : Thread Cert.RefRwkvFirstIdeal.nD Cert.RefRwkvFirstIdeal.τ).loc Cert.RefRwkvFirstIdeal.main_arg2) = m ((c.tc : Thread Cert.RwkvIdeal.nD Cert.RwkvIdeal.τ).loc Cert.RwkvIdeal.main_arg2)
      ∧ m' ((c.tc : Thread Cert.RefRwkvFirstIdeal.nD Cert.RefRwkvFirstIdeal.τ).loc Cert.RefRwkvFirstIdeal.main_arg3) = m ((c.tc : Thread Cert.RwkvIdeal.nD Cert.RwkvIdeal.τ).loc Cert.RwkvIdeal.main_arg3)
      ∧ m' ((c.tc : Thread Cert.RefRwkvFirstIdeal.nD Cert.RefRwkvFirstIdeal.τ).loc Cert.RefRwkvFirstIdeal.main_arg4) = m ((c.tc : Thread Cert.RwkvIdeal.nD Cert.RwkvIdeal.τ).loc Cert.RwkvIdeal.main_arg4)
      ∧ m' ((c.tc : Thread Cert.RefRwkvFirstIdeal.nD Cert.RefRwkvFirstIdeal.τ).loc Cert.RefRwkvFirstIdeal.main_arg5) = m ((c.tc : Thread Cert.RwkvIdeal.nD Cert.RwkvIdeal.τ).loc Cert.RwkvIdeal.main_arg5)
      ∧ m' ((c.tc : Thread Cert.RefRwkvFirstIdeal.nD Cert.RefRwkvFirstIdeal.τ).loc Cert.RefRwkvFirstIdeal.main_arg6) = m ((c.tc : Thread Cert.RwkvIdeal.nD Cert.RwkvIdeal.τ).loc Cert.RwkvIdeal.main_arg6)
      ∧ m' ((c.tc : Thread Cert.RefRwkvFirstIdeal.nD Cert.RefRwkvFirstIdeal.τ).loc Cert.RefRwkvFirstIdeal.main_arg7) = m ((c.tc : Thread Cert.RwkvIdeal.nD Cert.RwkvIdeal.τ).loc Cert.RwkvIdeal.main_arg7)
      ∧ m' ((c.tc : Thread Cert.RefRwkvFirstIdeal.nD Cert.RefRwkvFirstIdeal.τ).loc Cert.RefRwkvFirstIdeal.main_arg8) = m ((c.tc : Thread Cert.RwkvIdeal.nD Cert.RwkvIdeal.τ).loc Cert.RwkvIdeal.main_arg8)
      ∧ m' ((c.tc : Thread Cert.RefRwkvFirstIdeal.nD Cert.RefRwkvFirstIdeal.τ).loc Cert.RefRwkvFirstIdeal.main_arg9) = m ((c.tc : Thread Cert.RwkvIdeal.nD Cert.RwkvIdeal.τ).loc Cert.RwkvIdeal.main_arg9)
      ∧ m' ((c.tc : Thread Cert.RefRwkvFirstIdeal.nD Cert.RefRwkvFirstIdeal.τ).loc Cert.RefRwkvFirstIdeal.main_arg10) = m ((c.tc : Thread Cert.RwkvIdeal.nD Cert.RwkvIdeal.τ).loc Cert.RwkvIdeal.main_arg10)
      ∧ m' ((c.tc : Thread Cert.RefRwkvFirstIdeal.nD Cert.RefRwkvFirstIdeal.τ).loc Cert.RefRwkvFirstIdeal.main_arg11) = m ((c.tc : Thread Cert.RwkvIdeal.nD Cert.RwkvIdeal.τ).loc Cert.RwkvIdeal.main_arg11)) →
    ∃ (v0 : (c : Dev Cert.RwkvIdeal.nD) → Buf (Elt Ideal) ((c.tc : Thread Cert.RwkvIdeal.nD Cert.RwkvIdeal.τ).loc Cert.RwkvIdeal.main_v27_1)),
      θ_run (Cert.RwkvIdeal.defs (F := Ideal)) (onTc (τ := Cert.RwkvIdeal.τ) (Cert.RwkvIdeal.main (F := Ideal))) ⟨m, fun _ => 0, g⟩ (fun r => ∀ c : Dev Cert.RwkvIdeal.nD,
          r.2.mem ((c.tc : Thread Cert.RwkvIdeal.nD Cert.RwkvIdeal.τ).loc Cert.RwkvIdeal.main_v27_1) = v0 c
          ∧ r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
          ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
          ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
          ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
          ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
          ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
          ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
          ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
          ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
          ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
          ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
          ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11))
      ∧ θ_run (Cert.RefRwkvFirstIdeal.defs (F := Ideal)) (onTc (τ := Cert.RefRwkvFirstIdeal.τ) (Cert.RefRwkvFirstIdeal.main (F := Ideal))) ⟨m', fun _ => 0, g'⟩ (fun r => ∀ c : Dev Cert.RefRwkvFirstIdeal.nD,
          r.2.mem ((c.tc : Thread Cert.RefRwkvFirstIdeal.nD Cert.RefRwkvFirstIdeal.τ).loc Cert.RefRwkvFirstIdeal.main_v9) = v0 c
          ∧ r.2.mem ((c.tc : Thread Cert.RefRwkvFirstIdeal.nD Cert.RefRwkvFirstIdeal.τ).loc Cert.RefRwkvFirstIdeal.main_arg0) = m' ((c.tc : Thread Cert.RefRwkvFirstIdeal.nD Cert.RefRwkvFirstIdeal.τ).loc Cert.RefRwkvFirstIdeal.main_arg0)
          ∧ r.2.mem ((c.tc : Thread Cert.RefRwkvFirstIdeal.nD Cert.RefRwkvFirstIdeal.τ).loc Cert.RefRwkvFirstIdeal.main_arg1) = m' ((c.tc : Thread Cert.RefRwkvFirstIdeal.nD Cert.RefRwkvFirstIdeal.τ).loc Cert.RefRwkvFirstIdeal.main_arg1)
          ∧ r.2.mem ((c.tc : Thread Cert.RefRwkvFirstIdeal.nD Cert.RefRwkvFirstIdeal.τ).loc Cert.RefRwkvFirstIdeal.main_arg2) = m' ((c.tc : Thread Cert.RefRwkvFirstIdeal.nD Cert.RefRwkvFirstIdeal.τ).loc Cert.RefRwkvFirstIdeal.main_arg2)
          ∧ r.2.mem ((c.tc : Thread Cert.RefRwkvFirstIdeal.nD Cert.RefRwkvFirstIdeal.τ).loc Cert.RefRwkvFirstIdeal.main_arg3) = m' ((c.tc : Thread Cert.RefRwkvFirstIdeal.nD Cert.RefRwkvFirstIdeal.τ).loc Cert.RefRwkvFirstIdeal.main_arg3)
          ∧ r.2.mem ((c.tc : Thread Cert.RefRwkvFirstIdeal.nD Cert.RefRwkvFirstIdeal.τ).loc Cert.RefRwkvFirstIdeal.main_arg4) = m' ((c.tc : Thread Cert.RefRwkvFirstIdeal.nD Cert.RefRwkvFirstIdeal.τ).loc Cert.RefRwkvFirstIdeal.main_arg4)
          ∧ r.2.mem ((c.tc : Thread Cert.RefRwkvFirstIdeal.nD Cert.RefRwkvFirstIdeal.τ).loc Cert.RefRwkvFirstIdeal.main_arg5) = m' ((c.tc : Thread Cert.RefRwkvFirstIdeal.nD Cert.RefRwkvFirstIdeal.τ).loc Cert.RefRwkvFirstIdeal.main_arg5)
          ∧ r.2.mem ((c.tc : Thread Cert.RefRwkvFirstIdeal.nD Cert.RefRwkvFirstIdeal.τ).loc Cert.RefRwkvFirstIdeal.main_arg6) = m' ((c.tc : Thread Cert.RefRwkvFirstIdeal.nD Cert.RefRwkvFirstIdeal.τ).loc Cert.RefRwkvFirstIdeal.main_arg6)
          ∧ r.2.mem ((c.tc : Thread Cert.RefRwkvFirstIdeal.nD Cert.RefRwkvFirstIdeal.τ).loc Cert.RefRwkvFirstIdeal.main_arg7) = m' ((c.tc : Thread Cert.RefRwkvFirstIdeal.nD Cert.RefRwkvFirstIdeal.τ).loc Cert.RefRwkvFirstIdeal.main_arg7)
          ∧ r.2.mem ((c.tc : Thread Cert.RefRwkvFirstIdeal.nD Cert.RefRwkvFirstIdeal.τ).loc Cert.RefRwkvFirstIdeal.main_arg8) = m' ((c.tc : Thread Cert.RefRwkvFirstIdeal.nD Cert.RefRwkvFirstIdeal.τ).loc Cert.RefRwkvFirstIdeal.main_arg8)
          ∧ r.2.mem ((c.tc : Thread Cert.RefRwkvFirstIdeal.nD Cert.RefRwkvFirstIdeal.τ).loc Cert.RefRwkvFirstIdeal.main_arg9) = m' ((c.tc : Thread Cert.RefRwkvFirstIdeal.nD Cert.RefRwkvFirstIdeal.τ).loc Cert.RefRwkvFirstIdeal.main_arg9)
          ∧ r.2.mem ((c.tc : Thread Cert.RefRwkvFirstIdeal.nD Cert.RefRwkvFirstIdeal.τ).loc Cert.RefRwkvFirstIdeal.main_arg10) = m' ((c.tc : Thread Cert.RefRwkvFirstIdeal.nD Cert.RefRwkvFirstIdeal.τ).loc Cert.RefRwkvFirstIdeal.main_arg10)
          ∧ r.2.mem ((c.tc : Thread Cert.RefRwkvFirstIdeal.nD Cert.RefRwkvFirstIdeal.τ).loc Cert.RefRwkvFirstIdeal.main_arg11) = m' ((c.tc : Thread Cert.RefRwkvFirstIdeal.nD Cert.RefRwkvFirstIdeal.τ).loc Cert.RefRwkvFirstIdeal.main_arg11))

def Claim : Prop :=
  ∃ (hKernel : Cert.Kernel.Facts) (hKernelIdeal : Cert.KernelIdeal.Facts) (hReferenceIdeal : Cert.ReferenceIdeal.Facts) (hProjQkv : Cert.ProjQkv.Facts) (hProjQkvIdeal : Cert.ProjQkvIdeal.Facts) (hRefQkvIdeal : Cert.RefQkvIdeal.Facts) (hProjGate : Cert.ProjGate.Facts) (hProjGateIdeal : Cert.ProjGateIdeal.Facts) (hRefGateIdeal : Cert.RefGateIdeal.Facts) (hProjRwkv : Cert.ProjRwkv.Facts) (hProjRwkvIdeal : Cert.ProjRwkvIdeal.Facts) (hRefRwkvIdeal : Cert.RefRwkvIdeal.Facts) (hNormMix : Cert.NormMix.Facts) (hNormMixIdeal : Cert.NormMixIdeal.Facts) (hRefNormMixIdeal : Cert.RefNormMixIdeal.Facts) (hNormLast : Cert.NormLast.Facts) (hNormLastIdeal : Cert.NormLastIdeal.Facts) (hRefNormLastIdeal : Cert.RefNormLastIdeal.Facts) (hMerge : Cert.Merge.Facts) (hMergeIdeal : Cert.MergeIdeal.Facts) (hRefMergeIdeal : Cert.RefMergeIdeal.Facts) (hRoute : Cert.Route.Facts) (hRouteIdeal : Cert.RouteIdeal.Facts) (hRefRouteIdeal : Cert.RefRouteIdeal.Facts) (hRwkv : Cert.Rwkv.Facts) (hRwkvIdeal : Cert.RwkvIdeal.Facts) (hRefRwkvFirstIdeal : Cert.RefRwkvFirstIdeal.Facts) (hPre_finite : Cert.Pre_finite.Facts) (hPre_finite_route : Cert.Pre_finite_route.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_ProjQkv (hProjQkv := hProjQkv)
    ∧ quiescent_ProjQkvIdeal (hProjQkvIdeal := hProjQkvIdeal)
    ∧ quiescent_RefQkvIdeal (hRefQkvIdeal := hRefQkvIdeal)
    ∧ quiescent_ProjGate (hProjGate := hProjGate)
    ∧ quiescent_ProjGateIdeal (hProjGateIdeal := hProjGateIdeal)
    ∧ quiescent_RefGateIdeal (hRefGateIdeal := hRefGateIdeal)
    ∧ quiescent_ProjRwkv (hProjRwkv := hProjRwkv)
    ∧ quiescent_ProjRwkvIdeal (hProjRwkvIdeal := hProjRwkvIdeal)
    ∧ quiescent_RefRwkvIdeal (hRefRwkvIdeal := hRefRwkvIdeal)
    ∧ quiescent_NormMix (hNormMix := hNormMix)
    ∧ quiescent_NormMixIdeal (hNormMixIdeal := hNormMixIdeal)
    ∧ quiescent_RefNormMixIdeal (hRefNormMixIdeal := hRefNormMixIdeal)
    ∧ quiescent_NormLast (hNormLast := hNormLast)
    ∧ quiescent_NormLastIdeal (hNormLastIdeal := hNormLastIdeal)
    ∧ quiescent_RefNormLastIdeal (hRefNormLastIdeal := hRefNormLastIdeal)
    ∧ quiescent_Merge (hMerge := hMerge)
    ∧ quiescent_MergeIdeal (hMergeIdeal := hMergeIdeal)
    ∧ quiescent_RefMergeIdeal (hRefMergeIdeal := hRefMergeIdeal)
    ∧ quiescent_Route (hRoute := hRoute)
    ∧ quiescent_RouteIdeal (hRouteIdeal := hRouteIdeal)
    ∧ quiescent_RouteIdeal_pre_finite_route (hRouteIdeal := hRouteIdeal) (hPre_finite_route := hPre_finite_route)
    ∧ quiescent_RefRouteIdeal (hRefRouteIdeal := hRefRouteIdeal)
    ∧ quiescent_RefRouteIdeal_pre_finite_route (hRefRouteIdeal := hRefRouteIdeal) (hPre_finite_route := hPre_finite_route)
    ∧ quiescent_Rwkv (hRwkv := hRwkv)
    ∧ quiescent_RwkvIdeal (hRwkvIdeal := hRwkvIdeal)
    ∧ quiescent_RefRwkvFirstIdeal (hRefRwkvFirstIdeal := hRefRwkvFirstIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_ProjQkv_ProjQkvIdeal
    ∧ algebraic_ProjQkvIdeal_RefQkvIdeal (hProjQkvIdeal := hProjQkvIdeal) (hRefQkvIdeal := hRefQkvIdeal)
    ∧ preserves_ProjGate_ProjGateIdeal
    ∧ algebraic_ProjGateIdeal_RefGateIdeal (hProjGateIdeal := hProjGateIdeal) (hRefGateIdeal := hRefGateIdeal)
    ∧ preserves_ProjRwkv_ProjRwkvIdeal
    ∧ algebraic_ProjRwkvIdeal_RefRwkvIdeal (hProjRwkvIdeal := hProjRwkvIdeal) (hRefRwkvIdeal := hRefRwkvIdeal)
    ∧ preserves_NormMix_NormMixIdeal
    ∧ algebraic_NormMixIdeal_RefNormMixIdeal (hNormMixIdeal := hNormMixIdeal) (hRefNormMixIdeal := hRefNormMixIdeal)
    ∧ preserves_NormLast_NormLastIdeal
    ∧ algebraic_NormLastIdeal_RefNormLastIdeal (hNormLastIdeal := hNormLastIdeal) (hRefNormLastIdeal := hRefNormLastIdeal)
    ∧ preserves_Merge_MergeIdeal
    ∧ algebraic_MergeIdeal_RefMergeIdeal (hMergeIdeal := hMergeIdeal) (hRefMergeIdeal := hRefMergeIdeal)
    ∧ preserves_Route_RouteIdeal
    ∧ algebraic_RouteIdeal_RefRouteIdeal_pre_finite_route (hRouteIdeal := hRouteIdeal) (hRefRouteIdeal := hRefRouteIdeal) (hPre_finite_route := hPre_finite_route)
    ∧ preserves_Rwkv_RwkvIdeal
    ∧ algebraic_RwkvIdeal_RefRwkvFirstIdeal (hRwkvIdeal := hRwkvIdeal) (hRefRwkvFirstIdeal := hRefRwkvFirstIdeal)
-- ==== Pre_finite.lean ====
abbrev S8704x1536 : Shape := ⟨2, ![8704, 1536]⟩
abbrev S16 : Shape := ⟨1, ![16]⟩
abbrev S_ : Shape := ⟨0, ![]⟩

class Facts : Prop where
  bcast_S_S8704x1536 : S_.BroadcastsInDim S8704x1536 (![] : Fin 0 → Fin S8704x1536.rank)
  bcast_S_S16 : S_.BroadcastsInDim S16 (![] : Fin 0 → Fin S16.rank)

variable [Facts]

def fn {F : FTy → Type} [FloatOps F] (main_arg0 : FVec F S8704x1536 .f32) (main_arg1 : FVec F S16 .f32) : IVec S8704x1536 1 × IVec S16 1 :=
  let main_cst : FVec F S_ .f32 := constant S_ .f32 0xFF800000#32
  let main_v0 : FVec F S8704x1536 .f32 := broadcastInDim S8704x1536 ![] bcast_S_S8704x1536 main_cst
  let main_v1 : IVec S8704x1536 1 := cmpf .ogt main_arg0 main_v0
  let main_cst_0 : FVec F S_ .f32 := constant S_ .f32 0x7F800000#32
  let main_v2 : FVec F S8704x1536 .f32 := broadcastInDim S8704x1536 ![] bcast_S_S8704x1536 main_cst_0
  let main_v3 : IVec S8704x1536 1 := cmpf .olt main_arg0 main_v2
  let main_v4 : IVec S8704x1536 1 := andi main_v1 main_v3
  let main_cst_1 : FVec F S_ .f32 := constant S_ .f32 0xFF800000#32
  let main_v5 : FVec F S16 .f32 := broadcastInDim S16 ![] bcast_S_S16 main_cst_1
  let main_v6 : IVec S16 1 := cmpf .ogt main_arg1 main_v5
  let main_cst_2 : FVec F S_ .f32 := constant S_ .f32 0x7F800000#32
  let main_v7 : FVec F S16 .f32 := broadcastInDim S16 ![] bcast_S_S16 main_cst_2
  let main_v8 : IVec S16 1 := cmpf .olt main_arg1 main_v7
  let main_v9 : IVec S16 1 := andi main_v6 main_v8
  (main_v4, main_v9)
-- ==== Pre_finite_route.lean ====
abbrev S8704x1024 : Shape := ⟨2, ![8704, 1024]⟩
abbrev S8704x4096 : Shape := ⟨2, ![8704, 4096]⟩
abbrev S8704x2048 : Shape := ⟨2, ![8704, 2048]⟩
abbrev S1024x2048 : Shape := ⟨2, ![1024, 2048]⟩
abbrev S2048x2048 : Shape := ⟨2, ![2048, 2048]⟩
abbrev S2048 : Shape := ⟨1, ![2048]⟩
abbrev S2048x8 : Shape := ⟨2, ![2048, 8]⟩
abbrev S8 : Shape := ⟨1, ![8]⟩
abbrev S2048x8x8 : Shape := ⟨3, ![2048, 8, 8]⟩
abbrev S8x8 : Shape := ⟨2, ![8, 8]⟩
abbrev S_ : Shape := ⟨0, ![]⟩

class Facts : Prop where
  bcast_S_S2048 : S_.BroadcastsInDim S2048 (![] : Fin 0 → Fin S2048.rank)
  bcast_S_S2048x8 : S_.BroadcastsInDim S2048x8 (![] : Fin 0 → Fin S2048x8.rank)
  bcast_S_S8 : S_.BroadcastsInDim S8 (![] : Fin 0 → Fin S8.rank)
  bcast_S_S2048x8x8 : S_.BroadcastsInDim S2048x8x8 (![] : Fin 0 → Fin S2048x8x8.rank)
  bcast_S_S8x8 : S_.BroadcastsInDim S8x8 (![] : Fin 0 → Fin S8x8.rank)

variable [Facts]

def fn_part1 {F : FTy → Type} [FloatOps F] (main_arg10 : FVec F S2048x8x8 .f32) (main_arg11 : FVec F S8x8 .f32) (main_v4 : IVec S2048 1) (main_v9 : IVec S2048x8 1) (main_v14 : IVec S8 1) (main_v16 : IVec S2048x8x8 1) : IVec S2048 1 × IVec S2048x8 1 × IVec S8 1 × IVec S2048x8x8 1 × IVec S8x8 1 :=
  let main_cst_6 : FVec F S_ .f32 := constant S_ .f32 0x7F800000#32
  let main_v17 : FVec F S2048x8x8 .f32 := broadcastInDim S2048x8x8 ![] bcast_S_S2048x8x8 main_cst_6
  let main_v18 : IVec S2048x8x8 1 := cmpf .olt main_arg10 main_v17
  let main_v19 : IVec S2048x8x8 1 := andi main_v16 main_v18
  let main_cst_7 : FVec F S_ .f32 := constant S_ .f32 0xFF800000#32
  let main_v20 : FVec F S8x8 .f32 := broadcastInDim S8x8 ![] bcast_S_S8x8 main_cst_7
  let main_v21 : IVec S8x8 1 := cmpf .ogt main_arg11 main_v20
  let main_cst_8 : FVec F S_ .f32 := constant S_ .f32 0x7F800000#32
  let main_v22 : FVec F S8x8 .f32 := broadcastInDim S8x8 ![] bcast_S_S8x8 main_cst_8
  let main_v23 : IVec S8x8 1 := cmpf .olt main_arg11 main_v22
  let main_v24 : IVec S8x8 1 := andi main_v21 main_v23
  (main_v4, main_v9, main_v14, main_v19, main_v24)

def fn {F : FTy → Type} [FloatOps F] (main_arg0 : FVec F S8704x1024 .bf16) (main_arg1 : FVec F S8704x1024 .bf16) (main_arg2 : FVec F S8704x4096 .bf16) (main_arg3 : FVec F S8704x2048 .f32) (main_arg4 : FVec F S1024x2048 .f32) (main_arg5 : FVec F S1024x2048 .f32) (main_arg6 : FVec F S2048x2048 .f32) (main_arg7 : FVec F S2048 .f32) (main_arg8 : FVec F S2048x8 .f32) (main_arg9 : FVec F S8 .f32) (main_arg10 : FVec F S2048x8x8 .f32) (main_arg11 : FVec F S8x8 .f32) : IVec S2048 1 × IVec S2048x8 1 × IVec S8 1 × IVec S2048x8x8 1 × IVec S8x8 1 :=
  let main_cst : FVec F S_ .f32 := constant S_ .f32 0xFF800000#32
  let main_v0 : FVec F S2048 .f32 := broadcastInDim S2048 ![] bcast_S_S2048 main_cst
  let main_v1 : IVec S2048 1 := cmpf .ogt main_arg7 main_v0
  let main_cst_0 : FVec F S_ .f32 := constant S_ .f32 0x7F800000#32
  let main_v2 : FVec F S2048 .f32 := broadcastInDim S2048 ![] bcast_S_S2048 main_cst_0
  let main_v3 : IVec S2048 1 := cmpf .olt main_arg7 main_v2
  let main_v4 : IVec S2048 1 := andi main_v1 main_v3
  let main_cst_1 : FVec F S_ .f32 := constant S_ .f32 0xFF800000#32
  let main_v5 : FVec F S2048x8 .f32 := broadcastInDim S2048x8 ![] bcast_S_S2048x8 main_cst_1
  let main_v6 : IVec S2048x8 1 := cmpf .ogt main_arg8 main_v5
  let main_cst_2 : FVec F S_ .f32 := constant S_ .f32 0x7F800000#32
  let main_v7 : FVec F S2048x8 .f32 := broadcastInDim S2048x8 ![] bcast_S_S2048x8 main_cst_2
  let main_v8 : IVec S2048x8 1 := cmpf .olt main_arg8 main_v7
  let main_v9 : IVec S2048x8 1 := andi main_v6 main_v8
  let main_cst_3 : FVec F S_ .f32 := constant S_ .f32 0xFF800000#32
  let main_v10 : FVec F S8 .f32 := broadcastInDim S8 ![] bcast_S_S8 main_cst_3
  let main_v11 : IVec S8 1 := cmpf .ogt main_arg9 main_v10
  let main_cst_4 : FVec F S_ .f32 := constant S_ .f32 0x7F800000#32
  let main_v12 : FVec F S8 .f32 := broadcastInDim S8 ![] bcast_S_S8 main_cst_4
  let main_v13 : IVec S8 1 := cmpf .olt main_arg9 main_v12
  let main_v14 : IVec S8 1 := andi main_v11 main_v13
  let main_cst_5 : FVec F S_ .f32 := constant S_ .f32 0xFF800000#32
  let main_v15 : FVec F S2048x8x8 .f32 := broadcastInDim S2048x8x8 ![] bcast_S_S2048x8x8 main_cst_5
  let main_v16 : IVec S2048x8x8 1 := cmpf .ogt main_arg10 main_v15
  fn_part1 (F := F) main_arg10 main_arg11 main_v4 main_v9 main_v14 main_v16
-- ==== Kernel.lean ====
abbrev S8704x1536 : Shape := ⟨2, ![8704, 1536]⟩
abbrev S16 : Shape := ⟨1, ![16]⟩
abbrev S2176 : Shape := ⟨1, ![2176]⟩
abbrev S_ : Shape := ⟨0, ![]⟩
abbrev S8 : Shape := ⟨1, ![8]⟩
abbrev S2176x1 : Shape := ⟨2, ![2176, 1]⟩
abbrev S1x8 : Shape := ⟨2, ![1, 8]⟩
abbrev S2176x8 : Shape := ⟨2, ![2176, 8]⟩
abbrev S2176x48 : Shape := ⟨2, ![2176, 48]⟩
abbrev S2176x64 : Shape := ⟨2, ![2176, 64]⟩
abbrev S1x2176x64 : Shape := ⟨3, ![1, 2176, 64]⟩
abbrev S3x2176x64 : Shape := ⟨3, ![3, 2176, 64]⟩
abbrev S1x3x1x2176x1x64 : Shape := ⟨6, ![1, 3, 1, 2176, 1, 64]⟩
abbrev S1x3x1x2176x2x64 : Shape := ⟨6, ![1, 3, 1, 2176, 2, 64]⟩
abbrev S3x2176x128 : Shape := ⟨3, ![3, 2176, 128]⟩
abbrev S8704x1024 : Shape := ⟨2, ![8704, 1024]⟩
abbrev S128x1024 : Shape := ⟨2, ![128, 1024]⟩
abbrev S128x256 : Shape := ⟨2, ![128, 256]⟩
abbrev S3x128x128 : Shape := ⟨3, ![3, 128, 128]⟩
abbrev S1x128x128 : Shape := ⟨3, ![1, 128, 128]⟩
abbrev S128x128 : Shape := ⟨2, ![128, 128]⟩
abbrev S384x256 : Shape := ⟨2, ![384, 256]⟩
abbrev S512x384 : Shape := ⟨2, ![512, 384]⟩
abbrev S512x1 : Shape := ⟨2, ![512, 1]⟩
abbrev S128x64 : Shape := ⟨2, ![128, 64]⟩
abbrev S512x64 : Shape := ⟨2, ![512, 64]⟩
abbrev S384x64 : Shape := ⟨2, ![384, 64]⟩
abbrev S1 : Shape := ⟨1, ![1]⟩
abbrev S512 : Shape := ⟨1, ![512]⟩

abbrev nBuf : Space → Nat
  | .hbm => 40
  | .vmem => 21
  | .smem => 1
  | _ => 0

abbrev bufTy : (tb : Table) → Fin (tcTables nBuf tb) → BufTy
  | .hbm, ⟨0, _⟩ => ⟨S8704x1536, .f32⟩
  | .hbm, ⟨1, _⟩ => ⟨S16, .f32⟩
  | .hbm, ⟨2, _⟩ => ⟨S2176, .i32⟩
  | .hbm, ⟨3, _⟩ => ⟨S_, .i32⟩
  | .hbm, ⟨4, _⟩ => ⟨S2176, .i32⟩
  | .hbm, ⟨5, _⟩ => ⟨S2176, .i32⟩
  | .hbm, ⟨6, _⟩ => ⟨S2176, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S2176x1, .f32⟩
  | .hbm, ⟨16, _⟩ => ⟨S1x8, .f32⟩
  | .hbm, ⟨17, _⟩ => ⟨S2176x8, .f32⟩
  | .hbm, ⟨18, _⟩ => ⟨S2176x8, .f32⟩
  | .hbm, ⟨19, _⟩ => ⟨S2176x8, .f32⟩
  | .hbm, ⟨20, _⟩ => ⟨S2176x8, .f32⟩
  | .hbm, ⟨21, _⟩ => ⟨S2176x8, .f32⟩
  | .hbm, ⟨22, _⟩ => ⟨S_, .f32⟩
  | .hbm, ⟨23, _⟩ => ⟨S2176x48, .f32⟩
  | .hbm, ⟨24, _⟩ => ⟨S_, .f32⟩
  | .hbm, ⟨25, _⟩ => ⟨S2176x8, .f32⟩
  | .hbm, ⟨26, _⟩ => ⟨S_, .f32⟩
  | .hbm, ⟨27, _⟩ => ⟨S2176x48, .f32⟩
  | .hbm, ⟨28, _⟩ => ⟨S2176x64, .f32⟩
  | .hbm, ⟨29, _⟩ => ⟨S2176x8, .f32⟩
  | .hbm, ⟨30, _⟩ => ⟨S2176x64, .f32⟩
  | .hbm, ⟨31, _⟩ => ⟨S2176x64, .f32⟩
  | .hbm, ⟨32, _⟩ => ⟨S1x2176x64, .f32⟩
  | .hbm, ⟨33, _⟩ => ⟨S1x2176x64, .f32⟩
  | .hbm, ⟨34, _⟩ => ⟨S1x2176x64, .f32⟩
  | .hbm, ⟨35, _⟩ => ⟨S3x2176x64, .f32⟩
  | .hbm, ⟨36, _⟩ => ⟨S1x3x1x2176x1x64, .f32⟩
  | .hbm, ⟨37, _⟩ => ⟨S1x3x1x2176x2x64, .f32⟩
  | .hbm, ⟨38, _⟩ => ⟨S3x2176x128, .f32⟩
  | .hbm, ⟨39, _⟩ => ⟨S8704x1024, .bf16⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S3x128x128, .f32⟩
  | .local _ .vmem, ⟨15, _⟩ => ⟨S3x128x128, .f32⟩
  | .local _ .vmem, ⟨16, _⟩ => ⟨S3x128x128, .f32⟩
  | .local _ .vmem, ⟨17, _⟩ => ⟨S3x128x128, .f32⟩
  | .local _ .vmem, ⟨18, _⟩ => ⟨S3x128x128, .f32⟩
  | .local _ .vmem, ⟨19, _⟩ => ⟨S128x1024, .bf16⟩
  | .local _ .vmem, ⟨20, _⟩ => ⟨S128x1024, .bf16⟩
  | .local _ .smem, ⟨0, _⟩ => ⟨S16, .f32⟩
  | _, _ => ⟨S8704x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 17], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c4_i32 : BitVec 32 := 4#32
  let c0_i32 : BitVec 32 := 0#32
  ![v1.toNat, c4_i32.toNat]

def cc0_transform_3 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c4_i32 : BitVec 32 := 4#32
  let c0_i32_0 : BitVec 32 := 0#32
  ![v3.toNat, c4_i32.toNat]

def cc0_transform_4 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let c4_i32 : BitVec 32 := 4#32
  let c0_i32 : BitVec 32 := 0#32
  ![v0.toNat, c4_i32.toNat]

def cc0_transform_5 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c5_i32 : BitVec 32 := 5#32
  let c0_i32 : BitVec 32 := 0#32
  ![v1.toNat, c5_i32.toNat]

def cc0_transform_6 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c5_i32 : BitVec 32 := 5#32
  let c0_i32_0 : BitVec 32 := 0#32
  ![v3.toNat, c5_i32.toNat]

def cc0_transform_7 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let c5_i32 : BitVec 32 := 5#32
  let c0_i32 : BitVec 32 := 0#32
  ![v0.toNat, c5_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S3x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S3x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S3x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8704x1536 : Shape := ⟨2, ![8704, 1536]⟩
abbrev S16 : Shape := ⟨1, ![16]⟩
abbrev S4x2176x1536 : Shape := ⟨3, ![4, 2176, 1536]⟩
abbrev S4x2064x1536 : Shape := ⟨3, ![4, 2064, 1536]⟩
abbrev S4x2064x1024 : Shape := ⟨3, ![4, 2064, 1024]⟩
abbrev S4x2064x16x64 : Shape := ⟨4, ![4, 2064, 16, 64]⟩
abbrev S4x2064x256 : Shape := ⟨3, ![4, 2064, 256]⟩
abbrev S4x2064x4x64 : Shape := ⟨4, ![4, 2064, 4, 64]⟩
abbrev S2064 : Shape := ⟨1, ![2064]⟩
abbrev S8 : Shape := ⟨1, ![8]⟩
abbrev S_ : Shape := ⟨0, ![]⟩
abbrev S2064x1 : Shape := ⟨2, ![2064, 1]⟩
abbrev S1x8 : Shape := ⟨2, ![1, 8]⟩
abbrev S2064x8 : Shape := ⟨2, ![2064, 8]⟩
abbrev S1x2064x1x8 : Shape := ⟨4, ![1, 2064, 1, 8]⟩
abbrev S4x2064x16x16 : Shape := ⟨4, ![4, 2064, 16, 16]⟩
abbrev S4x2064x16x8 : Shape := ⟨4, ![4, 2064, 16, 8]⟩
abbrev S4x2064x16x48 : Shape := ⟨4, ![4, 2064, 16, 48]⟩
abbrev S4x2064x4x16 : Shape := ⟨4, ![4, 2064, 4, 16]⟩
abbrev S4x2064x4x8 : Shape := ⟨4, ![4, 2064, 4, 8]⟩
abbrev S4x2064x4x48 : Shape := ⟨4, ![4, 2064, 4, 48]⟩
abbrev S4x2064x4x4x64 : Shape := ⟨5, ![4, 2064, 4, 4, 64]⟩
abbrev S4x2176x4x4x64 : Shape := ⟨5, ![4, 2176, 4, 4, 64]⟩
abbrev S4x17x128x4x4x64 : Shape := ⟨6, ![4, 17, 128, 4, 4, 64]⟩
abbrev S4x2176x4x64 : Shape := ⟨4, ![4, 2176, 4, 64]⟩
abbrev S4x17x128x4x64 : Shape := ⟨5, ![4, 17, 128, 4, 64]⟩
abbrev S4x1x128x4x64 : Shape := ⟨5, ![4, 1, 128, 4, 64]⟩
abbrev S4x16x128x4x64 : Shape := ⟨5, ![4, 16, 128, 4, 64]⟩
abbrev S4x17x256x4x64 : Shape := ⟨5, ![4, 17, 256, 4, 64]⟩
abbrev S4x16x4x64 : Shape := ⟨4, ![4, 16, 4, 64]⟩
abbrev S2176 : Shape := ⟨1, ![2176]⟩
abbrev S17x128 : Shape := ⟨2, ![17, 128]⟩
abbrev S17x256 : Shape := ⟨2, ![17, 256]⟩
abbrev S17x128x1 : Shape := ⟨3, ![17, 128, 1]⟩
abbrev S17x1x256 : Shape := ⟨3, ![17, 1, 256]⟩
abbrev S17x128x256 : Shape := ⟨3, ![17, 128, 256]⟩
abbrev S1x1x16 : Shape := ⟨3, ![1, 1, 16]⟩
abbrev S17x128x16 : Shape := ⟨3, ![17, 128, 16]⟩
abbrev S4x4x16x17x128x4 : Shape := ⟨6, ![4, 4, 16, 17, 128, 4]⟩
abbrev S4x17x4x4x128x16 : Shape := ⟨6, ![4, 17, 4, 4, 128, 16]⟩
abbrev S4x17x4x256x128x4 : Shape := ⟨6, ![4, 17, 4, 256, 128, 4]⟩
abbrev S4x17x4x4x128x256 : Shape := ⟨6, ![4, 17, 4, 4, 128, 256]⟩
abbrev S1x17x1x1x128x16 : Shape := ⟨6, ![1, 17, 1, 1, 128, 16]⟩
abbrev S1x17x1x1x128x256 : Shape := ⟨6, ![1, 17, 1, 1, 128, 256]⟩
abbrev S4x4 : Shape := ⟨2, ![4, 4]⟩
abbrev S1x1x4x4x1x1 : Shape := ⟨6, ![1, 1, 4, 4, 1, 1]⟩
abbrev S4x17x4x4x128x1 : Shape := ⟨6, ![4, 17, 4, 4, 128, 1]⟩
abbrev S4x17x4x4x128x273 : Shape := ⟨6, ![4, 17, 4, 4, 128, 273]⟩
abbrev S4x17x4x4x128 : Shape := ⟨5, ![4, 17, 4, 4, 128]⟩
abbrev S4x4x64x17x4x128 : Shape := ⟨6, ![4, 4, 64, 17, 4, 128]⟩
abbrev S4x17x4x64x4x128 : Shape := ⟨6, ![4, 17, 4, 64, 4, 128]⟩
abbrev S4x2176x1024 : Shape := ⟨3, ![4, 2176, 1024]⟩
abbrev S8704x1024 : Shape := ⟨2, ![8704, 1024]⟩

abbrev nBuf : Space → Nat
  | .hbm => 191
  | .vmem => 0
  | .smem => 0
  | _ => 0

abbrev hbmTy0_0 (i : Nat) : BufTy := match i % 128 with
  | 0 => ⟨S8704x1536, .f32⟩
  | 1 => ⟨S16, .f32⟩
  | 2 => ⟨S4x2176x1536, .f32⟩
  | 3 => ⟨S4x2064x1536, .f32⟩
  | 4 => ⟨S4x2064x1024, .f32⟩
  | 5 => ⟨S4x2064x16x64, .f32⟩
  | 6 => ⟨S4x2064x256, .f32⟩
  | 7 => ⟨S4x2064x4x64, .f32⟩
  | 8 => ⟨S4x2064x256, .f32⟩
  | 9 => ⟨S4x2064x4x64, .f32⟩
  | 10 => ⟨S2064, .i32⟩
  | 11 => ⟨S8, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S2064, .f32⟩
  | 20 => ⟨S2064x1, .f32⟩
  | 21 => ⟨S1x8, .f32⟩
  | 22 => ⟨S2064x8, .f32⟩
  | 23 => ⟨S2064x8, .f32⟩
  | 24 => ⟨S2064x8, .f32⟩
  | 25 => ⟨S2064x8, .f32⟩
  | 26 => ⟨S1x2064x1x8, .f32⟩
  | 27 => ⟨S2064x8, .f32⟩
  | 28 => ⟨S1x2064x1x8, .f32⟩
  | 29 => ⟨S4x2064x16x16, .f32⟩
  | 30 => ⟨S4x2064x16x8, .f32⟩
  | 31 => ⟨S4x2064x16x8, .f32⟩
  | 32 => ⟨S4x2064x16x8, .f32⟩
  | 33 => ⟨S4x2064x16x8, .f32⟩
  | 34 => ⟨S4x2064x16x8, .f32⟩
  | 35 => ⟨S4x2064x16x8, .f32⟩
  | 36 => ⟨S4x2064x16x8, .f32⟩
  | 37 => ⟨S4x2064x16x8, .f32⟩
  | 38 => ⟨S4x2064x16x8, .f32⟩
  | 39 => ⟨S4x2064x16x8, .f32⟩
  | 40 => ⟨S4x2064x16x8, .f32⟩
  | 41 => ⟨S4x2064x16x8, .f32⟩
  | 42 => ⟨S4x2064x16x16, .f32⟩
  | 43 => ⟨S4x2064x16x48, .f32⟩
  | 44 => ⟨S4x2064x16x64, .f32⟩
  | 45 => ⟨S8, .f32⟩
  | 46 => ⟨S8, .f32⟩
  | 47 => ⟨S_, .f32⟩
  | 48 => ⟨S8, .f32⟩
  | 49 => ⟨S8, .f32⟩
  | 50 => ⟨S_, .f32⟩
  | 51 => ⟨S8, .f32⟩
  | 52 => ⟨S8, .f32⟩
  | 53 => ⟨S2064, .f32⟩
  | 54 => ⟨S2064x1, .f32⟩
  | 55 => ⟨S1x8, .f32⟩
  | 56 => ⟨S2064x8, .f32⟩
  | 57 => ⟨S2064x8, .f32⟩
  | 58 => ⟨S2064x8, .f32⟩
  | 59 => ⟨S2064x8, .f32⟩
  | 60 => ⟨S1x2064x1x8, .f32⟩
  | 61 => ⟨S2064x8, .f32⟩
  | 62 => ⟨S1x2064x1x8, .f32⟩
  | 63 => ⟨S4x2064x4x16, .f32⟩
  | 64 => ⟨S4x2064x4x8, .f32⟩
  | 65 => ⟨S4x2064x4x8, .f32⟩
  | 66 => ⟨S4x2064x4x8, .f32⟩
  | 67 => ⟨S4x2064x4x8, .f32⟩
  | 68 => ⟨S4x2064x4x8, .f32⟩
  | 69 => ⟨S4x2064x4x8, .f32⟩
  | 70 => ⟨S4x2064x4x8, .f32⟩
  | 71 => ⟨S4x2064x4x8, .f32⟩
  | 72 => ⟨S4x2064x4x8, .f32⟩
  | 73 => ⟨S4x2064x4x8, .f32⟩
  | 74 => ⟨S4x2064x4x8, .f32⟩
  | 75 => ⟨S4x2064x4x8, .f32⟩
  | 76 => ⟨S4x2064x4x16, .f32⟩
  | 77 => ⟨S4x2064x4x48, .f32⟩
  | 78 => ⟨S4x2064x4x64, .f32⟩
  | 79 => ⟨S4x2064x4x4x64, .f32⟩
  | 80 => ⟨S_, .i32⟩
  | 81 => ⟨S_, .f32⟩
  | 82 => ⟨S4x2176x4x4x64, .f32⟩
  | 83 => ⟨S4x17x128x4x4x64, .f32⟩
  | 84 => ⟨S_, .i32⟩
  | 85 => ⟨S_, .f32⟩
  | 86 => ⟨S4x2176x4x64, .f32⟩
  | 87 => ⟨S4x17x128x4x64, .f32⟩
  | 88 => ⟨S_, .i32⟩
  | 89 => ⟨S_, .f32⟩
  | 90 => ⟨S4x2176x4x64, .f32⟩
  | 91 => ⟨S4x17x128x4x64, .f32⟩
  | 92 => ⟨S4x1x128x4x64, .f32⟩
  | 93 => ⟨S_, .f32⟩
  | 94 => ⟨S4x1x128x4x64, .f32⟩
  | 95 => ⟨S4x16x128x4x64, .f32⟩
  | 96 => ⟨S4x17x128x4x64, .f32⟩
  | 97 => ⟨S4x17x256x4x64, .f32⟩
  | 98 => ⟨S4x1x128x4x64, .f32⟩
  | 99 => ⟨S_, .f32⟩
  | 100 => ⟨S4x1x128x4x64, .f32⟩
  | 101 => ⟨S4x16x128x4x64, .f32⟩
  | 102 => ⟨S4x17x128x4x64, .f32⟩
  | 103 => ⟨S4x17x256x4x64, .f32⟩
  | 104 => ⟨S4x16x4x64, .f32⟩
  | 105 => ⟨S4x16x4x64, .f32⟩
  | 106 => ⟨S2176, .i32⟩
  | 107 => ⟨S_, .i32⟩
  | 108 => ⟨S2176, .i32⟩
  | 109 => ⟨S2176, .i32⟩
  | 110 => ⟨S17x128, .i32⟩
  | 111 => ⟨S_, .i32⟩
  | 112 => ⟨S17x128, .i32⟩
  | 113 => ⟨S17x128, .i32⟩
  | 114 => ⟨S17x256, .i32⟩
  | 115 => ⟨S17x128x1, .i32⟩
  | 116 => ⟨S17x1x256, .i32⟩
  | 117 => ⟨S17x128x256, .i32⟩
  | 118 => ⟨S17x128x256, .i32⟩
  | 119 => ⟨S17x128x256, .i32⟩
  | 120 => ⟨S_, .i32⟩
  | 121 => ⟨S17x128x256, .i32⟩
  | 122 => ⟨S17x128x256, .i1⟩
  | 123 => ⟨S_, .i32⟩
  | 124 => ⟨S17x128x256, .i32⟩
  | 125 => ⟨S17x128x256, .i1⟩
  | 126 => ⟨S17x128x256, .i1⟩
  | 127 => ⟨S17x1x256, .i32⟩
  | _ => ⟨S8704x1536, .f32⟩

abbrev hbmTy0_1 (i : Nat) : BufTy := match i % 128 with
  | 0 => ⟨S_, .i32⟩
  | 1 => ⟨S17x1x256, .i32⟩
  | 2 => ⟨S17x1x256, .i1⟩
  | 3 => ⟨S17x128x256, .i1⟩
  | 4 => ⟨S17x128x256, .i1⟩
  | 5 => ⟨S16, .i32⟩
  | 6 => ⟨S1x1x16, .i32⟩
  | 7 => ⟨S17x128x1, .i32⟩
  | 8 => ⟨S17x128x16, .i32⟩
  | 9 => ⟨S17x128x16, .i32⟩
  | 10 => ⟨S17x128x16, .i1⟩
  | 11 => ⟨S4x4x16x17x128x4, .f32⟩
  | 12 => ⟨S4x17x4x4x128x16, .f32⟩
  | 13 => ⟨S_, .f32⟩
  | 14 => ⟨S4x17x4x4x128x16, .f32⟩
  | 15 => ⟨S4x17x4x4x128x16, .f32⟩
  | 16 => ⟨S4x17x4x256x128x4, .f32⟩
  | 17 => ⟨S4x17x4x4x128x256, .f32⟩
  | 18 => ⟨S_, .f32⟩
  | 19 => ⟨S4x17x4x4x128x256, .f32⟩
  | 20 => ⟨S4x17x4x4x128x256, .f32⟩
  | 21 => ⟨S1x17x1x1x128x16, .i1⟩
  | 22 => ⟨S_, .f32⟩
  | 23 => ⟨S4x17x4x4x128x16, .i1⟩
  | 24 => ⟨S4x17x4x4x128x16, .f32⟩
  | 25 => ⟨S4x17x4x4x128x16, .f32⟩
  | 26 => ⟨S1x17x1x1x128x256, .i1⟩
  | 27 => ⟨S_, .f32⟩
  | 28 => ⟨S4x17x4x4x128x256, .i1⟩
  | 29 => ⟨S4x17x4x4x128x256, .f32⟩
  | 30 => ⟨S4x17x4x4x128x256, .f32⟩
  | 31 => ⟨S4x4, .f32⟩
  | 32 => ⟨S1x1x4x4x1x1, .f32⟩
  | 33 => ⟨S4x17x4x4x128x1, .f32⟩
  | 34 => ⟨S4x17x4x4x128x273, .f32⟩
  | 35 => ⟨S_, .f32⟩
  | 36 => ⟨S4x17x4x4x128, .f32⟩
  | 37 => ⟨S_, .f32⟩
  | 38 => ⟨S4x17x4x4x128, .f32⟩
  | 39 => ⟨S4x17x4x4x128, .f32⟩
  | 40 => ⟨S4x17x4x4x128x1, .f32⟩
  | 41 => ⟨S4x17x4x4x128x273, .f32⟩
  | 42 => ⟨S4x17x4x4x128x273, .f32⟩
  | 43 => ⟨S4x17x4x4x128x273, .f32⟩
  | 44 => ⟨S_, .f32⟩
  | 45 => ⟨S4x17x4x4x128, .f32⟩
  | 46 => ⟨S4x17x4x4x128x1, .f32⟩
  | 47 => ⟨S4x17x4x4x128x273, .f32⟩
  | 48 => ⟨S4x17x4x4x128x273, .f32⟩
  | 49 => ⟨S4x17x4x4x128x16, .f32⟩
  | 50 => ⟨S4x4x64x17x4x128, .f32⟩
  | 51 => ⟨S4x17x128x4x4x64, .f32⟩
  | 52 => ⟨S4x17x4x4x128x256, .f32⟩
  | 53 => ⟨S4x17x4x64x4x128, .f32⟩
  | 54 => ⟨S4x17x128x4x4x64, .f32⟩
  | 55 => ⟨S4x17x128x4x4x64, .f32⟩
  | 56 => ⟨S4x2176x1024, .f32⟩
  | 57 => ⟨S4x2064x1024, .f32⟩
  | 58 => ⟨S_, .i32⟩
  | 59 => ⟨S_, .f32⟩
  | 60 => ⟨S4x2176x1024, .f32⟩
  | 61 => ⟨S8704x1024, .f32⟩
  | 62 => ⟨S8704x1024, .bf16⟩
  | _ => ⟨S8704x1536, .f32⟩

abbrev hbmTy (i : Nat) : BufTy := match i / 128 with
  | 0 => hbmTy0_0 i
  | 1 => hbmTy0_1 i
  | _ => ⟨S8704x1536, .f32⟩

abbrev bufTy : (tb : Table) → Fin (tcTables nBuf tb) → BufTy
  | .hbm, ⟨i, _⟩ => hbmTy i
  | _, _ => ⟨S8704x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_cst_1 : Ref sig .tc := ⟨.hbm, 47, rfl⟩
abbrev main_v43 : Ref sig .tc := ⟨.hbm, 48, rfl⟩
abbrev main_v44 : Ref sig .tc := ⟨.hbm, 49, rfl⟩
abbrev main_cst_2 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_c : Ref sig .tc := ⟨.hbm, 80, rfl⟩
abbrev main_call0_v0 : Ref sig .tc := ⟨.hbm, 81, rfl⟩
abbrev main_v74 : Ref sig .tc := ⟨.hbm, 82, rfl⟩
abbrev main_v75 : Ref sig .tc := ⟨.hbm, 83, rfl⟩
abbrev main_c_3 : Ref sig .tc := ⟨.hbm, 84, rfl⟩
abbrev main_call1_v0 : Ref sig .tc := ⟨.hbm, 85, rfl⟩
abbrev main_v76 : Ref sig .tc := ⟨.hbm, 86, rfl⟩
abbrev main_v77 : Ref sig .tc := ⟨.hbm, 87, rfl⟩
abbrev main_c_4 : Ref sig .tc := ⟨.hbm, 88, rfl⟩
abbrev main_call2_v0 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_cst_5 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_cst_6 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_c_7 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_c_8 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_c_9 : Ref sig .tc := ⟨.hbm, 120, rfl⟩
abbrev main_v104 : Ref sig .tc := ⟨.hbm, 121, rfl⟩
abbrev main_v105 : Ref sig .tc := ⟨.hbm, 122, rfl⟩
abbrev main_c_10 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_c_11 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_cst_12 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_cst_13 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_cst_14 : Ref sig .tc := ⟨.hbm, 150, rfl⟩
abbrev main_call3_v0 : Ref sig .tc := ⟨.hbm, 151, rfl⟩
abbrev main_call3_v1 : Ref sig .tc := ⟨.hbm, 152, rfl⟩
abbrev main_v129 : Ref sig .tc := ⟨.hbm, 153, rfl⟩
abbrev main_v130 : Ref sig .tc := ⟨.hbm, 154, rfl⟩
abbrev main_cst_15 : Ref sig .tc := ⟨.hbm, 155, rfl⟩
abbrev main_call4_v0 : Ref sig .tc := ⟨.hbm, 156, rfl⟩
abbrev main_call4_v1 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_cst_16 : Ref sig .tc := ⟨.hbm, 163, rfl⟩
abbrev main_v136 : Ref sig .tc := ⟨.hbm, 164, rfl⟩
abbrev main_cst_17 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_cst_18 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_c_19 : Ref sig .tc := ⟨.hbm, 186, rfl⟩
abbrev main_call5_v0 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩

abbrev nD : Nat := 1
abbrev τ : Topo := Topo.v7x

variable {F : FTy → Type} [FloatOps F]
-- ==== ProjQkv.lean ====
abbrev S8704x2048 : Shape := ⟨2, ![8704, 2048]⟩
abbrev S2048x8896 : Shape := ⟨2, ![2048, 8896]⟩
abbrev S1536 : Shape := ⟨1, ![1536]⟩
abbrev S2048x1536 : Shape := ⟨2, ![2048, 1536]⟩
abbrev S1x1536 : Shape := ⟨2, ![1, 1536]⟩
abbrev S8704x1536 : Shape := ⟨2, ![8704, 1536]⟩
abbrev S1088x2048 : Shape := ⟨2, ![1088, 2048]⟩
abbrev S2048x512 : Shape := ⟨2, ![2048, 512]⟩
abbrev S1x512 : Shape := ⟨2, ![1, 512]⟩
abbrev S1088x512 : Shape := ⟨2, ![1088, 512]⟩

abbrev nBuf : Space → Nat
  | .hbm => 7
  | .vmem => 8
  | .smem => 0
  | _ => 0

abbrev bufTy : (tb : Table) → Fin (tcTables nBuf tb) → BufTy
  | .hbm, ⟨0, _⟩ => ⟨S8704x2048, .bf16⟩
  | .hbm, ⟨1, _⟩ => ⟨S2048x8896, .f32⟩
  | .hbm, ⟨2, _⟩ => ⟨S1536, .f32⟩
  | .hbm, ⟨3, _⟩ => ⟨S2048x1536, .f32⟩
  | .hbm, ⟨4, _⟩ => ⟨S2048x1536, .bf16⟩
  | .hbm, ⟨5, _⟩ => ⟨S1x1536, .f32⟩
  | .hbm, ⟨6, _⟩ => ⟨S8704x1536, .f32⟩
  | .local _ .vmem, ⟨0, _⟩ => ⟨S1088x2048, .bf16⟩
  | .local _ .vmem, ⟨1, _⟩ => ⟨S1088x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1088x512, .f32⟩
  | .local _ .vmem, ⟨7, _⟩ => ⟨S1088x512, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefQkvIdeal.lean ====
abbrev S8704x2048 : Shape := ⟨2, ![8704, 2048]⟩
abbrev S2048x8896 : Shape := ⟨2, ![2048, 8896]⟩
abbrev S1536 : Shape := ⟨1, ![1536]⟩
abbrev S8704x8896 : Shape := ⟨2, ![8704, 8896]⟩
abbrev S8704x1536 : Shape := ⟨2, ![8704, 1536]⟩
abbrev S1x1536 : Shape := ⟨2, ![1, 1536]⟩

abbrev nBuf : Space → Nat
  | .hbm => 9
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x8896, .f32⟩
  | .hbm, ⟨2, _⟩ => ⟨S1536, .f32⟩
  | .hbm, ⟨3, _⟩ => ⟨S8704x2048, .f32⟩
  | .hbm, ⟨4, _⟩ => ⟨S8704x8896, .f32⟩
  | .hbm, ⟨5, _⟩ => ⟨S8704x1536, .f32⟩
  | .hbm, ⟨6, _⟩ => ⟨S1x1536, .f32⟩
  | .hbm, ⟨7, _⟩ => ⟨S8704x1536, .f32⟩
  | .hbm, ⟨8, _⟩ => ⟨S8704x1536, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjGate.lean ====
abbrev S8704x2048 : Shape := ⟨2, ![8704, 2048]⟩
abbrev S2048x8896 : Shape := ⟨2, ![2048, 8896]⟩
abbrev S2048x4096 : Shape := ⟨2, ![2048, 4096]⟩
abbrev S_ : Shape := ⟨0, ![]⟩
abbrev S4096 : Shape := ⟨1, ![4096]⟩
abbrev S1x4096 : Shape := ⟨2, ![1, 4096]⟩
abbrev S8704x4096 : Shape := ⟨2, ![8704, 4096]⟩
abbrev S1088x2048 : Shape := ⟨2, ![1088, 2048]⟩
abbrev S2048x512 : Shape := ⟨2, ![2048, 512]⟩
abbrev S1x512 : Shape := ⟨2, ![1, 512]⟩
abbrev S1088x512 : Shape := ⟨2, ![1088, 512]⟩

abbrev nBuf : Space → Nat
  | .hbm => 8
  | .vmem => 8
  | .smem => 0
  | _ => 0

abbrev bufTy : (tb : Table) → Fin (tcTables nBuf tb) → BufTy
  | .hbm, ⟨0, _⟩ => ⟨S8704x2048, .bf16⟩
  | .hbm, ⟨1, _⟩ => ⟨S2048x8896, .f32⟩
  | .hbm, ⟨2, _⟩ => ⟨S2048x4096, .f32⟩
  | .hbm, ⟨3, _⟩ => ⟨S2048x4096, .bf16⟩
  | .hbm, ⟨4, _⟩ => ⟨S_, .f32⟩
  | .hbm, ⟨5, _⟩ => ⟨S4096, .f32⟩
  | .hbm, ⟨6, _⟩ => ⟨S1x4096, .f32⟩
  | .hbm, ⟨7, _⟩ => ⟨S8704x4096, .bf16⟩
  | .local _ .vmem, ⟨0, _⟩ => ⟨S1088x2048, .bf16⟩
  | .local _ .vmem, ⟨1, _⟩ => ⟨S1088x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1088x512, .bf16⟩
  | .local _ .vmem, ⟨7, _⟩ => ⟨S1088x512, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1088x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefGateIdeal.lean ====
abbrev S8704x2048 : Shape := ⟨2, ![8704, 2048]⟩
abbrev S2048x8896 : Shape := ⟨2, ![2048, 8896]⟩
abbrev S8704x8896 : Shape := ⟨2, ![8704, 8896]⟩
abbrev S8704x4096 : Shape := ⟨2, ![8704, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x8896, .f32⟩
  | .hbm, ⟨2, _⟩ => ⟨S8704x2048, .f32⟩
  | .hbm, ⟨3, _⟩ => ⟨S8704x8896, .f32⟩
  | .hbm, ⟨4, _⟩ => ⟨S8704x4096, .f32⟩
  | .hbm, ⟨5, _⟩ => ⟨S8704x2048, .f32⟩
  | .hbm, ⟨6, _⟩ => ⟨S8704x2048, .f32⟩
  | .hbm, ⟨7, _⟩ => ⟨S8704x2048, .f32⟩
  | .hbm, ⟨8, _⟩ => ⟨S_, .f32⟩
  | .hbm, ⟨9, _⟩ => ⟨S8704x2048, .f32⟩
  | .hbm, ⟨10, _⟩ => ⟨S8704x2048, .f32⟩
  | .hbm, ⟨11, _⟩ => ⟨S_, .f32⟩
  | .hbm, ⟨12, _⟩ => ⟨S8704x2048, .f32⟩
  | .hbm, ⟨13, _⟩ => ⟨S8704x2048, .f32⟩
  | .hbm, ⟨14, _⟩ => ⟨S8704x2048, .f32⟩
  | .hbm, ⟨15, _⟩ => ⟨S8704x2048, .f32⟩
  | .hbm, ⟨16, _⟩ => ⟨S8704x2048, .f32⟩
  | .hbm, ⟨17, _⟩ => ⟨S_, .f32⟩
  | .hbm, ⟨18, _⟩ => ⟨S8704x2048, .f32⟩
  | .hbm, ⟨19, _⟩ => ⟨S8704x2048, .f32⟩
  | .hbm, ⟨20, _⟩ => ⟨S_, .f32⟩
  | .hbm, ⟨21, _⟩ => ⟨S8704x2048, .f32⟩
  | .hbm, ⟨22, _⟩ => ⟨S8704x2048, .f32⟩
  | .hbm, ⟨23, _⟩ => ⟨S8704x4096, .f32⟩
  | .hbm, ⟨24, _⟩ => ⟨S8704x4096, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== ProjRwkv.lean ====
abbrev S8704x2048 : Shape := ⟨2, ![8704, 2048]⟩
abbrev S2048x8896 : Shape := ⟨2, ![2048, 8896]⟩
abbrev S2048x32 : Shape := ⟨2, ![2048, 32]⟩
abbrev S2048x3072 : Shape := ⟨2, ![2048, 3072]⟩
abbrev S2048x192 : Shape := ⟨2, ![2048, 192]⟩
abbrev S_ : Shape := ⟨0, ![]⟩
abbrev S2048x3328 : Shape := ⟨2, ![2048, 3328]⟩
abbrev S3328 : Shape := ⟨1, ![3328]⟩
abbrev S1x3328 : Shape := ⟨2, ![1, 3328]⟩
abbrev S8704x3328 : Shape := ⟨2, ![8704, 3328]⟩
abbrev S1088x2048 : Shape := ⟨2, ![1088, 2048]⟩
abbrev S2048x256 : Shape := ⟨2, ![2048, 256]⟩
abbrev S1x256 : Shape := ⟨2, ![1, 256]⟩
abbrev S1088x256 : Shape := ⟨2, ![1088, 256]⟩

abbrev nBuf : Space → Nat
  | .hbm => 13
  | .vmem => 8
  | .smem => 0
  | _ => 0

abbrev bufTy : (tb : Table) → Fin (tcTables nBuf tb) → BufTy
  | .hbm, ⟨0, _⟩ => ⟨S8704x2048, .bf16⟩
  | .hbm, ⟨1, _⟩ => ⟨S2048x8896, .f32⟩
  | .hbm, ⟨2, _⟩ => ⟨S2048x32, .f32⟩
  | .hbm, ⟨3, _⟩ => ⟨S2048x3072, .f32⟩
  | .hbm, ⟨4, _⟩ => ⟨S2048x192, .f32⟩
  | .hbm, ⟨5, _⟩ => ⟨S_, .f32⟩
  | .hbm, ⟨6, _⟩ => ⟨S2048x32, .f32⟩
  | .hbm, ⟨7, _⟩ => ⟨S2048x3328, .f32⟩
  | .hbm, ⟨8, _⟩ => ⟨S2048x3328, .bf16⟩
  | .hbm, ⟨9, _⟩ => ⟨S_, .f32⟩
  | .hbm, ⟨10, _⟩ => ⟨S3328, .f32⟩
  | .hbm, ⟨11, _⟩ => ⟨S1x3328, .f32⟩
  | .hbm, ⟨12, _⟩ => ⟨S8704x3328, .f32⟩
  | .local _ .vmem, ⟨0, _⟩ => ⟨S1088x2048, .bf16⟩
  | .local _ .vmem, ⟨1, _⟩ => ⟨S1088x2048, .bf16⟩
  | .local _ .vmem, ⟨2, _⟩ => ⟨S2048x256, .bf16⟩
  | .local _ .vmem, ⟨3, _⟩ => ⟨S2048x256, .bf16⟩
  | .local _ .vmem, ⟨4, _⟩ => ⟨S1x256, .f32⟩
  | .local _ .vmem, ⟨5, _⟩ => ⟨S1x256, .f32⟩
  | .local _ .vmem, ⟨6, _⟩ => ⟨S1088x256, .f32⟩
  | .local _ .vmem, ⟨7, _⟩ => ⟨S1088x256, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1088x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefRwkvIdeal.lean ====
abbrev S8704x2048 : Shape := ⟨2, ![8704, 2048]⟩
abbrev S2048x8896 : Shape := ⟨2, ![2048, 8896]⟩
abbrev S2048x32 : Shape := ⟨2, ![2048, 32]⟩
abbrev S8704x8896 : Shape := ⟨2, ![8704, 8896]⟩
abbrev S8704x3264 : Shape := ⟨2, ![8704, 3264]⟩
abbrev S8704x32 : Shape := ⟨2, ![8704, 32]⟩
abbrev S8704x3296 : Shape := ⟨2, ![8704, 3296]⟩
abbrev S_ : Shape := ⟨0, ![]⟩
abbrev S8704x3328 : Shape := ⟨2, ![8704, 3328]⟩

abbrev nBuf : Space → Nat
  | .hbm => 11
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x8896, .f32⟩
  | .hbm, ⟨2, _⟩ => ⟨S2048x32, .f32⟩
  | .hbm, ⟨3, _⟩ => ⟨S8704x2048, .f32⟩
  | .hbm, ⟨4, _⟩ => ⟨S8704x8896, .f32⟩
  | .hbm, ⟨5, _⟩ => ⟨S8704x3264, .f32⟩
  | .hbm, ⟨6, _⟩ => ⟨S8704x32, .f32⟩
  | .hbm, ⟨7, _⟩ => ⟨S8704x3296, .f32⟩
  | .hbm, ⟨8, _⟩ => ⟨S_, .i32⟩
  | .hbm, ⟨9, _⟩ => ⟨S_, .f32⟩
  | .hbm, ⟨10, _⟩ => ⟨S8704x3328, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== NormMix.lean ====
abbrev S8704x2048 : Shape := ⟨2, ![8704, 2048]⟩
abbrev S2048 : Shape := ⟨1, ![2048]⟩
abbrev S1x2048 : Shape := ⟨2, ![1, 2048]⟩
abbrev S272x2048 : Shape := ⟨2, ![272, 2048]⟩
abbrev S272 : Shape := ⟨1, ![272]⟩
abbrev S272x1 : Shape := ⟨2, ![272, 1]⟩

abbrev nBuf : Space → Nat
  | .hbm => 4
  | .vmem => 5
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S1x2048, .f32⟩
  | .hbm, ⟨3, _⟩ => ⟨S8704x2048, .bf16⟩
  | .local _ .vmem, ⟨0, _⟩ => ⟨S272x2048, .f32⟩
  | .local _ .vmem, ⟨1, _⟩ => ⟨S272x2048, .f32⟩
  | .local _ .vmem, ⟨2, _⟩ => ⟨S1x2048, .f32⟩
  | .local _ .vmem, ⟨3, _⟩ => ⟨S272x2048, .bf16⟩
  | .local _ .vmem, ⟨4, _⟩ => ⟨S272x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S272x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefNormMixIdeal.lean ====
abbrev S8704x2048 : Shape := ⟨2, ![8704, 2048]⟩
abbrev S2048 : Shape := ⟨1, ![2048]⟩
abbrev S_ : Shape := ⟨0, ![]⟩
abbrev S8704 : Shape := ⟨1, ![8704]⟩
abbrev S8704x1 : Shape := ⟨2, ![8704, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S8704x2048, .f32⟩
  | .hbm, ⟨3, _⟩ => ⟨S_, .f32⟩
  | .hbm, ⟨4, _⟩ => ⟨S8704, .f32⟩
  | .hbm, ⟨5, _⟩ => ⟨S8704x1, .f32⟩
  | .hbm, ⟨6, _⟩ => ⟨S_, .f32⟩
  | .hbm, ⟨7, _⟩ => ⟨S8704x1, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S8704x1, .f32⟩
  | .hbm, ⟨13, _⟩ => ⟨S8704x2048, .f32⟩
  | .hbm, ⟨14, _⟩ => ⟨S8704x2048, .f32⟩
  | .hbm, ⟨15, _⟩ => ⟨S1x2048, .f32⟩
  | .hbm, ⟨16, _⟩ => ⟨S8704x2048, .f32⟩
  | .hbm, ⟨17, _⟩ => ⟨S8704x2048, .f32⟩
  | .hbm, ⟨18, _⟩ => ⟨S8704x2048, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormLast.lean ====
abbrev S8704x2048 : Shape := ⟨2, ![8704, 2048]⟩
abbrev S2048 : Shape := ⟨1, ![2048]⟩
abbrev S1x2048 : Shape := ⟨2, ![1, 2048]⟩
abbrev S8192x2048 : Shape := ⟨2, ![8192, 2048]⟩
abbrev S128x2048 : Shape := ⟨2, ![128, 2048]⟩
abbrev S128 : Shape := ⟨1, ![128]⟩
abbrev S128x1 : Shape := ⟨2, ![128, 1]⟩

abbrev nBuf : Space → Nat
  | .hbm => 4
  | .vmem => 5
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .f32⟩
  | .local _ .vmem, ⟨4, _⟩ => ⟨S128x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c1_i32 : BitVec 32 := 1#32
  let v2 : BitVec 32 := Scalar.addi v1 c1_i32
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefNormLastIdeal.lean ====
abbrev S8704x2048 : Shape := ⟨2, ![8704, 2048]⟩
abbrev S2048 : Shape := ⟨1, ![2048]⟩
abbrev S4x2176x2048 : Shape := ⟨3, ![4, 2176, 2048]⟩
abbrev S4x2064x2048 : Shape := ⟨3, ![4, 2064, 2048]⟩
abbrev S_ : Shape := ⟨0, ![]⟩
abbrev S4x2064 : Shape := ⟨2, ![4, 2064]⟩
abbrev S4x2064x1 : Shape := ⟨3, ![4, 2064, 1]⟩
abbrev S1x1x2048 : Shape := ⟨3, ![1, 1, 2048]⟩
abbrev S4x2048x2048 : Shape := ⟨3, ![4, 2048, 2048]⟩
abbrev S8192x2048 : Shape := ⟨2, ![8192, 2048]⟩

abbrev nBuf : Space → Nat
  | .hbm => 22
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S4x2176x2048, .f32⟩
  | .hbm, ⟨3, _⟩ => ⟨S4x2064x2048, .f32⟩
  | .hbm, ⟨4, _⟩ => ⟨S4x2064x2048, .f32⟩
  | .hbm, ⟨5, _⟩ => ⟨S_, .f32⟩
  | .hbm, ⟨6, _⟩ => ⟨S4x2064, .f32⟩
  | .hbm, ⟨7, _⟩ => ⟨S4x2064x1, .f32⟩
  | .hbm, ⟨8, _⟩ => ⟨S_, .f32⟩
  | .hbm, ⟨9, _⟩ => ⟨S4x2064x1, .f32⟩
  | .hbm, ⟨10, _⟩ => ⟨S4x2064x1, .f32⟩
  | .hbm, ⟨11, _⟩ => ⟨S_, .f32⟩
  | .hbm, ⟨12, _⟩ => ⟨S4x2064x1, .f32⟩
  | .hbm, ⟨13, _⟩ => ⟨S4x2064x1, .f32⟩
  | .hbm, ⟨14, _⟩ => ⟨S4x2064x1, .f32⟩
  | .hbm, ⟨15, _⟩ => ⟨S4x2064x2048, .f32⟩
  | .hbm, ⟨16, _⟩ => ⟨S4x2064x2048, .f32⟩
  | .hbm, ⟨17, _⟩ => ⟨S1x1x2048, .f32⟩
  | .hbm, ⟨18, _⟩ => ⟨S4x2064x2048, .f32⟩
  | .hbm, ⟨19, _⟩ => ⟨S4x2064x2048, .f32⟩
  | .hbm, ⟨20, _⟩ => ⟨S4x2048x2048, .f32⟩
  | .hbm, ⟨21, _⟩ => ⟨S8192x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Merge.lean ====
abbrev S8704x1024 : Shape := ⟨2, ![8704, 1024]⟩
abbrev S8704x4096 : Shape := ⟨2, ![8704, 4096]⟩
abbrev S8704x2048 : Shape := ⟨2, ![8704, 2048]⟩
abbrev S1024x2048 : Shape := ⟨2, ![1024, 2048]⟩
abbrev S2048x2048 : Shape := ⟨2, ![2048, 2048]⟩
abbrev S2048 : Shape := ⟨1, ![2048]⟩
abbrev S2048x8 : Shape := ⟨2, ![2048, 8]⟩
abbrev S8 : Shape := ⟨1, ![8]⟩
abbrev S2048x8x8 : Shape := ⟨3, ![2048, 8, 8]⟩
abbrev S8x8 : Shape := ⟨2, ![8, 8]⟩
abbrev S2048x64 : Shape := ⟨2, ![2048, 64]⟩
abbrev S_ : Shape := ⟨0, ![]⟩
abbrev S2048x56 : Shape := ⟨2, ![2048, 56]⟩
abbrev S2048x128 : Shape := ⟨2, ![2048, 128]⟩
abbrev S64 : Shape := ⟨1, ![64]⟩
abbrev S56 : Shape := ⟨1, ![56]⟩
abbrev S128 : Shape := ⟨1, ![128]⟩
abbrev S1x128 : Shape := ⟨2, ![1, 128]⟩
abbrev S1x2048 : Shape := ⟨2, ![1, 2048]⟩
abbrev S8704x128 : Shape := ⟨2, ![8704, 128]⟩
abbrev S272x1024 : Shape := ⟨2, ![272, 1024]⟩
abbrev S272x2048 : Shape := ⟨2, ![272, 2048]⟩
abbrev S272x128 : Shape := ⟨2, ![272, 128]⟩
abbrev S272x1 : Shape := ⟨2, ![272, 1]⟩
abbrev S272 : Shape := ⟨1, ![272]⟩

abbrev nBuf : Space → Nat
  | .hbm => 32
  | .vmem => 23
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S8704x4096, .bf16⟩
  | .hbm, ⟨3, _⟩ => ⟨S8704x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S2048x8, .f32⟩
  | .hbm, ⟨9, _⟩ => ⟨S8, .f32⟩
  | .hbm, ⟨10, _⟩ => ⟨S2048x8x8, .f32⟩
  | .hbm, ⟨11, _⟩ => ⟨S8x8, .f32⟩
  | .hbm, ⟨12, _⟩ => ⟨S2048x64, .f32⟩
  | .hbm, ⟨13, _⟩ => ⟨S_, .f32⟩
  | .hbm, ⟨14, _⟩ => ⟨S2048x56, .f32⟩
  | .hbm, ⟨15, _⟩ => ⟨S2048x128, .f32⟩
  | .hbm, ⟨16, _⟩ => ⟨S64, .f32⟩
  | .hbm, ⟨17, _⟩ => ⟨S_, .f32⟩
  | .hbm, ⟨18, _⟩ => ⟨S56, .f32⟩
  | .hbm, ⟨19, _⟩ => ⟨S128, .f32⟩
  | .hbm, ⟨20, _⟩ => ⟨S1x128, .f32⟩
  | .hbm, ⟨21, _⟩ => ⟨S2048x128, .bf16⟩
  | .hbm, ⟨22, _⟩ => ⟨S2048x128, .f32⟩
  | .hbm, ⟨23, _⟩ => ⟨S2048x128, .f32⟩
  | .hbm, ⟨24, _⟩ => ⟨S2048x128, .bf16⟩
  | .hbm, ⟨25, _⟩ => ⟨S1024x2048, .bf16⟩
  | .hbm, ⟨26, _⟩ => ⟨S1024x2048, .bf16⟩
  | .hbm, ⟨27, _⟩ => ⟨S2048x2048, .bf16⟩
  | .hbm, ⟨28, _⟩ => ⟨S1x2048, .f32⟩
  | .hbm, ⟨29, _⟩ => ⟨S8704x2048, .f32⟩
  | .hbm, ⟨30, _⟩ => ⟨S8704x2048, .f32⟩
  | .hbm, ⟨31, _⟩ => ⟨S8704x128, .f32⟩
  | .local _ .vmem, ⟨0, _⟩ => ⟨S272x1024, .bf16⟩
  | .local _ .vmem, ⟨1, _⟩ => ⟨S272x1024, .bf16⟩
  | .local _ .vmem, ⟨2, _⟩ => ⟨S272x1024, .bf16⟩
  | .local _ .vmem, ⟨3, _⟩ => ⟨S272x1024, .bf16⟩
  | .local _ .vmem, ⟨4, _⟩ => ⟨S272x2048, .bf16⟩
  | .local _ .vmem, ⟨5, _⟩ => ⟨S272x2048, .bf16⟩
  | .local _ .vmem, ⟨6, _⟩ => ⟨S272x2048, .bf16⟩
  | .local _ .vmem, ⟨7, _⟩ => ⟨S272x2048, .bf16⟩
  | .local _ .vmem, ⟨8, _⟩ => ⟨S272x2048, .f32⟩
  | .local _ .vmem, ⟨9, _⟩ => ⟨S272x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S2048x128, .bf16⟩
  | .local _ .vmem, ⟨15, _⟩ => ⟨S2048x128, .bf16⟩
  | .local _ .vmem, ⟨16, _⟩ => ⟨S1x128, .f32⟩
  | .local _ .vmem, ⟨17, _⟩ => ⟨S272x2048, .f32⟩
  | .local _ .vmem, ⟨18, _⟩ => ⟨S272x2048, .f32⟩
  | .local _ .vmem, ⟨19, _⟩ => ⟨S272x2048, .f32⟩
  | .local _ .vmem, ⟨20, _⟩ => ⟨S272x2048, .f32⟩
  | .local _ .vmem, ⟨21, _⟩ => ⟨S272x128, .f32⟩
  | .local _ .vmem, ⟨22, _⟩ => ⟨S272x128, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S272x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S272x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S272x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S272x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== RefMergeIdeal.lean ====
abbrev S8704x1024 : Shape := ⟨2, ![8704, 1024]⟩
abbrev S8704x4096 : Shape := ⟨2, ![8704, 4096]⟩
abbrev S8704x2048 : Shape := ⟨2, ![8704, 2048]⟩
abbrev S1024x2048 : Shape := ⟨2, ![1024, 2048]⟩
abbrev S2048x2048 : Shape := ⟨2, ![2048, 2048]⟩
abbrev S2048 : Shape := ⟨1, ![2048]⟩
abbrev S2048x8 : Shape := ⟨2, ![2048, 8]⟩
abbrev S8 : Shape := ⟨1, ![8]⟩
abbrev S2048x8x8 : Shape := ⟨3, ![2048, 8, 8]⟩
abbrev S8x8 : Shape := ⟨2, ![8, 8]⟩
abbrev S4x2176x4096 : Shape := ⟨3, ![4, 2176, 4096]⟩
abbrev S4x2064x4096 : Shape := ⟨3, ![4, 2064, 4096]⟩
abbrev S4x2064x2048 : Shape := ⟨3, ![4, 2064, 2048]⟩
abbrev S4x2176x1024 : Shape := ⟨3, ![4, 2176, 1024]⟩
abbrev S4x2064x1024 : Shape := ⟨3, ![4, 2064, 1024]⟩
abbrev S4x2176x2048 : Shape := ⟨3, ![4, 2176, 2048]⟩
abbrev S_ : Shape := ⟨0, ![]⟩
abbrev S4x2064 : Shape := ⟨2, ![4, 2064]⟩
abbrev S4x2064x1 : Shape := ⟨3, ![4, 2064, 1]⟩
abbrev S1x1x2048 : Shape := ⟨3, ![1, 1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S8704x4096, .bf16⟩
  | .hbm, ⟨3, _⟩ => ⟨S8704x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S2048x8, .f32⟩
  | .hbm, ⟨9, _⟩ => ⟨S8, .f32⟩
  | .hbm, ⟨10, _⟩ => ⟨S2048x8x8, .f32⟩
  | .hbm, ⟨11, _⟩ => ⟨S8x8, .f32⟩
  | .hbm, ⟨12, _⟩ => ⟨S4x2176x4096, .bf16⟩
  | .hbm, ⟨13, _⟩ => ⟨S4x2064x4096, .bf16⟩
  | .hbm, ⟨14, _⟩ => ⟨S4x2064x4096, .f32⟩
  | .hbm, ⟨15, _⟩ => ⟨S4x2064x2048, .f32⟩
  | .hbm, ⟨16, _⟩ => ⟨S4x2064x2048, .f32⟩
  | .hbm, ⟨17, _⟩ => ⟨S4x2176x1024, .bf16⟩
  | .hbm, ⟨18, _⟩ => ⟨S4x2064x1024, .bf16⟩
  | .hbm, ⟨19, _⟩ => ⟨S4x2064x1024, .f32⟩
  | .hbm, ⟨20, _⟩ => ⟨S4x2176x1024, .bf16⟩
  | .hbm, ⟨21, _⟩ => ⟨S4x2064x1024, .bf16⟩
  | .hbm, ⟨22, _⟩ => ⟨S4x2064x1024, .f32⟩
  | .hbm, ⟨23, _⟩ => ⟨S4x2064x2048, .f32⟩
  | .hbm, ⟨24, _⟩ => ⟨S4x2064x2048, .f32⟩
  | .hbm, ⟨25, _⟩ => ⟨S4x2064x2048, .f32⟩
  | .hbm, ⟨26, _⟩ => ⟨S4x2064x2048, .f32⟩
  | .hbm, ⟨27, _⟩ => ⟨S4x2064x2048, .f32⟩
  | .hbm, ⟨28, _⟩ => ⟨S4x2176x2048, .f32⟩
  | .hbm, ⟨29, _⟩ => ⟨S4x2064x2048, .f32⟩
  | .hbm, ⟨30, _⟩ => ⟨S4x2064x2048, .f32⟩
  | .hbm, ⟨31, _⟩ => ⟨S4x2064x2048, .f32⟩
  | .hbm, ⟨32, _⟩ => ⟨S4x2064x2048, .f32⟩
  | .hbm, ⟨33, _⟩ => ⟨S_, .f32⟩
  | .hbm, ⟨34, _⟩ => ⟨S4x2064, .f32⟩
  | .hbm, ⟨35, _⟩ => ⟨S4x2064x1, .f32⟩
  | .hbm, ⟨36, _⟩ => ⟨S_, .f32⟩
  | .hbm, ⟨37, _⟩ => ⟨S4x2064x1, .f32⟩
  | .hbm, ⟨38, _⟩ => ⟨S4x2064x1, .f32⟩
  | .hbm, ⟨39, _⟩ => ⟨S_, .f32⟩
  | .hbm, ⟨40, _⟩ => ⟨S4x2064x1, .f32⟩
  | .hbm, ⟨41, _⟩ => ⟨S4x2064x1, .f32⟩
  | .hbm, ⟨42, _⟩ => ⟨S4x2064x1, .f32⟩
  | .hbm, ⟨43, _⟩ => ⟨S4x2064x2048, .f32⟩
  | .hbm, ⟨44, _⟩ => ⟨S4x2064x2048, .f32⟩
  | .hbm, ⟨45, _⟩ => ⟨S1x1x2048, .f32⟩
  | .hbm, ⟨46, _⟩ => ⟨S4x2064x2048, .f32⟩
  | .hbm, ⟨47, _⟩ => ⟨S4x2064x2048, .f32⟩
  | .hbm, ⟨48, _⟩ => ⟨S_, .i32⟩
  | .hbm, ⟨49, _⟩ => ⟨S_, .f32⟩
  | .hbm, ⟨50, _⟩ => ⟨S4x2176x2048, .f32⟩
  | .hbm, ⟨51, _⟩ => ⟨S8704x2048, .f32⟩
  | .hbm, ⟨52, _⟩ => ⟨S_, .i32⟩
  | .hbm, ⟨53, _⟩ => ⟨S_, .f32⟩
  | .hbm, ⟨54, _⟩ => ⟨S4x2176x2048, .f32⟩
  | .hbm, ⟨55, _⟩ => ⟨S8704x2048, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_c_2 : Ref sig .tc := ⟨.hbm, 52, rfl⟩
abbrev main_call1_v0 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]
-- ==== Route.lean ====
abbrev S8704x1024 : Shape := ⟨2, ![8704, 1024]⟩
abbrev S8704x4096 : Shape := ⟨2, ![8704, 4096]⟩
abbrev S8704x2048 : Shape := ⟨2, ![8704, 2048]⟩
abbrev S1024x2048 : Shape := ⟨2, ![1024, 2048]⟩
abbrev S2048x2048 : Shape := ⟨2, ![2048, 2048]⟩
abbrev S2048 : Shape := ⟨1, ![2048]⟩
abbrev S2048x8 : Shape := ⟨2, ![2048, 8]⟩
abbrev S8 : Shape := ⟨1, ![8]⟩
abbrev S2048x8x8 : Shape := ⟨3, ![2048, 8, 8]⟩
abbrev S8x8 : Shape := ⟨2, ![8, 8]⟩
abbrev S2048x64 : Shape := ⟨2, ![2048, 64]⟩
abbrev S_ : Shape := ⟨0, ![]⟩
abbrev S2048x56 : Shape := ⟨2, ![2048, 56]⟩
abbrev S2048x128 : Shape := ⟨2, ![2048, 128]⟩
abbrev S64 : Shape := ⟨1, ![64]⟩
abbrev S56 : Shape := ⟨1, ![56]⟩
abbrev S128 : Shape := ⟨1, ![128]⟩
abbrev S1x128 : Shape := ⟨2, ![1, 128]⟩
abbrev S1x2048 : Shape := ⟨2, ![1, 2048]⟩
abbrev S8704x128 : Shape := ⟨2, ![8704, 128]⟩
abbrev S272x1024 : Shape := ⟨2, ![272, 1024]⟩
abbrev S272x2048 : Shape := ⟨2, ![272, 2048]⟩
abbrev S272x128 : Shape := ⟨2, ![272, 128]⟩
abbrev S272x1 : Shape := ⟨2, ![272, 1]⟩
abbrev S272 : Shape := ⟨1, ![272]⟩

abbrev nBuf : Space → Nat
  | .hbm => 32
  | .vmem => 23
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S8704x4096, .bf16⟩
  | .hbm, ⟨3, _⟩ => ⟨S8704x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S2048x8, .f32⟩
  | .hbm, ⟨9, _⟩ => ⟨S8, .f32⟩
  | .hbm, ⟨10, _⟩ => ⟨S2048x8x8, .f32⟩
  | .hbm, ⟨11, _⟩ => ⟨S8x8, .f32⟩
  | .hbm, ⟨12, _⟩ => ⟨S2048x64, .f32⟩
  | .hbm, ⟨13, _⟩ => ⟨S_, .f32⟩
  | .hbm, ⟨14, _⟩ => ⟨S2048x56, .f32⟩
  | .hbm, ⟨15, _⟩ => ⟨S2048x128, .f32⟩
  | .hbm, ⟨16, _⟩ => ⟨S64, .f32⟩
  | .hbm, ⟨17, _⟩ => ⟨S_, .f32⟩
  | .hbm, ⟨18, _⟩ => ⟨S56, .f32⟩
  | .hbm, ⟨19, _⟩ => ⟨S128, .f32⟩
  | .hbm, ⟨20, _⟩ => ⟨S1x128, .f32⟩
  | .hbm, ⟨21, _⟩ => ⟨S2048x128, .bf16⟩
  | .hbm, ⟨22, _⟩ => ⟨S2048x128, .f32⟩
  | .hbm, ⟨23, _⟩ => ⟨S2048x128, .f32⟩
  | .hbm, ⟨24, _⟩ => ⟨S2048x128, .bf16⟩
  | .hbm, ⟨25, _⟩ => ⟨S1024x2048, .bf16⟩
  | .hbm, ⟨26, _⟩ => ⟨S1024x2048, .bf16⟩
  | .hbm, ⟨27, _⟩ => ⟨S2048x2048, .bf16⟩
  | .hbm, ⟨28, _⟩ => ⟨S1x2048, .f32⟩
  | .hbm, ⟨29, _⟩ => ⟨S8704x2048, .f32⟩
  | .hbm, ⟨30, _⟩ => ⟨S8704x2048, .f32⟩
  | .hbm, ⟨31, _⟩ => ⟨S8704x128, .f32⟩
  | .local _ .vmem, ⟨0, _⟩ => ⟨S272x1024, .bf16⟩
  | .local _ .vmem, ⟨1, _⟩ => ⟨S272x1024, .bf16⟩
  | .local _ .vmem, ⟨2, _⟩ => ⟨S272x1024, .bf16⟩
  | .local _ .vmem, ⟨3, _⟩ => ⟨S272x1024, .bf16⟩
  | .local _ .vmem, ⟨4, _⟩ => ⟨S272x2048, .bf16⟩
  | .local _ .vmem, ⟨5, _⟩ => ⟨S272x2048, .bf16⟩
  | .local _ .vmem, ⟨6, _⟩ => ⟨S272x2048, .bf16⟩
  | .local _ .vmem, ⟨7, _⟩ => ⟨S272x2048, .bf16⟩
  | .local _ .vmem, ⟨8, _⟩ => ⟨S272x2048, .f32⟩
  | .local _ .vmem, ⟨9, _⟩ => ⟨S272x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S2048x128, .bf16⟩
  | .local _ .vmem, ⟨15, _⟩ => ⟨S2048x128, .bf16⟩
  | .local _ .vmem, ⟨16, _⟩ => ⟨S1x128, .f32⟩
  | .local _ .vmem, ⟨17, _⟩ => ⟨S272x2048, .f32⟩
  | .local _ .vmem, ⟨18, _⟩ => ⟨S272x2048, .f32⟩
  | .local _ .vmem, ⟨19, _⟩ => ⟨S272x2048, .f32⟩
  | .local _ .vmem, ⟨20, _⟩ => ⟨S272x2048, .f32⟩
  | .local _ .vmem, ⟨21, _⟩ => ⟨S272x128, .f32⟩
  | .local _ .vmem, ⟨22, _⟩ => ⟨S272x128, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S272x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S272x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S272x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S272x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== RefRouteIdeal.lean ====
abbrev S8704x1024 : Shape := ⟨2, ![8704, 1024]⟩
abbrev S8704x4096 : Shape := ⟨2, ![8704, 4096]⟩
abbrev S8704x2048 : Shape := ⟨2, ![8704, 2048]⟩
abbrev S1024x2048 : Shape := ⟨2, ![1024, 2048]⟩
abbrev S2048x2048 : Shape := ⟨2, ![2048, 2048]⟩
abbrev S2048 : Shape := ⟨1, ![2048]⟩
abbrev S2048x8 : Shape := ⟨2, ![2048, 8]⟩
abbrev S8 : Shape := ⟨1, ![8]⟩
abbrev S2048x8x8 : Shape := ⟨3, ![2048, 8, 8]⟩
abbrev S8x8 : Shape := ⟨2, ![8, 8]⟩
abbrev S4x2176x4096 : Shape := ⟨3, ![4, 2176, 4096]⟩
abbrev S4x2064x4096 : Shape := ⟨3, ![4, 2064, 4096]⟩
abbrev S4x2064x2048 : Shape := ⟨3, ![4, 2064, 2048]⟩
abbrev S4x2176x1024 : Shape := ⟨3, ![4, 2176, 1024]⟩
abbrev S4x2064x1024 : Shape := ⟨3, ![4, 2064, 1024]⟩
abbrev S4x2176x2048 : Shape := ⟨3, ![4, 2176, 2048]⟩
abbrev S_ : Shape := ⟨0, ![]⟩
abbrev S4x2064 : Shape := ⟨2, ![4, 2064]⟩
abbrev S4x2064x1 : Shape := ⟨3, ![4, 2064, 1]⟩
abbrev S1x1x2048 : Shape := ⟨3, ![1, 1, 2048]⟩
abbrev S8256x2048 : Shape := ⟨2, ![8256, 2048]⟩
abbrev S8256x8 : Shape := ⟨2, ![8256, 8]⟩
abbrev S1x8 : Shape := ⟨2, ![1, 8]⟩
abbrev S8256x1 : Shape := ⟨2, ![8256, 1]⟩
abbrev S8256 : Shape := ⟨1, ![8256]⟩
abbrev S8256x8x8 : Shape := ⟨3, ![8256, 8, 8]⟩
abbrev S1x8x8 : Shape := ⟨3, ![1, 8, 8]⟩
abbrev S8256x1x1 : Shape := ⟨3, ![8256, 1, 1]⟩
abbrev S1 : Shape := ⟨1, ![1]⟩
abbrev S1x1x1 : Shape := ⟨3, ![1, 1, 1]⟩
abbrev S8256x1x8 : Shape := ⟨3, ![8256, 1, 8]⟩
abbrev S8256x2 : Shape := ⟨2, ![8256, 2]⟩
abbrev S4x2064x2 : Shape := ⟨3, ![4, 2064, 2]⟩
abbrev S4x2176x2 : Shape := ⟨3, ![4, 2176, 2]⟩
abbrev S8704x2 : Shape := ⟨2, ![8704, 2]⟩
abbrev S8704x4 : Shape := ⟨2, ![8704, 4]⟩
abbrev S8704x128 : Shape := ⟨2, ![8704, 128]⟩

abbrev nBuf : Space → Nat
  | .hbm => 137
  | .vmem => 0
  | .smem => 0
  | _ => 0

abbrev hbmTy0_0 (i : Nat) : BufTy := match i % 128 with
  | 0 => ⟨S8704x1024, .bf16⟩
  | 1 => ⟨S8704x1024, .bf16⟩
  | 2 => ⟨S8704x4096, .bf16⟩
  | 3 => ⟨S8704x2048, .f32⟩
  | 4 => ⟨S1024x2048, .f32⟩
  | 5 => ⟨S1024x2048, .f32⟩
  | 6 => ⟨S2048x2048, .f32⟩
  | 7 => ⟨S2048, .f32⟩
  | 8 => ⟨S2048x8, .f32⟩
  | 9 => ⟨S8, .f32⟩
  | 10 => ⟨S2048x8x8, .f32⟩
  | 11 => ⟨S8x8, .f32⟩
  | 12 => ⟨S4x2176x4096, .bf16⟩
  | 13 => ⟨S4x2064x4096, .bf16⟩
  | 14 => ⟨S4x2064x4096, .f32⟩
  | 15 => ⟨S4x2064x2048, .f32⟩
  | 16 => ⟨S4x2064x2048, .f32⟩
  | 17 => ⟨S4x2176x1024, .bf16⟩
  | 18 => ⟨S4x2064x1024, .bf16⟩
  | 19 => ⟨S4x2064x1024, .f32⟩
  | 20 => ⟨S4x2176x1024, .bf16⟩
  | 21 => ⟨S4x2064x1024, .bf16⟩
  | 22 => ⟨S4x2064x1024, .f32⟩
  | 23 => ⟨S4x2064x2048, .f32⟩
  | 24 => ⟨S4x2064x2048, .f32⟩
  | 25 => ⟨S4x2064x2048, .f32⟩
  | 26 => ⟨S4x2064x2048, .f32⟩
  | 27 => ⟨S4x2064x2048, .f32⟩
  | 28 => ⟨S4x2176x2048, .f32⟩
  | 29 => ⟨S4x2064x2048, .f32⟩
  | 30 => ⟨S4x2064x2048, .f32⟩
  | 31 => ⟨S4x2064x2048, .f32⟩
  | 32 => ⟨S4x2064x2048, .f32⟩
  | 33 => ⟨S_, .f32⟩
  | 34 => ⟨S4x2064, .f32⟩
  | 35 => ⟨S4x2064x1, .f32⟩
  | 36 => ⟨S_, .f32⟩
  | 37 => ⟨S4x2064x1, .f32⟩
  | 38 => ⟨S4x2064x1, .f32⟩
  | 39 => ⟨S_, .f32⟩
  | 40 => ⟨S4x2064x1, .f32⟩
  | 41 => ⟨S4x2064x1, .f32⟩
  | 42 => ⟨S4x2064x1, .f32⟩
  | 43 => ⟨S4x2064x2048, .f32⟩
  | 44 => ⟨S4x2064x2048, .f32⟩
  | 45 => ⟨S1x1x2048, .f32⟩
  | 46 => ⟨S4x2064x2048, .f32⟩
  | 47 => ⟨S4x2064x2048, .f32⟩
  | 48 => ⟨S8256x2048, .f32⟩
  | 49 => ⟨S8256x8, .f32⟩
  | 50 => ⟨S1x8, .f32⟩
  | 51 => ⟨S8256x8, .f32⟩
  | 52 => ⟨S8256x8, .f32⟩
  | 53 => ⟨S8256x1, .f32⟩
  | 54 => ⟨S8256x1, .i32⟩
  | 55 => ⟨S8256, .i32⟩
  | 56 => ⟨S_, .f32⟩
  | 57 => ⟨S8256, .f32⟩
  | 58 => ⟨S8256x1, .f32⟩
  | 59 => ⟨S8256x8, .f32⟩
  | 60 => ⟨S8256x8, .f32⟩
  | 61 => ⟨S8256x8, .f32⟩
  | 62 => ⟨S_, .f32⟩
  | 63 => ⟨S8256, .f32⟩
  | 64 => ⟨S8256, .f32⟩
  | 65 => ⟨S8256, .f32⟩
  | 66 => ⟨S8256, .f32⟩
  | 67 => ⟨S8256, .f32⟩
  | 68 => ⟨S8256, .f32⟩
  | 69 => ⟨S8256x8x8, .f32⟩
  | 70 => ⟨S1x8x8, .f32⟩
  | 71 => ⟨S8256x8x8, .f32⟩
  | 72 => ⟨S8256x8x8, .f32⟩
  | 73 => ⟨S8256x1x1, .i32⟩
  | 74 => ⟨S_, .i32⟩
  | 75 => ⟨S8256x1x1, .i32⟩
  | 76 => ⟨S8256x1x1, .i1⟩
  | 77 => ⟨S_, .i32⟩
  | 78 => ⟨S8256x1x1, .i32⟩
  | 79 => ⟨S8256x1x1, .i32⟩
  | 80 => ⟨S8256x1x1, .i32⟩
  | 81 => ⟨S1, .i32⟩
  | 82 => ⟨S_, .i32⟩
  | 83 => ⟨S8256x1x1, .i32⟩
  | 84 => ⟨S8256x1x1, .i1⟩
  | 85 => ⟨S1x1x1, .i32⟩
  | 86 => ⟨S8256x1x1, .i32⟩
  | 87 => ⟨S8256x1x1, .i1⟩
  | 88 => ⟨S8256x1x1, .i1⟩
  | 89 => ⟨S_, .i1⟩
  | 90 => ⟨S8256x1, .i1⟩
  | 91 => ⟨S8256x1x8, .f32⟩
  | 92 => ⟨S8256x1x8, .i1⟩
  | 93 => ⟨S_, .f32⟩
  | 94 => ⟨S8256x1x8, .f32⟩
  | 95 => ⟨S8256x1x8, .f32⟩
  | 96 => ⟨S8256x8, .f32⟩
  | 97 => ⟨S8256x2, .f32⟩
  | 98 => ⟨S8256x2, .i32⟩
  | 99 => ⟨S_, .f32⟩
  | 100 => ⟨S8256, .f32⟩
  | 101 => ⟨S_, .f32⟩
  | 102 => ⟨S8256, .f32⟩
  | 103 => ⟨S8256, .f32⟩
  | 104 => ⟨S8256x1, .f32⟩
  | 105 => ⟨S8256x2, .f32⟩
  | 106 => ⟨S8256x2, .f32⟩
  | 107 => ⟨S8256x2, .f32⟩
  | 108 => ⟨S_, .f32⟩
  | 109 => ⟨S8256, .f32⟩
  | 110 => ⟨S8256x1, .f32⟩
  | 111 => ⟨S8256x2, .f32⟩
  | 112 => ⟨S8256x2, .f32⟩
  | 113 => ⟨S8256x1, .f32⟩
  | 114 => ⟨S8256x2, .f32⟩
  | 115 => ⟨S8256x2, .f32⟩
  | 116 => ⟨S8256x1, .i32⟩
  | 117 => ⟨S_, .i32⟩
  | 118 => ⟨S8256x1, .i32⟩
  | 119 => ⟨S8256x1, .i32⟩
  | 120 => ⟨S8256x2, .i32⟩
  | 121 => ⟨S8256x2, .i32⟩
  | 122 => ⟨S4x2064x2, .i32⟩
  | 123 => ⟨S_, .i32⟩
  | 124 => ⟨S_, .i32⟩
  | 125 => ⟨S4x2176x2, .i32⟩
  | 126 => ⟨S8704x2, .i32⟩
  | 127 => ⟨S8704x2, .f32⟩
  | _ => ⟨S8704x1024, .bf16⟩

abbrev hbmTy0_1 (i : Nat) : BufTy := match i % 128 with
  | 0 => ⟨S4x2064x2, .f32⟩
  | 1 => ⟨S_, .f32⟩
  | 2 => ⟨S_, .f32⟩
  | 3 => ⟨S4x2176x2, .f32⟩
  | 4 => ⟨S8704x2, .f32⟩
  | 5 => ⟨S8704x4, .f32⟩
  | 6 => ⟨S_, .i32⟩
  | 7 => ⟨S_, .f32⟩
  | 8 => ⟨S8704x128, .f32⟩
  | _ => ⟨S8704x1024, .bf16⟩

abbrev hbmTy (i : Nat) : BufTy := match i / 128 with
  | 0 => hbmTy0_0 i
  | 1 => hbmTy0_1 i
  | _ => ⟨S8704x1024, .bf16⟩

abbrev bufTy : (tb : Table) → Fin (tcTables nBuf tb) → BufTy
  | .hbm, ⟨i, _⟩ => hbmTy i
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_values : Ref sig .tc := ⟨.hbm, 53, rfl⟩
abbrev main_indices : Ref sig .tc := ⟨.hbm, 54, rfl⟩
abbrev main_v38 : Ref sig .tc := ⟨.hbm, 55, rfl⟩
abbrev main_cst_2 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_3 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_call0_c : Ref sig .tc := ⟨.hbm, 74, rfl⟩
abbrev main_call0_v0 : Ref sig .tc := ⟨.hbm, 75, rfl⟩
abbrev main_call0_v1 : Ref sig .tc := ⟨.hbm, 76, rfl⟩
abbrev main_call0_c_0 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_c_1 : Ref sig .tc := ⟨.hbm, 81, rfl⟩
abbrev main_call0_c_2 : Ref sig .tc := ⟨.hbm, 82, rfl⟩
abbrev main_call0_v5 : Ref sig .tc := ⟨.hbm, 83, rfl⟩
abbrev main_call0_v6 : Ref sig .tc := ⟨.hbm, 84, rfl⟩
abbrev main_call0_v7 : Ref sig .tc := ⟨.hbm, 85, rfl⟩
abbrev main_call0_v8 : Ref sig .tc := ⟨.hbm, 86, rfl⟩
abbrev main_call0_v9 : Ref sig .tc := ⟨.hbm, 87, rfl⟩
abbrev main_call0_v10 : Ref sig .tc := ⟨.hbm, 88, rfl⟩
abbrev main_call0_c_3 : Ref sig .tc := ⟨.hbm, 89, rfl⟩
abbrev main_call0_v11 : Ref sig .tc := ⟨.hbm, 90, rfl⟩
abbrev main_call0_v12 : Ref sig .tc := ⟨.hbm, 91, rfl⟩
abbrev main_call0_v13 : Ref sig .tc := ⟨.hbm, 92, rfl⟩
abbrev main_call0_cst : Ref sig .tc := ⟨.hbm, 93, rfl⟩
abbrev main_call0_v14 : Ref sig .tc := ⟨.hbm, 94, rfl⟩
abbrev main_v55 : Ref sig .tc := ⟨.hbm, 95, rfl⟩
abbrev main_v56 : Ref sig .tc := ⟨.hbm, 96, rfl⟩
abbrev main_values_4 : Ref sig .tc := ⟨.hbm, 97, rfl⟩
abbrev main_indices_5 : Ref sig .tc := ⟨.hbm, 98, rfl⟩
abbrev main_cst_6 : Ref sig .tc := ⟨.hbm, 99, rfl⟩
abbrev main_v57 : Ref sig .tc := ⟨.hbm, 100, rfl⟩
abbrev main_cst_7 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_8 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_c : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_c_9 : Ref sig .tc := ⟨.hbm, 123, rfl⟩
abbrev main_call1_v0 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_cst_10 : Ref sig .tc := ⟨.hbm, 129, rfl⟩
abbrev main_call2_v0 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_c_11 : Ref sig .tc := ⟨.hbm, 134, rfl⟩
abbrev main_call3_v0 : Ref sig .tc := ⟨.hbm, 135, rfl⟩
abbrev main_v84 : Ref sig .tc := ⟨.hbm, 136, rfl⟩

abbrev nD : Nat := 1
abbrev τ : Topo := Topo.v7x

variable {F : FTy → Type} [FloatOps F]
-- ==== Rwkv.lean ====
abbrev S8704x3328 : Shape := ⟨2, ![8704, 3328]⟩
abbrev S3264 : Shape := ⟨1, ![3264]⟩
abbrev S1024 : Shape := ⟨1, ![1024]⟩
abbrev S64x1024 : Shape := ⟨2, ![64, 1024]⟩
abbrev S16x64 : Shape := ⟨2, ![16, 64]⟩
abbrev S_ : Shape := ⟨0, ![]⟩
abbrev S64 : Shape := ⟨1, ![64]⟩
abbrev S3328 : Shape := ⟨1, ![3328]⟩
abbrev S1x3328 : Shape := ⟨2, ![1, 3328]⟩
abbrev S1x1024 : Shape := ⟨2, ![1, 1024]⟩
abbrev S8x1024 : Shape := ⟨2, ![8, 1024]⟩
abbrev S256x1024 : Shape := ⟨2, ![256, 1024]⟩
abbrev S1 : Shape := ⟨1, ![1]⟩
abbrev S4x2176x3328 : Shape := ⟨3, ![4, 2176, 3328]⟩
abbrev S4x2176x1024 : Shape := ⟨3, ![4, 2176, 1024]⟩
abbrev S4x64x3328 : Shape := ⟨3, ![4, 64, 3328]⟩
abbrev S4x8x3328 : Shape := ⟨3, ![4, 8, 3328]⟩
abbrev S4x64x1024 : Shape := ⟨3, ![4, 64, 1024]⟩
abbrev S32x128x128 : Shape := ⟨3, ![32, 128, 128]⟩
abbrev S256x3328 : Shape := ⟨2, ![256, 3328]⟩
abbrev S256x1 : Shape := ⟨2, ![256, 1]⟩
abbrev S1x1x3328 : Shape := ⟨3, ![1, 1, 3328]⟩
abbrev S256x256 : Shape := ⟨2, ![256, 256]⟩
abbrev S128x128 : Shape := ⟨2, ![128, 128]⟩
abbrev S2048x256 : Shape := ⟨2, ![2048, 256]⟩
abbrev S64x128 : Shape := ⟨2, ![64, 128]⟩
abbrev S128x256 : Shape := ⟨2, ![128, 256]⟩
abbrev S64x256 : Shape := ⟨2, ![64, 256]⟩
abbrev S1x128x128 : Shape := ⟨3, ![1, 128, 128]⟩
abbrev S1x128 : Shape := ⟨2, ![1, 128]⟩
abbrev S192x128 : Shape := ⟨2, ![192, 128]⟩
abbrev S1024x256 : Shape := ⟨2, ![1024, 256]⟩

abbrev nBuf : Space → Nat
  | .hbm => 49
  | .vmem => 14
  | .smem => 0
  | _ => 0

abbrev bufTy : (tb : Table) → Fin (tcTables nBuf tb) → BufTy
  | .hbm, ⟨0, _⟩ => ⟨S8704x3328, .f32⟩
  | .hbm, ⟨1, _⟩ => ⟨S3264, .f32⟩
  | .hbm, ⟨2, _⟩ => ⟨S1024, .f32⟩
  | .hbm, ⟨3, _⟩ => ⟨S64x1024, .f32⟩
  | .hbm, ⟨4, _⟩ => ⟨S1024, .f32⟩
  | .hbm, ⟨5, _⟩ => ⟨S64x1024, .f32⟩
  | .hbm, ⟨6, _⟩ => ⟨S64x1024, .f32⟩
  | .hbm, ⟨7, _⟩ => ⟨S1024, .f32⟩
  | .hbm, ⟨8, _⟩ => ⟨S1024, .f32⟩
  | .hbm, ⟨9, _⟩ => ⟨S16x64, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S64, .f32⟩
  | .hbm, ⟨14, _⟩ => ⟨S3328, .f32⟩
  | .hbm, ⟨15, _⟩ => ⟨S1x3328, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S8x1024, .f32⟩
  | .hbm, ⟨28, _⟩ => ⟨S_, .f32⟩
  | .hbm, ⟨29, _⟩ => ⟨S256x1024, .f32⟩
  | .hbm, ⟨30, _⟩ => ⟨S_, .i32⟩
  | .hbm, ⟨31, _⟩ => ⟨S1, .i32⟩
  | .hbm, ⟨32, _⟩ => ⟨S256x1024, .f32⟩
  | .hbm, ⟨33, _⟩ => ⟨S256x1024, .bf16⟩
  | .hbm, ⟨34, _⟩ => ⟨S_, .f32⟩
  | .hbm, ⟨35, _⟩ => ⟨S256x1024, .f32⟩
  | .hbm, ⟨36, _⟩ => ⟨S_, .i32⟩
  | .hbm, ⟨37, _⟩ => ⟨S1, .i32⟩
  | .hbm, ⟨38, _⟩ => ⟨S256x1024, .f32⟩
  | .hbm, ⟨39, _⟩ => ⟨S256x1024, .bf16⟩
  | .hbm, ⟨40, _⟩ => ⟨S_, .f32⟩
  | .hbm, ⟨41, _⟩ => ⟨S256x1024, .f32⟩
  | .hbm, ⟨42, _⟩ => ⟨S_, .i32⟩
  | .hbm, ⟨43, _⟩ => ⟨S1, .i32⟩
  | .hbm, ⟨44, _⟩ => ⟨S256x1024, .f32⟩
  | .hbm, ⟨45, _⟩ => ⟨S256x1024, .bf16⟩
  | .hbm, ⟨46, _⟩ => ⟨S4x2176x3328, .f32⟩
  | .hbm, ⟨47, _⟩ => ⟨S4x2176x1024, .bf16⟩
  | .hbm, ⟨48, _⟩ => ⟨S4x2176x1024, .f32⟩
  | .local _ .vmem, ⟨0, _⟩ => ⟨S4x64x3328, .f32⟩
  | .local _ .vmem, ⟨1, _⟩ => ⟨S4x64x3328, .f32⟩
  | .local _ .vmem, ⟨2, _⟩ => ⟨S4x8x3328, .f32⟩
  | .local _ .vmem, ⟨3, _⟩ => ⟨S4x8x3328, .f32⟩
  | .local _ .vmem, ⟨4, _⟩ => ⟨S1x3328, .f32⟩
  | .local _ .vmem, ⟨5, _⟩ => ⟨S8x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S4x64x1024, .bf16⟩
  | .local _ .vmem, ⟨10, _⟩ => ⟨S4x64x1024, .bf16⟩
  | .local _ .vmem, ⟨11, _⟩ => ⟨S4x64x1024, .f32⟩
  | .local _ .vmem, ⟨12, _⟩ => ⟨S4x64x1024, .f32⟩
  | .local _ .vmem, ⟨13, _⟩ => ⟨S32x128x128, .f32⟩
  | _, _ => ⟨S8704x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27_0 : Ref sig .tc := ⟨.hbm, 47, rfl⟩
abbrev main_v27_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![1, 34], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x64x3328 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x8x3328 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x3328 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S4x64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefRwkvFirstIdeal.lean ====
abbrev S8704x3328 : Shape := ⟨2, ![8704, 3328]⟩
abbrev S3264 : Shape := ⟨1, ![3264]⟩
abbrev S1024 : Shape := ⟨1, ![1024]⟩
abbrev S64x1024 : Shape := ⟨2, ![64, 1024]⟩
abbrev S16x64 : Shape := ⟨2, ![16, 64]⟩
abbrev S4x2176x3328 : Shape := ⟨3, ![4, 2176, 3328]⟩
abbrev S4x2176x3264 : Shape := ⟨3, ![4, 2176, 3264]⟩
abbrev S_ : Shape := ⟨0, ![]⟩
abbrev S4x2177x3264 : Shape := ⟨3, ![4, 2177, 3264]⟩
abbrev S1x1x3264 : Shape := ⟨3, ![1, 1, 3264]⟩
abbrev S4x2176x1024 : Shape := ⟨3, ![4, 2176, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8704x3328, .f32⟩
  | .hbm, ⟨1, _⟩ => ⟨S3264, .f32⟩
  | .hbm, ⟨2, _⟩ => ⟨S1024, .f32⟩
  | .hbm, ⟨3, _⟩ => ⟨S64x1024, .f32⟩
  | .hbm, ⟨4, _⟩ => ⟨S1024, .f32⟩
  | .hbm, ⟨5, _⟩ => ⟨S64x1024, .f32⟩
  | .hbm, ⟨6, _⟩ => ⟨S64x1024, .f32⟩
  | .hbm, ⟨7, _⟩ => ⟨S1024, .f32⟩
  | .hbm, ⟨8, _⟩ => ⟨S1024, .f32⟩
  | .hbm, ⟨9, _⟩ => ⟨S16x64, .f32⟩
  | .hbm, ⟨10, _⟩ => ⟨S1024, .f32⟩
  | .hbm, ⟨11, _⟩ => ⟨S1024, .f32⟩
  | .hbm, ⟨12, _⟩ => ⟨S4x2176x3328, .f32⟩
  | .hbm, ⟨13, _⟩ => ⟨S4x2176x3264, .f32⟩
  | .hbm, ⟨14, _⟩ => ⟨S_, .i32⟩
  | .hbm, ⟨15, _⟩ => ⟨S_, .f32⟩
  | .hbm, ⟨16, _⟩ => ⟨S4x2177x3264, .f32⟩
  | .hbm, ⟨17, _⟩ => ⟨S4x2176x3264, .f32⟩
  | .hbm, ⟨18, _⟩ => ⟨S4x2176x3264, .f32⟩
  | .hbm, ⟨19, _⟩ => ⟨S1x1x3264, .f32⟩
  | .hbm, ⟨20, _⟩ => ⟨S4x2176x3264, .f32⟩
  | .hbm, ⟨21, _⟩ => ⟨S4x2176x3264, .f32⟩
  | .hbm, ⟨22, _⟩ => ⟨S4x2176x3264, .f32⟩
  | .hbm, ⟨23, _⟩ => ⟨S4x2176x1024, .f32⟩
  | _, _ => ⟨S8704x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩

abbrev nD : Nat := 1
abbrev τ : Topo := Topo.v7x

variable {F : FTy → Type} [FloatOps F]
-- ==== Proof.Attn.Core.lean ====
/- Softmax with one extra logit, over the extended reals: the sum over all columns of a block row, masked columns at
   `-∞`, is the sum over the columns the mask keeps. -/
module

public import Idealize.ShloMosaic.PureOps
public import Idealize.ShloMosaic.PureOps.Ideal.Laws

@[expose] public section

noncomputable section

namespace Cert.Attn

open Idealize.ShloMosaic Finset

/-- A finite extended real. -/
def Fini (x : EReal) : Prop := ∃ r : ℝ, x = (r : EReal)

theorem Fini.coe (r : ℝ) : Fini (r : EReal) := ⟨r, rfl⟩
theorem Fini.zero : Fini 0 := ⟨0, rfl⟩
theorem Fini.add {x y : EReal} (hx : Fini x) (hy : Fini y) : Fini (x + y) := by
  obtain ⟨a, rfl⟩ := hx; obtain ⟨b, rfl⟩ := hy; exact ⟨a + b, (EReal.coe_add a b).symm⟩
theorem Fini.mul {x y : EReal} (hx : Fini x) (hy : Fini y) : Fini (x * y) := by
  obtain ⟨a, rfl⟩ := hx; obtain ⟨b, rfl⟩ := hy; exact ⟨a * b, (EReal.coe_mul a b).symm⟩
theorem Fini.sub {x y : EReal} (hx : Fini x) (hy : Fini y) : Fini (x - y) := by
  obtain ⟨a, rfl⟩ := hx; obtain ⟨b, rfl⟩ := hy; exact ⟨a - b, (EReal.coe_sub a b).symm⟩
theorem Fini.sum {ι : Type} (s : Finset ι) (f : ι → EReal) (h : ∀ i ∈ s, Fini (f i)) : Fini (∑ i ∈ s, f i) := by
  classical
  induction s using Finset.induction_on with
  | empty => simpa using Fini.zero
  | insert a s ha ih =>
    rw [Finset.sum_insert ha]
    exact (h a (Finset.mem_insert_self _ _)).add (ih fun i hi => h i (Finset.mem_insert_of_mem hi))
theorem Fini.ne_top {x : EReal} (h : Fini x) : x ≠ ⊤ := by obtain ⟨a, rfl⟩ := h; exact EReal.coe_ne_top a
theorem Fini.ne_bot {x : EReal} (h : Fini x) : x ≠ ⊥ := by obtain ⟨a, rfl⟩ := h; exact EReal.coe_ne_bot a
theorem Fini.of_ne {x : EReal} (h : x ≠ ⊤) (h' : x ≠ ⊥) : Fini x := ⟨x.toReal, (EReal.coe_toReal h h').symm⟩

/-- A nonnegative finite factor distributes over a sum of extended reals. -/
theorem sum_mul_coe {ι : Type} (s : Finset ι) (f : ι → EReal) (a : ℝ) (ha : 0 ≤ a) :
    (∑ i ∈ s, f i) * (a : EReal) = ∑ i ∈ s, f i * (a : EReal) := by
  classical
  induction s using Finset.induction_on with
  | empty => simp
  | insert b s hb ih =>
    rw [Finset.sum_insert hb, Finset.sum_insert hb, ← ih]
    exact EReal.right_distrib_of_nonneg_of_ne_top (EReal.coe_nonneg.2 ha) (EReal.coe_ne_top a) _ _

theorem exp_nonneg (x : EReal) : 0 ≤ Ideal.exp x := by
  induction x using EReal.rec with
  | bot => simp
  | top => simp
  | coe r => rw [Ideal.exp_coe]; exact EReal.coe_nonneg.2 (Real.exp_pos r).le

theorem exp_pos_of_fini {x : EReal} (h : Fini x) : 0 < Ideal.exp x := by
  obtain ⟨r, rfl⟩ := h; rw [Ideal.exp_coe]; exact EReal.coe_pos.2 (Real.exp_pos r)

theorem bot_sub (x : EReal) : (⊥ : EReal) - x = ⊥ := by rw [sub_eq_add_neg, EReal.bot_add]

theorem div_zero_left {y : EReal} (h : y ≠ 0) : Ideal.div 0 y = 0 := by
  unfold Ideal.div; rw [if_neg h, zero_mul]

/-- The greatest of `n` logits and of an extra one. -/
def top (n : ℕ) (s : ℕ → EReal) (t : EReal) : EReal := max ((range n).fold max ⊥ s) t
/-- The normaliser. -/
def den (n : ℕ) (s : ℕ → EReal) (t : EReal) : EReal :=
  (∑ c ∈ range n, Ideal.exp (s c - top n s t)) + Ideal.exp (t - top n s t)
/-- The softmax-weighted sum of `v`, the extra logit carrying no value. -/
def att (n : ℕ) (s : ℕ → EReal) (t : EReal) (v : ℕ → EReal) : EReal :=
  ∑ c ∈ range n, Ideal.div (Ideal.exp (s c - top n s t)) (den n s t) * v c

theorem top_le {n : ℕ} {s : ℕ → EReal} {t b : EReal} : top n s t ≤ b ↔ (∀ c < n, s c ≤ b) ∧ t ≤ b := by
  unfold top
  rw [max_le_iff, Finset.fold_max_le]
  simp

theorem fold_univ_eq (n : ℕ) (s : ℕ → EReal) :
    (Finset.univ : Finset (Fin n)).fold max ⊥ (fun k => s k.val) = (range n).fold max ⊥ s := by
  refine eq_of_forall_ge_iff fun b => ?_
  rw [Finset.fold_max_le, Finset.fold_max_le]
  simp only [bot_le, true_and, Finset.mem_univ, forall_const, Finset.mem_range]
  exact ⟨fun h c hc => h ⟨c, hc⟩, fun h c => h c.val c.isLt⟩

/-- With finite logits (or `-∞`) and a finite extra one, the greatest is finite and the normaliser not zero. -/
theorem top_fini {n : ℕ} {s : ℕ → EReal} {t : EReal} (hs : ∀ c < n, s c ≠ ⊤) (ht : Fini t) : Fini (top n s t) := by
  refine Fini.of_ne (fun h => ?_) (fun h => ?_)
  · have : top n s t < ⊤ := by
      unfold top
      rw [max_lt_iff, Finset.fold_max_lt]
      refine ⟨⟨bot_lt_top, fun c hc => lt_top_iff_ne_top.2 (hs c (Finset.mem_range.1 hc))⟩, lt_top_iff_ne_top.2 ht.ne_top⟩
    exact this.ne h
  · have : t ≤ top n s t := (top_le.1 le_rfl).2
    rw [h] at this
    exact ht.ne_bot (le_bot_iff.1 this)

theorem den_ne_zero {n : ℕ} {s : ℕ → EReal} {t : EReal} (hs : ∀ c < n, s c ≠ ⊤) (ht : Fini t) : den n s t ≠ 0 := by
  refine ne_of_gt ?_
  unfold den
  calc (0 : EReal) < Ideal.exp (t - top n s t) := exp_pos_of_fini (ht.sub (top_fini hs ht))
    _ ≤ _ := le_add_of_nonneg_left (Finset.sum_nonneg fun c _ => exp_nonneg _)

/-- A row whose columns are all masked gives zero. -/
theorem att_masked {n : ℕ} {s : ℕ → EReal} {t : EReal} {v : ℕ → EReal} (ht : Fini t) (h : ∀ c < n, s c = ⊥) :
    att n s t v = 0 := by
  have hs : ∀ c < n, s c ≠ ⊤ := fun c hc => by rw [h c hc]; exact bot_ne_top
  refine Finset.sum_eq_zero fun c hc => ?_
  rw [h c (Finset.mem_range.1 hc), bot_sub, Ideal.exp_bot, div_zero_left (den_ne_zero hs ht), zero_mul]

theorem sum_384 (f : ℕ → EReal) : ∑ c ∈ range 384, f c =
    (∑ m ∈ range 16, f (368 + m)) + ((∑ c ∈ range 256, f c) + ∑ j ∈ range 112, f (256 + j)) := by
  rw [show (384 : ℕ) = 256 + 112 + 16 from rfl, Finset.sum_range_add, Finset.sum_range_add, add_comm]

theorem sum_273 (f : ℕ → EReal) : ∑ c ∈ range 273, f c =
    (∑ m ∈ range 16, f m) + (∑ c ∈ range 256, f (16 + c)) + f 272 := by
  rw [show (273 : ℕ) = 16 + 256 + 1 from rfl, Finset.sum_range_add, Finset.sum_range_add]
  simp

/-- Two spellings of one attention row: `s`, `v` over 384 columns of which the first 256 are a band, the next 112 are
    masked and the last 16 are leading columns; `u` over the 16 leading columns, the band and the extra logit. Where a
    band column is masked its value is free. -/
theorem att_eq (s v u vm vb : ℕ → EReal) (t : EReal) (ht : Fini t) (hs : ∀ c < 384, s c ≠ ⊤)
    (hm : ∀ m < 16, u m = s (368 + m)) (hb : ∀ c < 256, u (16 + c) = s c) (ht' : u 272 = t)
    (h0 : ∀ j < 112, s (256 + j) = ⊥)
    (hvm : ∀ m < 16, vm m = v (368 + m)) (hvb : ∀ c < 256, s c = ⊥ ∨ vb c = v c) (M D : EReal)
    (hM : M = (range 273).fold max ⊥ u) (hD : D = ∑ c ∈ range 273, Ideal.exp (u c - M)) :
    att 384 s t v = (∑ m ∈ range 16, Ideal.div (Ideal.exp (u m - M)) D * vm m)
      + ∑ c ∈ range 256, Ideal.div (Ideal.exp (u (16 + c) - M)) D * vb c := by
  have eM : M = top 384 s t := by
    rw [hM]
    refine eq_of_forall_ge_iff fun b => ?_
    rw [top_le, Finset.fold_max_le]
    simp only [bot_le, true_and, Finset.mem_range]
    constructor
    · intro h
      refine ⟨fun c hc => ?_, ?_⟩
      · by_cases h1 : c < 256
        · rw [← hb c h1]; exact h _ (by omega)
        · by_cases h2 : c < 368
          · rw [show c = 256 + (c - 256) by omega, h0 _ (by omega)]; exact bot_le
          · rw [show c = 368 + (c - 368) by omega, ← hm _ (by omega)]; exact h _ (by omega)
      · rw [← ht']; exact h _ (by omega)
    · rintro ⟨h, h'⟩ c hc
      by_cases h1 : c < 16
      · rw [hm c h1]; exact h _ (by omega)
      · by_cases h2 : c < 272
        · rw [show c = 16 + (c - 16) by omega, hb _ (by omega)]; exact h _ (by omega)
        · rw [show c = 272 by omega, ht']; exact h'
  have eD : D = den 384 s t := by
    rw [hD, eM]
    unfold den
    rw [sum_384, sum_273, ht']
    congr 1
    rw [show (∑ j ∈ range 112, Ideal.exp (s (256 + j) - top 384 s t)) = 0 from
      Finset.sum_eq_zero fun j hj => by rw [h0 j (Finset.mem_range.1 hj), bot_sub, Ideal.exp_bot], add_zero]
    congr 1
    · exact Finset.sum_congr rfl fun m hm' => by rw [hm m (Finset.mem_range.1 hm')]
    · exact Finset.sum_congr rfl fun c hc => by rw [hb c (Finset.mem_range.1 hc)]
  have hd := den_ne_zero hs ht
  unfold att
  rw [sum_384, eM, eD]
  rw [show (∑ j ∈ range 112, Ideal.div (Ideal.exp (s (256 + j) - top 384 s t)) (den 384 s t) * v (256 + j)) = 0 from
    Finset.sum_eq_zero fun j hj => by
      rw [h0 j (Finset.mem_range.1 hj), bot_sub, Ideal.exp_bot, div_zero_left hd, zero_mul], add_zero]
  congr 1
  · exact Finset.sum_congr rfl fun m hm' => by rw [hm m (Finset.mem_range.1 hm'), hvm m (Finset.mem_range.1 hm')]
  · refine Finset.sum_congr rfl fun c hc => ?_
    rw [hb c (Finset.mem_range.1 hc)]
    rcases hvb c (Finset.mem_range.1 hc) with h | h
    · rw [h, bot_sub, Ideal.exp_bot, div_zero_left hd, zero_mul, zero_mul]
    · rw [h]

end Cert.Attn

end
-- ==== Proof.Attn.Out.lean ====
module

public import proofs.«01_k».proof.Proof.Gen.KernelIdeal.Value
public import Idealize.ShloMosaic.Lib.ValueIdx

@[expose] public section

/-! What one grid step of the attention kernel writes, as one composite of its blocks: the rotated queries and keys,
    the mask, the four groups of heads, and the block of outputs they make. -/

noncomputable section

namespace Cert.Attn

open Cert.KernelIdeal Cert.KernelIdeal.Gen Idealize.ShloMosaic Idealize.ShloMosaic.TcCoe Idealize.SL.Sem Idealize.ShloMosaic.Tactic
open Idealize.ShloMosaic.Pipeline (Dat)
open Idealize.ShloMosaic.ValueIdx

variable {F : FTy → Type} [FloatOps F] [Named F]

/-- One of the three tables of a block of rope tables. -/
def tab (x : Vec F S1x128x128 .f32) : FVec F S128x128 .f32 := shapeCast S128x128 x shapeCasts_S1x128x128_S128x128

/-- The rope of two heads standing side by side. -/
def ropeC (v c lo hi : FVec F S128x128 .f32) : FVec F S128x128 .f32 :=
  addf (addf (mulf v c) (mulf (dynamicRotate 1 120#32 none v rotates_S128x128_d1) lo))
    (mulf (dynamicRotate 1 8#32 none v rotates_S128x128_d1) hi)

/-- The rotated queries of a block of rows, two heads at a time. -/
def qPiece (x1 : Vec F S128x1024 .f32) (c lo hi : FVec F S128x128 .f32) : Fin 8 → FVec F S128x128 .f32 :=
  ![ropeC (extractStridedSlice S128x128 ![0, 0] x1 slices_S128x1024_o0_0_S128x128) c lo hi,
    ropeC (extractStridedSlice S128x128 ![0, 128] x1 slices_S128x1024_o0_128_S128x128) c lo hi,
    ropeC (extractStridedSlice S128x128 ![0, 256] x1 slices_S128x1024_o0_256_S128x128) c lo hi,
    ropeC (extractStridedSlice S128x128 ![0, 384] x1 slices_S128x1024_o0_384_S128x128) c lo hi,
    ropeC (extractStridedSlice S128x128 ![0, 512] x1 slices_S128x1024_o0_512_S128x128) c lo hi,
    ropeC (extractStridedSlice S128x128 ![0, 640] x1 slices_S128x1024_o0_640_S128x128) c lo hi,
    ropeC (extractStridedSlice S128x128 ![0, 768] x1 slices_S128x1024_o0_768_S128x128) c lo hi,
    ropeC (extractStridedSlice S128x128 ![0, 896] x1 slices_S128x1024_o0_896_S128x128) c lo hi]

/-- The rotated queries, scaled by an eighth. -/
def qRot (x1 : Vec F S128x1024 .f32) (c lo hi : FVec F S128x128 .f32) : FVec F S128x1024 .bf16 :=
  truncf .bf16 (mulf (concatenate S128x1024 1
    [⟨S128x128, qPiece x1 c lo hi 0⟩, ⟨S128x128, qPiece x1 c lo hi 1⟩, ⟨S128x128, qPiece x1 c lo hi 2⟩,
     ⟨S128x128, qPiece x1 c lo hi 3⟩, ⟨S128x128, qPiece x1 c lo hi 4⟩, ⟨S128x128, qPiece x1 c lo hi 5⟩,
     ⟨S128x128, qPiece x1 c lo hi 6⟩, ⟨S128x128, qPiece x1 c lo hi 7⟩]
    concatenates_S128x128_S128x128_S128x128_S128x128_S128x128_S128x128_S128x128_S128x128_S128x1024_d1)
    (broadcast S128x1024 (Scalar.ofBits .f32 0x3E000000#32))) bitsLt_bf16_f32

/-- The rotated keys of one block of rows. -/
def kRot (x : Vec F S128x256 .f32) (c lo hi : FVec F S128x128 .f32) : FVec F S128x256 .f32 :=
  concatenate S128x256 1
    [⟨S128x128, ropeC (extractStridedSlice S128x128 ![0, 0] x slices_S128x256_o0_0_S128x128) c lo hi⟩,
     ⟨S128x128, ropeC (extractStridedSlice S128x128 ![0, 128] x slices_S128x256_o0_128_S128x128) c lo hi⟩]
    concatenates_S128x128_S128x128_S128x256_d1

/-- Three blocks of rows, one under the other. -/
def stack3 (a b d : FVec F S128x256 .f32) : FVec F S384x256 .bf16 :=
  truncf .bf16 (concatenate S384x256 0 [⟨S128x256, a⟩, ⟨S128x256, b⟩, ⟨S128x256, d⟩]
    concatenates_S128x256_S128x256_S128x256_S384x256_d0) bitsLt_bf16_f32

/-- The mask of a block. -/
def okM (n : BitVec 32) : IVec S512x384 1 := k0_pay23 n k0_pay22 (iota .tc S512x384 32 [1] iota_S512x384_d1_w32)

/-- The masked scores, from the four queries' heads and their key head. -/
def scores (ok : IVec S512x384 1) (q0 q1 q2 q3 : FVec F S128x64 .bf16) (k : FVec F S384x64 .bf16) : FVec F S512x384 .f32 :=
  select ok (matmul dot_S512x64_S384x64_S512x384_1_1_0_0_n_n none
    (concatenate S512x64 0 [⟨S128x64, q0⟩, ⟨S128x64, q1⟩, ⟨S128x64, q2⟩, ⟨S128x64, q3⟩]
      concatenates_S128x64_S128x64_S128x64_S128x64_S512x64_d0) k (constant S512x384 .f32 0x00000000#32))
    (broadcast S512x384 (Named.named κ "mask" 0xF149F2CA#32))

/-- The four heads' sinks, each on its own rows. -/
def sinkCol (a b c d : Elt F .f32) : FVec F S512x1 .f32 :=
  select (cmpi .eq k0_pay24 (broadcast S512x1 3#32)) (broadcast S512x1 d)
    (select (cmpi .eq k0_pay24 (broadcast S512x1 2#32)) (broadcast S512x1 c)
      (select (cmpi .eq k0_pay24 (broadcast S512x1 1#32)) (broadcast S512x1 b)
        (select (cmpi .eq k0_pay24 (broadcast S512x1 0#32)) (broadcast S512x1 a)
          (broadcast S512x1 (Scalar.ofBits .f32 0x00000000#32)))))

/-- The largest of a row's scores and its sink. -/
def mxCol (s : FVec F S512x384 .f32) (t : FVec F S512x1 .f32) : FVec F S512x1 .f32 :=
  maximumf (shapeCast S512x1 (multiReduction .maximumf [1] S512 s 0xFF800000#32 reduces_S512x384_S512 (.inl rfl) rfl)
    shapeCasts_S512_S512x1) t

/-- The exponentials of the scores less their row's largest. -/
def exps (s : FVec F S512x384 .f32) (t : FVec F S512x1 .f32) : FVec F S512x384 .f32 :=
  exp (subf s (broadcastTo S512x384 (mxCol s t) broadcasts_S512x1_S512x384))

/-- The softmax's denominator. -/
def denCol (s : FVec F S512x384 .f32) (t : FVec F S512x1 .f32) : FVec F S512x1 .f32 :=
  addf (shapeCast S512x1 (multiReduction .add [1] S512 (exps s t) 0x00000000#32 reduces_S512x384_S512 (.inl rfl) rfl)
    shapeCasts_S512_S512x1) (exp (subf t (mxCol s t)))

/-- The softmax with a sink, times the values. -/
def soft (s : FVec F S512x384 .f32) (t : FVec F S512x1 .f32) (v : FVec F S384x64 .bf16) : FVec F S512x64 .f32 :=
  matmul dot_S512x384_S384x64_S512x64_1_0_0_1_n_n none
    (truncf .bf16 (divf (exps s t) (broadcastTo S512x384 (denCol s t) broadcasts_S512x1_S512x384)) bitsLt_bf16_f32) v
    (constant S512x64 .f32 0x00000000#32)

/-- The four queries' heads of each group. -/
def qG (q : FVec F S128x1024 .bf16) : Fin 4 → Fin 4 → FVec F S128x64 .bf16 :=
  ![![extractStridedSlice S128x64 ![0, 0] q slices_S128x1024_o0_0_S128x64,
      extractStridedSlice S128x64 ![0, 64] q slices_S128x1024_o0_64_S128x64,
      extractStridedSlice S128x64 ![0, 128] q slices_S128x1024_o0_128_S128x64,
      extractStridedSlice S128x64 ![0, 192] q slices_S128x1024_o0_192_S128x64],
    ![extractStridedSlice S128x64 ![0, 256] q slices_S128x1024_o0_256_S128x64,
      extractStridedSlice S128x64 ![0, 320] q slices_S128x1024_o0_320_S128x64,
      extractStridedSlice S128x64 ![0, 384] q slices_S128x1024_o0_384_S128x64,
      extractStridedSlice S128x64 ![0, 448] q slices_S128x1024_o0_448_S128x64],
    ![extractStridedSlice S128x64 ![0, 512] q slices_S128x1024_o0_512_S128x64,
      extractStridedSlice S128x64 ![0, 576] q slices_S128x1024_o0_576_S128x64,
      extractStridedSlice S128x64 ![0, 640] q slices_S128x1024_o0_640_S128x64,
      extractStridedSlice S128x64 ![0, 704] q slices_S128x1024_o0_704_S128x64],
    ![extractStridedSlice S128x64 ![0, 768] q slices_S128x1024_o0_768_S128x64,
      extractStridedSlice S128x64 ![0, 832] q slices_S128x1024_o0_832_S128x64,
      extractStridedSlice S128x64 ![0, 896] q slices_S128x1024_o0_896_S128x64,
      extractStridedSlice S128x64 ![0, 960] q slices_S128x1024_o0_960_S128x64]]

/-- The keys or the values of the four groups of heads. -/
def valG (v : FVec F S384x256 .bf16) : Fin 4 → FVec F S384x64 .bf16 :=
  ![extractStridedSlice S384x64 ![0, 0] v slices_S384x256_o0_0_S384x64,
    extractStridedSlice S384x64 ![0, 64] v slices_S384x256_o0_64_S384x64,
    extractStridedSlice S384x64 ![0, 128] v slices_S384x256_o0_128_S384x64,
    extractStridedSlice S384x64 ![0, 192] v slices_S384x256_o0_192_S384x64]

/-- The scores of the four groups of heads. -/
def scoreG (ok : IVec S512x384 1) (q : FVec F S128x1024 .bf16) (k : FVec F S384x256 .bf16) (G : Fin 4) : FVec F S512x384 .f32 :=
  scores ok (qG q G 0) (qG q G 1) (qG q G 2) (qG q G 3) (valG k G)

/-- The sinks of the four groups of heads. -/
def sinkG (x : Fin 16 → Elt F .f32) : Fin 4 → FVec F S512x1 .f32 :=
  ![sinkCol (x 0) (x 1) (x 2) (x 3), sinkCol (x 4) (x 5) (x 6) (x 7), sinkCol (x 8) (x 9) (x 10) (x 11),
    sinkCol (x 12) (x 13) (x 14) (x 15)]

/-- The sixteen heads' outputs, cut from the four groups'. -/
def outPiece (o : Fin 4 → FVec F S512x64 .f32) : Fin 16 → FVec F S128x64 .f32 :=
  ![extractStridedSlice S128x64 ![0, 0] (o 0) slices_S512x64_o0_0_S128x64,
    extractStridedSlice S128x64 ![128, 0] (o 0) slices_S512x64_o128_0_S128x64,
    extractStridedSlice S128x64 ![256, 0] (o 0) slices_S512x64_o256_0_S128x64,
    extractStridedSlice S128x64 ![384, 0] (o 0) slices_S512x64_o384_0_S128x64,
    extractStridedSlice S128x64 ![0, 0] (o 1) slices_S512x64_o0_0_S128x64,
    extractStridedSlice S128x64 ![128, 0] (o 1) slices_S512x64_o128_0_S128x64,
    extractStridedSlice S128x64 ![256, 0] (o 1) slices_S512x64_o256_0_S128x64,
    extractStridedSlice S128x64 ![384, 0] (o 1) slices_S512x64_o384_0_S128x64,
    extractStridedSlice S128x64 ![0, 0] (o 2) slices_S512x64_o0_0_S128x64,
    extractStridedSlice S128x64 ![128, 0] (o 2) slices_S512x64_o128_0_S128x64,
    extractStridedSlice S128x64 ![256, 0] (o 2) slices_S512x64_o256_0_S128x64,
    extractStridedSlice S128x64 ![384, 0] (o 2) slices_S512x64_o384_0_S128x64,
    extractStridedSlice S128x64 ![0, 0] (o 3) slices_S512x64_o0_0_S128x64,
    extractStridedSlice S128x64 ![128, 0] (o 3) slices_S512x64_o128_0_S128x64,
    extractStridedSlice S128x64 ![256, 0] (o 3) slices_S512x64_o256_0_S128x64,
    extractStridedSlice S128x64 ![384, 0] (o 3) slices_S512x64_o384_0_S128x64]

/-- The sixteen heads side by side. -/
def cat16 (f : Fin 16 → FVec F S128x64 .f32) : FVec F S128x1024 .bf16 :=
  truncf .bf16 (concatenate S128x1024 1
    [⟨S128x64, f 0⟩, ⟨S128x64, f 1⟩, ⟨S128x64, f 2⟩, ⟨S128x64, f 3⟩, ⟨S128x64, f 4⟩, ⟨S128x64, f 5⟩, ⟨S128x64, f 6⟩,
     ⟨S128x64, f 7⟩, ⟨S128x64, f 8⟩, ⟨S128x64, f 9⟩, ⟨S128x64, f 10⟩, ⟨S128x64, f 11⟩, ⟨S128x64, f 12⟩, ⟨S128x64, f 13⟩,
     ⟨S128x64, f 14⟩, ⟨S128x64, f 15⟩]
    concatenates_S128x64_S128x64_S128x64_S128x64_S128x64_S128x64_S128x64_S128x64_S128x64_S128x64_S128x64_S128x64_S128x64_S128x64_S128x64_S128x64_S128x1024_d1)
    bitsLt_bf16_f32

/-- The three parts of a block of rope tables. -/
def tabs (x : Vec F S3x128x128 .f32) : Fin 3 → FVec F S128x128 .f32 :=
  ![tab (View.ld x (Rect.unit ![0, 0, 0] ![1, 128, 128] inb_S3x128x128_S1x128x128_0_0_0)),
    tab (View.ld x (Rect.unit ![1, 0, 0] ![1, 128, 128] inb_S3x128x128_S1x128x128_1_0_0)),
    tab (View.ld x (Rect.unit ![2, 0, 0] ![1, 128, 128] inb_S3x128x128_S1x128x128_2_0_0))]

/-- A block's outputs from its rotated queries and keys, its values, its mask and the sinks. -/
def blkOf (ok : IVec S512x384 1) (x0 : Fin 16 → Elt F .f32) (q : FVec F S128x1024 .bf16) (k v : FVec F S384x256 .bf16) :
    FVec F S128x1024 .bf16 :=
  cat16 (outPiece fun g => soft (scoreG ok q k g) (sinkG x0 g) (valG v g))

/-- A block's outputs from the blocks the grid step reads. -/
def blkOut (n : BitVec 32) (x0 : Fin 16 → Elt F .f32) (x1 : Vec F S128x1024 .f32) (x2 x3 x4 x5 x6 x7 : Vec F S128x256 .f32)
    (x8 x9 x10 : Vec F S3x128x128 .f32) : FVec F S128x1024 .bf16 :=
  blkOf (okM n) x0 (qRot x1 (tabs x8 0) (tabs x8 1) (tabs x8 2))
    (stack3 (kRot x3 (tabs x9 0) (tabs x9 1) (tabs x9 2)) (kRot x2 (tabs x8 0) (tabs x8 1) (tabs x8 2))
      (kRot x4 (tabs x10 0) (tabs x10 1) (tabs x10 2)))
    (stack3 x6 x5 x7)

theorem inb_sink (k : Fin 16) (a : Fin 1) : (![k.val] : Fin 1 → Nat) a + (![1] : Fin 1 → Nat) a ≤ S16.size a := by
  match a with
  | ⟨0, _⟩ => show k.val + 1 ≤ 16; omega

/-- The sinks, each read as the kernel reads it. -/
def sinks (x : Vec F S16 .f32) (k : Fin 16) : Elt F .f32 :=
  View.ld x (Rect.unit ![k.val] ![1] (inb_sink k)) (Shape.Idx.first (show 0 < (⟨1, ![1]⟩ : Shape).numel by decide))

theorem sinks_eq (x : Vec F S16 .f32) (k : Fin 16) : sinks x k = x (ix1 k) := by
  refine congrArg x (funext fun a => ?_)
  match a with
  | ⟨0, _⟩ => exact Fin.ext (by show k.val + 1 * 0 = k.val; omega)

theorem q_eq (x1 : Vec F S128x1024 .f32) (a b d : Vec F S1x128x128 .f32) :
    k0_pay21 (k0_pay8 x1 (k0_pay1 a) (k0_pay2 b) (k0_pay3 d) (k0_pay4 x1 a b d) (k0_pay5 x1 a b d) (k0_pay6 x1 a b d)
      (k0_pay7 x1 a b d)) = qRot x1 (tab a) (tab b) (tab d) := rfl

theorem k_eq (x2 x3 x4 : Vec F S128x256 .f32) (a b d a' b' d' a'' b'' d'' : Vec F S1x128x128 .f32) :
    k0_pay19 (k0_pay11 x3 (k0_pay9 a') (k0_pay10 b') d') (k0_pay15 x2 a b d) (k0_pay17 x2 a b) (k0_pay18 x2 d) x4 a'' b'' d''
      = stack3 (kRot x3 (tab a') (tab b') (tab d')) (kRot x2 (tab a) (tab b) (tab d)) (kRot x4 (tab a'') (tab b'') (tab d'')) := rfl

theorem v_eq (x5 x6 x7 : Vec F S128x256 .f32) : k0_pay20 x6 x5 x7 = stack3 x6 x5 x7 := rfl

theorem heads_eq (n : BitVec 32) (q : FVec F S128x1024 .bf16) (k v : FVec F S384x256 .bf16) (s0 s1 s2 s3 s4 s5 s6 s7 s8 s9 s10 s11 s12 s13 s14 s15 : Elt F .f32) :
    k0_pay51 (k0_pay23 n k0_pay22 (iota .tc S512x384 32 [1] iota_S512x384_d1_w32)) k0_pay24
      (k0_pay29 k0_pay24 (k0_pay25 v) (k0_pay26 n k q k0_pay22 (iota .tc S512x384 32 [1] iota_S512x384_d1_w32)) (k0_pay27 s0) s1 s2 s3)
      (k0_pay30 k0_pay24 (k0_pay25 v) (k0_pay26 n k q k0_pay22 (iota .tc S512x384 32 [1] iota_S512x384_d1_w32)) (k0_pay27 s0) s1 s2 s3)
      (k0_pay31 k0_pay24 (k0_pay25 v) (k0_pay26 n k q k0_pay22 (iota .tc S512x384 32 [1] iota_S512x384_d1_w32)) (k0_pay27 s0) s1 s2 s3)
      (k0_pay32 k0_pay24 (k0_pay25 v) (k0_pay26 n k q k0_pay22 (iota .tc S512x384 32 [1] iota_S512x384_d1_w32)) (k0_pay27 s0) s1 s2 s3)
      (k0_pay38 k0_pay24 (k0_pay33 v) (k0_pay34 k q (k0_pay23 n k0_pay22 (iota .tc S512x384 32 [1] iota_S512x384_d1_w32))) k0_pay35 (k0_pay36 k0_pay24) s4 s5 s6 s7)
      (k0_pay39 k0_pay24 (k0_pay33 v) (k0_pay34 k q (k0_pay23 n k0_pay22 (iota .tc S512x384 32 [1] iota_S512x384_d1_w32))) k0_pay35 (k0_pay36 k0_pay24) s4 s5 s6 s7)
      (k0_pay40 k0_pay24 (k0_pay33 v) (k0_pay34 k q (k0_pay23 n k0_pay22 (iota .tc S512x384 32 [1] iota_S512x384_d1_w32))) k0_pay35 (k0_pay36 k0_pay24) s4 s5 s6 s7)
      (k0_pay41 k0_pay24 (k0_pay33 v) (k0_pay34 k q (k0_pay23 n k0_pay22 (iota .tc S512x384 32 [1] iota_S512x384_d1_w32))) k0_pay35 (k0_pay36 k0_pay24) s4 s5 s6 s7)
      (k0_pay45 k0_pay24 (k0_pay42 v) (k0_pay43 k q (k0_pay23 n k0_pay22 (iota .tc S512x384 32 [1] iota_S512x384_d1_w32))) (Scalar.ofBits .f32 0x00000000#32) s8 s9 s10 s11)
      (k0_pay46 k0_pay24 (k0_pay42 v) (k0_pay43 k q (k0_pay23 n k0_pay22 (iota .tc S512x384 32 [1] iota_S512x384_d1_w32))) (Scalar.ofBits .f32 0x00000000#32) s8 s9 s10 s11)
      (k0_pay47 k0_pay24 (k0_pay42 v) (k0_pay43 k q (k0_pay23 n k0_pay22 (iota .tc S512x384 32 [1] iota_S512x384_d1_w32))) (Scalar.ofBits .f32 0x00000000#32) s8 s9 s10 s11)
      (k0_pay48 k0_pay24 (k0_pay42 v) (k0_pay43 k q (k0_pay23 n k0_pay22 (iota .tc S512x384 32 [1] iota_S512x384_d1_w32))) (Scalar.ofBits .f32 0x00000000#32) s8 s9 s10 s11)
      (k0_pay49 v) (k0_pay50 k q) s12 s13 s14 s15
      = blkOf (okM n) ![s0, s1, s2, s3, s4, s5, s6, s7, s8, s9, s10, s11, s12, s13, s14, s15] q k v := rfl

theorem sinks_vec (x : Vec F S16 .f32) (h : 0 < (⟨1, ![1]⟩ : Shape).numel) :
    ![View.ld x (Rect.unit ![0] ![1] (inb_sink 0)) (Shape.Idx.first h), View.ld x (Rect.unit ![1] ![1] (inb_sink 1)) (Shape.Idx.first h), View.ld x (Rect.unit ![2] ![1] (inb_sink 2)) (Shape.Idx.first h), View.ld x (Rect.unit ![3] ![1] (inb_sink 3)) (Shape.Idx.first h), View.ld x (Rect.unit ![4] ![1] (inb_sink 4)) (Shape.Idx.first h), View.ld x (Rect.unit ![5] ![1] (inb_sink 5)) (Shape.Idx.first h), View.ld x (Rect.unit ![6] ![1] (inb_sink 6)) (Shape.Idx.first h), View.ld x (Rect.unit ![7] ![1] (inb_sink 7)) (Shape.Idx.first h), View.ld x (Rect.unit ![8] ![1] (inb_sink 8)) (Shape.Idx.first h), View.ld x (Rect.unit ![9] ![1] (inb_sink 9)) (Shape.Idx.first h), View.ld x (Rect.unit ![10] ![1] (inb_sink 10)) (Shape.Idx.first h), View.ld x (Rect.unit ![11] ![1] (inb_sink 11)) (Shape.Idx.first h), View.ld x (Rect.unit ![12] ![1] (inb_sink 12)) (Shape.Idx.first h), View.ld x (Rect.unit ![13] ![1] (inb_sink 13)) (Shape.Idx.first h), View.ld x (Rect.unit ![14] ![1] (inb_sink 14)) (Shape.Idx.first h), View.ld x (Rect.unit ![15] ![1] (inb_sink 15)) (Shape.Idx.first h)] = sinks x := by
  funext k; fin_cases k <;> rfl

theorem off_zero : (![0, 0] : Fin 2 → Nat) = fun _ => 0 := by decide

theorem ld_q (x : Vec F S128x1024 .f32) (inb) : View.ld x (Rect.unit ![0, 0] ![128, 1024] inb) = x :=
  View.ld_unit_zero off_zero inb x

theorem ld_k (x : Vec F S128x256 .f32) (inb) : View.ld x (Rect.unit ![0, 0] ![128, 256] inb) = x :=
  View.ld_unit_zero off_zero inb x

variable (m : (ℓ : Loc nD τ sig) → Buf (Elt F) ℓ)

set_option maxHeartbeats 2000000 in
/-- A grid step's outputs. -/
theorem outs (c : Dev nD) (t : Fin cfg0.N) : outsAt0 m c t = blkOut (BitVec.ofNat 32 ((cfg0.grid.coords t) 1).val)
    (sinks (iblk m c 0 t)) (X0_1 m c t) (iblk m c 2 t) (iblk m c 3 t) (iblk m c 4 t) (iblk m c 5 t) (iblk m c 6 t)
    (iblk m c 7 t) (iblk m c 8 t) (iblk m c 9 t) (iblk m c 10 t) := by
  unfold outsAt0 out0_A_11
  rw [View.read_writes_eq_canon _ _ _ (cover0_A_11 c _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread]
  rw [View.canon_unit_zero off_zero]
  simp only [ld_q, ld_k, q_eq, k_eq, v_eq]
  rw [heads_eq]
  unfold blkOut
  refine congr (congr (congr (congr (congrArg blkOf ?_) ?_) ?_) ?_) ?_
  · rfl
  · exact sinks_vec _ _
  · rfl
  · rfl
  · rfl

end Cert.Attn

end
-- ==== Proof.Attn.Rope.lean ====
module

public import proofs.«01_k».proof.Proof.Attn.Core
public import proofs.«01_k».proof.Proof.Attn.Out
public import Idealize.ShloMosaic.Lib.KernelVsHost

@[expose] public section

/-! The rotated queries and keys of a block, read at a row and a column. -/

noncomputable section

namespace Cert.Attn

open Cert.KernelIdeal Cert.KernelIdeal.Gen Idealize.ShloMosaic Idealize.ShloMosaic.TcCoe
open Idealize.ShloMosaic.ValueIdx

/-- The rope of one head's 64 numbers at one position: the first eight turn with the next eight, the rest stay. -/
def ropeS (x cs sn : ℕ → EReal) (d : ℕ) : EReal :=
  if d < 8 then x d * cs d - x (d + 8) * sn d
  else if d < 16 then x d * cs (d - 8) + x (d - 8) * sn (d - 8) else x d

/-- An eighth, as the kernel's constant spells it. -/
def e8 : EReal := Ideal.ofBits .f32 0x3E000000#32

/-- A block of rope tables holds the cosines and sines of its rows, two heads side by side. -/
def TabOf (x : Vec Ideal S3x128x128 .f32) (cs sn : ℕ → ℕ → EReal) : Prop := ∀ r i : Fin 128,
  x (ix3 (0 : Fin 3) r i) = (if i.val % 64 < 8 then cs r (i.val % 64) else if i.val % 64 < 16 then cs r (i.val % 64 - 8) else 1)
  ∧ x (ix3 (1 : Fin 3) r i) = (if i.val % 64 < 8 then -sn r (i.val % 64) else 0)
  ∧ x (ix3 (2 : Fin 3) r i) = (if i.val % 64 < 8 then 0 else if i.val % 64 < 16 then sn r (i.val % 64 - 8) else 0)

theorem tab_apply (x : Vec Ideal S3x128x128 .f32) (k : Fin 3)
    (inb : ∀ a, (![k.val, 0, 0] : Fin 3 → Nat) a + (![1, 128, 128] : Fin 3 → Nat) a ≤ S3x128x128.size a) (r i : Fin 128) :
    tab (View.ld x (Rect.unit ![k.val, 0, 0] ![1, 128, 128] inb)) (ix2 r i) = x (ix3 k r i) := by
  unfold tab
  refine (shapeCast_apply _ _ (ix2 r i) (ix3 (0 : Fin 1) r i) ?_).trans ?_
  · rw [Shape.rowMajor_val_three, Shape.rowMajor_val_two]
    show (0 * 128 + r.val) * 128 + i.val = r.val * 128 + i.val
    omega
  · refine congrArg x (funext fun a => Fin.ext ?_)
    match a with
    | ⟨0, _⟩ => show k.val + 1 * 0 = k.val; omega
    | ⟨1, _⟩ => show 0 + 1 * r.val = r.val; omega
    | ⟨2, _⟩ => show 0 + 1 * i.val = i.val; omega

theorem tabs_apply (x : Vec Ideal S3x128x128 .f32) (k : Fin 3) (r i : Fin 128) : tabs x k (ix2 r i) = x (ix3 k r i) := by
  match k with
  | 0 => exact tab_apply x 0 _ r i
  | 1 => exact tab_apply x 1 _ r i
  | 2 => exact tab_apply x 2 _ r i

theorem ropeC_apply (v c lo hi : FVec Ideal S128x128 .f32) (r i : Fin 128) :
    ropeC v c lo hi (ix2 r i) = v (ix2 r i) * c (ix2 r i)
      + v (ix2 r (⟨(i.val + 8) % 128, by omega⟩ : Fin 128)) * lo (ix2 r i)
      + v (ix2 r (⟨(i.val + 120) % 128, by omega⟩ : Fin 128)) * hi (ix2 r i) := by
  have h1 : dynamicRotate 1 120#32 none v rotates_S128x128_d1 (ix2 r i)
      = v (ix2 r (⟨(i.val + 8) % 128, by omega⟩ : Fin 128)) := by
    refine dynamicRotate_apply _ _ _ _ _ _ fun b => ?_
    match b with
    | ⟨0, _⟩ => rfl
    | ⟨1, _⟩ => show (i.val + 8) % 128 = (i.val + 128 - 120 % 128) % 128; omega
  have h2 : dynamicRotate 1 8#32 none v rotates_S128x128_d1 (ix2 r i)
      = v (ix2 r (⟨(i.val + 120) % 128, by omega⟩ : Fin 128)) := by
    refine dynamicRotate_apply _ _ _ _ _ _ fun b => ?_
    match b with
    | ⟨0, _⟩ => rfl
    | ⟨1, _⟩ => show (i.val + 120) % 128 = (i.val + 128 - 8 % 128) % 128; omega
  show v (ix2 r i) * c (ix2 r i) + dynamicRotate 1 120#32 none v rotates_S128x128_d1 (ix2 r i) * lo (ix2 r i)
    + dynamicRotate 1 8#32 none v rotates_S128x128_d1 (ix2 r i) * hi (ix2 r i) = _
  rw [h1, h2]

theorem ropeC_tab (v : FVec Ideal S128x128 .f32) (x : Vec Ideal S3x128x128 .f32) (cs sn : ℕ → ℕ → EReal) (hx : TabOf x cs sn)
    (r i : Fin 128) (V : ℕ → EReal) (hv : ∀ i : Fin 128, v (ix2 r i) = V i.val) :
    ropeC v (tabs x 0) (tabs x 1) (tabs x 2) (ix2 r i)
      = ropeS (fun d => V (64 * (i.val / 64) + d)) (cs r) (sn r) (i.val % 64) := by
  rw [ropeC_apply, tabs_apply, tabs_apply, tabs_apply, (hx r i).1, (hx r i).2.1, (hx r i).2.2, hv, hv, hv]
  unfold ropeS
  have hi := i.isLt
  by_cases h8 : i.val % 64 < 8
  · simp only [if_pos h8]
    rw [mul_neg, mul_zero, add_zero, sub_eq_add_neg]
    congr 4 <;> (show _ = _) <;> omega
  · by_cases h16 : i.val % 64 < 16
    · simp only [if_neg h8, if_pos h16]
      rw [mul_zero, add_zero]
      congr 3 <;> (show _ = _) <;> omega
    · simp only [if_neg h8, if_neg h16]
      rw [mul_zero, mul_zero, add_zero, add_zero, mul_one]
      congr 1; omega

theorem cat8 (f : Fin 8 → FVec Ideal S128x128 .f32) (r : Fin 128) (j : Fin 1024) :
    concatenate S128x1024 1
      [⟨S128x128, f 0⟩, ⟨S128x128, f 1⟩, ⟨S128x128, f 2⟩, ⟨S128x128, f 3⟩, ⟨S128x128, f 4⟩, ⟨S128x128, f 5⟩, ⟨S128x128, f 6⟩,
        ⟨S128x128, f 7⟩]
      concatenates_S128x128_S128x128_S128x128_S128x128_S128x128_S128x128_S128x128_S128x128_S128x1024_d1 (ix2 r j)
      = f ⟨j.val / 128, by omega⟩ (ix2 r (⟨j.val % 128, by omega⟩ : Fin 128)) := by
  refine concatenate_ofFn_apply (t := S128x1024) (s₁ := S128x128) 1 f
    concatenates_S128x128_S128x128_S128x128_S128x128_S128x128_S128x128_S128x128_S128x128_S128x1024_d1 rfl 128 rfl (ix2 r j) _ rfl _ rfl ?_
  intro b hb
  match b with
  | ⟨0, _⟩ => rfl
  | ⟨1, _⟩ => exact absurd rfl hb

theorem qPiece_apply (x1 : Vec Ideal S128x1024 .f32) (x : Vec Ideal S3x128x128 .f32) (cs sn : ℕ → ℕ → EReal) (hx : TabOf x cs sn)
    (r : Fin 128) (Q : ℕ → EReal) (hq : ∀ j : Fin 1024, x1 (ix2 r j) = Q j.val) (n : Fin 8) (i : Fin 128) :
    qPiece x1 (tabs x 0) (tabs x 1) (tabs x 2) n (ix2 r i)
      = ropeS (fun d => Q (128 * n.val + (64 * (i.val / 64) + d))) (cs r) (sn r) (i.val % 64) := by
  have key : ∀ (o : ℕ) (ho : o + 128 ≤ 1024) (h : S128x1024.Slices ![0, o] S128x128),
      ropeC (extractStridedSlice S128x128 ![0, o] x1 h) (tabs x 0) (tabs x 1) (tabs x 2) (ix2 r i)
        = ropeS (fun d => Q (o + (64 * (i.val / 64) + d))) (cs r) (sn r) (i.val % 64) := by
    intro o ho h
    refine ropeC_tab _ x cs sn hx r i (fun c => Q (o + c)) fun i' => ?_
    refine (extractStridedSlice_apply _ _ _ _ (ix2 r (⟨o + i'.val, by omega⟩ : Fin 1024)) fun a => ?_).trans (hq _)
    match a with
    | ⟨0, _⟩ => exact (Nat.zero_add _).symm
    | ⟨1, _⟩ => rfl
  fin_cases n
  · exact key 0 (by omega) _
  · exact key 128 (by omega) _
  · exact key 256 (by omega) _
  · exact key 384 (by omega) _
  · exact key 512 (by omega) _
  · exact key 640 (by omega) _
  · exact key 768 (by omega) _
  · exact key 896 (by omega) _

theorem qRot_apply (x1 : Vec Ideal S128x1024 .f32) (x : Vec Ideal S3x128x128 .f32) (cs sn : ℕ → ℕ → EReal) (hx : TabOf x cs sn)
    (r : Fin 128) (Q : ℕ → EReal) (hq : ∀ j : Fin 1024, x1 (ix2 r j) = Q j.val) (j : Fin 1024) :
    qRot x1 (tabs x 0) (tabs x 1) (tabs x 2) (ix2 r j)
      = ropeS (fun d => Q (64 * (j.val / 64) + d)) (cs r) (sn r) (j.val % 64) * e8 := by
  unfold qRot
  refine Eq.trans (b := concatenate S128x1024 1 _ _ (ix2 r j) * e8) rfl ?_
  rw [cat8, qPiece_apply x1 x cs sn hx r Q hq]
  have hj := j.isLt
  have e1 : ∀ d, 128 * (j.val / 128) + (64 * (j.val % 128 / 64) + d) = 64 * (j.val / 64) + d := by intro d; omega
  have e2 : j.val % 128 % 64 = j.val % 64 := by omega
  simp only [e1, e2]

theorem kRot_apply (y : Vec Ideal S128x256 .f32) (x : Vec Ideal S3x128x128 .f32) (cs sn : ℕ → ℕ → EReal) (hx : TabOf x cs sn)
    (r : Fin 128) (K : ℕ → EReal) (hk : ∀ j : Fin 256, y (ix2 r j) = K j.val) (j : Fin 256) :
    kRot y (tabs x 0) (tabs x 1) (tabs x 2) (ix2 r j)
      = ropeS (fun d => K (64 * (j.val / 64) + d)) (cs r) (sn r) (j.val % 64) := by
  have key : ∀ (o : ℕ) (ho : o + 128 ≤ 256) (h : S128x256.Slices ![0, o] S128x128) (i : Fin 128),
      ropeC (extractStridedSlice S128x128 ![0, o] y h) (tabs x 0) (tabs x 1) (tabs x 2) (ix2 r i)
        = ropeS (fun d => K (o + (64 * (i.val / 64) + d))) (cs r) (sn r) (i.val % 64) := by
    intro o ho h i
    refine ropeC_tab _ x cs sn hx r i (fun c => K (o + c)) fun i' => ?_
    refine (extractStridedSlice_apply _ _ _ _ (ix2 r (⟨o + i'.val, by omega⟩ : Fin 256)) fun a => ?_).trans (hk _)
    match a with
    | ⟨0, _⟩ => exact (Nat.zero_add _).symm
    | ⟨1, _⟩ => rfl
  have hj := j.isLt
  unfold kRot
  by_cases h : j.val < 128
  · refine (concatenate_pair_apply_left (t := S128x256) (s₁ := S128x128) (s₂ := S128x128) 1 _ _ _ _ rfl (ix2 r (⟨j.val, h⟩ : Fin 128)) fun b => ?_).trans ?_
    · match b with
      | ⟨0, _⟩ => rfl
      | ⟨1, _⟩ => rfl
    · rw [key 0 (by omega)]; simp only [Nat.zero_add]
  · refine (concatenate_pair_apply_right (t := S128x256) (s₁ := S128x128) (s₂ := S128x128) 1 _ _ _ _ rfl rfl (ix2 r (⟨j.val - 128, by omega⟩ : Fin 128)) ?_ ?_).trans ?_
    · intro b hb
      match b with
      | ⟨0, _⟩ => rfl
      | ⟨1, _⟩ => exact absurd rfl hb
    · show j.val - 128 + 128 = j.val; omega
    · rw [key 128 (by omega)]
      have e1 : ∀ d, 128 + (64 * ((j.val - 128) / 64) + d) = 64 * (j.val / 64) + d := by intro d; omega
      have e2 : (j.val - 128) % 64 = j.val % 64 := by omega
      simp only [e1, e2]

theorem stack3_apply (a b d : FVec Ideal S128x256 .f32) (K : ℕ → ℕ → EReal)
    (ha : ∀ (r : Fin 128) (j : Fin 256), a (ix2 r j) = K r.val j.val)
    (hb : ∀ (r : Fin 128) (j : Fin 256), b (ix2 r j) = K (128 + r.val) j.val)
    (hd : ∀ (r : Fin 128) (j : Fin 256), d (ix2 r j) = K (256 + r.val) j.val) (c : Fin 384) (j : Fin 256) :
    stack3 a b d (ix2 c j) = K c.val j.val := by
  unfold stack3
  show concatenate S384x256 0 [⟨S128x256, a⟩, ⟨S128x256, b⟩, ⟨S128x256, d⟩]
    concatenates_S128x256_S128x256_S128x256_S384x256_d0 (ix2 c j) = _
  have hc := c.isLt
  by_cases h1 : c.val < 128
  · refine (concatenate_apply_piece (t := S384x256) 0 _ _ (ix2 c j) 0 (by show 0 < 3; omega) S128x256 a rfl rfl 0 rfl (ix2 (⟨c.val, h1⟩ : Fin 128) j) (fun b hb => ?_) ?_).trans (ha _ _)
    · match b with
      | ⟨0, _⟩ => exact absurd rfl hb
      | ⟨1, _⟩ => rfl
    · exact Nat.zero_add _
  by_cases h2 : c.val < 256
  · refine (concatenate_apply_piece (t := S384x256) 0 _ _ (ix2 c j) 1 (by show 1 < 3; omega) S128x256 b rfl rfl 128 rfl (ix2 (⟨c.val - 128, by omega⟩ : Fin 128) j) (fun b hb => ?_) ?_).trans ((hb _ _).trans ?_)
    · match b with
      | ⟨0, _⟩ => exact absurd rfl hb
      | ⟨1, _⟩ => rfl
    · show 128 + (c.val - 128) = c.val; omega
    · rw [show 128 + (c.val - 128) = c.val by omega]
  · refine (concatenate_apply_piece (t := S384x256) 0 _ _ (ix2 c j) 2 (by show 2 < 3; omega) S128x256 d rfl rfl 256 rfl (ix2 (⟨c.val - 256, by omega⟩ : Fin 128) j) (fun b hb => ?_) ?_).trans ((hd _ _).trans ?_)
    · match b with
      | ⟨0, _⟩ => exact absurd rfl hb
      | ⟨1, _⟩ => rfl
    · show 256 + (c.val - 256) = c.val; omega
    · rw [show 256 + (c.val - 256) = c.val by omega]

end Cert.Attn

end
-- ==== Proof.Attn.Mask.lean ====
module

public import proofs.«01_k».proof.Proof.Attn.Out
public import Idealize.ShloMosaic.Lib.Tactic.WordOmega

@[expose] public section

/-! The mask of a block, read at a row and a column. -/

noncomputable section

namespace Cert.Attn

open Cert.KernelIdeal Cert.KernelIdeal.Gen Idealize.ShloMosaic Idealize.ShloMosaic.TcCoe
open Idealize.ShloMosaic.ValueIdx

/-- Which of a block's 384 columns row `r` of block `n` attends to: of the previous and the present block the 128 keys up
    to its own that are not meta rows, and of the first block the meta rows up to its own. -/
def keep (n r c : ℕ) : Prop :=
  (c < 256 ∧ r < c ∧ c ≤ r + 128 ∧ 256 ≤ c + 128 * n) ∨ (368 ≤ c ∧ c ≤ 256 + r + 128 * n)

instance (n r c : ℕ) : Decidable (keep n r c) := by unfold keep; infer_instance

theorem and127 (ρ : ℕ) (h : ρ < 512) : IntOp.andi (BitVec.ofNat 32 ρ) 127#32 = BitVec.ofNat 32 (ρ % 128) := by
  apply BitVec.eq_of_toNat_eq
  show (BitVec.ofNat 32 ρ &&& 127#32).toNat = _
  rw [BitVec.toNat_and, BitVec.toNat_ofNat, BitVec.toNat_ofNat, BitVec.toNat_ofNat,
    Nat.mod_eq_of_lt (show ρ < 2 ^ 32 by omega), Nat.mod_eq_of_lt (show ρ % 128 < 2 ^ 32 by omega),
    Nat.mod_eq_of_lt (show 127 < 2 ^ 32 by omega)]
  exact Nat.and_two_pow_sub_one_eq_mod ρ 7

theorem okM_word (n r c : ℕ) (hn : n < 17) (hr : r < 128) (hc : c < 384) :
    IntOp.ori
      (IntOp.andi (IntOp.cmpi .slt (BitVec.ofNat 32 c) 256#32)
        (IntOp.andi (IntOp.andi (IntOp.cmpi .sgt (BitVec.ofNat 32 c) (BitVec.ofNat 32 r))
            (IntOp.cmpi .sle (BitVec.ofNat 32 c) (IntOp.addi (BitVec.ofNat 32 r) 128#32)))
          (IntOp.cmpi .sge (IntOp.addi (BitVec.ofNat 32 c) (BitVec.ofNat 32 (128 * n))) 256#32)))
      (IntOp.andi (IntOp.cmpi .sge (BitVec.ofNat 32 c) 256#32)
        (IntOp.andi (IntOp.cmpi .sge (IntOp.subi (BitVec.ofNat 32 c) 256#32) 112#32)
          (IntOp.cmpi .sle (IntOp.subi (BitVec.ofNat 32 c) 256#32) (IntOp.addi (BitVec.ofNat 32 r) (BitVec.ofNat 32 (128 * n))))))
      = 1#1 ↔ keep n r c := by
  unfold keep
  by_cases h : c < 256
  · generalize IntOp.subi (BitVec.ofNat 32 c) 256#32 = w
    word_omega
  · have e : IntOp.subi (BitVec.ofNat 32 c) 256#32 = BitVec.ofNat 32 (c - 256) := by
      show BitVec.ofNat 32 c - 256#32 = _
      bv_omega
    rw [e]
    word_omega

theorem okM_apply (n : ℕ) (hn : n < 17) (ρ : Fin 512) (c : Fin 384) :
    okM (BitVec.ofNat 32 n) (ix2 ρ c) = 1#1 ↔ keep n (ρ.val % 128) c.val := by
  rw [← okM_word n (ρ.val % 128) c.val hn (by omega) c.isLt, ← and127 ρ.val ρ.isLt]
  have e1 : Scalar.muli 128#32 (BitVec.ofNat 32 n) = BitVec.ofNat 32 (128 * n) := by
    show 128#32 * BitVec.ofNat 32 n = _
    rw [BitVec.ofNat_mul]
  have e2 : Scalar.muli (BitVec.ofNat 32 n) 128#32 = BitVec.ofNat 32 (128 * n) := by
    show BitVec.ofNat 32 n * 128#32 = _
    rw [mul_comm, BitVec.ofNat_mul]
  have e3 : ∀ h, iota .tc S512x384 32 [1] h (ix2 ρ c) = BitVec.ofNat 32 c.val := fun h => iota_single_apply _ _ _ _ _ _
  have e4 : ∀ h, iota .tc S512x384 32 [0] h (ix2 ρ c) = BitVec.ofNat 32 ρ.val := fun h => iota_single_apply _ _ _ _ _ _
  rw [← e1]
  conv_rhs => rw [← e3 iota_S512x384_d1_w32, ← e4 iota_S512x384_d0_w32]
  have e5 : Scalar.muli 128#32 (BitVec.ofNat 32 n) = Scalar.muli (BitVec.ofNat 32 n) 128#32 := e1.trans e2.symm
  unfold okM k0_pay23 k0_pay22
  dsimp only
  rw [← e5]
  exact Iff.rfl

theorem group_apply (ρ : Fin 512) (z : Fin 1) : k0_pay24 (ix2 ρ z) = BitVec.ofNat 32 (ρ.val / 128) := by
  unfold k0_pay24
  show IntOp.shrsi .vector (iota .tc S512x1 32 [0] iota_S512x1_d0_w32 (ix2 ρ z)) 7#32 = _
  rw [iota_single_apply]
  show IntOp.shrsi .vector (BitVec.ofNat 32 ρ.val) 7#32 = _
  revert ρ
  decide

end Cert.Attn

end
-- ==== Proof.Attn.Heads.lean ====
module

public import proofs.«01_k».proof.Proof.Attn.Rope
public import proofs.«01_k».proof.Proof.Attn.Mask
public import Idealize.ShloMosaic.Lib.MatmulPlain

@[expose] public section

/-! The scores, the sinks, the softmax and the outputs of a block, read at a row and a column. -/

noncomputable section

namespace Cert.Attn

open Cert.KernelIdeal Cert.KernelIdeal.Gen Idealize.ShloMosaic Idealize.ShloMosaic.TcCoe
open Idealize.ShloMosaic.ValueIdx

/-- Row `r` of head `g` of a group of four. -/
def row4 (g : Fin 4) (r : Fin 128) : Fin 512 := ⟨128 * g.val + r.val, by omega⟩

theorem cat4 (q : Fin 4 → FVec Ideal S128x64 .bf16) (g : Fin 4) (r : Fin 128) (d : Fin 64) :
    concatenate S512x64 0 [⟨S128x64, q 0⟩, ⟨S128x64, q 1⟩, ⟨S128x64, q 2⟩, ⟨S128x64, q 3⟩]
      concatenates_S128x64_S128x64_S128x64_S128x64_S512x64_d0 (ix2 (row4 g r) d) = q g (ix2 r d) := by
  refine concatenate_ofFn_apply (t := S512x64) (s₁ := S128x64) 0 q
    concatenates_S128x64_S128x64_S128x64_S128x64_S512x64_d0 rfl 128 rfl (ix2 (row4 g r) d) g ?_ _ ?_ ?_
  · show (128 * g.val + r.val) / 128 = g.val; omega
  · show r.val = (128 * g.val + r.val) % 128; omega
  · intro b hb
    match b with
    | ⟨0, _⟩ => exact absurd rfl hb
    | ⟨1, _⟩ => rfl

theorem mask_val : (Named.named (F := Ideal) κ "mask" 0xF149F2CA#32 : Ideal .f32) = ⊥ :=
  IdealRules.named_const.ideal_named_scalar _ _ _ _ rfl

theorem scores_apply (ok : IVec S512x384 1) (q : Fin 4 → FVec Ideal S128x64 .bf16) (k : FVec Ideal S384x64 .bf16)
    (g : Fin 4) (r : Fin 128) (c : Fin 384) :
    scores ok (q 0) (q 1) (q 2) (q 3) k (ix2 (row4 g r) c)
      = if ok (ix2 (row4 g r) c) = 1#1 then ∑ d : Fin 64, q g (ix2 r d) * k (ix2 c d) else ⊥ := by
  unfold scores
  show Scalar.select (ok (ix2 (row4 g r) c)) (FloatOps.matmul (DotDims.transposedRhs 512 64 384) none
    (concatenate S512x64 0 [⟨S128x64, q 0⟩, ⟨S128x64, q 1⟩, ⟨S128x64, q 2⟩, ⟨S128x64, q 3⟩]
      concatenates_S128x64_S128x64_S128x64_S128x64_S512x64_d0) k (constant S512x384 .f32 0x00000000#32) (ix2 (row4 g r) c))
    (Named.named (F := Ideal) κ "mask" 0xF149F2CA#32) = _
  rw [mask_val, Ideal.matmul_transposedRhs_apply,
    show (constant S512x384 .f32 0x00000000#32 : FVec Ideal S512x384 .f32) (ix2 (row4 g r) c) = 0 from Ideal.ofBits_zero_f32, zero_add]
  simp only [cat4]
  by_cases h : ok (ix2 (row4 g r) c) = 1#1
  · rw [if_pos h, h]; exact select_one _ _
  · rw [if_neg h, eq_zero_of_ne_one h]; exact select_zero _ _

theorem qSlice_apply (q : FVec Ideal S128x1024 .bf16) (o : ℕ) (ho : o + 64 ≤ 1024) (h : S128x1024.Slices ![0, o] S128x64)
    (r : Fin 128) (d : Fin 64) :
    extractStridedSlice S128x64 ![0, o] q h (ix2 r d) = q (ix2 r (⟨o + d.val, by omega⟩ : Fin 1024)) := by
  refine extractStridedSlice_apply _ _ _ _ _ fun a => ?_
  match a with
  | ⟨0, _⟩ => exact (Nat.zero_add _).symm
  | ⟨1, _⟩ => rfl

theorem kSlice_apply (k : FVec Ideal S384x256 .bf16) (o : ℕ) (ho : o + 64 ≤ 256) (h : S384x256.Slices ![0, o] S384x64)
    (c : Fin 384) (d : Fin 64) :
    extractStridedSlice S384x64 ![0, o] k h (ix2 c d) = k (ix2 c (⟨o + d.val, by omega⟩ : Fin 256)) := by
  refine extractStridedSlice_apply _ _ _ _ _ fun a => ?_
  match a with
  | ⟨0, _⟩ => exact (Nat.zero_add _).symm
  | ⟨1, _⟩ => rfl

theorem qG_apply (q : FVec Ideal S128x1024 .bf16) (G g : Fin 4) (r : Fin 128) (d : Fin 64) :
    qG q G g (ix2 r d) = q (ix2 r (⟨256 * G.val + 64 * g.val + d.val, by omega⟩ : Fin 1024)) := by
  match G, g with
  | 0, 0 => exact qSlice_apply q 0 (by omega) slices_S128x1024_o0_0_S128x64 r d
  | 0, 1 => exact qSlice_apply q 64 (by omega) slices_S128x1024_o0_64_S128x64 r d
  | 0, 2 => exact qSlice_apply q 128 (by omega) slices_S128x1024_o0_128_S128x64 r d
  | 0, 3 => exact qSlice_apply q 192 (by omega) slices_S128x1024_o0_192_S128x64 r d
  | 1, 0 => exact qSlice_apply q 256 (by omega) slices_S128x1024_o0_256_S128x64 r d
  | 1, 1 => exact qSlice_apply q 320 (by omega) slices_S128x1024_o0_320_S128x64 r d
  | 1, 2 => exact qSlice_apply q 384 (by omega) slices_S128x1024_o0_384_S128x64 r d
  | 1, 3 => exact qSlice_apply q 448 (by omega) slices_S128x1024_o0_448_S128x64 r d
  | 2, 0 => exact qSlice_apply q 512 (by omega) slices_S128x1024_o0_512_S128x64 r d
  | 2, 1 => exact qSlice_apply q 576 (by omega) slices_S128x1024_o0_576_S128x64 r d
  | 2, 2 => exact qSlice_apply q 640 (by omega) slices_S128x1024_o0_640_S128x64 r d
  | 2, 3 => exact qSlice_apply q 704 (by omega) slices_S128x1024_o0_704_S128x64 r d
  | 3, 0 => exact qSlice_apply q 768 (by omega) slices_S128x1024_o0_768_S128x64 r d
  | 3, 1 => exact qSlice_apply q 832 (by omega) slices_S128x1024_o0_832_S128x64 r d
  | 3, 2 => exact qSlice_apply q 896 (by omega) slices_S128x1024_o0_896_S128x64 r d
  | 3, 3 => exact qSlice_apply q 960 (by omega) slices_S128x1024_o0_960_S128x64 r d

theorem valG_apply (v : FVec Ideal S384x256 .bf16) (G : Fin 4) (c : Fin 384) (d : Fin 64) :
    valG v G (ix2 c d) = v (ix2 c (⟨64 * G.val + d.val, by omega⟩ : Fin 256)) := by
  match G with
  | 0 => exact kSlice_apply v 0 (by omega) slices_S384x256_o0_0_S384x64 c d
  | 1 => exact kSlice_apply v 64 (by omega) slices_S384x256_o0_64_S384x64 c d
  | 2 => exact kSlice_apply v 128 (by omega) slices_S384x256_o0_128_S384x64 c d
  | 3 => exact kSlice_apply v 192 (by omega) slices_S384x256_o0_192_S384x64 c d

theorem scoreG_apply (ok : IVec S512x384 1) (q : FVec Ideal S128x1024 .bf16) (k : FVec Ideal S384x256 .bf16)
    (G g : Fin 4) (r : Fin 128) (c : Fin 384) :
    scoreG ok q k G (ix2 (row4 g r) c)
      = if ok (ix2 (row4 g r) c) = 1#1 then
          ∑ d : Fin 64, q (ix2 r (⟨256 * G.val + 64 * g.val + d.val, by omega⟩ : Fin 1024))
            * k (ix2 c (⟨64 * G.val + d.val, by omega⟩ : Fin 256)) else ⊥ := by
  unfold scoreG
  rw [scores_apply]
  simp only [qG_apply, valG_apply]

theorem sinkCol_apply (x : Fin 4 → EReal) (g : Fin 4) (r : Fin 128) (z : Fin 1) :
    sinkCol (F := Ideal) (x 0) (x 1) (x 2) (x 3) (ix2 (row4 g r) z) = x g := by
  unfold sinkCol
  show Scalar.select (IntOp.cmpi .eq (k0_pay24 (ix2 (row4 g r) z)) 3#32) (x 3)
    (Scalar.select (IntOp.cmpi .eq (k0_pay24 (ix2 (row4 g r) z)) 2#32) (x 2)
      (Scalar.select (IntOp.cmpi .eq (k0_pay24 (ix2 (row4 g r) z)) 1#32) (x 1)
        (Scalar.select (IntOp.cmpi .eq (k0_pay24 (ix2 (row4 g r) z)) 0#32) (x 0) _))) = _
  rw [group_apply, show (row4 g r).val / 128 = g.val by unfold row4; show (128 * g.val + r.val) / 128 = g.val; omega]
  fin_cases g <;> rfl

theorem sinkG_apply (x : Fin 16 → EReal) (G g : Fin 4) (r : Fin 128) (z : Fin 1) :
    sinkG (F := Ideal) x G (ix2 (row4 g r) z) = x ⟨4 * G.val + g.val, by omega⟩ := by
  fin_cases G
  · refine (sinkCol_apply ![x 0, x 1, x 2, x 3] g r z).trans ?_
    fin_cases g <;> rfl
  · refine (sinkCol_apply ![x 4, x 5, x 6, x 7] g r z).trans ?_
    fin_cases g <;> rfl
  · refine (sinkCol_apply ![x 8, x 9, x 10, x 11] g r z).trans ?_
    fin_cases g <;> rfl
  · refine (sinkCol_apply ![x 12, x 13, x 14, x 15] g r z).trans ?_
    fin_cases g <;> rfl

theorem lift_row (ρ : Fin 512) (k : Fin 384) : reduces_S512x384_S512.lift (ix1 ρ) k = ix2 ρ k := by
  funext a
  match a with
  | ⟨0, _⟩ => rfl
  | ⟨1, _⟩ => rfl

theorem toCol (x : FVec Ideal S512 .f32) (ρ : Fin 512) (z : Fin 1) :
    shapeCast S512x1 x shapeCasts_S512_S512x1 (ix2 ρ z) = x (ix1 ρ) := by
  refine shapeCast_apply _ _ _ _ ?_
  rw [Shape.rowMajor_val_one, Shape.rowMajor_val_two]
  show ρ.val = ρ.val * 1 + z.val
  omega

theorem spread (x : FVec Ideal S512x1 .f32) (ρ : Fin 512) (c : Fin 384) :
    broadcastTo S512x384 x broadcasts_S512x1_S512x384 (ix2 ρ c) = x (ix2 ρ 0) := by
  refine broadcastTo_apply _ _ _ _ fun a => ?_
  match a with
  | ⟨0, _⟩ => rfl
  | ⟨1, _⟩ => rfl

section
variable (s : FVec Ideal S512x384 .f32) (t : FVec Ideal S512x1 .f32) (ρ : Fin 512) (S : ℕ → EReal)
  (hs : ∀ c : Fin 384, s (ix2 ρ c) = S c.val)
include hs

theorem mxCol_apply : mxCol s t (ix2 ρ 0) = top 384 S (t (ix2 ρ 0)) := by
  unfold mxCol top
  show max (shapeCast S512x1 (multiReduction .maximumf [1] S512 s 0xFF800000#32 reduces_S512x384_S512 (.inl rfl) rfl)
    shapeCasts_S512_S512x1 (ix2 ρ 0)) (t (ix2 ρ 0)) = _
  have e : (FloatOps.ofBits (F := Ideal) .f32 0xFF800000#32 : EReal) = ⊥ := by
    show Ideal.ofBits .f32 0xFF800000#32 = ⊥
    simp [Ideal.ofBits, Ideal.ieee, -EReal.coe_mul]
  refine congrArg₂ max ?_ rfl
  refine (toCol _ _ _).trans ?_
  refine (Ideal.multiReduction_maximumf_single s _ _ _ _ (ix1 ρ)).trans ?_
  rw [e]
  refine Eq.trans ?_ (fold_univ_eq 384 S)
  refine congrArg (Finset.fold max ⊥ · Finset.univ) (funext fun k => ?_)
  exact (congrArg s (lift_row ρ k)).trans (hs k)

theorem exps_apply (c : Fin 384) : exps s t (ix2 ρ c) = Ideal.exp (S c.val - top 384 S (t (ix2 ρ 0))) := by
  unfold exps
  show Ideal.exp (s (ix2 ρ c) - broadcastTo S512x384 (mxCol s t) broadcasts_S512x1_S512x384 (ix2 ρ c)) = _
  rw [spread, mxCol_apply s t ρ S hs, hs]

theorem denCol_apply : denCol s t (ix2 ρ 0) = den 384 S (t (ix2 ρ 0)) := by
  unfold denCol den
  show shapeCast S512x1 (multiReduction .add [1] S512 (exps s t) 0x00000000#32 reduces_S512x384_S512 (.inl rfl) rfl)
    shapeCasts_S512_S512x1 (ix2 ρ 0) + Ideal.exp (t (ix2 ρ 0) - mxCol s t (ix2 ρ 0)) = _
  rw [mxCol_apply s t ρ S hs, Finset.sum_range]
  refine congrArg (· + _) ((toCol _ _ _).trans ((Ideal.multiReduction_add_single (exps s t) _ _ _ _ (ix1 ρ)).trans ?_))
  refine Finset.sum_congr rfl fun k _ => ?_
  exact (congrArg (exps s t) (lift_row ρ k)).trans (exps_apply s t ρ S hs k)

theorem soft_apply (v : FVec Ideal S384x64 .bf16) (d : Fin 64) (V : ℕ → EReal) (hv : ∀ c : Fin 384, v (ix2 c d) = V c.val) :
    soft s t v (ix2 ρ d) = att 384 S (t (ix2 ρ 0)) V := by
  unfold soft att
  refine Eq.trans (b := FloatOps.matmul (DotDims.plain 512 384 64) none
    (truncf .bf16 (divf (exps s t) (broadcastTo S512x384 (denCol s t) broadcasts_S512x1_S512x384)) bitsLt_bf16_f32) v
    (constant S512x64 .f32 0x00000000#32) (ix2 ρ d)) rfl ?_
  rw [Ideal.matmul_plain_apply,
    show (constant S512x64 .f32 0x00000000#32 : FVec Ideal S512x64 .f32) (ix2 ρ d) = 0 from Ideal.ofBits_zero_f32, zero_add,
    Finset.sum_range]
  refine Finset.sum_congr rfl fun k _ => ?_
  rw [hv]
  refine congrArg (· * _) ?_
  show Ideal.div (exps s t (ix2 ρ k)) (broadcastTo S512x384 (denCol s t) broadcasts_S512x1_S512x384 (ix2 ρ k)) = _
  rw [spread, exps_apply s t ρ S hs, denCol_apply s t ρ S hs]
end

theorem outPiece_apply (o : Fin 4 → FVec Ideal S512x64 .f32) (G g : Fin 4) (r : Fin 128) (d : Fin 64) :
    outPiece o ⟨4 * G.val + g.val, by omega⟩ (ix2 r d) = o G (ix2 (row4 g r) d) := by
  have key : ∀ (y : FVec Ideal S512x64 .f32) (k : Fin 4) (hs : S512x64.Slices ![128 * k.val, 0] S128x64),
      extractStridedSlice S128x64 ![128 * k.val, 0] y hs (ix2 r d) = y (ix2 (row4 k r) d) := by
    intro y k hs
    refine extractStridedSlice_apply _ _ _ _ _ fun a => ?_
    match a with
    | ⟨0, _⟩ => rfl
    | ⟨1, _⟩ => exact (Nat.zero_add _).symm
  match G, g with
  | 0, 0 => exact key (o 0) 0 slices_S512x64_o0_0_S128x64
  | 0, 1 => exact key (o 0) 1 slices_S512x64_o128_0_S128x64
  | 0, 2 => exact key (o 0) 2 slices_S512x64_o256_0_S128x64
  | 0, 3 => exact key (o 0) 3 slices_S512x64_o384_0_S128x64
  | 1, 0 => exact key (o 1) 0 slices_S512x64_o0_0_S128x64
  | 1, 1 => exact key (o 1) 1 slices_S512x64_o128_0_S128x64
  | 1, 2 => exact key (o 1) 2 slices_S512x64_o256_0_S128x64
  | 1, 3 => exact key (o 1) 3 slices_S512x64_o384_0_S128x64
  | 2, 0 => exact key (o 2) 0 slices_S512x64_o0_0_S128x64
  | 2, 1 => exact key (o 2) 1 slices_S512x64_o128_0_S128x64
  | 2, 2 => exact key (o 2) 2 slices_S512x64_o256_0_S128x64
  | 2, 3 => exact key (o 2) 3 slices_S512x64_o384_0_S128x64
  | 3, 0 => exact key (o 3) 0 slices_S512x64_o0_0_S128x64
  | 3, 1 => exact key (o 3) 1 slices_S512x64_o128_0_S128x64
  | 3, 2 => exact key (o 3) 2 slices_S512x64_o256_0_S128x64
  | 3, 3 => exact key (o 3) 3 slices_S512x64_o384_0_S128x64

theorem cat16_apply (f : Fin 16 → FVec Ideal S128x64 .f32) (r : Fin 128) (j : Fin 1024) :
    cat16 f (ix2 r j) = f ⟨j.val / 64, by omega⟩ (ix2 r (⟨j.val % 64, by omega⟩ : Fin 64)) := by
  unfold cat16
  refine concatenate_ofFn_apply (t := S128x1024) (s₁ := S128x64) 1 f
    concatenates_S128x64_S128x64_S128x64_S128x64_S128x64_S128x64_S128x64_S128x64_S128x64_S128x64_S128x64_S128x64_S128x64_S128x64_S128x64_S128x64_S128x1024_d1
    rfl 64 rfl (ix2 r j) _ rfl _ rfl ?_
  intro b hb
  match b with
  | ⟨0, _⟩ => rfl
  | ⟨1, _⟩ => exact absurd rfl hb

/-- The outputs of a block at a row and a column, from its rotated queries and keys, its values and the sinks. -/
theorem blkOf_apply (n : ℕ) (hn : n < 17) (x0 : Fin 16 → EReal) (q : FVec Ideal S128x1024 .bf16) (k v : FVec Ideal S384x256 .bf16)
    (r : Fin 128) (j : Fin 1024) (Q : ℕ → EReal) (K V : ℕ → ℕ → EReal) (hq : ∀ j : Fin 1024, q (ix2 r j) = Q j.val)
    (hk : ∀ (c : Fin 384) (j : Fin 256), k (ix2 c j) = K c.val j.val)
    (hv : ∀ (c : Fin 384) (j : Fin 256), v (ix2 c j) = V c.val j.val) :
    blkOf (F := Ideal) (okM (BitVec.ofNat 32 n)) x0 q k v (ix2 r j)
      = att 384 (fun c => if keep n r.val c then ∑ d ∈ Finset.range 64, Q (64 * (j.val / 64) + d) * K c (64 * (j.val / 256) + d) else ⊥)
          (x0 ⟨j.val / 64, by omega⟩) (fun c => V c (64 * (j.val / 256) + j.val % 64)) := by
  have hj := j.isLt
  unfold blkOf
  have eh : (⟨j.val / 64, by omega⟩ : Fin 16)
      = ⟨4 * (⟨j.val / 256, by omega⟩ : Fin 4).val + (⟨j.val / 64 % 4, by omega⟩ : Fin 4).val, by dsimp only; omega⟩ :=
    Fin.ext (by dsimp only; omega)
  rw [cat16_apply, eh, outPiece_apply]
  refine (soft_apply _ _ _
    (fun c => if keep n r.val c then ∑ d ∈ Finset.range 64, Q (64 * (j.val / 64) + d) * K c (64 * (j.val / 256) + d) else ⊥)
    (fun c => ?_) _ _ (fun c => V c (64 * (j.val / 256) + j.val % 64)) fun c => ?_).trans ?_
  rotate_left 2
  · rw [sinkG_apply]
  · rw [scoreG_apply]
    have e : (row4 (⟨j.val / 64 % 4, by omega⟩ : Fin 4) r).val % 128 = r.val := by
      show (128 * (j.val / 64 % 4) + r.val) % 128 = r.val; omega
    have hm := okM_apply n hn (row4 (⟨j.val / 64 % 4, by omega⟩ : Fin 4) r) c
    rw [e] at hm
    simp only [hm]
    refine if_congr Iff.rfl ?_ rfl
    rw [Finset.sum_range]
    refine Finset.sum_congr rfl fun d _ => ?_
    rw [hq, hk]
    have e1 : 256 * (j.val / 256) + 64 * (j.val / 64 % 4) + d.val = 64 * (j.val / 64) + d.val := by omega
    simp only [e1]
  · rw [valG_apply, hv]

/-- The outputs of a block at a row and a column, from the blocks it reads. -/
theorem blk_apply (n : ℕ) (hn : n < 17) (x0 : Fin 16 → EReal) (x1 : Vec Ideal S128x1024 .f32)
    (x2 x3 x4 x5 x6 x7 : Vec Ideal S128x256 .f32) (x8 x9 x10 : Vec Ideal S3x128x128 .f32)
    (r : Fin 128) (j : Fin 1024) (Q : ℕ → EReal) (K V cs sn : ℕ → ℕ → EReal)
    (h1 : ∀ j : Fin 1024, x1 (ix2 r j) = Q j.val)
    (h3 : ∀ (i : Fin 128) (j : Fin 256), x3 (ix2 i j) = K i.val j.val)
    (h2 : ∀ (i : Fin 128) (j : Fin 256), x2 (ix2 i j) = K (128 + i.val) j.val)
    (h4 : ∀ (i : Fin 128) (j : Fin 256), x4 (ix2 i j) = K (256 + i.val) j.val)
    (h6 : ∀ (i : Fin 128) (j : Fin 256), x6 (ix2 i j) = V i.val j.val)
    (h5 : ∀ (i : Fin 128) (j : Fin 256), x5 (ix2 i j) = V (128 + i.val) j.val)
    (h7 : ∀ (i : Fin 128) (j : Fin 256), x7 (ix2 i j) = V (256 + i.val) j.val)
    (h9 : TabOf x9 cs sn) (h8 : TabOf x8 (fun i => cs (128 + i)) (fun i => sn (128 + i)))
    (h10 : TabOf x10 (fun i => cs (256 + i)) (fun i => sn (256 + i))) :
    blkOut (F := Ideal) (BitVec.ofNat 32 n) x0 x1 x2 x3 x4 x5 x6 x7 x8 x9 x10 (ix2 r j)
      = att 384 (fun c => if keep n r.val c then
            ∑ d ∈ Finset.range 64, (ropeS (fun d => Q (64 * (j.val / 64) + d)) (cs (128 + r.val)) (sn (128 + r.val)) d * e8)
              * ropeS (fun d => K c (64 * (j.val / 256) + d)) (cs c) (sn c) d else ⊥)
          (x0 ⟨j.val / 64, by omega⟩) (fun c => V c (64 * (j.val / 256) + j.val % 64)) := by
  have hj := j.isLt
  unfold blkOut
  refine (blkOf_apply n hn x0 _ _ _ r j
    (fun j => ropeS (fun d => Q (64 * (j / 64) + d)) (cs (128 + r.val)) (sn (128 + r.val)) (j % 64) * e8)
    (fun c j => ropeS (fun d => K c (64 * (j / 64) + d)) (cs c) (sn c) (j % 64)) V
    (fun j => qRot_apply x1 x8 _ _ h8 r Q h1 j)
    (stack3_apply _ _ _ (fun c j => ropeS (fun d => K c (64 * (j / 64) + d)) (cs c) (sn c) (j % 64)) (fun i j => kRot_apply x3 x9 _ _ h9 i (K i.val) (h3 i) j)
      (fun i j => kRot_apply x2 x8 _ _ h8 i (K (128 + i.val)) (h2 i) j)
      (fun i j => kRot_apply x4 x10 _ _ h10 i (K (256 + i.val)) (h4 i) j))
    (stack3_apply _ _ _ V h6 h5 h7)).trans ?_
  refine congrArg (fun s => att 384 s _ _) (funext fun c => if_congr Iff.rfl (Finset.sum_congr rfl fun d hd => ?_) rfl)
  have hd' := Finset.mem_range.1 hd
  rw [show (64 * (j.val / 64) + d) / 64 = j.val / 64 by omega, show (64 * (j.val / 64) + d) % 64 = d by omega,
    show (64 * (j.val / 256) + d) / 64 = j.val / 256 by omega, show (64 * (j.val / 256) + d) % 64 = d by omega]

end Cert.Attn

end
-- ==== Proof.Attn.Tables.lean ====
module

public import proofs.«01_k».proof.Proof.Attn.Rope
public import Idealize.ShloMosaic.Lib.Claim
public import Idealize.ShloMosaic.Lib.ValueIdxRank6

@[expose] public section

/-! The rope tables that the host lays down before the kernel starts, read at a table, a row and a column. -/

noncomputable section

namespace Cert.Attn

open Cert.KernelIdeal Cert.KernelIdeal.Gen Idealize.ShloMosaic Idealize.ShloMosaic.TcCoe
open Idealize.ShloMosaic.ValueIdx

/-- The eight frequencies. -/
def pwV : FVec Ideal S8 .f32 :=
  Host.powf (broadcastInDim S8 ![] bcast_S_S8 (constant (F := Ideal) S_ .f32 0x48F42400#32))
    (Host.divf (Host.negf (sitofp .f32 (iotaInDim S8 32 0)))
      (broadcastInDim S8 ![] bcast_S_S8 (constant (F := Ideal) S_ .f32 0x41000000#32)))

/-- The position of every row of a sequence. -/
def posV : FVec Ideal S2176 .f32 :=
  sitofp .f32 (subi (iotaInDim S2176 32 0) (broadcastInDim S2176 ![] bcast_S_S2176 (constantI S_ 32 112#32)))

/-- The angles: a row's position times a frequency. -/
def angV : FVec Ideal S2176x8 .f32 :=
  mulf (broadcastInDim S2176x8 ![0, 1] bcast_S2176x1_S2176x8_0_1 (broadcastInDim S2176x1 ![0] bcast_S2176_S2176x1_0 posV))
    (broadcastInDim S2176x8 ![0, 1] bcast_S1x8_S2176x8_0_1 (broadcastInDim S1x8 ![1] bcast_S8_S1x8_1 pwV))

/-- Eight zero columns. -/
def zero8 : FVec Ideal S2176x8 .f32 := broadcastInDim S2176x8 ![] bcast_S_S2176x8 (constant (F := Ideal) S_ .f32 0x00000000#32)

/-- Forty-eight columns of one constant. -/
def const48 (w : BitVec 32) : FVec Ideal S2176x48 .f32 := broadcastInDim S2176x48 ![] bcast_S_S2176x48 (constant (F := Ideal) S_ .f32 w)

/-- Two pieces of eight columns and one of forty-eight, side by side. -/
def row64 (a b : FVec Ideal S2176x8 .f32) (c : FVec Ideal S2176x48 .f32) : FVec Ideal S2176x64 .f32 :=
  concatenate S2176x64 1 [⟨S2176x8, a⟩, ⟨S2176x8, b⟩, ⟨S2176x48, c⟩] concatenates_S2176x8_S2176x8_S2176x48_S2176x64_d1

/-- Three tables stacked, each laid down twice for two heads side by side. -/
def pile (a b c : FVec Ideal S2176x64 .f32) : FVec Ideal S3x2176x128 .f32 :=
  shapeCast S3x2176x128
    (broadcastInDim S1x3x1x2176x2x64 ![0, 1, 2, 3, 4, 5] bcast_S1x3x1x2176x1x64_S1x3x1x2176x2x64_0_1_2_3_4_5
      (shapeCast S1x3x1x2176x1x64
        (concatenate S3x2176x64 0
          [⟨S1x2176x64, broadcastInDim S1x2176x64 ![1, 2] bcast_S2176x64_S1x2176x64_1_2 a⟩,
           ⟨S1x2176x64, broadcastInDim S1x2176x64 ![1, 2] bcast_S2176x64_S1x2176x64_1_2 b⟩,
           ⟨S1x2176x64, broadcastInDim S1x2176x64 ![1, 2] bcast_S2176x64_S1x2176x64_1_2 c⟩]
          concatenates_S1x2176x64_S1x2176x64_S1x2176x64_S3x2176x64_d0)
        shapeCasts_S3x2176x64_S1x3x1x2176x1x64))
    shapeCasts_S1x3x1x2176x2x64_S3x2176x128

/-- The rope tables. -/
def tables : FVec Ideal S3x2176x128 .f32 :=
  pile (row64 (Host.cos angV) (Host.cos angV) (const48 0x3F800000#32)) (row64 (Host.negf (Host.sin angV)) zero8 (const48 0x00000000#32))
    (row64 zero8 (Host.sin angV) (const48 0x00000000#32))

variable (m : (ℓ : Loc nD τ sig) → Buf (Elt Ideal) ℓ)

set_option maxRecDepth 65536 in
set_option maxHeartbeats 8000000 in
/-- The kernel's table argument as the host leaves it is `tables`. -/
theorem V_tables (c : Dev nD) : V m c main_v30 = tables := by
  show StableHlo.after hostOps0 _ (Proc.devRef .tc main_v30) = _
  after_results_simp
  rfl

/-- Angle of position `p` at frequency `d`. -/
def ang (p : ℤ) (d : ℕ) : EReal := if h : d < 8 then ((p : ℝ) : EReal) * pwV (ix1 ⟨d, h⟩) else 0

theorem posV_apply (R : Fin 2176) : posV (ix1 R) = ((((R.val : ℤ) - 112 : ℤ) : ℝ) : EReal) := by
  unfold posV
  show (((BitVec.toInt (IntOp.subi (BitVec.ofNat 32 R.val) 112#32) : ℤ) : ℝ) : EReal) = _
  have h : BitVec.toInt (IntOp.subi (BitVec.ofNat 32 R.val) 112#32) = (R.val : ℤ) - 112 := by
    have := R.isLt
    rw [IntOp.subi, BitVec.toInt_sub, BitVec.toInt_eq_toNat_bmod, BitVec.toNat_ofNat, show (112#32).toInt = 112 by decide]
    simp only [Int.bmod_def]
    omega
  rw [h]

theorem angV_apply (R : Fin 2176) (d : Fin 8) : angV (ix2 R d) = ang ((R.val : ℤ) - 112) d.val := by
  unfold ang
  rw [dif_pos d.isLt, ← posV_apply]
  have h1 : broadcastInDim S2176x8 ![0, 1] bcast_S2176x1_S2176x8_0_1
      (broadcastInDim S2176x1 ![0] bcast_S2176_S2176x1_0 posV) (ix2 R d) = posV (ix1 R) := by
    rw [broadcastInDim_apply ![0, 1] _ _ (ix2 R d) (ix2 R (0 : Fin 1)) (fun a => by
        match a with
        | ⟨0, _⟩ => rfl
        | ⟨1, _⟩ => rfl),
      broadcastInDim_apply ![0] _ _ (ix2 R (0 : Fin 1)) (ix1 R) (fun a => by
        match a with
        | ⟨0, _⟩ => rfl)]
  have h2 : broadcastInDim S2176x8 ![0, 1] bcast_S1x8_S2176x8_0_1
      (broadcastInDim S1x8 ![1] bcast_S8_S1x8_1 pwV) (ix2 R d) = pwV (ix1 d) := by
    rw [broadcastInDim_apply ![0, 1] _ _ (ix2 R d) (ix2 (0 : Fin 1) d) (fun a => by
        match a with
        | ⟨0, _⟩ => rfl
        | ⟨1, _⟩ => rfl),
      broadcastInDim_apply ![1] _ _ (ix2 (0 : Fin 1) d) (ix1 d) (fun a => by
        match a with
        | ⟨0, _⟩ => rfl)]
  exact congrArg₂ (fun x y : EReal => x * y) h1 h2

theorem row64_apply (a b : FVec Ideal S2176x8 .f32) (c : FVec Ideal S2176x48 .f32) (A B : ℕ → EReal) (C : EReal) (R : Fin 2176)
    (hA : ∀ d : Fin 8, a (ix2 R d) = A d) (hB : ∀ d : Fin 8, b (ix2 R d) = B d) (hC : ∀ d : Fin 48, c (ix2 R d) = C) (i : Fin 64) :
    row64 a b c (ix2 R i) = if i.val < 8 then A i else if i.val < 16 then B (i.val - 8) else C := by
  have hi := i.isLt
  unfold row64
  by_cases h1 : i.val < 8
  · rw [if_pos h1]
    exact (concatenate_apply_piece (t := S2176x64) 1 _ _ (ix2 R i) 0 (by simp) S2176x8 a rfl rfl 0 rfl (ix2 R ⟨i.val, h1⟩)
      (fun b hb => by
        match b, hb with
        | ⟨0, _⟩, _ => rfl
        | ⟨1, _⟩, hb => exact absurd rfl hb)
      (Nat.zero_add _)).trans (hA _)
  · rw [if_neg h1]
    by_cases h2 : i.val < 16
    · rw [if_pos h2]
      exact (concatenate_apply_piece (t := S2176x64) 1 _ _ (ix2 R i) 1 (by simp) S2176x8 b rfl rfl 8 rfl (ix2 R ⟨i.val - 8, by omega⟩)
        (fun b hb => by
          match b, hb with
          | ⟨0, _⟩, _ => rfl
          | ⟨1, _⟩, hb => exact absurd rfl hb)
        (show 8 + (i.val - 8) = i.val by omega)).trans (hB _)
    · rw [if_neg h2]
      exact (concatenate_apply_piece (t := S2176x64) 1 _ _ (ix2 R i) 2 (by simp) S2176x48 c rfl rfl 16 rfl (ix2 R ⟨i.val - 16, by omega⟩)
        (fun b hb => by
          match b, hb with
          | ⟨0, _⟩, _ => rfl
          | ⟨1, _⟩, hb => exact absurd rfl hb)
        (show 16 + (i.val - 16) = i.val by omega)).trans (hC _)

theorem pile_apply (a b c : FVec Ideal S2176x64 .f32) (k : Fin 3) (R : Fin 2176) (i : Fin 128) :
    pile a b c (ix3 k R i) = (match k with | 0 => a | 1 => b | 2 => c) (ix2 R (⟨i.val % 64, by omega⟩ : Fin 64)) := by
  have hi := i.isLt
  have hR := R.isLt
  have hk := k.isLt
  unfold pile
  rw [shapeCast_apply _ _ (ix3 k R i) (ix6 (0 : Fin 1) k (0 : Fin 1) R (⟨i.val / 64, by omega⟩ : Fin 2) (⟨i.val % 64, by omega⟩ : Fin 64)) (by
      rw [Shape.rowMajor_val_six, Shape.rowMajor_val_three]
      show ((((0 * 3 + k.val) * 1 + 0) * 2176 + R.val) * 2 + i.val / 64) * 64 + i.val % 64 = (k.val * 2176 + R.val) * 128 + i.val
      omega),
    broadcastInDim_apply ![0, 1, 2, 3, 4, 5] _ _ _ (ix6 (0 : Fin 1) k (0 : Fin 1) R (0 : Fin 1) (⟨i.val % 64, by omega⟩ : Fin 64)) (fun a => by
      match a with
      | ⟨0, _⟩ => rfl
      | ⟨1, _⟩ => rfl
      | ⟨2, _⟩ => rfl
      | ⟨3, _⟩ => rfl
      | ⟨4, _⟩ => rfl
      | ⟨5, _⟩ => rfl),
    shapeCast_apply _ _ _ (ix3 k R (⟨i.val % 64, by omega⟩ : Fin 64)) (by
      rw [Shape.rowMajor_val_six, Shape.rowMajor_val_three]
      show (k.val * 2176 + R.val) * 64 + i.val % 64 = ((((0 * 3 + k.val) * 1 + 0) * 2176 + R.val) * 1 + 0) * 64 + i.val % 64
      omega)]
  have hb : ∀ x : FVec Ideal S2176x64 .f32, broadcastInDim S1x2176x64 ![1, 2] bcast_S2176x64_S1x2176x64_1_2 x (ix3 (0 : Fin 1) R (⟨i.val % 64, by omega⟩ : Fin 64))
      = x (ix2 R (⟨i.val % 64, by omega⟩ : Fin 64)) := fun x =>
    broadcastInDim_apply ![1, 2] bcast_S2176x64_S1x2176x64_1_2 x _ (ix2 R (⟨i.val % 64, by omega⟩ : Fin 64)) (fun a => by
      match a with
      | ⟨0, _⟩ => rfl
      | ⟨1, _⟩ => rfl)
  match k with
  | 0 =>
    exact (concatenate_apply_piece (t := S3x2176x64) 0 _ _ (ix3 _ R _) 0 (by simp) S1x2176x64 _ rfl rfl 0 rfl (ix3 (0 : Fin 1) R _)
      (fun b hb => by
        match b, hb with
        | ⟨0, _⟩, hb => exact absurd rfl hb
        | ⟨1, _⟩, _ => rfl
        | ⟨2, _⟩, _ => rfl) rfl).trans (hb a)
  | 1 =>
    exact (concatenate_apply_piece (t := S3x2176x64) 0 _ _ (ix3 _ R _) 1 (by simp) S1x2176x64 _ rfl rfl 1 rfl (ix3 (0 : Fin 1) R _)
      (fun b hb => by
        match b, hb with
        | ⟨0, _⟩, hb => exact absurd rfl hb
        | ⟨1, _⟩, _ => rfl
        | ⟨2, _⟩, _ => rfl) rfl).trans (hb b)
  | 2 =>
    exact (concatenate_apply_piece (t := S3x2176x64) 0 _ _ (ix3 _ R _) 2 (by simp) S1x2176x64 _ rfl rfl 2 rfl (ix3 (0 : Fin 1) R _)
      (fun b hb => by
        match b, hb with
        | ⟨0, _⟩, hb => exact absurd rfl hb
        | ⟨1, _⟩, _ => rfl
        | ⟨2, _⟩, _ => rfl) rfl).trans (hb c)

/-- The cosine at row `R` of a sequence and frequency `d`. -/
def cosT (R d : ℕ) : EReal := Ideal.cos (ang ((R : ℤ) - 112) d)

/-- The sine at row `R` of a sequence and frequency `d`. -/
def sinT (R d : ℕ) : EReal := Ideal.sin (ang ((R : ℤ) - 112) d)

theorem lit_one : (Ideal.ofBits .f32 0x3F800000#32 : EReal) = 1 := by
  simp [Ideal.ofBits, Ideal.ieee, -EReal.coe_mul]; norm_num

/-- The three tables at a row and a column. -/
theorem tables_apply (R : Fin 2176) (i : Fin 128) :
    tables (ix3 (0 : Fin 3) R i) = (if i.val % 64 < 8 then cosT R (i.val % 64) else if i.val % 64 < 16 then cosT R (i.val % 64 - 8) else 1)
    ∧ tables (ix3 (1 : Fin 3) R i) = (if i.val % 64 < 8 then -sinT R (i.val % 64) else 0)
    ∧ tables (ix3 (2 : Fin 3) R i) = (if i.val % 64 < 8 then 0 else if i.val % 64 < 16 then sinT R (i.val % 64 - 8) else 0) := by
  have hc : ∀ d : Fin 8, Host.cos angV (ix2 R d) = cosT R d := fun d => congrArg Ideal.cos (angV_apply R d)
  have hs : ∀ d : Fin 8, Host.sin angV (ix2 R d) = sinT R d := fun d => congrArg Ideal.sin (angV_apply R d)
  have hn : ∀ d : Fin 8, Host.negf (Host.sin angV) (ix2 R d) = -sinT R d := fun d => congrArg Neg.neg (hs d)
  have hz : ∀ d : Fin 8, zero8 (ix2 R d) = 0 := fun d => Ideal.ofBits_zero_f32
  have hz' : ∀ d : Fin 48, const48 0x00000000#32 (ix2 R d) = 0 := fun d => Ideal.ofBits_zero_f32
  have h1 : ∀ d : Fin 48, const48 0x3F800000#32 (ix2 R d) = 1 := fun d => lit_one
  refine ⟨?_, ?_, ?_⟩
  · exact (pile_apply _ _ _ 0 R i).trans (row64_apply _ _ _ (cosT R) (cosT R) 1 R hc hc h1 _)
  · refine (pile_apply _ _ _ 1 R i).trans ((row64_apply _ _ _ (fun d => -sinT R d) (fun _ => 0) 0 R hn hz hz' _).trans ?_)
    simp only [ite_self]
  · exact (pile_apply _ _ _ 2 R i).trans (row64_apply _ _ _ (fun _ => 0) (sinT R) 0 R hz hs hz' _)

end Cert.Attn
-- ==== Proof.Attn.Arr.lean ====
module

public import proofs.«01_k».proof.Proof.Attn.Heads
public import proofs.«01_k».proof.Proof.Attn.Tables

@[expose] public section

/-! The attention kernel's result array, read at any row and column as one expression in its two arguments. -/

noncomputable section

namespace Cert.Attn

open Cert.KernelIdeal Cert.KernelIdeal.Gen Cert.KernelIdeal.Value Idealize.ShloMosaic Idealize.ShloMosaic.TcCoe
open Idealize.ShloMosaic.Pipeline (Dat)
open Idealize.ShloMosaic.ValueIdx

/-- The projected rows at a row and a column given as numbers. -/
def rd (A : S8704x1536.Idx → EReal) (R C : ℕ) : EReal :=
  if h : R < 8704 ∧ C < 1536 then A (ix2 (⟨R, h.1⟩ : Fin 8704) (⟨C, h.2⟩ : Fin 1536)) else 0

theorem rd_eq (A : S8704x1536.Idx → EReal) (R : Fin 8704) (C : Fin 1536) (R' C' : ℕ) (hR : R' = R.val) (hC : C' = C.val) :
    A (ix2 R C) = rd A R' C' := by
  subst hR hC
  unfold rd
  rw [dif_pos ⟨R.isLt, C.isLt⟩]

/-- The row of a sequence that key `c` of block `n` stands in. -/
def kPos (n c : ℕ) : ℕ := if c < 128 then 128 * (n - 1) + c else if c < 256 then 128 * n + (c - 128) else c - 256

/-- The score of key `c` for query row `r` of block `n`, head `h`. -/
def sK (A : S8704x1536.Idx → EReal) (b n r h c : ℕ) : EReal :=
  ∑ d ∈ Finset.range 64, (ropeS (fun d => rd A (2176 * b + (128 * n + r)) (64 * h + d)) (cosT (128 * n + r)) (sinT (128 * n + r)) d * e8)
    * ropeS (fun d => rd A (2176 * b + kPos n c) (1024 + (64 * (h / 4) + d))) (cosT (kPos n c)) (sinT (kPos n c)) d

/-- The kernel's result at row `r` of block `n` of sequence `b`, column `j`. -/
def attK (A : S8704x1536.Idx → EReal) (t : EReal) (b n r j : ℕ) : EReal :=
  att 384 (fun c => if keep n r c then sK A b n r (j / 64) c else ⊥) t
    (fun c => rd A (2176 * b + kPos n c) (1280 + (64 * (j / 256) + j % 64)))

variable (m : (ℓ : Loc nD τ sig) → Buf (Elt Ideal) ℓ)

theorem coord1 : ∀ t : Fin cfg0.N, ((cfg0.grid.coords t) 1).val = t.val % 17 := (by decide +kernel : ∀ t : Fin grid0.N, _)

theorem idx0 : ∀ t : Fin cfg0.N, win0_0.index t (0 : Fin 1) = 0 := (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 4 :=
  (by decide +kernel : ∀ t : Fin grid0.N, _)
theorem idx3 : ∀ t : Fin cfg0.N, win0_3.index t (0 : Fin 2) = 17 * (t.val / 17) + (t.val % 17 - 1) ∧ win0_3.index t (1 : Fin 2) = 4 :=
  (by decide +kernel : ∀ t : Fin grid0.N, _)
theorem idx4 : ∀ t : Fin cfg0.N, win0_4.index t (0 : Fin 2) = 17 * (t.val / 17) ∧ win0_4.index t (1 : Fin 2) = 4 :=
  (by decide +kernel : ∀ t : Fin grid0.N, _)
theorem idx5 : ∀ t : Fin cfg0.N, win0_5.index t (0 : Fin 2) = t.val ∧ win0_5.index t (1 : Fin 2) = 5 :=
  (by decide +kernel : ∀ t : Fin grid0.N, _)
theorem idx6 : ∀ t : Fin cfg0.N, win0_6.index t (0 : Fin 2) = 17 * (t.val / 17) + (t.val % 17 - 1) ∧ win0_6.index t (1 : Fin 2) = 5 :=
  (by decide +kernel : ∀ t : Fin grid0.N, _)
theorem idx7 : ∀ t : Fin cfg0.N, win0_7.index t (0 : Fin 2) = 17 * (t.val / 17) ∧ win0_7.index t (1 : Fin 2) = 5 :=
  (by decide +kernel : ∀ t : Fin grid0.N, _)
theorem idx8 : ∀ t : Fin cfg0.N, win0_8.index t (0 : Fin 3) = 0 ∧ win0_8.index t (1 : Fin 3) = t.val % 17 ∧ win0_8.index t (2 : Fin 3) = 0 :=
  (by decide +kernel : ∀ t : Fin grid0.N, _)
theorem idx9 : ∀ t : Fin cfg0.N, win0_9.index t (0 : Fin 3) = 0 ∧ win0_9.index t (1 : Fin 3) = t.val % 17 - 1 ∧ win0_9.index t (2 : Fin 3) = 0 :=
  (by decide +kernel : ∀ t : Fin grid0.N, _)
theorem idx10 : ∀ t : Fin cfg0.N, win0_10.index t (0 : Fin 3) = 0 ∧ win0_10.index t (1 : Fin 3) = 0 ∧ win0_10.index t (2 : Fin 3) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)

/-- The projected rows as the kernel was launched with them. -/
abbrev argA (c : Dev nD) : S8704x1536.Idx → EReal := m ((c : Thread nD τ).loc main_arg0)
/-- The sinks as the kernel was launched with them. -/
abbrev argS (c : Dev nD) : S16.Idx → EReal := m ((c : Thread nD τ).loc main_arg1)

theorem lt68 (t : Fin cfg0.N) : t.val < 68 := lt_of_lt_of_eq t.isLt (by decide +kernel)

theorem rd0 (c : Dev nD) (t : Fin cfg0.N) (k : Fin 16) : iblk m c 0 t (ix1 k) = argS m c (ix1 k) := by
  have e0 := idx0 t
  show V m c main_arg1 (((cfg0.win 0).blk t).view.emb (ix1 k)) = _
  rw [V_main_arg1]
  refine congrArg _ (funext fun a => Fin.ext ?_)
  match a with
  | ⟨0, _⟩ => show win0_0.index t (0 : Fin 1) * 16 + 1 * k.val = k.val; omega

theorem rd1 (c : Dev nD) (t : Fin cfg0.N) (i : Fin 128) (j : Fin 1024) :
    X0_1 m c t (ix2 i j) = rd (argA m c) (128 * t.val + i) j := by
  obtain ⟨e0, e1⟩ := idx1 t
  have ht := lt68 t
  have hi := i.isLt
  have hj := j.isLt
  unfold X0_1 Pipeline.Window.fill
  rw [dif_pos (moved0_1 t (ix2 i j))]
  refine Eq.trans ?_ (rd_eq _ (⟨128 * t.val + i, by omega⟩ : Fin 8704) (⟨j.val, by omega⟩ : Fin 1536) _ _ rfl rfl)
  show V m c main_arg0 (((cfg0.win 1).blk t).view.emb _) = _
  rw [V_main_arg0]
  refine congrArg _ (funext fun a => Fin.ext ?_)
  match a with
  | ⟨0, _⟩ => show win0_1.index t (0 : Fin 2) * 128 + 1 * i.val = 128 * t.val + i.val; omega
  | ⟨1, _⟩ => show win0_1.index t (1 : Fin 2) * 1024 + 1 * j.val = j.val; omega

theorem rd2 (c : Dev nD) (t : Fin cfg0.N) (i : Fin 128) (j : Fin 256) :
    iblk m c 2 t (ix2 i j) = rd (argA m c) (128 * t.val + i) (1024 + j) := by
  obtain ⟨e0, e1⟩ := idx2 t
  have ht := lt68 t
  refine Eq.trans ?_ (rd_eq _ (⟨128 * t.val + i, by omega⟩ : Fin 8704) (⟨1024 + j.val, by omega⟩ : Fin 1536) _ _ rfl rfl)
  show V m c main_arg0 (((cfg0.win 2).blk t).view.emb (ix2 i j)) = _
  rw [V_main_arg0]
  refine congrArg _ (funext fun a => Fin.ext ?_)
  match a with
  | ⟨0, _⟩ => show win0_2.index t (0 : Fin 2) * 128 + 1 * i.val = 128 * t.val + i.val; omega
  | ⟨1, _⟩ => show win0_2.index t (1 : Fin 2) * 256 + 1 * j.val = 1024 + j.val; omega

theorem rd3 (c : Dev nD) (t : Fin cfg0.N) (i : Fin 128) (j : Fin 256) :
    iblk m c 3 t (ix2 i j) = rd (argA m c) (128 * (17 * (t.val / 17) + (t.val % 17 - 1)) + i) (1024 + j) := by
  obtain ⟨e0, e1⟩ := idx3 t
  have ht := lt68 t
  refine Eq.trans ?_ (rd_eq _ (⟨128 * (17 * (t.val / 17) + (t.val % 17 - 1)) + i, by omega⟩ : Fin 8704)
    (⟨1024 + j.val, by omega⟩ : Fin 1536) _ _ rfl rfl)
  show V m c main_arg0 (((cfg0.win 3).blk t).view.emb (ix2 i j)) = _
  rw [V_main_arg0]
  refine congrArg _ (funext fun a => Fin.ext ?_)
  match a with
  | ⟨0, _⟩ => show win0_3.index t (0 : Fin 2) * 128 + 1 * i.val = 128 * (17 * (t.val / 17) + (t.val % 17 - 1)) + i.val; omega
  | ⟨1, _⟩ => show win0_3.index t (1 : Fin 2) * 256 + 1 * j.val = 1024 + j.val; omega

theorem rd4 (c : Dev nD) (t : Fin cfg0.N) (i : Fin 128) (j : Fin 256) :
    iblk m c 4 t (ix2 i j) = rd (argA m c) (128 * (17 * (t.val / 17)) + i) (1024 + j) := by
  obtain ⟨e0, e1⟩ := idx4 t
  have ht := lt68 t
  refine Eq.trans ?_ (rd_eq _ (⟨128 * (17 * (t.val / 17)) + i, by omega⟩ : Fin 8704)
    (⟨1024 + j.val, by omega⟩ : Fin 1536) _ _ rfl rfl)
  show V m c main_arg0 (((cfg0.win 4).blk t).view.emb (ix2 i j)) = _
  rw [V_main_arg0]
  refine congrArg _ (funext fun a => Fin.ext ?_)
  match a with
  | ⟨0, _⟩ => show win0_4.index t (0 : Fin 2) * 128 + 1 * i.val = 128 * (17 * (t.val / 17)) + i.val; omega
  | ⟨1, _⟩ => show win0_4.index t (1 : Fin 2) * 256 + 1 * j.val = 1024 + j.val; omega

theorem rd5 (c : Dev nD) (t : Fin cfg0.N) (i : Fin 128) (j : Fin 256) :
    iblk m c 5 t (ix2 i j) = rd (argA m c) (128 * t.val + i) (1280 + j) := by
  obtain ⟨e0, e1⟩ := idx5 t
  have ht := lt68 t
  refine Eq.trans ?_ (rd_eq _ (⟨128 * t.val + i, by omega⟩ : Fin 8704) (⟨1280 + j.val, by omega⟩ : Fin 1536) _ _ rfl rfl)
  show V m c main_arg0 (((cfg0.win 5).blk t).view.emb (ix2 i j)) = _
  rw [V_main_arg0]
  refine congrArg _ (funext fun a => Fin.ext ?_)
  match a with
  | ⟨0, _⟩ => show win0_5.index t (0 : Fin 2) * 128 + 1 * i.val = 128 * t.val + i.val; omega
  | ⟨1, _⟩ => show win0_5.index t (1 : Fin 2) * 256 + 1 * j.val = 1280 + j.val; omega

theorem rd6 (c : Dev nD) (t : Fin cfg0.N) (i : Fin 128) (j : Fin 256) :
    iblk m c 6 t (ix2 i j) = rd (argA m c) (128 * (17 * (t.val / 17) + (t.val % 17 - 1)) + i) (1280 + j) := by
  obtain ⟨e0, e1⟩ := idx6 t
  have ht := lt68 t
  refine Eq.trans ?_ (rd_eq _ (⟨128 * (17 * (t.val / 17) + (t.val % 17 - 1)) + i, by omega⟩ : Fin 8704)
    (⟨1280 + j.val, by omega⟩ : Fin 1536) _ _ rfl rfl)
  show V m c main_arg0 (((cfg0.win 6).blk t).view.emb (ix2 i j)) = _
  rw [V_main_arg0]
  refine congrArg _ (funext fun a => Fin.ext ?_)
  match a with
  | ⟨0, _⟩ => show win0_6.index t (0 : Fin 2) * 128 + 1 * i.val = 128 * (17 * (t.val / 17) + (t.val % 17 - 1)) + i.val; omega
  | ⟨1, _⟩ => show win0_6.index t (1 : Fin 2) * 256 + 1 * j.val = 1280 + j.val; omega

theorem rd7 (c : Dev nD) (t : Fin cfg0.N) (i : Fin 128) (j : Fin 256) :
    iblk m c 7 t (ix2 i j) = rd (argA m c) (128 * (17 * (t.val / 17)) + i) (1280 + j) := by
  obtain ⟨e0, e1⟩ := idx7 t
  have ht := lt68 t
  refine Eq.trans ?_ (rd_eq _ (⟨128 * (17 * (t.val / 17)) + i, by omega⟩ : Fin 8704)
    (⟨1280 + j.val, by omega⟩ : Fin 1536) _ _ rfl rfl)
  show V m c main_arg0 (((cfg0.win 7).blk t).view.emb (ix2 i j)) = _
  rw [V_main_arg0]
  refine congrArg _ (funext fun a => Fin.ext ?_)
  match a with
  | ⟨0, _⟩ => show win0_7.index t (0 : Fin 2) * 128 + 1 * i.val = 128 * (17 * (t.val / 17)) + i.val; omega
  | ⟨1, _⟩ => show win0_7.index t (1 : Fin 2) * 256 + 1 * j.val = 1280 + j.val; omega

/-- A block of the tables, `base` the row it begins at, holds those rows' cosines and sines. -/
theorem tabOf_of (x : Vec Ideal S3x128x128 .f32) (base : ℕ) (hb : base + 128 ≤ 2176)
    (hx : ∀ (k : Fin 3) (i l : Fin 128), x (ix3 k i l) = tables (ix3 k (⟨base + i, by omega⟩ : Fin 2176) l)) :
    TabOf x (fun i => cosT (base + i)) (fun i => sinT (base + i)) := by
  intro i l
  obtain ⟨h0, h1, h2⟩ := tables_apply (⟨base + i, by omega⟩ : Fin 2176) l
  exact ⟨(hx 0 i l).trans h0, (hx 1 i l).trans h1, (hx 2 i l).trans h2⟩

theorem rd8 (c : Dev nD) (t : Fin cfg0.N) :
    TabOf (iblk m c 8 t) (fun i => cosT (128 * (t.val % 17) + i)) (fun i => sinT (128 * (t.val % 17) + i)) := by
  obtain ⟨e0, e1, e2⟩ := idx8 t
  refine tabOf_of _ _ (by omega) fun k i l => ?_
  show V m c main_v30 (((cfg0.win 8).blk t).view.emb (ix3 k i l)) = _
  rw [V_tables]
  refine congrArg _ (funext fun a => Fin.ext ?_)
  match a with
  | ⟨0, _⟩ => show win0_8.index t (0 : Fin 3) * 3 + 1 * k.val = k.val; omega
  | ⟨1, _⟩ => show win0_8.index t (1 : Fin 3) * 128 + 1 * i.val = 128 * (t.val % 17) + i.val; omega
  | ⟨2, _⟩ => show win0_8.index t (2 : Fin 3) * 128 + 1 * l.val = l.val; omega

theorem rd9 (c : Dev nD) (t : Fin cfg0.N) :
    TabOf (iblk m c 9 t) (fun i => cosT (128 * (t.val % 17 - 1) + i)) (fun i => sinT (128 * (t.val % 17 - 1) + i)) := by
  obtain ⟨e0, e1, e2⟩ := idx9 t
  refine tabOf_of _ _ (by omega) fun k i l => ?_
  show V m c main_v30 (((cfg0.win 9).blk t).view.emb (ix3 k i l)) = _
  rw [V_tables]
  refine congrArg _ (funext fun a => Fin.ext ?_)
  match a with
  | ⟨0, _⟩ => show win0_9.index t (0 : Fin 3) * 3 + 1 * k.val = k.val; omega
  | ⟨1, _⟩ => show win0_9.index t (1 : Fin 3) * 128 + 1 * i.val = 128 * (t.val % 17 - 1) + i.val; omega
  | ⟨2, _⟩ => show win0_9.index t (2 : Fin 3) * 128 + 1 * l.val = l.val; omega

theorem rd10 (c : Dev nD) (t : Fin cfg0.N) : TabOf (iblk m c 10 t) (fun i => cosT (0 + i)) (fun i => sinT (0 + i)) := by
  obtain ⟨e0, e1, e2⟩ := idx10 t
  refine tabOf_of _ 0 (by omega) fun k i l => ?_
  show V m c main_v30 (((cfg0.win 10).blk t).view.emb (ix3 k i l)) = _
  rw [V_tables]
  refine congrArg _ (funext fun a => Fin.ext ?_)
  match a with
  | ⟨0, _⟩ => show win0_10.index t (0 : Fin 3) * 3 + 1 * k.val = k.val; omega
  | ⟨1, _⟩ => show win0_10.index t (1 : Fin 3) * 128 + 1 * i.val = 0 + i.val; omega
  | ⟨2, _⟩ => show win0_10.index t (2 : Fin 3) * 128 + 1 * l.val = l.val; omega

/-- A block of tables agrees with any two functions that agree with its own on 128 rows. -/
theorem TabOf.congr {x : Vec Ideal S3x128x128 .f32} {cs sn cs' sn' : ℕ → ℕ → EReal} (h : TabOf x cs sn)
    (hc : ∀ i < 128, cs' i = cs i) (hs : ∀ i < 128, sn' i = sn i) : TabOf x cs' sn' := by
  intro i l
  rw [hc i i.isLt, hs i i.isLt]
  exact h i l

theorem kPos0 {n i : ℕ} (h : i < 128) : kPos n i = 128 * (n - 1) + i := if_pos h
theorem kPos1 {n i : ℕ} (h : i < 128) : kPos n (128 + i) = 128 * n + i := by
  unfold kPos; rw [if_neg (by omega), if_pos (by omega)]; omega
theorem kPos2 {n i : ℕ} : kPos n (256 + i) = i := by
  unfold kPos; rw [if_neg (by omega), if_neg (by omega)]; omega

/-- What one grid step writes, at a row and a column. -/
theorem outs_apply (c : Dev nD) (t : Fin cfg0.N) (r : Fin 128) (j : Fin 1024) :
    outsAt0 m c t (ix2 r j) = attK (argA m c) (argS m c (ix1 (⟨j.val / 64, by omega⟩ : Fin 16))) (t.val / 17) (t.val % 17) r j := by
  have ht := lt68 t
  have hj := j.isLt
  rw [outs, coord1]
  refine (blk_apply (t.val % 17) (by omega) _ _ _ _ _ _ _ _ _ _ _ r j
    (fun l => rd (argA m c) (2176 * (t.val / 17) + (128 * (t.val % 17) + r)) l)
    (fun i l => rd (argA m c) (2176 * (t.val / 17) + kPos (t.val % 17) i) (1024 + l))
    (fun i l => rd (argA m c) (2176 * (t.val / 17) + kPos (t.val % 17) i) (1280 + l))
    (fun i => cosT (kPos (t.val % 17) i)) (fun i => sinT (kPos (t.val % 17) i)) ?_ ?_ ?_ ?_ ?_ ?_ ?_ ?_ ?_ ?_).trans ?_
  · exact fun j => (rd1 m c t r j).trans (congrArg (fun a => rd (argA m c) a j.val) (by omega))
  · exact fun i j => (rd3 m c t i j).trans (congrArg (fun a => rd (argA m c) a (1024 + j.val)) (by rw [kPos0 i.isLt]; omega))
  · exact fun i j => (rd2 m c t i j).trans (congrArg (fun a => rd (argA m c) a (1024 + j.val)) (by rw [kPos1 i.isLt]; omega))
  · exact fun i j => (rd4 m c t i j).trans (congrArg (fun a => rd (argA m c) a (1024 + j.val)) (by rw [kPos2]; omega))
  · exact fun i j => (rd6 m c t i j).trans (congrArg (fun a => rd (argA m c) a (1280 + j.val)) (by rw [kPos0 i.isLt]; omega))
  · exact fun i j => (rd5 m c t i j).trans (congrArg (fun a => rd (argA m c) a (1280 + j.val)) (by rw [kPos1 i.isLt]; omega))
  · exact fun i j => (rd7 m c t i j).trans (congrArg (fun a => rd (argA m c) a (1280 + j.val)) (by rw [kPos2]; omega))
  · exact (rd9 m c t).congr (fun i h => congrArg cosT (kPos0 h)) (fun i h => congrArg sinT (kPos0 h))
  · exact (rd8 m c t).congr (fun i h => congrArg cosT (kPos1 h)) (fun i h => congrArg sinT (kPos1 h))
  · exact (rd10 m c t).congr (fun i h => congrArg cosT (kPos2.trans (Nat.zero_add i).symm))
      (fun i h => congrArg sinT (kPos2.trans (Nat.zero_add i).symm))
  · have hs : sinks (iblk m c 0 t) (⟨j.val / 64, by omega⟩ : Fin 16) = argS m c (ix1 (⟨j.val / 64, by omega⟩ : Fin 16)) :=
      (sinks_eq _ _).trans (rd0 m c t _)
    rw [hs]
    unfold attK sK
    have hh : j.val / 64 / 4 = j.val / 256 := by omega
    simp only [kPos1 r.isLt, hh]

/-- The kernel's result array at any row and column. -/
theorem final (c : Dev nD) (t : Fin 68) (r : Fin 128) (j : Fin 1024) :
    (dats m 0 c).arrAt 11 cfg0.N (ix2 (⟨128 * t.val + r.val, by omega⟩ : Fin 8704) j)
      = attK (argA m c) (argS m c (ix1 (⟨j.val / 64, by omega⟩ : Fin 16))) (t.val / 17) (t.val % 17) r j := by
  have hN : cfg0.N = 68 := by decide +kernel
  let t' : Fin cfg0.N := ⟨t.val, by rw [hN]; exact t.isLt⟩
  obtain ⟨e0, e1⟩ := idx11 t'
  have e0' : win0_11.index t' (0 : Fin 2) = t.val := e0
  have hemb : ((cfg0.win 11).blk t').view.emb (ix2 r j) = ix2 (⟨128 * t.val + r.val, by omega⟩ : Fin 8704) j := by
    refine funext fun a => Fin.ext ?_
    match a with
    | ⟨0, _⟩ => show win0_11.index t' (0 : Fin 2) * 128 + 1 * r.val = 128 * t.val + r.val; omega
    | ⟨1, _⟩ => show win0_11.index t' (1 : Fin 2) * 1024 + 1 * j.val = j.val; omega
  have h := congrFun (blocks11 m c t' (flush0_11 t')) (ix2 r j)
  rw [flushed11] at h
  refine Eq.trans ?_ (h.trans (outs_apply m c t' r j))
  exact congrArg _ hemb.symm

end Cert.Attn
-- ==== Proof.Attn.RefRows.lean ====
module

public import proofs.«01_k».proof.Proof.Attn.Arr
public import proofs.«01_k».proof.Proof.Gen.ReferenceIdeal.Read

@[expose] public section

/-! The reference's queries, keys and values, read at a sequence, a position, a head and a number of the head. -/

noncomputable section

namespace Cert.Attn

open Cert.ReferenceIdeal Cert.ReferenceIdeal.Read Idealize.ShloMosaic Idealize.ShloMosaic.TcCoe
open Idealize.ShloMosaic.ValueIdx

variable (A : S8704x1536.Idx → EReal)

theorem row_apply (b : Fin 4) (p : Fin 2064) (c : Fin 1536) :
    val_main_v1 (F := Ideal) A (ix3 b p c) = rd A (2176 * b + (112 + p)) c := by
  rw [val_main_v1_apply, val_main_v0_apply]
  refine Eq.trans (congrArg A (funext fun a => Fin.ext ?_)) (rd_eq A ⟨2176 * b + (112 + p), by omega⟩ c _ _ rfl rfl)
  match a with
  | ⟨0, _⟩ => dsimp [ix2, ix3]; omega
  | ⟨1, _⟩ => dsimp [ix2, ix3]; omega

theorem q_apply (b : Fin 4) (p : Fin 2064) (h : Fin 16) (d : Fin 64) :
    val_main_v3 (F := Ideal) A (ix4 b p h d) = rd A (2176 * b + (112 + p)) (64 * h + d) := by
  rw [val_main_v3_apply, val_main_v2_apply]
  refine Eq.trans (congrArg (val_main_v1 (F := Ideal) A) (funext fun a => Fin.ext ?_)) (row_apply A b p ⟨64 * h + d, by omega⟩)
  match a with
  | ⟨0, _⟩ => dsimp [ix3, ix4]; omega
  | ⟨1, _⟩ => dsimp [ix3, ix4]; omega
  | ⟨2, _⟩ => dsimp [ix3, ix4]; omega

theorem k_apply (b : Fin 4) (p : Fin 2064) (h : Fin 4) (d : Fin 64) :
    val_main_v5 (F := Ideal) A (ix4 b p h d) = rd A (2176 * b + (112 + p)) (1024 + (64 * h + d)) := by
  rw [val_main_v5_apply, val_main_v4_apply]
  refine Eq.trans (congrArg (val_main_v1 (F := Ideal) A) (funext fun a => Fin.ext ?_)) (row_apply A b p ⟨1024 + (64 * h + d), by omega⟩)
  match a with
  | ⟨0, _⟩ => dsimp [ix3, ix4]; omega
  | ⟨1, _⟩ => dsimp [ix3, ix4]; omega
  | ⟨2, _⟩ => dsimp [ix3, ix4]; omega

theorem v_apply (b : Fin 4) (p : Fin 2064) (h : Fin 4) (d : Fin 64) :
    val_main_v7 (F := Ideal) A (ix4 b p h d) = rd A (2176 * b + (112 + p)) (1280 + (64 * h + d)) := by
  rw [val_main_v7_apply, val_main_v6_apply]
  refine Eq.trans (congrArg (val_main_v1 (F := Ideal) A) (funext fun a => Fin.ext ?_)) (row_apply A b p ⟨1280 + (64 * h + d), by omega⟩)
  match a with
  | ⟨0, _⟩ => dsimp [ix3, ix4]; omega
  | ⟨1, _⟩ => dsimp [ix3, ix4]; omega
  | ⟨2, _⟩ => dsimp [ix3, ix4]; omega

theorem pw_ref : val_main_v14 (F := Ideal) = pwV := rfl
theorem pw_ref' : val_main_v46 (F := Ideal) = pwV := rfl

theorem toInt_small (n : ℕ) (h : n < 4096) : (BitVec.ofNat 32 n).toInt = (n : ℤ) := by
  rw [BitVec.toInt_eq_toNat_bmod, BitVec.toNat_ofNat]
  simp only [Int.bmod_def]
  omega

theorem qang_apply (p : Fin 2064) (d : Fin 8) : val_main_v20 (F := Ideal) (ix2 p d) = ang (p.val : ℤ) d.val := by
  unfold ang
  rw [dif_pos d.isLt, val_main_v20_apply, val_main_v18_apply, val_main_v16_apply, val_main_v15_apply, val_main_v19_apply,
    val_main_v17_apply, pw_ref]
  show (((BitVec.ofNat 32 p.val).toInt : ℝ) : EReal) * pwV _ = _
  rw [toInt_small p.val (by omega)]
  refine congrArg (fun i => (((p.val : ℤ) : ℝ) : EReal) * pwV i) (funext fun a => ?_)
  match a with
  | ⟨0, _⟩ => rfl

theorem qang_cos (b : Fin 1) (p : Fin 2064) (h : Fin 1) (d : Fin 8) : val_main_v22 (F := Ideal) (ix4 b p h d) = cosT (112 + p) d := by
  rw [val_main_v22_apply, val_main_v21_apply]
  refine congrArg Ideal.cos (Eq.trans (congrArg (val_main_v20 (F := Ideal)) (?_ : _ = ix2 p d)) ((qang_apply p d).trans ?_))
  · funext a
    match a with
    | ⟨0, _⟩ => rfl
    | ⟨1, _⟩ => rfl
  · exact congrArg (fun z => ang z d.val) (by push_cast; omega)

theorem qang_sin (b : Fin 1) (p : Fin 2064) (h : Fin 1) (d : Fin 8) : val_main_v24 (F := Ideal) (ix4 b p h d) = sinT (112 + p) d := by
  rw [val_main_v24_apply, val_main_v23_apply]
  refine congrArg Ideal.sin (Eq.trans (congrArg (val_main_v20 (F := Ideal)) (?_ : _ = ix2 p d)) ((qang_apply p d).trans ?_))
  · funext a
    match a with
    | ⟨0, _⟩ => rfl
    | ⟨1, _⟩ => rfl
  · exact congrArg (fun z => ang z d.val) (by push_cast; omega)

theorem kang_apply (p : Fin 2064) (d : Fin 8) : val_main_v52 (F := Ideal) (ix2 p d) = ang (p.val : ℤ) d.val := by
  unfold ang
  rw [dif_pos d.isLt, val_main_v52_apply, val_main_v50_apply, val_main_v48_apply, val_main_v47_apply, val_main_v51_apply,
    val_main_v49_apply, pw_ref']
  show (((BitVec.ofNat 32 p.val).toInt : ℝ) : EReal) * pwV _ = _
  rw [toInt_small p.val (by omega)]
  refine congrArg (fun i => (((p.val : ℤ) : ℝ) : EReal) * pwV i) (funext fun a => ?_)
  match a with
  | ⟨0, _⟩ => rfl

theorem kang_cos (b : Fin 1) (p : Fin 2064) (h : Fin 1) (d : Fin 8) : val_main_v54 (F := Ideal) (ix4 b p h d) = cosT (112 + p) d := by
  rw [val_main_v54_apply, val_main_v53_apply]
  refine congrArg Ideal.cos (Eq.trans (congrArg (val_main_v52 (F := Ideal)) (?_ : _ = ix2 p d)) ((kang_apply p d).trans ?_))
  · funext a
    match a with
    | ⟨0, _⟩ => rfl
    | ⟨1, _⟩ => rfl
  · exact congrArg (fun z => ang z d.val) (by push_cast; omega)

theorem kang_sin (b : Fin 1) (p : Fin 2064) (h : Fin 1) (d : Fin 8) : val_main_v56 (F := Ideal) (ix4 b p h d) = sinT (112 + p) d := by
  rw [val_main_v56_apply, val_main_v55_apply]
  refine congrArg Ideal.sin (Eq.trans (congrArg (val_main_v52 (F := Ideal)) (?_ : _ = ix2 p d)) ((kang_apply p d).trans ?_))
  · funext a
    match a with
    | ⟨0, _⟩ => rfl
    | ⟨1, _⟩ => rfl
  · exact congrArg (fun z => ang z d.val) (by push_cast; omega)

/-- The numbers of one head of one row. -/
abbrev qX (b p h : ℕ) : ℕ → EReal := fun d => rd A (2176 * b + (112 + p)) (64 * h + d)

theorem q_lo (b : Fin 4) (p : Fin 2064) (h : Fin 16) (d : Fin 8) :
    val_main_v26 (F := Ideal) A (ix4 b p h d) = qX A b p h d := by
  rw [val_main_v26_apply, val_main_v25_apply]
  refine Eq.trans (congrArg (val_main_v3 (F := Ideal) A) (funext fun a => Fin.ext ?_)) (q_apply A b p h ⟨d, by omega⟩)
  match a with
  | ⟨0, _⟩ => dsimp [ix4] <;> omega
  | ⟨1, _⟩ => dsimp [ix4] <;> omega
  | ⟨2, _⟩ => dsimp [ix4] <;> omega
  | ⟨3, _⟩ => dsimp [ix4] <;> omega

theorem q_hi (b : Fin 4) (p : Fin 2064) (h : Fin 16) (d : Fin 8) :
    val_main_v27 (F := Ideal) A (ix4 b p h d) = qX A b p h (d + 8) := by
  rw [val_main_v27_apply, val_main_v25_apply]
  refine Eq.trans (congrArg (val_main_v3 (F := Ideal) A) (funext fun a => Fin.ext ?_)) (q_apply A b p h ⟨d + 8, by omega⟩)
  match a with
  | ⟨0, _⟩ => dsimp [ix4] <;> omega
  | ⟨1, _⟩ => dsimp [ix4] <;> omega
  | ⟨2, _⟩ => dsimp [ix4] <;> omega
  | ⟨3, _⟩ => dsimp [ix4] <;> omega

theorem q_rest (b : Fin 4) (p : Fin 2064) (h : Fin 16) (d : Fin 48) :
    val_main_v39 (F := Ideal) A (ix4 b p h d) = qX A b p h (d + 16) := by
  rw [val_main_v39_apply]
  refine Eq.trans (congrArg (val_main_v3 (F := Ideal) A) (funext fun a => Fin.ext ?_)) (q_apply A b p h ⟨d + 16, by omega⟩)
  match a with
  | ⟨0, _⟩ => dsimp [ix4] <;> omega
  | ⟨1, _⟩ => dsimp [ix4] <;> omega
  | ⟨2, _⟩ => dsimp [ix4] <;> omega
  | ⟨3, _⟩ => dsimp [ix4] <;> omega

theorem q_b3 (b : Fin 4) (p : Fin 2064) (h : Fin 16) (d : Fin 8) :
    val_main_v28 (F := Ideal) (ix4 b p h d) = cosT (112 + p) d := by
  rw [val_main_v28_apply]
  refine Eq.trans (congrArg (val_main_v22 (F := Ideal)) (funext fun a => ?_)) (qang_cos 0 p 0 d)
  match a with
  | ⟨0, _⟩ => rfl
  | ⟨1, _⟩ => rfl
  | ⟨2, _⟩ => rfl
  | ⟨3, _⟩ => rfl

theorem q_b5 (b : Fin 4) (p : Fin 2064) (h : Fin 16) (d : Fin 8) :
    val_main_v30 (F := Ideal) (ix4 b p h d) = sinT (112 + p) d := by
  rw [val_main_v30_apply]
  refine Eq.trans (congrArg (val_main_v24 (F := Ideal)) (funext fun a => ?_)) (qang_sin 0 p 0 d)
  match a with
  | ⟨0, _⟩ => rfl
  | ⟨1, _⟩ => rfl
  | ⟨2, _⟩ => rfl
  | ⟨3, _⟩ => rfl

theorem q_b8 (b : Fin 4) (p : Fin 2064) (h : Fin 16) (d : Fin 8) :
    val_main_v33 (F := Ideal) (ix4 b p h d) = cosT (112 + p) d := by
  rw [val_main_v33_apply]
  refine Eq.trans (congrArg (val_main_v22 (F := Ideal)) (funext fun a => ?_)) (qang_cos 0 p 0 d)
  match a with
  | ⟨0, _⟩ => rfl
  | ⟨1, _⟩ => rfl
  | ⟨2, _⟩ => rfl
  | ⟨3, _⟩ => rfl

theorem q_b10 (b : Fin 4) (p : Fin 2064) (h : Fin 16) (d : Fin 8) :
    val_main_v35 (F := Ideal) (ix4 b p h d) = sinT (112 + p) d := by
  rw [val_main_v35_apply]
  refine Eq.trans (congrArg (val_main_v24 (F := Ideal)) (funext fun a => ?_)) (qang_sin 0 p 0 d)
  match a with
  | ⟨0, _⟩ => rfl
  | ⟨1, _⟩ => rfl
  | ⟨2, _⟩ => rfl
  | ⟨3, _⟩ => rfl

theorem q_first (b : Fin 4) (p : Fin 2064) (h : Fin 16) (d : Fin 8) : val_main_v32 (F := Ideal) A (ix4 b p h d)
    = qX A b p h d * cosT (112 + p) d - qX A b p h (d + 8) * sinT (112 + p) d := by
  rw [val_main_v32_apply, val_main_v29_apply, val_main_v31_apply, q_lo, q_hi, q_b3, q_b5]
  rfl

theorem q_second (b : Fin 4) (p : Fin 2064) (h : Fin 16) (d : Fin 8) : val_main_v37 (F := Ideal) A (ix4 b p h d)
    = qX A b p h (d + 8) * cosT (112 + p) d + qX A b p h d * sinT (112 + p) d := by
  rw [val_main_v37_apply, val_main_v34_apply, val_main_v36_apply, q_lo, q_hi, q_b8, q_b10]
  rfl

/-- The rotated numbers of one head of one row. -/
theorem q_rope (b : Fin 4) (p : Fin 2064) (h : Fin 16) (d : Fin 64) : val_main_v40 (F := Ideal) A (ix4 b p h d)
    = ropeS (qX A b p h) (cosT (112 + p)) (sinT (112 + p)) d := by
  have hd := d.isLt
  unfold ropeS val_main_v40
  by_cases h16 : d.val < 16
  · refine (concatenate_apply_piece (t := S4x2064x16x64) 3 _ _ (ix4 b p h d) 0 (by simp) S4x2064x16x16 (val_main_v38 (F := Ideal) A) rfl rfl 0 rfl
      (ix4 b p h (⟨d.val, h16⟩ : Fin 16))
      (fun e he => by
        match e, he with
        | ⟨0, _⟩, _ => rfl
        | ⟨1, _⟩, _ => rfl
        | ⟨2, _⟩, _ => rfl
        | ⟨3, _⟩, he => exact absurd rfl he)
      (Nat.zero_add _)).trans ?_
    unfold val_main_v38
    by_cases h8 : d.val < 8
    · rw [if_pos h8]
      exact (concatenate_apply_piece (t := S4x2064x16x16) 3 _ _ (ix4 b p h (⟨d.val, h16⟩ : Fin 16)) 0 (by simp) S4x2064x16x8 (val_main_v32 (F := Ideal) A) rfl rfl 0 rfl
        (ix4 b p h (⟨d.val, h8⟩ : Fin 8))
        (fun e he => by
          match e, he with
          | ⟨0, _⟩, _ => rfl
          | ⟨1, _⟩, _ => rfl
          | ⟨2, _⟩, _ => rfl
          | ⟨3, _⟩, he => exact absurd rfl he)
        (Nat.zero_add _)).trans (q_first A b p h _)
    · rw [if_neg h8, if_pos h16]
      refine (concatenate_apply_piece (t := S4x2064x16x16) 3 _ _ (ix4 b p h (⟨d.val, h16⟩ : Fin 16)) 1 (by simp) S4x2064x16x8 (val_main_v37 (F := Ideal) A) rfl rfl 8 rfl
        (ix4 b p h (⟨d.val - 8, by omega⟩ : Fin 8))
        (fun e he => by
          match e, he with
          | ⟨0, _⟩, _ => rfl
          | ⟨1, _⟩, _ => rfl
          | ⟨2, _⟩, _ => rfl
          | ⟨3, _⟩, he => exact absurd rfl he)
        (show 8 + (d.val - 8) = d.val by omega)).trans ((q_second A b p h _).trans ?_)
      have e : d.val - 8 + 8 = d.val := by omega
      show qX A b p h (d.val - 8 + 8) * _ + _ = _
      rw [e]
  · rw [if_neg (by omega), if_neg h16]
    refine (concatenate_apply_piece (t := S4x2064x16x64) 3 _ _ (ix4 b p h d) 1 (by simp) S4x2064x16x48 (val_main_v39 (F := Ideal) A) rfl rfl 16 rfl
      (ix4 b p h (⟨d.val - 16, by omega⟩ : Fin 48))
      (fun e he => by
        match e, he with
        | ⟨0, _⟩, _ => rfl
        | ⟨1, _⟩, _ => rfl
        | ⟨2, _⟩, _ => rfl
        | ⟨3, _⟩, he => exact absurd rfl he)
      (show 16 + (d.val - 16) = d.val by omega)).trans ((q_rest A b p h _).trans ?_)
    exact congrArg (qX A b p h) (show d.val - 16 + 16 = d.val by omega)

/-- The numbers of one head of one row. -/
abbrev kX (b p h : ℕ) : ℕ → EReal := fun d => rd A (2176 * b + (112 + p)) (1024 + (64 * h + d))

theorem k_lo (b : Fin 4) (p : Fin 2064) (h : Fin 4) (d : Fin 8) :
    val_main_v58 (F := Ideal) A (ix4 b p h d) = kX A b p h d := by
  rw [val_main_v58_apply, val_main_v57_apply]
  refine Eq.trans (congrArg (val_main_v5 (F := Ideal) A) (funext fun a => Fin.ext ?_)) (k_apply A b p h ⟨d, by omega⟩)
  match a with
  | ⟨0, _⟩ => dsimp [ix4] <;> omega
  | ⟨1, _⟩ => dsimp [ix4] <;> omega
  | ⟨2, _⟩ => dsimp [ix4] <;> omega
  | ⟨3, _⟩ => dsimp [ix4] <;> omega

theorem k_hi (b : Fin 4) (p : Fin 2064) (h : Fin 4) (d : Fin 8) :
    val_main_v59 (F := Ideal) A (ix4 b p h d) = kX A b p h (d + 8) := by
  rw [val_main_v59_apply, val_main_v57_apply]
  refine Eq.trans (congrArg (val_main_v5 (F := Ideal) A) (funext fun a => Fin.ext ?_)) (k_apply A b p h ⟨d + 8, by omega⟩)
  match a with
  | ⟨0, _⟩ => dsimp [ix4] <;> omega
  | ⟨1, _⟩ => dsimp [ix4] <;> omega
  | ⟨2, _⟩ => dsimp [ix4] <;> omega
  | ⟨3, _⟩ => dsimp [ix4] <;> omega

theorem k_rest (b : Fin 4) (p : Fin 2064) (h : Fin 4) (d : Fin 48) :
    val_main_v71 (F := Ideal) A (ix4 b p h d) = kX A b p h (d + 16) := by
  rw [val_main_v71_apply]
  refine Eq.trans (congrArg (val_main_v5 (F := Ideal) A) (funext fun a => Fin.ext ?_)) (k_apply A b p h ⟨d + 16, by omega⟩)
  match a with
  | ⟨0, _⟩ => dsimp [ix4] <;> omega
  | ⟨1, _⟩ => dsimp [ix4] <;> omega
  | ⟨2, _⟩ => dsimp [ix4] <;> omega
  | ⟨3, _⟩ => dsimp [ix4] <;> omega

theorem k_b3 (b : Fin 4) (p : Fin 2064) (h : Fin 4) (d : Fin 8) :
    val_main_v60 (F := Ideal) (ix4 b p h d) = cosT (112 + p) d := by
  rw [val_main_v60_apply]
  refine Eq.trans (congrArg (val_main_v54 (F := Ideal)) (funext fun a => ?_)) (kang_cos 0 p 0 d)
  match a with
  | ⟨0, _⟩ => rfl
  | ⟨1, _⟩ => rfl
  | ⟨2, _⟩ => rfl
  | ⟨3, _⟩ => rfl

theorem k_b5 (b : Fin 4) (p : Fin 2064) (h : Fin 4) (d : Fin 8) :
    val_main_v62 (F := Ideal) (ix4 b p h d) = sinT (112 + p) d := by
  rw [val_main_v62_apply]
  refine Eq.trans (congrArg (val_main_v56 (F := Ideal)) (funext fun a => ?_)) (kang_sin 0 p 0 d)
  match a with
  | ⟨0, _⟩ => rfl
  | ⟨1, _⟩ => rfl
  | ⟨2, _⟩ => rfl
  | ⟨3, _⟩ => rfl

theorem k_b8 (b : Fin 4) (p : Fin 2064) (h : Fin 4) (d : Fin 8) :
    val_main_v65 (F := Ideal) (ix4 b p h d) = cosT (112 + p) d := by
  rw [val_main_v65_apply]
  refine Eq.trans (congrArg (val_main_v54 (F := Ideal)) (funext fun a => ?_)) (kang_cos 0 p 0 d)
  match a with
  | ⟨0, _⟩ => rfl
  | ⟨1, _⟩ => rfl
  | ⟨2, _⟩ => rfl
  | ⟨3, _⟩ => rfl

theorem k_b10 (b : Fin 4) (p : Fin 2064) (h : Fin 4) (d : Fin 8) :
    val_main_v67 (F := Ideal) (ix4 b p h d) = sinT (112 + p) d := by
  rw [val_main_v67_apply]
  refine Eq.trans (congrArg (val_main_v56 (F := Ideal)) (funext fun a => ?_)) (kang_sin 0 p 0 d)
  match a with
  | ⟨0, _⟩ => rfl
  | ⟨1, _⟩ => rfl
  | ⟨2, _⟩ => rfl
  | ⟨3, _⟩ => rfl

theorem k_first (b : Fin 4) (p : Fin 2064) (h : Fin 4) (d : Fin 8) : val_main_v64 (F := Ideal) A (ix4 b p h d)
    = kX A b p h d * cosT (112 + p) d - kX A b p h (d + 8) * sinT (112 + p) d := by
  rw [val_main_v64_apply, val_main_v61_apply, val_main_v63_apply, k_lo, k_hi, k_b3, k_b5]
  rfl

theorem k_second (b : Fin 4) (p : Fin 2064) (h : Fin 4) (d : Fin 8) : val_main_v69 (F := Ideal) A (ix4 b p h d)
    = kX A b p h (d + 8) * cosT (112 + p) d + kX A b p h d * sinT (112 + p) d := by
  rw [val_main_v69_apply, val_main_v66_apply, val_main_v68_apply, k_lo, k_hi, k_b8, k_b10]
  rfl

/-- The rotated numbers of one head of one row. -/
theorem k_rope (b : Fin 4) (p : Fin 2064) (h : Fin 4) (d : Fin 64) : val_main_v72 (F := Ideal) A (ix4 b p h d)
    = ropeS (kX A b p h) (cosT (112 + p)) (sinT (112 + p)) d := by
  have hd := d.isLt
  unfold ropeS val_main_v72
  by_cases h16 : d.val < 16
  · refine (concatenate_apply_piece (t := S4x2064x4x64) 3 _ _ (ix4 b p h d) 0 (by simp) S4x2064x4x16 (val_main_v70 (F := Ideal) A) rfl rfl 0 rfl
      (ix4 b p h (⟨d.val, h16⟩ : Fin 16))
      (fun e he => by
        match e, he with
        | ⟨0, _⟩, _ => rfl
        | ⟨1, _⟩, _ => rfl
        | ⟨2, _⟩, _ => rfl
        | ⟨3, _⟩, he => exact absurd rfl he)
      (Nat.zero_add _)).trans ?_
    unfold val_main_v70
    by_cases h8 : d.val < 8
    · rw [if_pos h8]
      exact (concatenate_apply_piece (t := S4x2064x4x16) 3 _ _ (ix4 b p h (⟨d.val, h16⟩ : Fin 16)) 0 (by simp) S4x2064x4x8 (val_main_v64 (F := Ideal) A) rfl rfl 0 rfl
        (ix4 b p h (⟨d.val, h8⟩ : Fin 8))
        (fun e he => by
          match e, he with
          | ⟨0, _⟩, _ => rfl
          | ⟨1, _⟩, _ => rfl
          | ⟨2, _⟩, _ => rfl
          | ⟨3, _⟩, he => exact absurd rfl he)
        (Nat.zero_add _)).trans (k_first A b p h _)
    · rw [if_neg h8, if_pos h16]
      refine (concatenate_apply_piece (t := S4x2064x4x16) 3 _ _ (ix4 b p h (⟨d.val, h16⟩ : Fin 16)) 1 (by simp) S4x2064x4x8 (val_main_v69 (F := Ideal) A) rfl rfl 8 rfl
        (ix4 b p h (⟨d.val - 8, by omega⟩ : Fin 8))
        (fun e he => by
          match e, he with
          | ⟨0, _⟩, _ => rfl
          | ⟨1, _⟩, _ => rfl
          | ⟨2, _⟩, _ => rfl
          | ⟨3, _⟩, he => exact absurd rfl he)
        (show 8 + (d.val - 8) = d.val by omega)).trans ((k_second A b p h _).trans ?_)
      have e : d.val - 8 + 8 = d.val := by omega
      show kX A b p h (d.val - 8 + 8) * _ + _ = _
      rw [e]
  · rw [if_neg (by omega), if_neg h16]
    refine (concatenate_apply_piece (t := S4x2064x4x64) 3 _ _ (ix4 b p h d) 1 (by simp) S4x2064x4x48 (val_main_v71 (F := Ideal) A) rfl rfl 16 rfl
      (ix4 b p h (⟨d.val - 16, by omega⟩ : Fin 48))
      (fun e he => by
        match e, he with
        | ⟨0, _⟩, _ => rfl
        | ⟨1, _⟩, _ => rfl
        | ⟨2, _⟩, _ => rfl
        | ⟨3, _⟩, he => exact absurd rfl he)
      (show 16 + (d.val - 16) = d.val by omega)).trans ((k_rest A b p h _).trans ?_)
    exact congrArg (kX A b p h) (show d.val - 16 + 16 = d.val by omega)

end Cert.Attn
-- ==== Proof.Attn.RefBlocks.lean ====
module

public import proofs.«01_k».proof.Proof.Attn.RefRows
public import Idealize.ShloMosaic.Lib.ValueIdxRank6
public import Idealize.ShloMosaic.Lib.KernelVsHost

@[expose] public section

/-! The reference's padded blocks, read inside the sequence. -/

noncomputable section

namespace Cert.Attn

open Cert.ReferenceIdeal Cert.ReferenceIdeal.Gen Cert.ReferenceIdeal.Read Idealize.ShloMosaic Idealize.ShloMosaic.TcCoe
open Idealize.ShloMosaic.ValueIdx

variable (A : S8704x1536.Idx → EReal)

theorem split_apply (b : Fin 4) (p : Fin 2064) (g q : Fin 4) (d : Fin 64) :
    val_main_v73 (F := Ideal) A (ix5 b p g q d) = val_main_v40 (F := Ideal) A (ix4 b p ⟨4 * g + q, by omega⟩ d) := by
  rw [val_main_v73_apply]
  refine congrArg (val_main_v40 (F := Ideal) A) (funext fun a => Fin.ext ?_)
  match a with
  | ⟨0, _⟩ => dsimp [ix4, ix5]; omega
  | ⟨1, _⟩ => dsimp [ix4, ix5]; omega
  | ⟨2, _⟩ => dsimp [ix4, ix5]; omega
  | ⟨3, _⟩ => dsimp [ix4, ix5]; omega

/-- A block's query row inside the sequence is the rotated row of its position. -/
theorem qblk_apply (b : Fin 4) (n : Fin 17) (r : Fin 128) (g q : Fin 4) (d : Fin 64) (p : Fin 2064) (hp : p.val + 112 = 128 * n.val + r.val) :
    val_main_v75 (F := Ideal) A (ix6 b n r g q d) = ropeS (qX A b p (4 * g + q)) (cosT (112 + p)) (sinT (112 + p)) d := by
  unfold val_main_v75
  have hR : 112 + p.val < 2176 := by omega
  refine (shapeCast_apply _ shapeCasts_S4x2176x4x4x64_S4x17x128x4x4x64 (ix6 b n r g q d) (ix5 b (⟨112 + p.val, hR⟩ : Fin 2176) g q d) ?_).trans ?_
  · rw [Shape.rowMajor_val_five, Shape.rowMajor_val_six]
    show (((b.val * 2176 + (112 + p.val)) * 4 + g.val) * 4 + q.val) * 64 + d.val
      = ((((b.val * 17 + n.val) * 128 + r.val) * 4 + g.val) * 4 + q.val) * 64 + d.val
    omega
  · unfold val_main_v74
    refine (pad_apply_of_inside ![0, 112, 0, 0, 0] ![0, 0, 0, 0, 0] ![0, 0, 0, 0, 0] (val_main_v73 (F := Ideal) A) _
      pads_S4x2064x4x4x64_S4x2176x4x4x64_000_11200_000_000_000 h_S_ (ix5 b (⟨112 + p.val, hR⟩ : Fin 2176) g q d) (ix5 b p g q d) ?_).trans ?_
    · intro a
      match a with
      | ⟨0, _⟩ => show b.val = 0 + b.val * 1; omega
      | ⟨1, _⟩ => show 112 + p.val = 112 + p.val * 1; omega
      | ⟨2, _⟩ => show g.val = 0 + g.val * 1; omega
      | ⟨3, _⟩ => show q.val = 0 + q.val * 1; omega
      | ⟨4, _⟩ => show d.val = 0 + d.val * 1; omega
    · exact (split_apply A b p g q d).trans (q_rope A b p ⟨4 * g + q, by omega⟩ d)

theorem krow_apply (b : Fin 4) (n : Fin 17) (r : Fin 128) (g : Fin 4) (d : Fin 64) (p : Fin 2064)
    (hp : p.val + 112 = 128 * n.val + r.val) :
    val_main_v77 (F := Ideal) A (ix5 b n r g d) = val_main_v72 (F := Ideal) A (ix4 b p g d) := by
  unfold val_main_v77
  have hR : 112 + p.val < 2176 := by omega
  refine (shapeCast_apply _ shapeCasts_S4x2176x4x64_S4x17x128x4x64 (ix5 b n r g d) (ix4 b (⟨112 + p.val, hR⟩ : Fin 2176) g d) ?_).trans ?_
  · rw [Shape.rowMajor_val_four, Shape.rowMajor_val_five]
    show ((b.val * 2176 + (112 + p.val)) * 4 + g.val) * 64 + d.val
      = (((b.val * 17 + n.val) * 128 + r.val) * 4 + g.val) * 64 + d.val
    omega
  · unfold val_main_v76
    refine pad_apply_of_inside ![0, 112, 0, 0] ![0, 0, 0, 0] ![0, 0, 0, 0] (val_main_v72 (F := Ideal) A) _
      pads_S4x2064x4x64_S4x2176x4x64_000_11200_000_000 h_S_ (ix4 b (⟨112 + p.val, hR⟩ : Fin 2176) g d) (ix4 b p g d) ?_
    intro a
    match a with
    | ⟨0, _⟩ => show b.val = 0 + b.val * 1; omega
    | ⟨1, _⟩ => show 112 + p.val = 112 + p.val * 1; omega
    | ⟨2, _⟩ => show g.val = 0 + g.val * 1; omega
    | ⟨3, _⟩ => show d.val = 0 + d.val * 1; omega

theorem kprev_apply (b : Fin 4) (n : Fin 17) (hn : 1 ≤ n.val) (r : Fin 128) (g : Fin 4) (d : Fin 64) :
    val_main_v83 (F := Ideal) A (ix5 b n r g d) = val_main_v77 (F := Ideal) A (ix5 b ⟨n.val - 1, by omega⟩ r g d) := by
  unfold val_main_v83
  refine (concatenate_apply_piece (t := S4x17x128x4x64) 1 _ _ (ix5 b n r g d) 1 (by simp) S4x16x128x4x64 (val_main_v82 (F := Ideal) A)
      rfl rfl 1 rfl (ix5 b (⟨n.val - 1, by omega⟩ : Fin 16) r g d)
      (fun e he => by
        match e, he with
        | ⟨0, _⟩, _ => rfl
        | ⟨1, _⟩, he => exact absurd rfl he
        | ⟨2, _⟩, _ => rfl
        | ⟨3, _⟩, _ => rfl
        | ⟨4, _⟩, _ => rfl)
      (show 1 + (n.val - 1) = n.val by omega)).trans ?_
  rw [val_main_v82_apply]
  refine congrArg (val_main_v77 (F := Ideal) A) (funext fun a => Fin.ext ?_)
  match a with
  | ⟨0, _⟩ => dsimp [ix5] <;> omega
  | ⟨1, _⟩ => dsimp [ix5] <;> omega
  | ⟨2, _⟩ => dsimp [ix5] <;> omega
  | ⟨3, _⟩ => dsimp [ix5] <;> omega
  | ⟨4, _⟩ => dsimp [ix5] <;> omega

/-- Row `c` of the two blocks a query block sees, inside the sequence. -/
theorem ktwo_apply (b : Fin 4) (n : Fin 17) (c : Fin 256) (g : Fin 4) (d : Fin 64) (p : Fin 2064)
    (hp : p.val + 240 = 128 * n.val + c.val) :
    val_main_v84 (F := Ideal) A (ix5 b n c g d) = val_main_v72 (F := Ideal) A (ix4 b p g d) := by
  unfold val_main_v84
  by_cases hc : c.val < 128
  · exact (concatenate_apply_piece (t := S4x17x256x4x64) 2 _ _ (ix5 b n c g d) 0 (by simp) S4x17x128x4x64 (val_main_v83 (F := Ideal) A)
      rfl rfl 0 rfl (ix5 b n (⟨c.val, hc⟩ : Fin 128) g d)
      (fun e he => by
        match e, he with
        | ⟨0, _⟩, _ => rfl
        | ⟨1, _⟩, _ => rfl
        | ⟨2, _⟩, he => exact absurd rfl he
        | ⟨3, _⟩, _ => rfl
        | ⟨4, _⟩, _ => rfl)
      (Nat.zero_add _)).trans ((kprev_apply A b n (by omega) ⟨c.val, hc⟩ g d).trans
        (krow_apply A b ⟨n.val - 1, by omega⟩ ⟨c.val, hc⟩ g d p (by dsimp only; omega)))
  · exact (concatenate_apply_piece (t := S4x17x256x4x64) 2 _ _ (ix5 b n c g d) 1 (by simp) S4x17x128x4x64 (val_main_v77 (F := Ideal) A)
      rfl rfl 128 rfl (ix5 b n (⟨c.val - 128, by omega⟩ : Fin 128) g d)
      (fun e he => by
        match e, he with
        | ⟨0, _⟩, _ => rfl
        | ⟨1, _⟩, _ => rfl
        | ⟨2, _⟩, he => exact absurd rfl he
        | ⟨3, _⟩, _ => rfl
        | ⟨4, _⟩, _ => rfl)
      (show 128 + (c.val - 128) = c.val by omega)).trans
        (krow_apply A b n ⟨c.val - 128, by omega⟩ g d p (by dsimp only; omega))

theorem kmeta_apply (b : Fin 4) (m : Fin 16) (g : Fin 4) (d : Fin 64) :
    val_main_v90 (F := Ideal) A (ix4 b m g d) = val_main_v72 (F := Ideal) A (ix4 b ⟨m.val, by omega⟩ g d) := by
  rw [val_main_v90_apply]
  refine congrArg (val_main_v72 (F := Ideal) A) (funext fun a => Fin.ext ?_)
  match a with
  | ⟨0, _⟩ => dsimp [ix4] <;> omega
  | ⟨1, _⟩ => dsimp [ix4] <;> omega
  | ⟨2, _⟩ => dsimp [ix4] <;> omega
  | ⟨3, _⟩ => dsimp [ix4] <;> omega

theorem vrow_apply (b : Fin 4) (n : Fin 17) (r : Fin 128) (g : Fin 4) (d : Fin 64) (p : Fin 2064)
    (hp : p.val + 112 = 128 * n.val + r.val) :
    val_main_v79 (F := Ideal) A (ix5 b n r g d) = val_main_v7 (F := Ideal) A (ix4 b p g d) := by
  unfold val_main_v79
  have hR : 112 + p.val < 2176 := by omega
  refine (shapeCast_apply _ shapeCasts_S4x2176x4x64_S4x17x128x4x64 (ix5 b n r g d) (ix4 b (⟨112 + p.val, hR⟩ : Fin 2176) g d) ?_).trans ?_
  · rw [Shape.rowMajor_val_four, Shape.rowMajor_val_five]
    show ((b.val * 2176 + (112 + p.val)) * 4 + g.val) * 64 + d.val
      = (((b.val * 17 + n.val) * 128 + r.val) * 4 + g.val) * 64 + d.val
    omega
  · unfold val_main_v78
    refine pad_apply_of_inside ![0, 112, 0, 0] ![0, 0, 0, 0] ![0, 0, 0, 0] (val_main_v7 (F := Ideal) A) _
      pads_S4x2064x4x64_S4x2176x4x64_000_11200_000_000 h_S_ (ix4 b (⟨112 + p.val, hR⟩ : Fin 2176) g d) (ix4 b p g d) ?_
    intro a
    match a with
    | ⟨0, _⟩ => show b.val = 0 + b.val * 1; omega
    | ⟨1, _⟩ => show 112 + p.val = 112 + p.val * 1; omega
    | ⟨2, _⟩ => show g.val = 0 + g.val * 1; omega
    | ⟨3, _⟩ => show d.val = 0 + d.val * 1; omega

theorem vprev_apply (b : Fin 4) (n : Fin 17) (hn : 1 ≤ n.val) (r : Fin 128) (g : Fin 4) (d : Fin 64) :
    val_main_v88 (F := Ideal) A (ix5 b n r g d) = val_main_v79 (F := Ideal) A (ix5 b ⟨n.val - 1, by omega⟩ r g d) := by
  unfold val_main_v88
  refine (concatenate_apply_piece (t := S4x17x128x4x64) 1 _ _ (ix5 b n r g d) 1 (by simp) S4x16x128x4x64 (val_main_v87 (F := Ideal) A)
      rfl rfl 1 rfl (ix5 b (⟨n.val - 1, by omega⟩ : Fin 16) r g d)
      (fun e he => by
        match e, he with
        | ⟨0, _⟩, _ => rfl
        | ⟨1, _⟩, he => exact absurd rfl he
        | ⟨2, _⟩, _ => rfl
        | ⟨3, _⟩, _ => rfl
        | ⟨4, _⟩, _ => rfl)
      (show 1 + (n.val - 1) = n.val by omega)).trans ?_
  rw [val_main_v87_apply]
  refine congrArg (val_main_v79 (F := Ideal) A) (funext fun a => Fin.ext ?_)
  match a with
  | ⟨0, _⟩ => dsimp [ix5] <;> omega
  | ⟨1, _⟩ => dsimp [ix5] <;> omega
  | ⟨2, _⟩ => dsimp [ix5] <;> omega
  | ⟨3, _⟩ => dsimp [ix5] <;> omega
  | ⟨4, _⟩ => dsimp [ix5] <;> omega

/-- Row `c` of the two blocks a query block sees, inside the sequence. -/
theorem vtwo_apply (b : Fin 4) (n : Fin 17) (c : Fin 256) (g : Fin 4) (d : Fin 64) (p : Fin 2064)
    (hp : p.val + 240 = 128 * n.val + c.val) :
    val_main_v89 (F := Ideal) A (ix5 b n c g d) = val_main_v7 (F := Ideal) A (ix4 b p g d) := by
  unfold val_main_v89
  by_cases hc : c.val < 128
  · exact (concatenate_apply_piece (t := S4x17x256x4x64) 2 _ _ (ix5 b n c g d) 0 (by simp) S4x17x128x4x64 (val_main_v88 (F := Ideal) A)
      rfl rfl 0 rfl (ix5 b n (⟨c.val, hc⟩ : Fin 128) g d)
      (fun e he => by
        match e, he with
        | ⟨0, _⟩, _ => rfl
        | ⟨1, _⟩, _ => rfl
        | ⟨2, _⟩, he => exact absurd rfl he
        | ⟨3, _⟩, _ => rfl
        | ⟨4, _⟩, _ => rfl)
      (Nat.zero_add _)).trans ((vprev_apply A b n (by omega) ⟨c.val, hc⟩ g d).trans
        (vrow_apply A b ⟨n.val - 1, by omega⟩ ⟨c.val, hc⟩ g d p (by dsimp only; omega)))
  · exact (concatenate_apply_piece (t := S4x17x256x4x64) 2 _ _ (ix5 b n c g d) 1 (by simp) S4x17x128x4x64 (val_main_v79 (F := Ideal) A)
      rfl rfl 128 rfl (ix5 b n (⟨c.val - 128, by omega⟩ : Fin 128) g d)
      (fun e he => by
        match e, he with
        | ⟨0, _⟩, _ => rfl
        | ⟨1, _⟩, _ => rfl
        | ⟨2, _⟩, he => exact absurd rfl he
        | ⟨3, _⟩, _ => rfl
        | ⟨4, _⟩, _ => rfl)
      (show 128 + (c.val - 128) = c.val by omega)).trans
        (vrow_apply A b n ⟨c.val - 128, by omega⟩ g d p (by dsimp only; omega))

theorem vmeta_apply (b : Fin 4) (m : Fin 16) (g : Fin 4) (d : Fin 64) :
    val_main_v91 (F := Ideal) A (ix4 b m g d) = val_main_v7 (F := Ideal) A (ix4 b ⟨m.val, by omega⟩ g d) := by
  rw [val_main_v91_apply]
  refine congrArg (val_main_v7 (F := Ideal) A) (funext fun a => Fin.ext ?_)
  match a with
  | ⟨0, _⟩ => dsimp [ix4] <;> omega
  | ⟨1, _⟩ => dsimp [ix4] <;> omega
  | ⟨2, _⟩ => dsimp [ix4] <;> omega
  | ⟨3, _⟩ => dsimp [ix4] <;> omega

end Cert.Attn
-- ==== Proof.Attn.RefScores.lean ====
module

public import proofs.«01_k».proof.Proof.Attn.RefBlocks
public import Idealize.ShloMosaic.Lib.Tactic.WordOmega

@[expose] public section

/-! The reference's scores under its two masks, and the row its softmax runs over. -/

noncomputable section

namespace Cert.Attn

open Cert.ReferenceIdeal Cert.ReferenceIdeal.Gen Cert.ReferenceIdeal.Read Idealize.ShloMosaic Idealize.ShloMosaic.TcCoe
open Idealize.ShloMosaic.ValueIdx

variable (A : S8704x1536.Idx → EReal) (B : S16.Idx → EReal)

theorem qpos_apply (n : Fin 17) (r : Fin 128) : val_main_v95 (F := Ideal) (ix2 n r) = BitVec.ofNat 32 (128 * n + r) - 112#32 := by
  rw [val_main_v95_apply, val_main_v94_apply, val_main_v92_apply, val_main_v93_apply]
  show BitVec.ofNat 32 (n.val * 128 + r.val) - 112#32 = _
  rw [Nat.mul_comm]

theorem kpos_apply (n : Fin 17) (c : Fin 256) : val_main_v98 (F := Ideal) (ix2 n c) = BitVec.ofNat 32 (128 * n + c) - 240#32 := by
  unfold val_main_v98
  by_cases hc : c.val < 128
  · refine (concatenate_apply_piece (t := S17x256) 1 _ _ (ix2 n c) 0 (by simp) S17x128 (val_main_v97 (F := Ideal))
      rfl rfl 0 rfl (ix2 n (⟨c.val, hc⟩ : Fin 128))
      (fun e he => by
        match e, he with
        | ⟨0, _⟩, _ => rfl
        | ⟨1, _⟩, he => exact absurd rfl he)
      (Nat.zero_add _)).trans ?_
    rw [val_main_v97_apply, qpos_apply, val_main_v96_apply]
    show BitVec.ofNat 32 (128 * n.val + c.val) - 112#32 - 128#32 = _
    bv_omega
  · refine (concatenate_apply_piece (t := S17x256) 1 _ _ (ix2 n c) 1 (by simp) S17x128 (val_main_v95 (F := Ideal))
      rfl rfl 128 rfl (ix2 n (⟨c.val - 128, by omega⟩ : Fin 128))
      (fun e he => by
        match e, he with
        | ⟨0, _⟩, _ => rfl
        | ⟨1, _⟩, he => exact absurd rfl he)
      (show 128 + (c.val - 128) = c.val by omega)).trans ?_
    rw [qpos_apply]
    show BitVec.ofNat 32 (128 * n.val + (c.val - 128)) - 112#32 = _
    have : c.val < 256 := c.isLt
    have : n.val < 17 := n.isLt
    bv_omega

theorem toInt_shift (a k : ℕ) (ha : a < 4096) (hk : k < 4096) :
    (BitVec.ofNat 32 a - BitVec.ofNat 32 k).toInt = (a : ℤ) - k := by
  rw [BitVec.toInt_sub, toInt_small a ha, toInt_small k hk]
  simp only [Int.bmod_def]
  omega

theorem ofBool_one (P : Prop) [Decidable P] : BitVec.ofBool (decide P) = 1#1 ↔ P := by
  by_cases h : P <;> simp [h]

theorem cmp_sge (x y : BitVec 32) : IntOp.cmpi .sge x y = 1#1 ↔ y.toInt ≤ x.toInt := by
  simp [IntOp.cmpi, BitVec.sle, ofBool_one]

theorem cmp_sle (x y : BitVec 32) : IntOp.cmpi .sle x y = 1#1 ↔ x.toInt ≤ y.toInt := by
  simp [IntOp.cmpi, BitVec.sle, ofBool_one]

theorem cmp_slt (x y : BitVec 32) : IntOp.cmpi .slt x y = 1#1 ↔ x.toInt < y.toInt := by
  simp [IntOp.cmpi, BitVec.slt, ofBool_one]

theorem and_one (x y : BitVec 1) : IntOp.andi x y = 1#1 ↔ x = 1#1 ∧ y = 1#1 := by
  show x &&& y = 1#1 ↔ _
  revert x y
  decide

/-- The band's mask keeps the keys at distance under 128 that are past the meta tokens. -/
theorem band_mask (n : Fin 17) (r : Fin 128) (c : Fin 256) : val_main_v113 (F := Ideal) (ix3 n r c) = 1#1 ↔ keep n r c := by
  have e1 : val_main_v101 (F := Ideal) (ix3 n r c) = BitVec.ofNat 32 (128 * n + r) - 112#32 := by
    rw [val_main_v101_apply, val_main_v99_apply]
    exact (congrArg (val_main_v95 (F := Ideal)) (funext fun a => by
      match a with
      | ⟨0, _⟩ => rfl
      | ⟨1, _⟩ => rfl)).trans (qpos_apply n r)
  have e2 : val_main_v102 (F := Ideal) (ix3 n r c) = BitVec.ofNat 32 (128 * n + c) - 240#32 := by
    rw [val_main_v102_apply, val_main_v100_apply]
    exact (congrArg (val_main_v98 (F := Ideal)) (funext fun a => by
      match a with
      | ⟨0, _⟩ => rfl
      | ⟨1, _⟩ => rfl)).trans (kpos_apply n c)
  have e3 : val_main_v112 (F := Ideal) (ix3 n r c) = IntOp.cmpi .sge (BitVec.ofNat 32 (128 * n + c) - 240#32) 16#32 := by
    rw [val_main_v112_apply, val_main_v111_apply, val_main_v109_apply, val_main_v110_apply]
    exact congrArg (IntOp.cmpi .sge · 16#32) ((congrArg (val_main_v98 (F := Ideal)) (funext fun a => by
      match a with
      | ⟨0, _⟩ => rfl
      | ⟨1, _⟩ => rfl)).trans (kpos_apply n c))
  have hn : n.val < 17 := n.isLt
  have hr : r.val < 128 := r.isLt
  have hc : c.val < 256 := c.isLt
  have e4 : val_main_v103 (F := Ideal) (ix3 n r c) = BitVec.ofNat 32 (r + 128) - BitVec.ofNat 32 c := by
    rw [val_main_v103_apply, e1, e2]
    show BitVec.ofNat 32 (128 * n + r) - 112#32 - (BitVec.ofNat 32 (128 * n + c) - 240#32) = _
    bv_omega
  rw [val_main_v113_apply, val_main_v108_apply, val_main_v105_apply, val_main_v107_apply, e4, e3, and_one, and_one, cmp_sge, cmp_slt,
    cmp_sge, val_main_v104_apply, val_main_v106_apply]
  show ((0#32).toInt ≤ _ ∧ _ < (128#32).toInt) ∧ (16#32).toInt ≤ (BitVec.ofNat 32 (128 * n.val + c.val) - BitVec.ofNat 32 240).toInt ↔ _
  rw [toInt_shift _ _ (by omega) (by omega), toInt_shift _ _ (by omega) (by omega),
    show (0#32).toInt = 0 by decide, show (128#32).toInt = 128 by decide, show (16#32).toInt = 16 by decide]
  unfold keep
  omega

/-- The meta tokens' mask keeps the ones at or before the query. -/
theorem meta_mask (n : Fin 17) (r : Fin 128) (m : Fin 16) : val_main_v119 (F := Ideal) (ix3 n r m) = 1#1 ↔ keep n r (368 + m) := by
  have e1 : val_main_v118 (F := Ideal) (ix3 n r m) = BitVec.ofNat 32 (128 * n + r) - 112#32 := by
    rw [val_main_v118_apply, val_main_v116_apply]
    exact (congrArg (val_main_v95 (F := Ideal)) (funext fun a => by
      match a with
      | ⟨0, _⟩ => rfl
      | ⟨1, _⟩ => rfl)).trans (qpos_apply n r)
  have e2 : val_main_v117 (F := Ideal) (ix3 n r m) = BitVec.ofNat 32 m := by
    rw [val_main_v117_apply, val_main_v115_apply, val_main_v114_apply]
  have hn : n.val < 17 := n.isLt
  have hr : r.val < 128 := r.isLt
  have hm : m.val < 16 := m.isLt
  rw [val_main_v119_apply, e1, e2, cmp_sle, toInt_small _ (by omega)]
  show _ ≤ (BitVec.ofNat 32 (128 * n.val + r.val) - BitVec.ofNat 32 112).toInt ↔ _
  rw [toInt_shift _ _ (by omega) (by omega)]
  unfold keep
  omega

theorem e8_coe : e8 = ((1 / 8 : ℝ) : EReal) := by
  unfold e8
  simp [Ideal.ofBits, Ideal.ieee, -EReal.coe_mul]
  norm_num

/-- Scaling a product of a key and a query scales the query. -/
theorem scale_sum (k q : ℕ → EReal) :
    (∑ d : Fin 64, k d.val * q d.val) * e8 = ∑ d ∈ Finset.range 64, q d * e8 * k d := by
  rw [e8_coe, ← Finset.sum_range (fun d => k d * q d), sum_mul_coe _ _ _ (by norm_num)]
  refine Finset.sum_congr rfl fun d _ => ?_
  rw [mul_comm (k d), mul_assoc, mul_comm (k d), ← mul_assoc]

theorem sK_eq (b n r g q c p : ℕ) (hq : q < 4) (p' : ℕ) (hp : 112 + p = 128 * n + r) (hp' : 112 + p' = kPos n c) :
    sK A b n r (4 * g + q) c = ∑ d ∈ Finset.range 64, ropeS (qX A b p (4 * g + q)) (cosT (112 + p)) (sinT (112 + p)) d * e8
      * ropeS (kX A b p' g) (cosT (112 + p')) (sinT (112 + p')) d := by
  unfold sK
  rw [← hp, ← hp', show (4 * g + q) / 4 = g by omega]

/-- A meta token's scaled score. -/
theorem meta_score (b : Fin 4) (n : Fin 17) (g q : Fin 4) (r : Fin 128) (m : Fin 16) (hR : 112 ≤ 128 * n.val + r.val) :
    val_main_v123 (F := Ideal) A (ix6 b n g q r m) = sK A b n r (4 * g + q) (368 + m) := by
  obtain ⟨p, hp⟩ : ∃ p : Fin 2064, 112 + p.val = 128 * n.val + r.val := ⟨⟨128 * n + r - 112, by omega⟩, by dsimp only; omega⟩
  rw [sK_eq A b n r g q (368 + m) p q.isLt m hp (by unfold kPos; rw [if_neg (by omega), if_neg (by omega)]; omega), ← scale_sum, val_main_v123_apply, val_main_v121_apply,
    val_main_v120_apply]
  refine congrArg (· * e8) (Finset.sum_congr rfl fun d _ => congrArg₂ (· * ·) ?_ ?_)
  · refine (congrArg (val_main_v90 (F := Ideal) A) (?_ : _ = ix4 b m g d)).trans
      ((kmeta_apply A b m g d).trans (k_rope A b ⟨m.val, by omega⟩ g d))
    funext a
    match a with
    | ⟨0, _⟩ => rfl
    | ⟨1, _⟩ => rfl
    | ⟨2, _⟩ => rfl
    | ⟨3, _⟩ => rfl
  · refine (congrArg (val_main_v75 (F := Ideal) A) (?_ : _ = ix6 b n r g q d)).trans
      (qblk_apply A b n r g q d p (by omega))
    funext a
    match a with
    | ⟨0, _⟩ => rfl
    | ⟨1, _⟩ => rfl
    | ⟨2, _⟩ => rfl
    | ⟨3, _⟩ => rfl
    | ⟨4, _⟩ => rfl
    | ⟨5, _⟩ => rfl

/-- A band key's scaled score. -/
theorem band_score (b : Fin 4) (n : Fin 17) (g q : Fin 4) (r : Fin 128) (c : Fin 256) (hR : 112 ≤ 128 * n.val + r.val)
    (hK : 240 ≤ 128 * n.val + c.val) :
    val_main_v127 (F := Ideal) A (ix6 b n g q r c) = sK A b n r (4 * g + q) c := by
  obtain ⟨p, hp⟩ : ∃ p : Fin 2064, 112 + p.val = 128 * n.val + r.val := ⟨⟨128 * n + r - 112, by omega⟩, by dsimp only; omega⟩
  obtain ⟨p', hp'⟩ : ∃ p' : Fin 2064, p'.val + 240 = 128 * n.val + c.val := ⟨⟨128 * n + c - 240, by omega⟩, by dsimp only; omega⟩
  rw [sK_eq A b n r g q c p q.isLt p' hp (by unfold kPos; split <;> [skip; split] <;> omega), ← scale_sum, val_main_v127_apply,
    val_main_v125_apply, val_main_v124_apply]
  refine congrArg (· * e8) (Finset.sum_congr rfl fun d _ => congrArg₂ (· * ·) ?_ ?_)
  · refine (congrArg (val_main_v84 (F := Ideal) A) (?_ : _ = ix5 b n c g d)).trans
      ((ktwo_apply A b n c g d p' hp').trans (k_rope A b p' g d))
    funext a
    match a with
    | ⟨0, _⟩ => rfl
    | ⟨1, _⟩ => rfl
    | ⟨2, _⟩ => rfl
    | ⟨3, _⟩ => rfl
    | ⟨4, _⟩ => rfl
  · refine (congrArg (val_main_v75 (F := Ideal) A) (?_ : _ = ix6 b n r g q d)).trans
      (qblk_apply A b n r g q d p (by omega))
    funext a
    match a with
    | ⟨0, _⟩ => rfl
    | ⟨1, _⟩ => rfl
    | ⟨2, _⟩ => rfl
    | ⟨3, _⟩ => rfl
    | ⟨4, _⟩ => rfl
    | ⟨5, _⟩ => rfl

/-- The row the reference's softmax runs over: the meta tokens, the band, the sink. -/
def rowU (t : EReal) (b n r h : ℕ) (x : ℕ) : EReal :=
  if x < 16 then (if keep n r (368 + x) then sK A b n r h (368 + x) else ⊥)
  else if x < 272 then (if keep n r (x - 16) then sK A b n r h (x - 16) else ⊥)
  else t

theorem select_eq (c : BitVec 1) (x y : EReal) (P : Prop) [Decidable P] (h : c = 1#1 ↔ P) : Scalar.select c x y = if P then x else y := by
  unfold Scalar.select
  by_cases hP : P
  · rw [if_pos hP, if_pos (show c = 1 from h.mpr hP)]
  · rw [if_neg hP, if_neg (show ¬c = 1 from mt h.mp hP)]

theorem neg_inf : (FloatOps.ofBits (F := Ideal) .f32 0xFF800000#32 : EReal) = ⊥ := by
  show Ideal.ofBits .f32 0xFF800000#32 = ⊥
  simp [Ideal.ofBits, Ideal.ieee, -EReal.coe_mul]

theorem masked_meta (b : Fin 4) (n : Fin 17) (g q : Fin 4) (r : Fin 128) (m : Fin 16) (hR : 112 ≤ 128 * n.val + r.val) :
    val_main_v129 (F := Ideal) A (ix6 b n g q r m) = if keep n r (368 + m) then sK A b n r (4 * g + q) (368 + m) else ⊥ := by
  rw [val_main_v129_apply, meta_score A b n g q r m hR, val_main_call3_v0_apply, val_main_v128_apply, val_main_call3_v1_apply]
  refine (select_eq _ _ _ (keep n r (368 + m)) ?_).trans (if_congr Iff.rfl rfl ?_)
  · rw [← meta_mask n r m]
    refine Eq.congr_left (congrArg (val_main_v119 (F := Ideal)) (funext fun a => ?_))
    match a with
    | ⟨0, _⟩ => rfl
    | ⟨1, _⟩ => rfl
    | ⟨2, _⟩ => rfl
  · exact neg_inf

theorem masked_band (b : Fin 4) (n : Fin 17) (g q : Fin 4) (r : Fin 128) (c : Fin 256) (hR : 112 ≤ 128 * n.val + r.val) :
    val_main_v131 (F := Ideal) A (ix6 b n g q r c) = if keep n r c then sK A b n r (4 * g + q) c else ⊥ := by
  rw [val_main_v131_apply, val_main_call4_v0_apply, val_main_v130_apply, val_main_call4_v1_apply]
  refine (select_eq _ _ _ (keep n r c) ?_).trans ?_
  · rw [← band_mask n r c]
    refine Eq.congr_left (congrArg (val_main_v113 (F := Ideal)) (funext fun a => ?_))
    match a with
    | ⟨0, _⟩ => rfl
    | ⟨1, _⟩ => rfl
    | ⟨2, _⟩ => rfl
  · by_cases h : keep n r c
    · rw [if_pos h, if_pos h]
      refine band_score A b n g q r c hR ?_
      unfold keep at h
      omega
    · rw [if_neg h, if_neg h]
      exact neg_inf

theorem sink_apply (b : Fin 4) (n : Fin 17) (g q : Fin 4) (r : Fin 128) (z : Fin 1) :
    val_main_v134 (F := Ideal) B (ix6 b n g q r z) = B (ix1 ⟨4 * g + q, by omega⟩) := by
  rw [val_main_v134_apply, val_main_v133_apply, val_main_v132_apply]
  refine congrArg B (funext fun a => Fin.ext ?_)
  match a with
  | ⟨0, _⟩ => show g.val * 4 + q.val = 4 * g.val + q.val; omega

/-- The reference's concatenated row of scores. -/
theorem row_eq (b : Fin 4) (n : Fin 17) (g q : Fin 4) (r : Fin 128) (x : Fin 273) (hR : 112 ≤ 128 * n.val + r.val) :
    val_main_v135 (F := Ideal) A B (ix6 b n g q r x) = rowU A (B (ix1 ⟨4 * g + q, by omega⟩)) b n r (4 * g + q) x := by
  unfold val_main_v135 rowU
  by_cases h1 : x.val < 16
  · rw [if_pos h1]
    exact (concatenate_apply_piece (t := S4x17x4x4x128x273) 5 _ _ (ix6 b n g q r x) 0 (by simp) S4x17x4x4x128x16 (val_main_v129 (F := Ideal) A)
      rfl rfl 0 rfl (ix6 b n g q r (⟨x.val, h1⟩ : Fin 16))
      (fun e he => by
        match e, he with
        | ⟨0, _⟩, _ => rfl
        | ⟨1, _⟩, _ => rfl
        | ⟨2, _⟩, _ => rfl
        | ⟨3, _⟩, _ => rfl
        | ⟨4, _⟩, _ => rfl
        | ⟨5, _⟩, he => exact absurd rfl he)
      (Nat.zero_add _)).trans (masked_meta A b n g q r ⟨x.val, h1⟩ hR)
  · rw [if_neg h1]
    by_cases h2 : x.val < 272
    · rw [if_pos h2]
      exact (concatenate_apply_piece (t := S4x17x4x4x128x273) 5 _ _ (ix6 b n g q r x) 1 (by simp) S4x17x4x4x128x256 (val_main_v131 (F := Ideal) A)
        rfl rfl 16 rfl (ix6 b n g q r (⟨x.val - 16, by omega⟩ : Fin 256))
        (fun e he => by
          match e, he with
          | ⟨0, _⟩, _ => rfl
          | ⟨1, _⟩, _ => rfl
          | ⟨2, _⟩, _ => rfl
          | ⟨3, _⟩, _ => rfl
          | ⟨4, _⟩, _ => rfl
          | ⟨5, _⟩, he => exact absurd rfl he)
        (show 16 + (x.val - 16) = x.val by omega)).trans (masked_band A b n g q r ⟨x.val - 16, by omega⟩ hR)
    · rw [if_neg h2]
      exact (concatenate_apply_piece (t := S4x17x4x4x128x273) 5 _ _ (ix6 b n g q r x) 2 (by simp) S4x17x4x4x128x1 (val_main_v134 (F := Ideal) B)
        rfl rfl 272 rfl (ix6 b n g q r (⟨x.val - 272, by omega⟩ : Fin 1))
        (fun e he => by
          match e, he with
          | ⟨0, _⟩, _ => rfl
          | ⟨1, _⟩, _ => rfl
          | ⟨2, _⟩, _ => rfl
          | ⟨3, _⟩, _ => rfl
          | ⟨4, _⟩, _ => rfl
          | ⟨5, _⟩, he => exact absurd rfl he)
        (show 272 + (x.val - 272) = x.val by omega)).trans (sink_apply B b n g q r _)

end Cert.Attn
-- ==== Proof.Attn.Ref.lean ====
module

public import proofs.«01_k».proof.Proof.Attn.RefScores

@[expose] public section

/-! The reference's softmax and its two products with the values. -/

noncomputable section

namespace Cert.Attn

open Cert.ReferenceIdeal Cert.ReferenceIdeal.Gen Cert.ReferenceIdeal.Read Idealize.ShloMosaic Idealize.ShloMosaic.TcCoe
open Idealize.ShloMosaic.ValueIdx

variable (A : S8704x1536.Idx → EReal) (B : S16.Idx → EReal)

section
variable (b : Fin 4) (n : Fin 17) (g q : Fin 4) (r : Fin 128) (hR : 112 ≤ 128 * n.val + r.val)

/-- The row of scores of one head at one position. -/
abbrev uRow : ℕ → EReal := rowU A (B (ix1 ⟨4 * g + q, by omega⟩)) b n r (4 * g + q)

/-- Its largest entry. -/
abbrev uTop : EReal := (Finset.range 273).fold max ⊥ (uRow A B b n g q r)

/-- The sum of its exponentials. -/
abbrev uDen : EReal := ∑ x ∈ Finset.range 273, Ideal.exp (uRow A B b n g q r x - uTop A B b n g q r)

include hR

theorem max_eq : val_main_v136 (F := Ideal) A B (ix5 b n g q r) = uTop A B b n g q r := by
  unfold val_main_v136 val_main_cst_16
  refine (congrFun (hostReduce_maximumf_eq_multiReduction (F := Ideal) (φ := .f32) (val_main_v135 (F := Ideal) A B) 0xFF800000#32
    reducesTo_S4x17x4x4x128x273_S4x17x4x4x128_d5 h_S_ (by decide) (.inl rfl) rfl) (ix5 b n g q r)).trans ?_
  refine (Ideal.multiReduction_maximumf_single _ _ _ _ _ _).trans ?_
  rw [neg_inf]
  refine Eq.trans ?_ (fold_univ_eq 273 _)
  refine congrArg (Finset.fold max ⊥ · Finset.univ) (funext fun x => ?_)
  refine (congrArg (val_main_v135 (F := Ideal) A B) (funext fun a => ?_ : _ = ix6 b n g q r x)).trans (row_eq A B b n g q r x hR)
  match a with
  | ⟨0, _⟩ => rfl
  | ⟨1, _⟩ => rfl
  | ⟨2, _⟩ => rfl
  | ⟨3, _⟩ => rfl
  | ⟨4, _⟩ => rfl
  | ⟨5, _⟩ => rfl

theorem shift_eq (x : Fin 273) : val_main_v140 (F := Ideal) A B (ix6 b n g q r x) = uTop A B b n g q r := by
  rw [val_main_v140_apply, val_main_v139_apply, val_main_v138_apply, val_main_v137_apply]
  refine (congrArg₂ max neg_inf ((congrArg (val_main_v136 (F := Ideal) A B) (funext fun a => ?_ : _ = ix5 b n g q r)).trans
    (max_eq A B b n g q r hR))).trans (max_eq_right bot_le)
  match a with
  | ⟨0, _⟩ => rfl
  | ⟨1, _⟩ => rfl
  | ⟨2, _⟩ => rfl
  | ⟨3, _⟩ => rfl
  | ⟨4, _⟩ => rfl

theorem exps_eq (x : Fin 273) : val_main_v142 (F := Ideal) A B (ix6 b n g q r x)
    = Ideal.exp (uRow A B b n g q r x - uTop A B b n g q r) := by
  rw [val_main_v142_apply, val_main_v141_apply, shift_eq A B b n g q r hR, row_eq A B b n g q r x hR]
  rfl

theorem den_eq (x : Fin 273) : val_main_v145 (F := Ideal) A B (ix6 b n g q r x) = uDen A B b n g q r := by
  rw [val_main_v145_apply, val_main_v144_apply, val_main_v143_apply]
  refine (congrArg₂ (· + ·) Ideal.ofBits_zero_f32 (Finset.sum_congr rfl fun k _ => ?_)).trans ((zero_add _).trans
    (Finset.sum_range (fun x => Ideal.exp (uRow A B b n g q r x - uTop A B b n g q r))).symm)
  refine (congrArg (val_main_v142 (F := Ideal) A B) (funext fun a => ?_ : _ = ix6 b n g q r k)).trans (exps_eq A B b n g q r hR k)
  match a with
  | ⟨0, _⟩ => rfl
  | ⟨1, _⟩ => rfl
  | ⟨2, _⟩ => rfl
  | ⟨3, _⟩ => rfl
  | ⟨4, _⟩ => rfl
  | ⟨5, _⟩ => rfl

/-- The softmax of the row. -/
theorem prob_eq (x : Fin 273) : val_main_v146 (F := Ideal) A B (ix6 b n g q r x)
    = Ideal.div (Ideal.exp (uRow A B b n g q r x - uTop A B b n g q r)) (uDen A B b n g q r) := by
  rw [val_main_v146_apply, exps_eq A B b n g q r hR, den_eq A B b n g q r hR]
  rfl

/-- The meta tokens' part of the result. -/
theorem meta_out (d : Fin 64) : val_main_v149 (F := Ideal) A B (ix6 b n r g q d)
    = ∑ m : Fin 16, val_main_v91 (F := Ideal) A (ix4 b m g d)
        * Ideal.div (Ideal.exp (uRow A B b n g q r m - uTop A B b n g q r)) (uDen A B b n g q r) := by
  rw [val_main_v149_apply, val_main_v148_apply]
  refine Finset.sum_congr rfl fun m _ => congrArg₂ (· * ·) (congrArg (val_main_v91 (F := Ideal) A) (funext fun a => ?_)) ?_
  · match a with
    | ⟨0, _⟩ => rfl
    | ⟨1, _⟩ => rfl
    | ⟨2, _⟩ => rfl
    | ⟨3, _⟩ => rfl
  · rw [val_main_v147_apply]
    refine (congrArg (val_main_v146 (F := Ideal) A B) (funext fun a => ?_ : _ = ix6 b n g q r ⟨m.val, by omega⟩)).trans
      (prob_eq A B b n g q r hR ⟨m.val, by omega⟩)
    match a with
    | ⟨0, _⟩ => rfl
    | ⟨1, _⟩ => rfl
    | ⟨2, _⟩ => rfl
    | ⟨3, _⟩ => rfl
    | ⟨4, _⟩ => rfl
    | ⟨5, _⟩ => rfl

/-- The band's part of the result. -/
theorem band_out (d : Fin 64) : val_main_v152 (F := Ideal) A B (ix6 b n r g q d)
    = ∑ c : Fin 256, val_main_v89 (F := Ideal) A (ix5 b n c g d)
        * Ideal.div (Ideal.exp (uRow A B b n g q r (16 + c) - uTop A B b n g q r)) (uDen A B b n g q r) := by
  rw [val_main_v152_apply, val_main_v151_apply]
  refine Finset.sum_congr rfl fun c _ => congrArg₂ (· * ·) (congrArg (val_main_v89 (F := Ideal) A) (funext fun a => ?_)) ?_
  · match a with
    | ⟨0, _⟩ => rfl
    | ⟨1, _⟩ => rfl
    | ⟨2, _⟩ => rfl
    | ⟨3, _⟩ => rfl
    | ⟨4, _⟩ => rfl
  · rw [val_main_v150_apply]
    refine (congrArg (val_main_v146 (F := Ideal) A B) (funext fun a => ?_ : _ = ix6 b n g q r ⟨16 + c.val, by omega⟩)).trans
      (prob_eq A B b n g q r hR ⟨16 + c.val, by omega⟩)
    match a with
    | ⟨0, _⟩ => rfl
    | ⟨1, _⟩ => rfl
    | ⟨2, _⟩ => rfl
    | ⟨3, _⟩ => rfl
    | ⟨4, _⟩ => rfl
    | ⟨5, _⟩ => rfl
end

theorem pad_zero (i : S_.Idx) : val_main_call5_v0 (F := Ideal) i = 0 := by
  show (((0#32).toInt : ℝ) : EReal) = 0
  rw [show (0#32).toInt = 0 by decide]
  norm_num

/-- A row of the result before the sequence's start is zero. -/
theorem out_pad (b : Fin 4) (R : Fin 2176) (j : Fin 1024) (hR : R.val < 112) (X : Fin 8704) (hX : X.val = 2176 * b.val + R.val) :
    val_main_v158 (F := Ideal) A B (ix2 X j) = 0 := by
  rw [val_main_v158_apply, val_main_v157_apply]
  refine (congrArg (val_main_v156 (F := Ideal) A B) (funext fun a => Fin.ext ?_ : _ = ix3 b R j)).trans ?_
  · match a with
    | ⟨0, _⟩ => dsimp [ix2, ix3]; omega
    | ⟨1, _⟩ => dsimp [ix2, ix3]; omega
    | ⟨2, _⟩ => dsimp [ix2, ix3]; omega
  · unfold val_main_v156
    refine (pad_apply_of_not_inside ![0, 112, 0] ![0, 0, 0] ![0, 0, 0] (val_main_v155 (F := Ideal) A B) _
      pads_S4x2064x1024_S4x2176x1024_000_11200_000 h_S_ (ix3 b R j) 1 ?_).trans (pad_zero _)
    intro h
    have h1 : 112 ≤ R.val := h.1
    omega

/-- A row of the result inside the sequence is the sum of its two parts. -/
theorem out_row (b : Fin 4) (n : Fin 17) (r : Fin 128) (g q : Fin 4) (d : Fin 64) (hR : 112 ≤ 128 * n.val + r.val) (X : Fin 8704)
    (hX : X.val = 2176 * b.val + (128 * n.val + r.val)) (j : Fin 1024) (hj : j.val = (4 * g.val + q.val) * 64 + d.val) :
    val_main_v158 (F := Ideal) A B (ix2 X j)
      = val_main_v149 (F := Ideal) A B (ix6 b n r g q d) + val_main_v152 (F := Ideal) A B (ix6 b n r g q d) := by
  rw [val_main_v158_apply, val_main_v157_apply]
  have hlt : 128 * n.val + r.val < 2176 := by omega
  refine (congrArg (val_main_v156 (F := Ideal) A B) (funext fun a => Fin.ext ?_ : _ = ix3 b (⟨128 * n.val + r.val, hlt⟩ : Fin 2176) j)).trans ?_
  · match a with
    | ⟨0, _⟩ => dsimp [ix2, ix3]; omega
    | ⟨1, _⟩ => dsimp [ix2, ix3]; omega
    | ⟨2, _⟩ => dsimp [ix2, ix3]; omega
  · unfold val_main_v156
    refine (pad_apply_of_inside ![0, 112, 0] ![0, 0, 0] ![0, 0, 0] (val_main_v155 (F := Ideal) A B) _
      pads_S4x2064x1024_S4x2176x1024_000_11200_000 h_S_ (ix3 b (⟨128 * n.val + r.val, hlt⟩ : Fin 2176) j)
      (ix3 b (⟨128 * n.val + r.val - 112, by omega⟩ : Fin 2064) j) ?_).trans ?_
    · intro a
      match a with
      | ⟨0, _⟩ => show b.val = 0 + b.val * 1; omega
      | ⟨1, _⟩ => show 128 * n.val + r.val = 112 + (128 * n.val + r.val - 112) * 1; omega
      | ⟨2, _⟩ => show j.val = 0 + j.val * 1; omega
    · rw [val_main_v155_apply]
      unfold val_main_v154
      refine (shapeCast_apply _ shapeCasts_S4x17x128x4x4x64_S4x2176x1024 _ (ix6 b n r g q d) ?_).trans (val_main_v153_apply _ _ _)
      rw [Shape.rowMajor_val_six, Shape.rowMajor_val_three]
      show ((((b.val * 17 + n.val) * 128 + r.val) * 4 + g.val) * 4 + q.val) * 64 + d.val
        = (b.val * 2176 + (112 + (128 * n.val + r.val - 112))) * 1024 + j.val
      omega

end Cert.Attn
-- ==== Proof.Attn.Eq.lean ====
module

public import proofs.«01_k».proof.Proof.Attn.Ref

@[expose] public section

/-! The reference's result is the kernel's, at finite arguments. -/

noncomputable section

namespace Cert.Attn

open Cert.ReferenceIdeal Cert.ReferenceIdeal.Gen Cert.ReferenceIdeal.Read Idealize.ShloMosaic Idealize.ShloMosaic.TcCoe
open Idealize.ShloMosaic.ValueIdx

/-- Every power the rotation's angles use is finite. -/
theorem pw_fini (d : Fin 8) : Fini (pwV (ix1 d)) := by
  show Fini (Ideal.pow (Ideal.ofBits .f32 0x48F42400#32)
    (Ideal.div (-(((BitVec.ofNat 32 d.val).toInt : ℝ) : EReal)) (Ideal.ofBits .f32 0x41000000#32)))
  have e1 : Ideal.ofBits .f32 0x48F42400#32 = ((500000 : ℝ) : EReal) := by
    simp [Ideal.ofBits, Ideal.ieee, -EReal.coe_mul]
    norm_num
  have e2 : Ideal.ofBits .f32 0x41000000#32 = ((8 : ℝ) : EReal) := by
    simp [Ideal.ofBits, Ideal.ieee, -EReal.coe_mul]
    norm_num
  have e3 : ∀ x : ℝ, Ideal.div (-(x : EReal)) ((8 : ℝ) : EReal) = ((-x * 8⁻¹ : ℝ) : EReal) := fun x => by
    unfold Ideal.div
    rw [if_neg (by norm_num)]
    rw [← EReal.coe_inv, ← EReal.coe_neg, ← EReal.coe_mul]
  rw [e1, e2, e3]
  exact ⟨_, rfl⟩

theorem ang_fini (p : ℤ) (d : ℕ) : Fini (ang p d) := by
  unfold ang
  split
  · exact (Fini.coe _).mul (pw_fini _)
  · exact Fini.zero

theorem cosT_fini (R d : ℕ) : Fini (cosT R d) := by
  unfold cosT
  obtain ⟨x, hx⟩ := ang_fini ((R : ℤ) - 112) d
  rw [hx]
  exact ⟨_, rfl⟩

theorem sinT_fini (R d : ℕ) : Fini (sinT R d) := by
  unfold sinT
  obtain ⟨x, hx⟩ := ang_fini ((R : ℤ) - 112) d
  rw [hx]
  exact ⟨_, rfl⟩

theorem ropeS_fini (x c s : ℕ → EReal) (hx : ∀ d, Fini (x d)) (hc : ∀ d, Fini (c d)) (hs : ∀ d, Fini (s d)) (d : ℕ) : Fini (ropeS x c s d) := by
  unfold ropeS
  split
  · exact ((hx _).mul (hc _)).sub ((hx _).mul (hs _))
  · split
    · exact ((hx _).mul (hc _)).add ((hx _).mul (hs _))
    · exact hx _

section
variable (A : S8704x1536.Idx → EReal) (B : S16.Idx → EReal) (hA : ∀ i, Fini (A i)) (hB : ∀ i, Fini (B i))

include hA in
theorem rd_fini (R C : ℕ) : Fini (rd A R C) := by
  unfold rd
  split
  · exact hA _
  · exact Fini.zero

include hA in
theorem sK_fini (b n r h c : ℕ) : Fini (sK A b n r h c) := by
  unfold sK
  refine Fini.sum _ _ fun d _ => Fini.mul (Fini.mul ?_ (e8_coe ▸ Fini.coe _)) ?_
  · exact ropeS_fini _ _ _ (fun _ => rd_fini A hA _ _) (cosT_fini _) (sinT_fini _) d
  · exact ropeS_fini _ _ _ (fun _ => rd_fini A hA _ _) (cosT_fini _) (sinT_fini _) d

include hA hB

/-- Inside the sequence the two softmaxes agree. -/
theorem row_agree (b : Fin 4) (n : Fin 17) (r : Fin 128) (g q : Fin 4) (d : Fin 64) (hR : 112 ≤ 128 * n.val + r.val) (j : ℕ)
    (hj : j = (4 * g.val + q.val) * 64 + d.val) :
    attK A (B (ix1 ⟨4 * g + q, by omega⟩)) b n r j
      = val_main_v149 (F := Ideal) A B (ix6 b n r g q d) + val_main_v152 (F := Ideal) A B (ix6 b n r g q d) := by
  rw [meta_out A B b n g q r hR, band_out A B b n g q r hR]
  unfold attK
  rw [show j / 64 = 4 * g.val + q.val by omega, show j / 256 = g.val by omega, show j % 64 = d.val by omega]
  refine (att_eq _ _ (uRow A B b n g q r) (fun m => rd A (2176 * b + (112 + m)) (1280 + (64 * g + d)))
    (fun c => if hc : c < 256 then val_main_v89 (F := Ideal) A (ix5 b n ⟨c, hc⟩ g d) else 0) _ (hB _) ?_ ?_ ?_ ?_ ?_ ?_ ?_
    (uTop A B b n g q r) (uDen A B b n g q r) rfl rfl).trans ?_
  · intro c _
    split
    · exact (sK_fini A hA _ _ _ _ _).ne_top
    · exact bot_ne_top
  · intro m hm
    exact if_pos hm
  · intro c hc
    show rowU _ _ _ _ _ _ _ = _
    unfold rowU
    rw [if_neg (by omega), if_pos (by omega), show 16 + c - 16 = c by omega]
  · show rowU _ _ _ _ _ _ _ = _
    unfold rowU
    rw [if_neg (by omega), if_neg (by omega)]
  · intro i hi
    refine if_neg ?_
    unfold keep
    omega
  · intro m hm
    refine congrArg (fun k => rd A (2176 * b + k) (1280 + (64 * g + d))) ?_
    unfold kPos
    rw [if_neg (by omega), if_neg (by omega)]
    omega
  · intro c hc
    by_cases hk : keep n r c
    · right
      rw [dif_pos hc]
      have hK : 240 ≤ 128 * n.val + c := by
        unfold keep at hk
        omega
      have hr : r.val < 128 := r.isLt
      have hn : n.val < 17 := n.isLt
      rw [vtwo_apply A b n ⟨c, hc⟩ g d ⟨128 * n + c - 240, by omega⟩ (by dsimp only; omega), v_apply]
      refine congrArg (fun k => rd A (2176 * b + k) (1280 + (64 * g + d))) ?_
      unfold kPos
      dsimp only
      split <;> omega
    · left
      exact if_neg hk
  · refine congrArg₂ (· + ·) ?_ ?_
    · rw [Finset.sum_range]
      refine Finset.sum_congr rfl fun m _ => ?_
      rw [mul_comm, vmeta_apply, v_apply]
    · rw [Finset.sum_range]
      refine Finset.sum_congr rfl fun c _ => ?_
      rw [mul_comm]
      exact congrArg (· * _) (dif_pos c.isLt)

/-- Before the sequence's start the kernel's result is zero. -/
theorem pad_agree (t : EReal) (ht : Fini t) (b n r j : ℕ) (hR : 128 * n + r < 112) : attK A t b n r j = 0 := by
  unfold attK
  refine att_masked ht fun c hc => if_neg ?_
  unfold keep
  omega

/-- The reference's result at a row and a column is the kernel's. -/
theorem agree (t : Fin 68) (r : Fin 128) (j : Fin 1024) (X : Fin 8704) (hX : X.val = 128 * t.val + r.val) :
    val_main_v158 (F := Ideal) A B (ix2 X j) = attK A (B (ix1 ⟨j.val / 64, by omega⟩)) (t.val / 17) (t.val % 17) r j := by
  have hr : r.val < 128 := r.isLt
  have ht : t.val < 68 := t.isLt
  have hj : j.val < 1024 := j.isLt
  by_cases hR : 128 * (t.val % 17) + r.val < 112
  · rw [pad_agree A B hA hB _ (hB _) _ _ _ _ hR]
    exact out_pad A B ⟨t.val / 17, by omega⟩ ⟨128 * (t.val % 17) + r.val, by omega⟩ j hR X (by dsimp only; omega)
  · have e := row_agree A B hA hB ⟨t.val / 17, by omega⟩ ⟨t.val % 17, by omega⟩ r ⟨j.val / 256, by omega⟩ ⟨j.val / 64 % 4, by omega⟩
      ⟨j.val % 64, by omega⟩ (by dsimp only; omega) j.val (by dsimp only; omega)
    rw [out_row A B ⟨t.val / 17, by omega⟩ ⟨t.val % 17, by omega⟩ r ⟨j.val / 256, by omega⟩ ⟨j.val / 64 % 4, by omega⟩
      ⟨j.val % 64, by omega⟩ (by dsimp only; omega) X (by dsimp only; omega) j (by dsimp only; omega), ← e]
    refine congrArg (fun i => attK A (B i) _ _ _ _) (funext fun a => Fin.ext ?_)
    match a with
    | ⟨0, _⟩ => show 4 * (j.val / 256) + j.val / 64 % 4 = j.val / 64; omega
end

end Cert.Attn
-- ==== Proof.Attn.Claims.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Read
public import proofs.«01_k».proof.Proof.Attn.Eq

@[expose] public section

/-! The claims about the attention kernel. -/

noncomputable section

namespace Cert.Attn

open Idealize.ShloMosaic Idealize.SL.Sem Idealize.ShloMosaic.ValueIdx

/-- The side conditions of the predicate that every argument is finite. -/
theorem factsFinite : Cert.Pre_finite.Facts where
  bcast_S_S8704x1536 := by decide
  bcast_S_S16 := by decide

/-- The printed kernel runs, leaves its arguments and every counter as they were. -/
theorem frameKernel : Cert.quiescent_Kernel := fun m ρ _ => Cert.Kernel.Gen.frame m ρ

/-- The idealized kernel runs, leaves its arguments and every counter as they were. -/
theorem frameIdeal : Cert.quiescent_KernelIdeal := fun m ρ _ => Cert.KernelIdeal.Gen.frame m ρ

/-- The same from finite arguments. -/
theorem frameIdealFinite (h : Cert.Pre_finite.Facts) : Cert.quiescent_KernelIdeal_pre_finite (hPre_finite := h) :=
  fun m ρ _ => Cert.KernelIdeal.Gen.frame m ρ

/-- The reference runs, leaves its arguments and every counter as they were. -/
theorem frameRef : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The same from finite arguments. -/
theorem frameRefFinite (h : Cert.Pre_finite.Facts) : Cert.quiescent_ReferenceIdeal_pre_finite (hPre_finite := h) :=
  fun m ρ _ => frameRef m ρ trivial

/-- The constant the kernel masks scores with is named minus infinity. -/
theorem keeps : Cert.preserves_Kernel_KernelIdeal :=
  IdealRules.named_const.statement Cert.KernelIdeal.κ "mask" .f32 0xF149F2CA#32 ⊥ rfl

/-- A value strictly between the infinities is a real. -/
theorem fini_of_word (x : EReal)
    (h : IntOp.andi (Ideal.cmp .ogt x (Ideal.ofBits .f32 0xFF800000#32)) (Ideal.cmp .olt x (Ideal.ofBits .f32 0x7F800000#32)) = 1#1) :
    Fini x := by
  rw [show Ideal.ofBits .f32 0xFF800000#32 = ⊥ from neg_inf,
    show Ideal.ofBits .f32 0x7F800000#32 = ⊤ by simp [Ideal.ofBits, Ideal.ieee, -EReal.coe_mul], and_one] at h
  have h1 : ⊥ < x := (ofBool_one _).mp h.1
  have h2 : x < ⊤ := (ofBool_one _).mp h.2
  exact Fini.of_ne h2.ne h1.ne'

/-- From finite arguments the kernel and the reference end with equal results. -/
theorem same (h : Cert.Pre_finite.Facts) : Cert.algebraic_KernelIdeal_ReferenceIdeal_pre_finite (hPre_finite := h) := by
  intro m g m' g' hp hargs
  refine ⟨fun c => (Cert.KernelIdeal.Gen.dats m 0 c).arrAt 11 Cert.KernelIdeal.cfg0.N, ?_, ?_⟩
  · exact Cert.KernelIdeal.Value.run_blocks m g
  · refine (θ_run Cert.ReferenceIdeal.defs _ _).mono (fun r hr c => ⟨(hr c).1.trans ?_, (hr c).2⟩) (Cert.ReferenceIdeal.Value.run m' g')
    rw [Cert.ReferenceIdeal.Read.val_main_v158_eq (StableHlo.launchContents m' c)]
    have hA : ∀ i, Fini (argA m c i) := fun i => fini_of_word _ (congrFun (hp c).1 i)
    have hB : ∀ i, Fini (argS m c i) := fun i => fini_of_word _ (congrFun (hp c).2 i)
    funext i
    have hX : (i 0).val < 8704 := (i 0).isLt
    have e := final m c ⟨(i 0).val / 128, by omega⟩ ⟨(i 0).val % 128, by omega⟩ (i 1)
    have e' := agree (argA m c) (argS m c) hA hB ⟨(i 0).val / 128, by omega⟩ ⟨(i 0).val % 128, by omega⟩ (i 1) (i 0)
      (by dsimp only; omega)
    have ei : i = ix2 (i 0) (i 1) := funext fun a => by
      match a with
      | ⟨0, _⟩ => rfl
      | ⟨1, _⟩ => rfl
    have ei' : ix2 (⟨128 * ((i 0).val / 128) + (i 0).val % 128, by omega⟩ : Fin 8704) (i 1) = i := funext fun a => Fin.ext (by
      match a with
      | ⟨0, _⟩ => dsimp [ix2]; omega
      | ⟨1, _⟩ => rfl)
    refine Eq.trans ?_ ((e'.trans e.symm).trans (congrArg ((Cert.KernelIdeal.Gen.dats m 0 c).arrAt 11 Cert.KernelIdeal.cfg0.N) ei'))
    exact (congrFun (congrArg₂ (Cert.ReferenceIdeal.Read.val_main_v158 (F := Ideal)) (hargs c).1 (hargs c).2) i).trans
      (congrArg (Cert.ReferenceIdeal.Read.val_main_v158 (F := Ideal) (argA m c) (argS m c)) ei)

end Cert.Attn
-- ==== Proof.Proj.Core.lean ====
module

public import Idealize.ShloMosaic.PureOps
public import Idealize.ShloMosaic.PureOps.Ideal.Laws

@[expose] public section

/-! The logistic function as both programs spell it. -/

noncomputable section

namespace Cert.Proj

open Idealize.ShloMosaic

/-- One over one plus the exponential of the opposite. -/
def logis (z : EReal) : EReal := Ideal.div (Ideal.ofBits .f32 0x3F800000#32) (Ideal.ofBits .f32 0x3F800000#32 + Ideal.exp (-z))

end Cert.Proj
-- ==== Proof.Proj.Qkv.lean ====
module

public import proofs.«01_k».proof.Proof.Gen.ProjQkvIdeal.Value
public import proofs.«01_k».proof.Proof.Proj.Core
public import Idealize.ShloMosaic.Lib.MatmulPlain
public import Idealize.ShloMosaic.Lib.ValueIdx
public import Idealize.ShloMosaic.PureOps.Ideal.Laws

@[expose] public section

/-! The query, key and value projection's result array, read at any row and column. -/

noncomputable section

namespace Cert.Proj.Qkv

open Cert.ProjQkvIdeal Cert.ProjQkvIdeal.Gen Cert.ProjQkvIdeal.Value Idealize.ShloMosaic Idealize.ShloMosaic.TcCoe
open Idealize.ShloMosaic.Pipeline (Dat)
open Idealize.ShloMosaic.ValueIdx

/-- One tile: a block of rows times a block of columns, plus the bias. -/
theorem pay_apply (x : Vec Ideal S1088x2048 .bf16) (w : Vec Ideal S2048x512 .bf16) (b : Vec Ideal S1x512 .f32) (r : Fin 1088) (j : Fin 512) :
    k0_pay1 x w b (ix2 r j) =  ((∑ k : Fin 2048, x (ix2 r k) * w (ix2 k j)) + b (ix2 (0 : Fin 1) j)) := by
  have hm : matmul (F := Ideal) (φ₁ := .bf16) (φ₂ := .bf16) dot_S1088x2048_S2048x512_S1088x512_1_0_0_1_n_n none x w (constant S1088x512 .f32 0x00000000#32) (ix2 r j)
      = ∑ k : Fin 2048, x (ix2 r k) * w (ix2 k j) := by
    refine Eq.trans (b := FloatOps.matmul (DotDims.plain 1088 2048 512) none x w (constant S1088x512 .f32 0x00000000#32) (ix2 r j)) rfl ?_
    rw [Ideal.matmul_plain_apply,
      show (constant S1088x512 .f32 0x00000000#32 : FVec Ideal S1088x512 .f32) (ix2 r j) = 0 from Ideal.ofBits_zero_f32, zero_add]
  have hb : broadcastTo S1088x512 b broadcasts_S1x512_S1088x512 (ix2 r j) = b (ix2 (0 : Fin 1) j) := by
    refine broadcastTo_apply _ _ _ _ fun a => ?_
    match a with
    | ⟨0, _⟩ => rfl
    | ⟨1, _⟩ => rfl
  unfold k0_pay1
  simp only [shapeCast_self]
  show matmul (F := Ideal) (φ₁ := .bf16) (φ₂ := .bf16) dot_S1088x2048_S2048x512_S1088x512_1_0_0_1_n_n none x w (constant S1088x512 .f32 0x00000000#32) (ix2 r j)
    + broadcastTo S1088x512 b broadcasts_S1x512_S1088x512 (ix2 r j) = _
  rw [hm, hb]

theorem off_zero : (![0, 0] : Fin 2 → Nat) = fun _ => 0 := by decide

/-- What a grid step writes is its tile. -/
theorem out_eq (x : Vec Ideal S1088x2048 .bf16) (w : Vec Ideal S2048x512 .bf16) (b : Vec Ideal S1x512 .f32) :
    out0_3 x w b = k0_pay1 x w b := by
  unfold out0_3
  rw [View.canon_unit_zero off_zero, View.ld_unit_zero off_zero, View.ld_unit_zero off_zero, View.ld_unit_zero off_zero]

variable (m : (ℓ : Loc nD τ sig) → Buf (Elt Ideal) ℓ)

/-- The normalised rows, as the kernel was launched with it. -/
abbrev argU (c : Dev nD) : S8704x2048.Idx → EReal := m ((c : Thread nD τ).loc main_arg0)
/-- The combined projection's weights, as the kernel was launched with it. -/
abbrev argW (c : Dev nD) : S2048x8896.Idx → EReal := m ((c : Thread nD τ).loc main_arg1)
/-- The bias, as the kernel was launched with it. -/
abbrev argB (c : Dev nD) : S1536.Idx → EReal := m ((c : Thread nD τ).loc main_arg2)

theorem idx0 : ∀ t : Fin cfg0.N, win0_0.index t (0 : Fin 2) = t.val / 3 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 3 :=
  (by decide +kernel : ∀ t : Fin grid0.N, _)
theorem idx2 : ∀ t : Fin cfg0.N, win0_2.index t (0 : Fin 2) = 0 ∧ win0_2.index t (1 : Fin 2) = t.val % 3 :=
  (by decide +kernel : ∀ t : Fin grid0.N, _)
theorem idx3 : ∀ t : Fin cfg0.N, win0_3.index t (0 : Fin 2) = t.val / 3 ∧ win0_3.index t (1 : Fin 2) = t.val % 3 :=
  (by decide +kernel : ∀ t : Fin grid0.N, _)
theorem hN : cfg0.N = 24 := by decide +kernel

/-- The weights of a column of the result: column 0 onwards of the combined projection. -/
def wt (c : Dev nD) (k : Fin 2048) (J : Fin 1536) : EReal := argW m c (ix2 k (⟨0 + J.val, by omega⟩ : Fin 8896))
theorem V_wt (c : Dev nD) (k : Fin 2048) (J : Fin 1536) : V m c main_v1 (ix2 k J) = wt m c k J := by
  have e : V m c main_v1 = truncf (F := Ideal) .bf16 (extractStridedSlice S2048x1536 ![0, 0] (argW m c) slices_S2048x8896_S2048x1536_0_0) bitsLt_bf16_f32 := by
    show StableHlo.after hostOps0 _ (Proc.devRef .tc main_v1) = _
    after_results_simp
  rw [e]
  show extractStridedSlice S2048x1536 ![0, 0] (argW m c) slices_S2048x8896_S2048x1536_0_0 (ix2 k J) = _
  refine extractStridedSlice_apply _ _ _ _ _ fun a => ?_
  match a with
  | ⟨0, _⟩ => exact (Nat.zero_add _).symm
  | ⟨1, _⟩ => rfl

/-- The bias of a column of the result. -/
def bias (c : Dev nD) (J : Fin 1536) : EReal := argB m c (ix1 J)
theorem V_bias (c : Dev nD) (J : Fin 1536) : V m c main_v2 (ix2 (0 : Fin 1) J) = bias m c J := by
  have e : V m c main_v2 = shapeCast S1x1536 (argB m c) shapeCasts_S1536_S1x1536 := by
    show StableHlo.after hostOps0 _ (Proc.devRef .tc main_v2) = _
    after_results_simp
    rfl
  rw [e]
  exact shapeCast_apply _ _ _ _ (by simp [Shape.rowMajor_val_one, Shape.rowMajor_val_two])

theorem rd0 (c : Dev nD) (t : Fin cfg0.N) (r : Fin 1088) (k : Fin 2048) (X : Fin 8704) (hX : X.val = 1088 * (t.val / 3) + r.val) :
    iblk m c 0 t (ix2 r k) = argU m c (ix2 X k) := by
  obtain ⟨e0, e1⟩ := idx0 t
  show V m c main_arg0 (((cfg0.win 0).blk t).view.emb (ix2 r k)) = _
  rw [V_main_arg0]
  refine congrArg _ (funext fun a => Fin.ext ?_)
  match a with
  | ⟨0, _⟩ => show win0_0.index t (0 : Fin 2) * 1088 + 1 * r.val = X.val; omega
  | ⟨1, _⟩ => show win0_0.index t (1 : Fin 2) * 2048 + 1 * k.val = k.val; omega

theorem rd1 (c : Dev nD) (t : Fin cfg0.N) (k : Fin 2048) (j : Fin 512) (J : Fin 1536) (hJ : J.val = 512 * (t.val % 3) + j.val) :
    iblk m c 1 t (ix2 k j) = wt m c k J := by
  obtain ⟨e0, e1⟩ := idx1 t
  rw [← V_wt]
  show V m c main_v1 (((cfg0.win 1).blk t).view.emb (ix2 k j)) = _
  refine congrArg _ (funext fun a => Fin.ext ?_)
  match a with
  | ⟨0, _⟩ => show win0_1.index t (0 : Fin 2) * 2048 + 1 * k.val = k.val; omega
  | ⟨1, _⟩ => show win0_1.index t (1 : Fin 2) * 512 + 1 * j.val = J.val; omega

theorem rd2 (c : Dev nD) (t : Fin cfg0.N) (j : Fin 512) (J : Fin 1536) (hJ : J.val = 512 * (t.val % 3) + j.val) :
    iblk m c 2 t (ix2 (0 : Fin 1) j) = bias m c J := by
  obtain ⟨e0, e1⟩ := idx2 t
  rw [← V_bias]
  show V m c main_v2 (((cfg0.win 2).blk t).view.emb (ix2 (0 : Fin 1) j)) = _
  refine congrArg _ (funext fun a => Fin.ext ?_)
  match a with
  | ⟨0, _⟩ => show win0_2.index t (0 : Fin 2) * 1 + 1 * 0 = 0; omega
  | ⟨1, _⟩ => show win0_2.index t (1 : Fin 2) * 512 + 1 * j.val = J.val; omega

/-- The kernel's result at any row and column: that row of the operand times that column of the weights, plus the bias. -/
theorem final (c : Dev nD) (X : Fin 8704) (J : Fin 1536) :
    (dats m 0 c).arrAt 3 cfg0.N (ix2 X J) =  ((∑ k : Fin 2048, argU m c (ix2 X k) * wt m c k J) + bias m c J) := by
  have hX := X.isLt
  have hJ := J.isLt
  let t : Fin cfg0.N := ⟨3 * (X.val / 1088) + J.val / 512, by rw [hN]; omega⟩
  have ht1 : t.val / 3 = X.val / 1088 := by show (3 * (X.val / 1088) + J.val / 512) / 3 = _; omega
  have ht2 : t.val % 3 = J.val / 512 := by show (3 * (X.val / 1088) + J.val / 512) % 3 = _; omega
  obtain ⟨e0, e1⟩ := idx3 t
  have hemb : ((cfg0.win 3).blk t).view.emb (ix2 (⟨X.val % 1088, by omega⟩ : Fin 1088) (⟨J.val % 512, by omega⟩ : Fin 512)) = ix2 X J := by
    refine funext fun a => Fin.ext ?_
    match a with
    | ⟨0, _⟩ => show win0_3.index t (0 : Fin 2) * 1088 + 1 * (X.val % 1088) = X.val; omega
    | ⟨1, _⟩ => show win0_3.index t (1 : Fin 2) * 512 + 1 * (J.val % 512) = J.val; omega
  have h := congrFun (blocks3 m c t (flush0_3 t)) (ix2 (⟨X.val % 1088, by omega⟩ : Fin 1088) (⟨J.val % 512, by omega⟩ : Fin 512))
  rw [flushed3] at h
  refine (congrArg ((dats m 0 c).arrAt 3 cfg0.N) hemb.symm).trans (h.trans ?_)
  refine Eq.trans (b := out0_3 (iblk m c 0 t) (iblk m c 1 t) (iblk m c 2 t)
    (ix2 (⟨X.val % 1088, by omega⟩ : Fin 1088) (⟨J.val % 512, by omega⟩ : Fin 512))) rfl ?_
  rw [out_eq, pay_apply, rd2 m c t _ J (by dsimp only; omega)]
  refine congrArg (fun a =>  (a + _)) (Finset.sum_congr rfl fun k _ => ?_)
  rw [rd0 m c t _ k X (by dsimp only; omega), rd1 m c t k _ J (by dsimp only; omega)]

end Cert.Proj.Qkv
-- ==== Proof.Proj.QkvClaims.lean ====
module

public import proofs.«01_k».proof.Defs
public import proofs.«01_k».proof.Proof.Gen.ProjQkv.Frame
public import proofs.«01_k».proof.Proof.Gen.ProjQkvIdeal.Frame
public import proofs.«01_k».proof.Proof.Gen.RefQkvIdeal.Read
public import proofs.«01_k».proof.Proof.Proj.Qkv
public import Idealize.ShloMosaic.Lib.KernelVsHost

@[expose] public section

/-! The claims about the query, key and value projection. -/

noncomputable section

namespace Cert.Proj.Qkv

open Idealize.ShloMosaic Idealize.SL.Sem Idealize.ShloMosaic.ValueIdx

/-- The reference's product of the rows and the combined weights. -/
theorem prod_apply (U : Cert.RefQkvIdeal.S8704x2048.Idx → EReal) (W : Cert.RefQkvIdeal.S2048x8896.Idx → EReal) (X : Fin 8704) (J : Fin 8896) :
    Cert.RefQkvIdeal.Read.val_main_v1 (F := Ideal) U W (ix2 X J) = ∑ k : Fin 2048, U (ix2 X k) * W (ix2 k J) := by
  rw [Cert.RefQkvIdeal.Read.val_main_v1_apply]
  refine Finset.sum_congr rfl fun k _ => ?_
  rw [Cert.RefQkvIdeal.Read.val_main_v0_apply]
  refine congrArg₂ (fun a b : EReal => a * b) (congrArg U (funext fun a => ?_)) (congrArg W (funext fun a => ?_))
  · match a with
    | ⟨0, _⟩ => rfl
    | ⟨1, _⟩ => rfl
  · match a with
    | ⟨0, _⟩ => rfl
    | ⟨1, _⟩ => rfl

open Cert.RefQkvIdeal Cert.RefQkvIdeal.Read in
/-- The reference's result at any row and column. -/
theorem ref_apply (U : S8704x2048.Idx → EReal) (W : S2048x8896.Idx → EReal) (B : S1536.Idx → EReal) (X : Fin 8704) (J : Fin 1536) :
    val_main_v5 (F := Ideal) U W B (ix2 X J) = (∑ k : Fin 2048, U (ix2 X k) * W (ix2 k (⟨0 + J.val, by omega⟩ : Fin 8896))) + B (ix1 J) := by
  rw [val_main_v5_apply, val_main_v2_apply, val_main_v4_apply, val_main_v3_apply]
  refine congrArg₂ (fun a b : EReal => a + b) (Eq.trans (congrArg (val_main_v1 (F := Ideal) U W) (funext fun a => Fin.ext ?_)) (prod_apply U W X _))
    (congrArg B (funext fun a => ?_))
  · match a with
    | ⟨0, _⟩ => rfl
    | ⟨1, _⟩ => exact (Nat.zero_add _).symm
  · match a with
    | ⟨0, _⟩ => rfl

/-- The printed kernel runs, leaves its arguments and every counter as they were. -/
theorem frameKernel : Cert.quiescent_ProjQkv := fun m ρ _ => Cert.ProjQkv.Gen.frame m ρ

/-- So does the idealized kernel. -/
theorem frameIdeal : Cert.quiescent_ProjQkvIdeal := fun m ρ _ => Cert.ProjQkvIdeal.Gen.frame m ρ

/-- So does the reference. -/
theorem frameRef : Cert.quiescent_RefQkvIdeal := fun m ρ _ =>
  (θ_run Cert.RefQkvIdeal.defs _ _).mono (fun r h => ⟨fun c => (h c).2, sem_eq_zero_of_no_sems (by decide) r.2⟩)
    (Cert.RefQkvIdeal.Value.run m ρ)

/-- From any arguments the kernel and the reference end with equal results. -/
theorem same : Cert.algebraic_ProjQkvIdeal_RefQkvIdeal := by
  intro m g m' g' _ hargs
  refine ⟨fun c => (Cert.ProjQkvIdeal.Gen.dats m 0 c).arrAt 3 Cert.ProjQkvIdeal.cfg0.N, ?_, ?_⟩
  · exact Cert.ProjQkvIdeal.Value.run_blocks m g
  · refine (θ_run Cert.RefQkvIdeal.defs _ _).mono (fun r hr c => ⟨(hr c).1.trans ?_, (hr c).2⟩) (Cert.RefQkvIdeal.Value.run m' g')
    rw [Cert.RefQkvIdeal.Read.val_main_v5_eq]
    rw [(hargs c).1, (hargs c).2.1, (hargs c).2.2]
    funext i
    have ei : i = ix2 (i 0) (i 1) := funext fun a => by
      match a with
      | ⟨0, _⟩ => rfl
      | ⟨1, _⟩ => rfl
    have e := (ref_apply (argU m c) (argW m c) (argB m c) (i 0) (i 1)).trans (final m c (i 0) (i 1)).symm
    exact (congrArg (Cert.RefQkvIdeal.Read.val_main_v5 (F := Ideal) (argU m c) (argW m c) (argB m c)) ei).trans
      (e.trans (congrArg ((Cert.ProjQkvIdeal.Gen.dats m 0 c).arrAt 3 Cert.ProjQkvIdeal.cfg0.N) ei.symm))

end Cert.Proj.Qkv
-- ==== Proof.Proj.Gate.lean ====
module

public import proofs.«01_k».proof.Proof.Gen.ProjGateIdeal.Value
public import proofs.«01_k».proof.Proof.Proj.Core
public import Idealize.ShloMosaic.Lib.MatmulPlain
public import Idealize.ShloMosaic.Lib.ValueIdx
public import Idealize.ShloMosaic.PureOps.Ideal.Laws

@[expose] public section

/-! The merge gates' projection's result array, read at any row and column. -/

noncomputable section

namespace Cert.Proj.Gate

open Cert.ProjGateIdeal Cert.ProjGateIdeal.Gen Cert.ProjGateIdeal.Value Idealize.ShloMosaic Idealize.ShloMosaic.TcCoe
open Idealize.ShloMosaic.Pipeline (Dat)
open Idealize.ShloMosaic.ValueIdx

/-- One tile: a block of rows times a block of columns, plus the bias, through the logistic function. -/
theorem pay_apply (x : Vec Ideal S1088x2048 .bf16) (w : Vec Ideal S2048x512 .bf16) (b : Vec Ideal S1x512 .f32) (r : Fin 1088) (j : Fin 512) :
    k0_pay1 x w b (ix2 r j) = logis ((∑ k : Fin 2048, x (ix2 r k) * w (ix2 k j)) + b (ix2 (0 : Fin 1) j)) := by
  have hm : matmul (F := Ideal) (φ₁ := .bf16) (φ₂ := .bf16) dot_S1088x2048_S2048x512_S1088x512_1_0_0_1_n_n none x w (constant S1088x512 .f32 0x00000000#32) (ix2 r j)
      = ∑ k : Fin 2048, x (ix2 r k) * w (ix2 k j) := by
    refine Eq.trans (b := FloatOps.matmul (DotDims.plain 1088 2048 512) none x w (constant S1088x512 .f32 0x00000000#32) (ix2 r j)) rfl ?_
    rw [Ideal.matmul_plain_apply,
      show (constant S1088x512 .f32 0x00000000#32 : FVec Ideal S1088x512 .f32) (ix2 r j) = 0 from Ideal.ofBits_zero_f32, zero_add]
  have hb : broadcastTo S1088x512 b broadcasts_S1x512_S1088x512 (ix2 r j) = b (ix2 (0 : Fin 1) j) := by
    refine broadcastTo_apply _ _ _ _ fun a => ?_
    match a with
    | ⟨0, _⟩ => rfl
    | ⟨1, _⟩ => rfl
  unfold k0_pay1
  simp only [shapeCast_self]
  show Ideal.div (Ideal.ofBits .f32 0x3F800000#32) (Ideal.ofBits .f32 0x3F800000#32 + Ideal.exp (Ideal.ofBits .f32 0x00000000#32
    - (matmul (F := Ideal) (φ₁ := .bf16) (φ₂ := .bf16) dot_S1088x2048_S2048x512_S1088x512_1_0_0_1_n_n none x w (constant S1088x512 .f32 0x00000000#32) (ix2 r j)
      + broadcastTo S1088x512 b broadcasts_S1x512_S1088x512 (ix2 r j)))) = _
  rw [hm, hb, Ideal.ofBits_zero_f32, zero_sub]
  rfl

theorem off_zero : (![0, 0] : Fin 2 → Nat) = fun _ => 0 := by decide

/-- What a grid step writes is its tile. -/
theorem out_eq (x : Vec Ideal S1088x2048 .bf16) (w : Vec Ideal S2048x512 .bf16) (b : Vec Ideal S1x512 .f32) :
    out0_3 x w b = k0_pay1 x w b := by
  unfold out0_3
  rw [View.canon_unit_zero off_zero, View.ld_unit_zero off_zero, View.ld_unit_zero off_zero, View.ld_unit_zero off_zero]

variable (m : (ℓ : Loc nD τ sig) → Buf (Elt Ideal) ℓ)

/-- The normalised rows, as the kernel was launched with it. -/
abbrev argU (c : Dev nD) : S8704x2048.Idx → EReal := m ((c : Thread nD τ).loc main_arg0)
/-- The combined projection's weights, as the kernel was launched with it. -/
abbrev argW (c : Dev nD) : S2048x8896.Idx → EReal := m ((c : Thread nD τ).loc main_arg1)

theorem idx0 : ∀ t : Fin cfg0.N, win0_0.index t (0 : Fin 2) = t.val / 8 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 8 :=
  (by decide +kernel : ∀ t : Fin grid0.N, _)
theorem idx2 : ∀ t : Fin cfg0.N, win0_2.index t (0 : Fin 2) = 0 ∧ win0_2.index t (1 : Fin 2) = t.val % 8 :=
  (by decide +kernel : ∀ t : Fin grid0.N, _)
theorem idx3 : ∀ t : Fin cfg0.N, win0_3.index t (0 : Fin 2) = t.val / 8 ∧ win0_3.index t (1 : Fin 2) = t.val % 8 :=
  (by decide +kernel : ∀ t : Fin grid0.N, _)
theorem hN : cfg0.N = 64 := by decide +kernel

/-- The weights of a column of the result: column 1536 onwards of the combined projection. -/
def wt (c : Dev nD) (k : Fin 2048) (J : Fin 4096) : EReal := argW m c (ix2 k (⟨1536 + J.val, by omega⟩ : Fin 8896))
theorem V_wt (c : Dev nD) (k : Fin 2048) (J : Fin 4096) : V m c main_v1 (ix2 k J) = wt m c k J := by
  have e : V m c main_v1 = truncf (F := Ideal) .bf16 (extractStridedSlice S2048x4096 ![0, 1536] (argW m c) slices_S2048x8896_S2048x4096_0_1536) bitsLt_bf16_f32 := by
    show StableHlo.after hostOps0 _ (Proc.devRef .tc main_v1) = _
    after_results_simp
  rw [e]
  show extractStridedSlice S2048x4096 ![0, 1536] (argW m c) slices_S2048x8896_S2048x4096_0_1536 (ix2 k J) = _
  refine extractStridedSlice_apply _ _ _ _ _ fun a => ?_
  match a with
  | ⟨0, _⟩ => exact (Nat.zero_add _).symm
  | ⟨1, _⟩ => rfl

/-- The bias: none. -/
def bias (_ : (ℓ : Loc nD τ sig) → Buf (Elt Ideal) ℓ) (_ : Dev nD) (_ : Fin 4096) : EReal := 0
theorem V_bias (c : Dev nD) (J : Fin 4096) : V m c main_v3 (ix2 (0 : Fin 1) J) = bias m c J := by
  have e : V m c main_v3 = shapeCast S1x4096 (broadcastInDim S4096 ![] bcast_S_S4096 (constant (F := Ideal) S_ .f32 0x00000000#32)) shapeCasts_S4096_S1x4096 := by
    show StableHlo.after hostOps0 _ (Proc.devRef .tc main_v3) = _
    after_results_simp
    rfl
  rw [e]
  exact (shapeCast_apply _ _ _ (ix1 J) (by simp [Shape.rowMajor_val_one, Shape.rowMajor_val_two])).trans Ideal.ofBits_zero_f32

theorem rd0 (c : Dev nD) (t : Fin cfg0.N) (r : Fin 1088) (k : Fin 2048) (X : Fin 8704) (hX : X.val = 1088 * (t.val / 8) + r.val) :
    iblk m c 0 t (ix2 r k) = argU m c (ix2 X k) := by
  obtain ⟨e0, e1⟩ := idx0 t
  show V m c main_arg0 (((cfg0.win 0).blk t).view.emb (ix2 r k)) = _
  rw [V_main_arg0]
  refine congrArg _ (funext fun a => Fin.ext ?_)
  match a with
  | ⟨0, _⟩ => show win0_0.index t (0 : Fin 2) * 1088 + 1 * r.val = X.val; omega
  | ⟨1, _⟩ => show win0_0.index t (1 : Fin 2) * 2048 + 1 * k.val = k.val; omega

theorem rd1 (c : Dev nD) (t : Fin cfg0.N) (k : Fin 2048) (j : Fin 512) (J : Fin 4096) (hJ : J.val = 512 * (t.val % 8) + j.val) :
    iblk m c 1 t (ix2 k j) = wt m c k J := by
  obtain ⟨e0, e1⟩ := idx1 t
  rw [← V_wt]
  show V m c main_v1 (((cfg0.win 1).blk t).view.emb (ix2 k j)) = _
  refine congrArg _ (funext fun a => Fin.ext ?_)
  match a with
  | ⟨0, _⟩ => show win0_1.index t (0 : Fin 2) * 2048 + 1 * k.val = k.val; omega
  | ⟨1, _⟩ => show win0_1.index t (1 : Fin 2) * 512 + 1 * j.val = J.val; omega

theorem rd2 (c : Dev nD) (t : Fin cfg0.N) (j : Fin 512) (J : Fin 4096) (hJ : J.val = 512 * (t.val % 8) + j.val) :
    iblk m c 2 t (ix2 (0 : Fin 1) j) = bias m c J := by
  obtain ⟨e0, e1⟩ := idx2 t
  rw [← V_bias]
  show V m c main_v3 (((cfg0.win 2).blk t).view.emb (ix2 (0 : Fin 1) j)) = _
  refine congrArg _ (funext fun a => Fin.ext ?_)
  match a with
  | ⟨0, _⟩ => show win0_2.index t (0 : Fin 2) * 1 + 1 * 0 = 0; omega
  | ⟨1, _⟩ => show win0_2.index t (1 : Fin 2) * 512 + 1 * j.val = J.val; omega

/-- The kernel's result at any row and column: that row of the operand times that column of the weights, plus the bias, through the logistic function. -/
theorem final (c : Dev nD) (X : Fin 8704) (J : Fin 4096) :
    (dats m 0 c).arrAt 3 cfg0.N (ix2 X J) = logis ((∑ k : Fin 2048, argU m c (ix2 X k) * wt m c k J) + bias m c J) := by
  have hX := X.isLt
  have hJ := J.isLt
  let t : Fin cfg0.N := ⟨8 * (X.val / 1088) + J.val / 512, by rw [hN]; omega⟩
  have ht1 : t.val / 8 = X.val / 1088 := by show (8 * (X.val / 1088) + J.val / 512) / 8 = _; omega
  have ht2 : t.val % 8 = J.val / 512 := by show (8 * (X.val / 1088) + J.val / 512) % 8 = _; omega
  obtain ⟨e0, e1⟩ := idx3 t
  have hemb : ((cfg0.win 3).blk t).view.emb (ix2 (⟨X.val % 1088, by omega⟩ : Fin 1088) (⟨J.val % 512, by omega⟩ : Fin 512)) = ix2 X J := by
    refine funext fun a => Fin.ext ?_
    match a with
    | ⟨0, _⟩ => show win0_3.index t (0 : Fin 2) * 1088 + 1 * (X.val % 1088) = X.val; omega
    | ⟨1, _⟩ => show win0_3.index t (1 : Fin 2) * 512 + 1 * (J.val % 512) = J.val; omega
  have h := congrFun (blocks3 m c t (flush0_3 t)) (ix2 (⟨X.val % 1088, by omega⟩ : Fin 1088) (⟨J.val % 512, by omega⟩ : Fin 512))
  rw [flushed3] at h
  refine (congrArg ((dats m 0 c).arrAt 3 cfg0.N) hemb.symm).trans (h.trans ?_)
  refine Eq.trans (b := out0_3 (iblk m c 0 t) (iblk m c 1 t) (iblk m c 2 t)
    (ix2 (⟨X.val % 1088, by omega⟩ : Fin 1088) (⟨J.val % 512, by omega⟩ : Fin 512))) rfl ?_
  rw [out_eq, pay_apply, rd2 m c t _ J (by dsimp only; omega)]
  refine congrArg (fun a => logis (a + _)) (Finset.sum_congr rfl fun k _ => ?_)
  rw [rd0 m c t _ k X (by dsimp only; omega), rd1 m c t k _ J (by dsimp only; omega)]

end Cert.Proj.Gate
-- ==== Proof.Proj.GateClaims.lean ====
module

public import proofs.«01_k».proof.Defs
public import proofs.«01_k».proof.Proof.Gen.ProjGate.Frame
public import proofs.«01_k».proof.Proof.Gen.ProjGateIdeal.Frame
public import proofs.«01_k».proof.Proof.Gen.RefGateIdeal.Read
public import proofs.«01_k».proof.Proof.Proj.Gate
public import Idealize.ShloMosaic.Lib.KernelVsHost

@[expose] public section

/-! The claims about the merge gates' projection. -/

noncomputable section

namespace Cert.Proj.Gate

open Idealize.ShloMosaic Idealize.SL.Sem Idealize.ShloMosaic.ValueIdx

/-- The reference's product of the rows and the combined weights. -/
theorem prod_apply (U : Cert.RefGateIdeal.S8704x2048.Idx → EReal) (W : Cert.RefGateIdeal.S2048x8896.Idx → EReal) (X : Fin 8704) (J : Fin 8896) :
    Cert.RefGateIdeal.Read.val_main_v1 (F := Ideal) U W (ix2 X J) = ∑ k : Fin 2048, U (ix2 X k) * W (ix2 k J) := by
  rw [Cert.RefGateIdeal.Read.val_main_v1_apply]
  refine Finset.sum_congr rfl fun k _ => ?_
  rw [Cert.RefGateIdeal.Read.val_main_v0_apply]
  refine congrArg₂ (fun a b : EReal => a * b) (congrArg U (funext fun a => ?_)) (congrArg W (funext fun a => ?_))
  · match a with
    | ⟨0, _⟩ => rfl
    | ⟨1, _⟩ => rfl
  · match a with
    | ⟨0, _⟩ => rfl
    | ⟨1, _⟩ => rfl

open Cert.RefGateIdeal Cert.RefGateIdeal.Read in
/-- The reference's result at any row and column. -/
theorem ref_apply (U : S8704x2048.Idx → EReal) (W : S2048x8896.Idx → EReal) (X : Fin 8704) (J : Fin 4096) :
    val_main_v18 (F := Ideal) U W (ix2 X J) = logis ((∑ k : Fin 2048, U (ix2 X k) * W (ix2 k (⟨1536 + J.val, by omega⟩ : Fin 8896))) + 0) := by
  rw [add_zero, ← prod_apply U W X ⟨1536 + J.val, by omega⟩]
  show val_main_v17 (F := Ideal) U W (ix2 X J) = _
  unfold val_main_v17
  by_cases h : J.val < 2048
  · refine (concatenate_apply_piece (t := S8704x4096) 1 _ _ (ix2 X J) 0 (by simp) S8704x2048 (val_main_v9 (F := Ideal) U W) rfl rfl 0 rfl
      (ix2 X (⟨J.val, h⟩ : Fin 2048)) (fun b hb => by
        match b with
        | ⟨0, _⟩ => rfl
        | ⟨1, _⟩ => exact absurd rfl hb) (Nat.zero_add _)).trans ?_
    rw [val_main_v9_apply, val_main_v8_apply, val_main_v7_apply, val_main_v6_apply, val_main_v5_apply, val_main_v4_apply, val_main_v3_apply, val_main_v2_apply]
    refine congrArg (fun z => logis (val_main_v1 (F := Ideal) U W z)) (funext fun a => Fin.ext ?_)
    match a with
    | ⟨0, _⟩ => rfl
    | ⟨1, _⟩ => rfl
  · refine (concatenate_apply_piece (t := S8704x4096) 1 _ _ (ix2 X J) 1 (by simp) S8704x2048 (val_main_v16 (F := Ideal) U W) rfl rfl 2048 rfl
      (ix2 X (⟨J.val - 2048, by omega⟩ : Fin 2048)) (fun b hb => by
        match b with
        | ⟨0, _⟩ => rfl
        | ⟨1, _⟩ => exact absurd rfl hb) (show 2048 + (J.val - 2048) = J.val by omega)).trans ?_
    rw [val_main_v16_apply, val_main_v15_apply, val_main_v14_apply, val_main_v13_apply, val_main_v12_apply, val_main_v11_apply, val_main_v10_apply, val_main_v2_apply]
    refine congrArg (fun z => logis (val_main_v1 (F := Ideal) U W z)) (funext fun a => Fin.ext ?_)
    match a with
    | ⟨0, _⟩ => rfl
    | ⟨1, _⟩ => show 1536 + (2048 + (J.val - 2048)) = 1536 + J.val; omega

/-- The printed kernel runs, leaves its arguments and every counter as they were. -/
theorem frameKernel : Cert.quiescent_ProjGate := fun m ρ _ => Cert.ProjGate.Gen.frame m ρ

/-- So does the idealized kernel. -/
theorem frameIdeal : Cert.quiescent_ProjGateIdeal := fun m ρ _ => Cert.ProjGateIdeal.Gen.frame m ρ

/-- So does the reference. -/
theorem frameRef : Cert.quiescent_RefGateIdeal := fun m ρ _ =>
  (θ_run Cert.RefGateIdeal.defs _ _).mono (fun r h => ⟨fun c => (h c).2, sem_eq_zero_of_no_sems (by decide) r.2⟩)
    (Cert.RefGateIdeal.Value.run m ρ)

/-- From any arguments the kernel and the reference end with equal results. -/
theorem same : Cert.algebraic_ProjGateIdeal_RefGateIdeal := by
  intro m g m' g' _ hargs
  refine ⟨fun c => (Cert.ProjGateIdeal.Gen.dats m 0 c).arrAt 3 Cert.ProjGateIdeal.cfg0.N, ?_, ?_⟩
  · exact Cert.ProjGateIdeal.Value.run_blocks m g
  · refine (θ_run Cert.RefGateIdeal.defs _ _).mono (fun r hr c => ⟨(hr c).1.trans ?_, (hr c).2⟩) (Cert.RefGateIdeal.Value.run m' g')
    rw [Cert.RefGateIdeal.Read.val_main_v18_eq]
    rw [(hargs c).1, (hargs c).2]
    funext i
    have ei : i = ix2 (i 0) (i 1) := funext fun a => by
      match a with
      | ⟨0, _⟩ => rfl
      | ⟨1, _⟩ => rfl
    have e := (ref_apply (argU m c) (argW m c) (i 0) (i 1)).trans (final m c (i 0) (i 1)).symm
    exact (congrArg (Cert.RefGateIdeal.Read.val_main_v18 (F := Ideal) (argU m c) (argW m c)) ei).trans
      (e.trans (congrArg ((Cert.ProjGateIdeal.Gen.dats m 0 c).arrAt 3 Cert.ProjGateIdeal.cfg0.N) ei.symm))

end Cert.Proj.Gate
-- ==== Proof.Proj.Rwkv.lean ====
module

public import proofs.«01_k».proof.Proof.Gen.ProjRwkvIdeal.Value
public import proofs.«01_k».proof.Proof.Proj.Core
public import Idealize.ShloMosaic.Lib.MatmulPlain
public import Idealize.ShloMosaic.Lib.ValueIdx
public import Idealize.ShloMosaic.PureOps.Ideal.Laws

@[expose] public section

/-! The recurrence's projection's result array, read at any row and column. -/

noncomputable section

namespace Cert.Proj.Rwkv

open Cert.ProjRwkvIdeal Cert.ProjRwkvIdeal.Gen Cert.ProjRwkvIdeal.Value Idealize.ShloMosaic Idealize.ShloMosaic.TcCoe
open Idealize.ShloMosaic.Pipeline (Dat)
open Idealize.ShloMosaic.ValueIdx

/-- One tile: a block of rows times a block of columns, plus the bias. -/
theorem pay_apply (x : Vec Ideal S1088x2048 .bf16) (w : Vec Ideal S2048x256 .bf16) (b : Vec Ideal S1x256 .f32) (r : Fin 1088) (j : Fin 256) :
    k0_pay1 x w b (ix2 r j) =  ((∑ k : Fin 2048, x (ix2 r k) * w (ix2 k j)) + b (ix2 (0 : Fin 1) j)) := by
  have hm : matmul (F := Ideal) (φ₁ := .bf16) (φ₂ := .bf16) dot_S1088x2048_S2048x256_S1088x256_1_0_0_1_n_n none x w (constant S1088x256 .f32 0x00000000#32) (ix2 r j)
      = ∑ k : Fin 2048, x (ix2 r k) * w (ix2 k j) := by
    refine Eq.trans (b := FloatOps.matmul (DotDims.plain 1088 2048 256) none x w (constant S1088x256 .f32 0x00000000#32) (ix2 r j)) rfl ?_
    rw [Ideal.matmul_plain_apply,
      show (constant S1088x256 .f32 0x00000000#32 : FVec Ideal S1088x256 .f32) (ix2 r j) = 0 from Ideal.ofBits_zero_f32, zero_add]
  have hb : broadcastTo S1088x256 b broadcasts_S1x256_S1088x256 (ix2 r j) = b (ix2 (0 : Fin 1) j) := by
    refine broadcastTo_apply _ _ _ _ fun a => ?_
    match a with
    | ⟨0, _⟩ => rfl
    | ⟨1, _⟩ => rfl
  unfold k0_pay1
  simp only [shapeCast_self]
  show matmul (F := Ideal) (φ₁ := .bf16) (φ₂ := .bf16) dot_S1088x2048_S2048x256_S1088x256_1_0_0_1_n_n none x w (constant S1088x256 .f32 0x00000000#32) (ix2 r j)
    + broadcastTo S1088x256 b broadcasts_S1x256_S1088x256 (ix2 r j) = _
  rw [hm, hb]

theorem off_zero : (![0, 0] : Fin 2 → Nat) = fun _ => 0 := by decide

/-- What a grid step writes is its tile. -/
theorem out_eq (x : Vec Ideal S1088x2048 .bf16) (w : Vec Ideal S2048x256 .bf16) (b : Vec Ideal S1x256 .f32) :
    out0_3 x w b = k0_pay1 x w b := by
  unfold out0_3
  rw [View.canon_unit_zero off_zero, View.ld_unit_zero off_zero, View.ld_unit_zero off_zero, View.ld_unit_zero off_zero]

variable (m : (ℓ : Loc nD τ sig) → Buf (Elt Ideal) ℓ)

/-- The normalised rows, as the kernel was launched with it. -/
abbrev argU (c : Dev nD) : S8704x2048.Idx → EReal := m ((c : Thread nD τ).loc main_arg0)
/-- The combined projection's weights, as the kernel was launched with it. -/
abbrev argW (c : Dev nD) : S2048x8896.Idx → EReal := m ((c : Thread nD τ).loc main_arg1)
/-- The value residual's weights, as the kernel was launched with it. -/
abbrev argD (c : Dev nD) : S2048x32.Idx → EReal := m ((c : Thread nD τ).loc main_arg2)

theorem idx0 : ∀ t : Fin cfg0.N, win0_0.index t (0 : Fin 2) = t.val / 13 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 13 :=
  (by decide +kernel : ∀ t : Fin grid0.N, _)
theorem idx2 : ∀ t : Fin cfg0.N, win0_2.index t (0 : Fin 2) = 0 ∧ win0_2.index t (1 : Fin 2) = t.val % 13 :=
  (by decide +kernel : ∀ t : Fin grid0.N, _)
theorem idx3 : ∀ t : Fin cfg0.N, win0_3.index t (0 : Fin 2) = t.val / 13 ∧ win0_3.index t (1 : Fin 2) = t.val % 13 :=
  (by decide +kernel : ∀ t : Fin grid0.N, _)
theorem hN : cfg0.N = 104 := by decide +kernel

/-- The weights of a column of the result: the combined projection's columns from 5632 on, the value residual's, and zeros. -/
def wt (c : Dev nD) (k : Fin 2048) (J : Fin 3328) : EReal :=
  if h : J.val < 3264 then argW m c (ix2 k (⟨5632 + J.val, by omega⟩ : Fin 8896))
  else if h' : J.val < 3296 then argD m c (ix2 k (⟨J.val - 3264, by omega⟩ : Fin 32)) else 0

/-- The four parts that the weights are put together from. -/
def parts (c : Dev nD) : List ((s : Shape) × (s.Idx → EReal)) :=
  [⟨S2048x3072, extractStridedSlice S2048x3072 ![0, 5632] (argW m c) slices_S2048x8896_S2048x3072_0_5632⟩,
    ⟨S2048x192, extractStridedSlice S2048x192 ![0, 8704] (argW m c) slices_S2048x8896_S2048x192_0_8704⟩,
    ⟨S2048x32, argD m c⟩, ⟨S2048x32, broadcastInDim S2048x32 ![] bcast_S_S2048x32 (constant (F := Ideal) S_ .f32 0x00000000#32)⟩]

theorem V_wt (c : Dev nD) (k : Fin 2048) (J : Fin 3328) : V m c main_v4 (ix2 k J) = wt m c k J := by
  have e : V m c main_v4 = concatenate S2048x3328 1 (parts m c) concatenates_S2048x3072_S2048x192_S2048x32_S2048x32_S2048x3328_d1 := by
    show StableHlo.after hostOps0 _ (Proc.devRef .tc main_v4) = _
    after_results_simp
    rfl
  rw [e]
  have hJ := J.isLt
  have pick : ∀ (i : ℕ) (hi : i < (parts m c).length) (w : ℕ) (x : (⟨2, ![2048, w]⟩ : Shape).Idx → EReal) (pre : ℕ)
      (_ : (parts m c)[i] = ⟨⟨2, ![2048, w]⟩, x⟩)
      (_ : ((((parts m c).take i).map (·.1)).map fun s => if h : s.rank = S2048x3328.rank then s.size ((1 : Fin S2048x3328.rank).cast h.symm) else 0).sum = pre)
      (q : Fin w) (_ : pre + q.val = J.val),
      concatenate S2048x3328 1 (parts m c) concatenates_S2048x3072_S2048x192_S2048x32_S2048x32_S2048x3328_d1 (ix2 k J) = x (ix2 k q) :=
    fun i hi w x pre hx hp q hq => concatenate_apply_piece (t := S2048x3328) 1 (parts m c) _ (ix2 k J) i hi ⟨2, ![2048, w]⟩ x hx rfl pre hp (ix2 k q)
      (fun b hb => by
        match b with
        | ⟨0, _⟩ => rfl
        | ⟨1, _⟩ => exact absurd rfl hb) hq
  unfold wt
  by_cases h1 : J.val < 3072
  · rw [dif_pos (by omega)]
    refine (pick 0 (by decide : 0 < 4) 3072 _ 0 rfl rfl ⟨J.val, h1⟩ (by dsimp only; omega)).trans ?_
    refine extractStridedSlice_apply _ _ _ _ _ fun a => ?_
    match a with
    | ⟨0, _⟩ => exact (Nat.zero_add _).symm
    | ⟨1, _⟩ => rfl
  by_cases h2 : J.val < 3264
  · rw [dif_pos h2]
    refine (pick 1 (by decide : 1 < 4) 192 _ 3072 rfl rfl ⟨J.val - 3072, by omega⟩ (by dsimp only; omega)).trans ?_
    refine extractStridedSlice_apply _ _ _ _ _ fun a => ?_
    match a with
    | ⟨0, _⟩ => exact (Nat.zero_add _).symm
    | ⟨1, _⟩ => show 5632 + J.val = 8704 + (J.val - 3072); omega
  rw [dif_neg h2]
  by_cases h3 : J.val < 3296
  · rw [dif_pos h3]
    exact pick 2 (by decide : 2 < 4) 32 _ 3264 rfl rfl ⟨J.val - 3264, by omega⟩ (by dsimp only; omega)
  · rw [dif_neg h3]
    exact (pick 3 (by decide : 3 < 4) 32 _ 3296 rfl rfl ⟨J.val - 3296, by omega⟩ (by dsimp only; omega)).trans Ideal.ofBits_zero_f32

/-- The bias: none. -/
def bias (_ : (ℓ : Loc nD τ sig) → Buf (Elt Ideal) ℓ) (_ : Dev nD) (_ : Fin 3328) : EReal := 0
theorem V_bias (c : Dev nD) (J : Fin 3328) : V m c main_v6 (ix2 (0 : Fin 1) J) = bias m c J := by
  have e : V m c main_v6 = shapeCast S1x3328 (broadcastInDim S3328 ![] bcast_S_S3328 (constant (F := Ideal) S_ .f32 0x00000000#32)) shapeCasts_S3328_S1x3328 := by
    show StableHlo.after hostOps0 _ (Proc.devRef .tc main_v6) = _
    after_results_simp
    rfl
  rw [e]
  exact (shapeCast_apply _ _ _ (ix1 J) (by simp [Shape.rowMajor_val_one, Shape.rowMajor_val_two])).trans Ideal.ofBits_zero_f32

theorem rd0 (c : Dev nD) (t : Fin cfg0.N) (r : Fin 1088) (k : Fin 2048) (X : Fin 8704) (hX : X.val = 1088 * (t.val / 13) + r.val) :
    iblk m c 0 t (ix2 r k) = argU m c (ix2 X k) := by
  obtain ⟨e0, e1⟩ := idx0 t
  show V m c main_arg0 (((cfg0.win 0).blk t).view.emb (ix2 r k)) = _
  rw [V_main_arg0]
  refine congrArg _ (funext fun a => Fin.ext ?_)
  match a with
  | ⟨0, _⟩ => show win0_0.index t (0 : Fin 2) * 1088 + 1 * r.val = X.val; omega
  | ⟨1, _⟩ => show win0_0.index t (1 : Fin 2) * 2048 + 1 * k.val = k.val; omega

theorem rd1 (c : Dev nD) (t : Fin cfg0.N) (k : Fin 2048) (j : Fin 256) (J : Fin 3328) (hJ : J.val = 256 * (t.val % 13) + j.val) :
    iblk m c 1 t (ix2 k j) = wt m c k J := by
  obtain ⟨e0, e1⟩ := idx1 t
  rw [← V_wt]
  show V m c main_v4 (((cfg0.win 1).blk t).view.emb (ix2 k j)) = _
  refine congrArg _ (funext fun a => Fin.ext ?_)
  match a with
  | ⟨0, _⟩ => show win0_1.index t (0 : Fin 2) * 2048 + 1 * k.val = k.val; omega
  | ⟨1, _⟩ => show win0_1.index t (1 : Fin 2) * 256 + 1 * j.val = J.val; omega

theorem rd2 (c : Dev nD) (t : Fin cfg0.N) (j : Fin 256) (J : Fin 3328) (hJ : J.val = 256 * (t.val % 13) + j.val) :
    iblk m c 2 t (ix2 (0 : Fin 1) j) = bias m c J := by
  obtain ⟨e0, e1⟩ := idx2 t
  rw [← V_bias]
  show V m c main_v6 (((cfg0.win 2).blk t).view.emb (ix2 (0 : Fin 1) j)) = _
  refine congrArg _ (funext fun a => Fin.ext ?_)
  match a with
  | ⟨0, _⟩ => show win0_2.index t (0 : Fin 2) * 1 + 1 * 0 = 0; omega
  | ⟨1, _⟩ => show win0_2.index t (1 : Fin 2) * 256 + 1 * j.val = J.val; omega

/-- The kernel's result at any row and column: that row of the operand times that column of the weights, plus the bias. -/
theorem final (c : Dev nD) (X : Fin 8704) (J : Fin 3328) :
    (dats m 0 c).arrAt 3 cfg0.N (ix2 X J) =  ((∑ k : Fin 2048, argU m c (ix2 X k) * wt m c k J) + bias m c J) := by
  have hX := X.isLt
  have hJ := J.isLt
  let t : Fin cfg0.N := ⟨13 * (X.val / 1088) + J.val / 256, by rw [hN]; omega⟩
  have ht1 : t.val / 13 = X.val / 1088 := by show (13 * (X.val / 1088) + J.val / 256) / 13 = _; omega
  have ht2 : t.val % 13 = J.val / 256 := by show (13 * (X.val / 1088) + J.val / 256) % 13 = _; omega
  obtain ⟨e0, e1⟩ := idx3 t
  have hemb : ((cfg0.win 3).blk t).view.emb (ix2 (⟨X.val % 1088, by omega⟩ : Fin 1088) (⟨J.val % 256, by omega⟩ : Fin 256)) = ix2 X J := by
    refine funext fun a => Fin.ext ?_
    match a with
    | ⟨0, _⟩ => show win0_3.index t (0 : Fin 2) * 1088 + 1 * (X.val % 1088) = X.val; omega
    | ⟨1, _⟩ => show win0_3.index t (1 : Fin 2) * 256 + 1 * (J.val % 256) = J.val; omega
  have h := congrFun (blocks3 m c t (flush0_3 t)) (ix2 (⟨X.val % 1088, by omega⟩ : Fin 1088) (⟨J.val % 256, by omega⟩ : Fin 256))
  rw [flushed3] at h
  refine (congrArg ((dats m 0 c).arrAt 3 cfg0.N) hemb.symm).trans (h.trans ?_)
  refine Eq.trans (b := out0_3 (iblk m c 0 t) (iblk m c 1 t) (iblk m c 2 t)
    (ix2 (⟨X.val % 1088, by omega⟩ : Fin 1088) (⟨J.val % 256, by omega⟩ : Fin 256))) rfl ?_
  rw [out_eq, pay_apply, rd2 m c t _ J (by dsimp only; omega)]
  refine congrArg (fun a =>  (a + _)) (Finset.sum_congr rfl fun k _ => ?_)
  rw [rd0 m c t _ k X (by dsimp only; omega), rd1 m c t k _ J (by dsimp only; omega)]

end Cert.Proj.Rwkv
-- ==== Proof.Proj.RwkvClaims.lean ====
module

public import proofs.«01_k».proof.Defs
public import proofs.«01_k».proof.Proof.Gen.ProjRwkv.Frame
public import proofs.«01_k».proof.Proof.Gen.ProjRwkvIdeal.Frame
public import proofs.«01_k».proof.Proof.Gen.RefRwkvIdeal.Read
public import proofs.«01_k».proof.Proof.Proj.Rwkv
public import Idealize.ShloMosaic.Lib.KernelVsHost

@[expose] public section

/-! The claims about the recurrence's projection. -/

noncomputable section

namespace Cert.Proj.Rwkv

open Idealize.ShloMosaic Idealize.SL.Sem Idealize.ShloMosaic.ValueIdx

/-- The reference's product of the rows and the combined weights. -/
theorem prod_apply (U : Cert.RefRwkvIdeal.S8704x2048.Idx → EReal) (W : Cert.RefRwkvIdeal.S2048x8896.Idx → EReal) (X : Fin 8704) (J : Fin 8896) :
    Cert.RefRwkvIdeal.Read.val_main_v1 (F := Ideal) U W (ix2 X J) = ∑ k : Fin 2048, U (ix2 X k) * W (ix2 k J) := by
  rw [Cert.RefRwkvIdeal.Read.val_main_v1_apply]
  refine Finset.sum_congr rfl fun k _ => ?_
  rw [Cert.RefRwkvIdeal.Read.val_main_v0_apply]
  refine congrArg₂ (fun a b : EReal => a * b) (congrArg U (funext fun a => ?_)) (congrArg W (funext fun a => ?_))
  · match a with
    | ⟨0, _⟩ => rfl
    | ⟨1, _⟩ => rfl
  · match a with
    | ⟨0, _⟩ => rfl
    | ⟨1, _⟩ => rfl

/-- The reference's product of the rows and the value residual's weights. -/
theorem prod_down (U : Cert.RefRwkvIdeal.S8704x2048.Idx → EReal) (W : Cert.RefRwkvIdeal.S2048x32.Idx → EReal) (X : Fin 8704) (J : Fin 32) :
    Cert.RefRwkvIdeal.Read.val_main_v3 (F := Ideal) U W (ix2 X J) = ∑ k : Fin 2048, U (ix2 X k) * W (ix2 k J) := by
  rw [Cert.RefRwkvIdeal.Read.val_main_v3_apply]
  refine Finset.sum_congr rfl fun k _ => ?_
  rw [Cert.RefRwkvIdeal.Read.val_main_v0_apply]
  refine congrArg₂ (fun a b : EReal => a * b) (congrArg U (funext fun a => ?_)) (congrArg W (funext fun a => ?_))
  · match a with
    | ⟨0, _⟩ => rfl
    | ⟨1, _⟩ => rfl
  · match a with
    | ⟨0, _⟩ => rfl
    | ⟨1, _⟩ => rfl

open Cert.RefRwkvIdeal Cert.RefRwkvIdeal.Read in
/-- The reference's result at any row and column. -/
theorem ref_apply (U : S8704x2048.Idx → EReal) (W : S2048x8896.Idx → EReal) (V : S2048x32.Idx → EReal) (X : Fin 8704) (J : Fin 3328) :
    val_main_v5 (F := Ideal) U W V (ix2 X J) = (∑ k : Fin 2048, U (ix2 X k) *
      (if h : J.val < 3264 then W (ix2 k (⟨5632 + J.val, by omega⟩ : Fin 8896))
        else if h' : J.val < 3296 then V (ix2 k (⟨J.val - 3264, by omega⟩ : Fin 32)) else (0 : EReal))) + 0 := by
  rw [add_zero]
  unfold val_main_v5
  by_cases h3 : J.val < 3296
  · refine (pad_apply_of_inside _ _ _ _ _ _ _ _ (ix2 X (⟨J.val, h3⟩ : Fin 3296)) (fun a => by
      match a with
      | ⟨0, _⟩ => show X.val = 0 + X.val * (0 + 1); omega
      | ⟨1, _⟩ => show J.val = 0 + J.val * (0 + 1); omega)).trans ?_
    unfold val_main_v4
    by_cases h2 : J.val < 3264
    · simp only [dif_pos h2]
      refine (concatenate_apply_piece (t := S8704x3296) 1 _ _ (ix2 X (⟨J.val, h3⟩ : Fin 3296)) 0 (by simp) S8704x3264 (val_main_v2 (F := Ideal) U W) rfl rfl 0 rfl
        (ix2 X (⟨J.val, h2⟩ : Fin 3264)) (fun b hb => by
          match b with
          | ⟨0, _⟩ => rfl
          | ⟨1, _⟩ => exact absurd rfl hb) (Nat.zero_add _)).trans ?_
      rw [val_main_v2_apply]
      refine Eq.trans (congrArg (val_main_v1 (F := Ideal) U W) (funext fun a => Fin.ext ?_)) (prod_apply U W X ⟨5632 + J.val, by omega⟩)
      match a with
      | ⟨0, _⟩ => rfl
      | ⟨1, _⟩ => rfl
    · simp only [dif_neg h2, dif_pos h3]
      exact (concatenate_apply_piece (t := S8704x3296) 1 _ _ (ix2 X (⟨J.val, h3⟩ : Fin 3296)) 1 (by simp) S8704x32 (val_main_v3 (F := Ideal) U V) rfl rfl 3264 rfl
        (ix2 X (⟨J.val - 3264, by omega⟩ : Fin 32)) (fun b hb => by
          match b with
          | ⟨0, _⟩ => rfl
          | ⟨1, _⟩ => exact absurd rfl hb) (show 3264 + (J.val - 3264) = J.val by omega)).trans (prod_down U V X _)
  · have h2 : ¬ J.val < 3264 := by omega
    simp only [dif_neg h2, dif_neg h3, mul_zero, Finset.sum_const_zero]
    refine (pad_apply_of_not_inside _ _ _ _ _ _ _ _ (1 : Fin 2) (fun h => h3 ?_)).trans ?_
    · have := h.2.2
      change (J.val - 0) / (0 + 1) < 3296 at this
      omega
    · show (((0#32 : BitVec 32).toInt : ℝ) : EReal) = 0
      simp

/-- The printed kernel runs, leaves its arguments and every counter as they were. -/
theorem frameKernel : Cert.quiescent_ProjRwkv := fun m ρ _ => Cert.ProjRwkv.Gen.frame m ρ

/-- So does the idealized kernel. -/
theorem frameIdeal : Cert.quiescent_ProjRwkvIdeal := fun m ρ _ => Cert.ProjRwkvIdeal.Gen.frame m ρ

/-- So does the reference. -/
theorem frameRef : Cert.quiescent_RefRwkvIdeal := fun m ρ _ =>
  (θ_run Cert.RefRwkvIdeal.defs _ _).mono (fun r h => ⟨fun c => (h c).2, sem_eq_zero_of_no_sems (by decide) r.2⟩)
    (Cert.RefRwkvIdeal.Value.run m ρ)

/-- From any arguments the kernel and the reference end with equal results. -/
theorem same : Cert.algebraic_ProjRwkvIdeal_RefRwkvIdeal := by
  intro m g m' g' _ hargs
  refine ⟨fun c => (Cert.ProjRwkvIdeal.Gen.dats m 0 c).arrAt 3 Cert.ProjRwkvIdeal.cfg0.N, ?_, ?_⟩
  · exact Cert.ProjRwkvIdeal.Value.run_blocks m g
  · refine (θ_run Cert.RefRwkvIdeal.defs _ _).mono (fun r hr c => ⟨(hr c).1.trans ?_, (hr c).2⟩) (Cert.RefRwkvIdeal.Value.run m' g')
    rw [Cert.RefRwkvIdeal.Read.val_main_v5_eq]
    rw [(hargs c).1, (hargs c).2.1, (hargs c).2.2]
    funext i
    have ei : i = ix2 (i 0) (i 1) := funext fun a => by
      match a with
      | ⟨0, _⟩ => rfl
      | ⟨1, _⟩ => rfl
    have e := (ref_apply (argU m c) (argW m c) (argD m c) (i 0) (i 1)).trans (final m c (i 0) (i 1)).symm
    exact (congrArg (Cert.RefRwkvIdeal.Read.val_main_v5 (F := Ideal) (argU m c) (argW m c) (argD m c)) ei).trans
      (e.trans (congrArg ((Cert.ProjRwkvIdeal.Gen.dats m 0 c).arrAt 3 Cert.ProjRwkvIdeal.cfg0.N) ei.symm))

end Cert.Proj.Rwkv
-- ==== Proof.Norm.Core.lean ====
module

public import Idealize.ShloMosaic.Lib.Pipeline.Value
public import Idealize.ShloMosaic.Lib.ValueIdx
public import Idealize.ShloMosaic.PureOps.Ideal.Laws

@[expose] public section

/-! The root-mean-square norm of a row of 2048 numbers, and how a block of rows spells it. -/

noncomputable section

namespace Cert.Norm

open Idealize.ShloMosaic Idealize.ShloMosaic.TcCoe
open Idealize.ShloMosaic.ValueIdx

/-- One over the root of a row's mean square plus the small constant. -/
def scale (x : Fin 2048 → EReal) : EReal :=
  Ideal.rsqrt (Ideal.div (∑ k, x k * x k) (Ideal.ofBits .f32 0x45000000#32)
    + Ideal.ofBits .f32 0x3727C5AC#32)

/-- Entry `j` of the norm of a row, times the gain `g` there. -/
def nrm (x : Fin 2048 → EReal) (g : EReal) (j : Fin 2048) : EReal := x j * scale x * g

/-- The norm of a row of zeros is zero. -/
theorem nrm_zero (x : Fin 2048 → EReal) (g : EReal) (j : Fin 2048) (h : x j = 0) :
    nrm x g j = 0 := by
  unfold nrm
  rw [h, zero_mul, zero_mul]

theorem off_zero : (![0, 0] : Fin 2 → Nat) = fun _ => 0 := by decide

/-- A block of `n` rows: each row's scale, spread over the row. -/
theorem spread_scale {n : Nat} (x : FVec Ideal ⟨2, ![n, 2048]⟩ .f32)
    (hr : Shape.Reduces ⟨2, ![n, 2048]⟩ [1] ⟨1, ![n]⟩)
    (hc : Shape.ShapeCasts ⟨1, ![n]⟩ ⟨2, ![n, 1]⟩)
    (hb : Shape.Broadcasts ⟨2, ![n, 1]⟩ ⟨2, ![n, 2048]⟩)
    (hl : ∀ (r : Fin n) (k : Fin 2048), hr.lift (ix1 r) k = ix2 r k)
    (r : Fin n) (j : Fin 2048) :
    broadcastTo ⟨2, ![n, 2048]⟩ (rsqrt (addf (divf (shapeCast ⟨2, ![n, 1]⟩
      (multiReduction (F := Ideal) .add [1] ⟨1, ![n]⟩ (mulf x x) 0x00000000#32 hr (.inl rfl) rfl) hc)
      (broadcast ⟨2, ![n, 1]⟩ (Scalar.ofBits (F := Ideal) .f32 0x45000000#32)))
      (broadcast ⟨2, ![n, 1]⟩ (Scalar.ofBits (F := Ideal) .f32 0x3727C5AC#32)))) hb (ix2 r j)
      = scale fun k => x (ix2 r k) := by
  refine (broadcastTo_apply _ _ _ (ix2 r (0 : Fin 1)) fun a => ?_).trans ?_
  · match a with
    | ⟨0, _⟩ =>
      show r.val = if n = 1 then 0 else r.val
      have := r.isLt
      split <;> omega
    | ⟨1, _⟩ => rfl
  · have e : shapeCast ⟨2, ![n, 1]⟩ (multiReduction (F := Ideal) .add [1] ⟨1, ![n]⟩ (mulf x x)
        0x00000000#32 hr (.inl rfl) rfl) hc (ix2 r (0 : Fin 1)) = ∑ k : Fin 2048, x (ix2 r k) * x (ix2 r k) := by
      refine (shapeCast_apply _ _ _ (ix1 r) ?_).trans ?_
      · rw [Shape.rowMajor_val_one, Shape.rowMajor_val_two]
        show r.val = r.val * 1 + 0
        omega
      · refine (Ideal.multiReduction_add_single (mulf x x) _ _ _ _ (ix1 r)).trans ?_
        refine Finset.sum_congr rfl fun k _ => ?_
        show x (hr.lift (ix1 r) k) * x (hr.lift (ix1 r) k) = _
        rw [hl r k]
    exact congrArg (fun s => Ideal.rsqrt (Ideal.div s (Ideal.ofBits .f32 0x45000000#32)
      + Ideal.ofBits .f32 0x3727C5AC#32)) e

/-- A row of gains under every row of a block. -/
theorem spread_gain {n : Nat} (g : FVec Ideal ⟨2, ![1, 2048]⟩ .f32)
    (hb : Shape.Broadcasts ⟨2, ![1, 2048]⟩ ⟨2, ![n, 2048]⟩) (r : Fin n) (j : Fin 2048) :
    broadcastTo ⟨2, ![n, 2048]⟩ g hb (ix2 r j) = g (ix2 (0 : Fin 1) j) := by
  refine broadcastTo_apply _ _ _ _ fun a => ?_
  match a with
  | ⟨0, _⟩ => rfl
  | ⟨1, _⟩ => rfl

end Cert.Norm
-- ==== Proof.Norm.Mix.lean ====
module

public import proofs.«01_k».proof.Proof.Gen.NormMixIdeal.Value
public import proofs.«01_k».proof.Proof.Norm.Core

@[expose] public section

/-! The first norm's result array, read at any row and column. -/

noncomputable section

namespace Cert.Norm.Mix

open Cert.NormMixIdeal Cert.NormMixIdeal.Gen Cert.NormMixIdeal.Value Idealize.ShloMosaic Idealize.ShloMosaic.TcCoe
open Idealize.ShloMosaic.Pipeline (Dat)
open Idealize.ShloMosaic.ValueIdx

theorem lift_row (r : Fin 272) (k : Fin 2048) : reduces_S272x2048_S272.lift (ix1 r) k = ix2 r k := by
  funext a
  match a with
  | ⟨0, _⟩ => rfl
  | ⟨1, _⟩ => rfl

/-- One tile: the norm of each of its rows. -/
theorem pay_apply (x : Vec Ideal S272x2048 .f32) (g : Vec Ideal S1x2048 .f32) (r : Fin 272) (j : Fin 2048) :
    k0_pay1 x g (ix2 r j) = nrm (fun k => x (ix2 r k)) (g (ix2 (0 : Fin 1) j)) j := by
  have hs := spread_scale x reduces_S272x2048_S272 shapeCasts_S272_S272x1 broadcasts_S272x1_S272x2048 lift_row r j
  have hg := spread_gain g broadcasts_S1x2048_S272x2048 r j
  unfold k0_pay1
  simp only [shapeCast_self]
  exact congrArg₂ (fun a b : EReal => x (ix2 r j) * a * b) hs hg

/-- What a grid step writes is its tile. -/
theorem out_eq (x : Vec Ideal S272x2048 .f32) (g : Vec Ideal S1x2048 .f32) :
    out0_2 x g = k0_pay1 x g := by
  unfold out0_2
  rw [View.canon_unit_zero off_zero, View.ld_unit_zero off_zero, View.ld_unit_zero off_zero]

variable (m : (ℓ : Loc nD τ sig) → Buf (Elt Ideal) ℓ)

/-- The rows, as the kernel was launched with them. -/
abbrev argH (c : Dev nD) : S8704x2048.Idx → EReal := m ((c : Thread nD τ).loc main_arg0)
/-- The gain, as the kernel was launched with it. -/
abbrev argG (c : Dev nD) : S2048.Idx → EReal := m ((c : Thread nD τ).loc main_arg1)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem hN : cfg0.N = 32 := by decide +kernel

theorem V_gain (c : Dev nD) (J : Fin 2048) : V m c main_v0 (ix2 (0 : Fin 1) J) = argG m c (ix1 J) := by
  have e : V m c main_v0 = shapeCast S1x2048 (argG m c) shapeCasts_S2048_S1x2048 := by
    show StableHlo.after hostOps0 _ (Proc.devRef .tc main_v0) = _
    after_results_simp
    rfl
  rw [e]
  exact shapeCast_apply _ _ _ _ (by simp [Shape.rowMajor_val_one, Shape.rowMajor_val_two])

theorem rd0 (c : Dev nD) (t : Fin cfg0.N) (r : Fin 272) (k : Fin 2048) (X : Fin 8704) (hX : X.val = 272 * (t.val) + r.val) :
    iblk m c 0 t (ix2 r k) = argH m c (ix2 X k) := by
  obtain ⟨e0, e1⟩ := idx0 t
  show V m c main_arg0 (((cfg0.win 0).blk t).view.emb (ix2 r k)) = _
  rw [V_main_arg0]
  refine congrArg _ (funext fun a => Fin.ext ?_)
  match a with
  | ⟨0, _⟩ => show win0_0.index t (0 : Fin 2) * 272 + 1 * r.val = X.val; omega
  | ⟨1, _⟩ => show win0_0.index t (1 : Fin 2) * 2048 + 1 * k.val = k.val; omega

theorem rd1 (c : Dev nD) (t : Fin cfg0.N) (j : Fin 2048) :
    iblk m c 1 t (ix2 (0 : Fin 1) j) = argG m c (ix1 j) := by
  obtain ⟨e0, e1⟩ := idx1 t
  rw [← V_gain]
  show V m c main_v0 (((cfg0.win 1).blk t).view.emb (ix2 (0 : Fin 1) j)) = _
  refine congrArg _ (funext fun a => Fin.ext ?_)
  match a with
  | ⟨0, _⟩ => show win0_1.index t (0 : Fin 2) * 1 + 1 * 0 = 0; omega
  | ⟨1, _⟩ => show win0_1.index t (1 : Fin 2) * 2048 + 1 * j.val = j.val; omega

/-- The kernel's result at any row and column: the norm of that row. -/
theorem final (c : Dev nD) (X : Fin 8704) (J : Fin 2048) :
    (dats m 0 c).arrAt 2 cfg0.N (ix2 X J)
      = nrm (fun k => argH m c (ix2 X k)) (argG m c (ix1 J)) J := by
  have hX := X.isLt
  have hJ := J.isLt
  let t : Fin cfg0.N := ⟨X.val / 272, by rw [hN]; omega⟩
  have ht : t.val = X.val / 272 := rfl
  obtain ⟨e0, e1⟩ := idx2 t
  have hemb : ((cfg0.win 2).blk t).view.emb (ix2 (⟨X.val % 272, by omega⟩ : Fin 272) J) = ix2 X J := by
    refine funext fun a => Fin.ext ?_
    match a with
    | ⟨0, _⟩ => show win0_2.index t (0 : Fin 2) * 272 + 1 * (X.val % 272) = X.val; omega
    | ⟨1, _⟩ => show win0_2.index t (1 : Fin 2) * 2048 + 1 * J.val = J.val; omega
  have h := congrFun (blocks2 m c t (flush0_2 t)) (ix2 (⟨X.val % 272, by omega⟩ : Fin 272) J)
  rw [flushed2] at h
  refine (congrArg ((dats m 0 c).arrAt 2 cfg0.N) hemb.symm).trans (h.trans ?_)
  refine Eq.trans (b := out0_2 (iblk m c 0 t) (iblk m c 1 t) (ix2 (⟨X.val % 272, by omega⟩ : Fin 272) J)) rfl ?_
  rw [out_eq, pay_apply, rd1 m c t J]
  refine congrArg (fun f => nrm f _ J) (funext fun k => ?_)
  exact rd0 m c t _ k _ (by dsimp only; omega)

end Cert.Norm.Mix
-- ==== Proof.Norm.MixClaims.lean ====
module

public import proofs.«01_k».proof.Defs
public import proofs.«01_k».proof.Proof.Gen.NormMix.Frame
public import proofs.«01_k».proof.Proof.Gen.NormMixIdeal.Frame
public import proofs.«01_k».proof.Proof.Gen.RefNormMixIdeal.Read
public import proofs.«01_k».proof.Proof.Norm.Mix

@[expose] public section

/-! The claims of this norm. -/

noncomputable section

namespace Cert.Norm.Mix

open Idealize.ShloMosaic Idealize.ShloMosaic.TcCoe Idealize.SL.Sem
open Idealize.ShloMosaic.ValueIdx

open Cert.RefNormMixIdeal Cert.RefNormMixIdeal.Read in
/-- The reference's sum of squares of a row. -/
theorem ref_squares (H : S8704x2048.Idx → EReal) (i : S8704.Idx) (X : Fin 8704) (hX : X.val = (i 0).val) :
    val_main_v1 (F := Ideal) H i = ∑ k : Fin 2048, H (ix2 X k) * H (ix2 X k) := by
  rw [val_main_v1_apply]
  refine Eq.trans (congrArg (· + _) (Ideal.ofBits_zero_f32 : (Ideal.ofBits .f32 0x00000000#32 : EReal) = 0)) ?_
  rw [zero_add]
  refine Finset.sum_congr rfl fun k _ => ?_
  have e : idx_main_v1 i k = ix2 X k := funext fun a => Fin.ext (by
    match a with
    | ⟨0, _⟩ => exact hX.symm
    | ⟨1, _⟩ => rfl)
  rw [val_main_v0_apply, e]
  rfl

open Cert.RefNormMixIdeal Cert.RefNormMixIdeal.Read in
/-- The reference's result at any row and column: the norm of that row. -/
theorem ref_apply (H : S8704x2048.Idx → EReal) (G : S2048.Idx → EReal) (X : Fin 8704) (J : Fin 2048) :
    val_main_v13 (F := Ideal) H G (ix2 X J) = nrm (fun k => H (ix2 X k)) (G (ix1 J)) J := by
  have hs : val_main_v8 (F := Ideal) H (ix2 X J) = scale fun k => H (ix2 X k) := by
    rw [val_main_v8_apply, val_main_v7_apply, val_main_v6_apply, val_main_v4_apply, val_main_v2_apply,
      ref_squares H _ X rfl, val_main_v3_apply, val_main_v5_apply]
    rfl
  have hg : val_main_v11 (F := Ideal) G (ix2 X J) = G (ix1 J) := by
    rw [val_main_v11_apply, val_main_v10_apply]
    refine congrArg G (funext fun a => ?_)
    match a with
    | ⟨0, _⟩ => rfl
  rw [val_main_v13_apply, val_main_v12_apply, val_main_v9_apply, hs, hg]
  rfl

/-- The printed kernel runs, leaves its arguments and every counter as they were. -/
theorem frameKernel : Cert.quiescent_NormMix := fun m ρ _ => Cert.NormMix.Gen.frame m ρ

/-- So does the idealized kernel. -/
theorem frameIdeal : Cert.quiescent_NormMixIdeal := fun m ρ _ => Cert.NormMixIdeal.Gen.frame m ρ

/-- So does the reference. -/
theorem frameRef : Cert.quiescent_RefNormMixIdeal := fun m ρ _ =>
  (θ_run Cert.RefNormMixIdeal.defs _ _).mono (fun r h => ⟨fun c => (h c).2, sem_eq_zero_of_no_sems (by decide) r.2⟩)
    (Cert.RefNormMixIdeal.Value.run m ρ)

/-- From any arguments the kernel and the reference end with equal results. -/
theorem same : Cert.algebraic_NormMixIdeal_RefNormMixIdeal := by
  intro m g m' g' _ hargs
  refine ⟨fun c => (Cert.NormMixIdeal.Gen.dats m 0 c).arrAt 2 Cert.NormMixIdeal.cfg0.N, ?_, ?_⟩
  · exact Cert.NormMixIdeal.Value.run_blocks m g
  · refine (θ_run Cert.RefNormMixIdeal.defs _ _).mono (fun r hr c => ⟨(hr c).1.trans ?_, (hr c).2⟩) (Cert.RefNormMixIdeal.Value.run m' g')
    rw [Cert.RefNormMixIdeal.Read.val_main_v13_eq]
    rw [(hargs c).1, (hargs c).2]
    funext i
    have ei : i = ix2 (i 0) (i 1) := funext fun a => by
      match a with
      | ⟨0, _⟩ => rfl
      | ⟨1, _⟩ => rfl
    have e := (ref_apply (argH m c) (argG m c) (i 0) (i 1)).trans (final m c (i 0) (i 1)).symm
    exact (congrArg (Cert.RefNormMixIdeal.Read.val_main_v13 (F := Ideal) (argH m c) (argG m c)) ei).trans
      (e.trans (congrArg ((Cert.NormMixIdeal.Gen.dats m 0 c).arrAt 2 Cert.NormMixIdeal.cfg0.N) ei.symm))

end Cert.Norm.Mix
-- ==== Proof.Norm.Last.lean ====
module

public import proofs.«01_k».proof.Proof.Gen.NormLastIdeal.Value
public import proofs.«01_k».proof.Proof.Norm.Core

@[expose] public section

/-! The final norm's result array, read at any row and column. -/

noncomputable section

namespace Cert.Norm.Last

open Cert.NormLastIdeal Cert.NormLastIdeal.Gen Cert.NormLastIdeal.Value Idealize.ShloMosaic Idealize.ShloMosaic.TcCoe
open Idealize.ShloMosaic.Pipeline (Dat)
open Idealize.ShloMosaic.ValueIdx

theorem lift_row (r : Fin 128) (k : Fin 2048) : reduces_S128x2048_S128.lift (ix1 r) k = ix2 r k := by
  funext a
  match a with
  | ⟨0, _⟩ => rfl
  | ⟨1, _⟩ => rfl

/-- One tile: the norm of each of its rows. -/
theorem pay_apply (x : Vec Ideal S128x2048 .f32) (g : Vec Ideal S1x2048 .f32) (r : Fin 128) (j : Fin 2048) :
    k0_pay1 x g (ix2 r j) = nrm (fun k => x (ix2 r k)) (g (ix2 (0 : Fin 1) j)) j := by
  have hs := spread_scale x reduces_S128x2048_S128 shapeCasts_S128_S128x1 broadcasts_S128x1_S128x2048 lift_row r j
  have hg := spread_gain g broadcasts_S1x2048_S128x2048 r j
  unfold k0_pay1
  simp only [shapeCast_self]
  exact congrArg₂ (fun a b : EReal => x (ix2 r j) * a * b) hs hg

/-- What a grid step writes is its tile. -/
theorem out_eq (x : Vec Ideal S128x2048 .f32) (g : Vec Ideal S1x2048 .f32) :
    out0_2 x g = k0_pay1 x g := by
  unfold out0_2
  rw [View.canon_unit_zero off_zero, View.ld_unit_zero off_zero, View.ld_unit_zero off_zero]

variable (m : (ℓ : Loc nD τ sig) → Buf (Elt Ideal) ℓ)

/-- The rows, as the kernel was launched with them. -/
abbrev argH (c : Dev nD) : S8704x2048.Idx → EReal := m ((c : Thread nD τ).loc main_arg0)
/-- The gain, as the kernel was launched with it. -/
abbrev argG (c : Dev nD) : S2048.Idx → EReal := m ((c : Thread nD τ).loc main_arg1)

theorem idx0 : ∀ t : Fin cfg0.N, win0_0.index t (0 : Fin 2) = t.val / 16 * 17 + t.val % 16 + 1 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem hN : cfg0.N = 64 := by decide +kernel

theorem V_gain (c : Dev nD) (J : Fin 2048) : V m c main_v0 (ix2 (0 : Fin 1) J) = argG m c (ix1 J) := by
  have e : V m c main_v0 = shapeCast S1x2048 (argG m c) shapeCasts_S2048_S1x2048 := by
    show StableHlo.after hostOps0 _ (Proc.devRef .tc main_v0) = _
    after_results_simp
    rfl
  rw [e]
  exact shapeCast_apply _ _ _ _ (by simp [Shape.rowMajor_val_one, Shape.rowMajor_val_two])

theorem rd0 (c : Dev nD) (t : Fin cfg0.N) (r : Fin 128) (k : Fin 2048) (X : Fin 8704) (hX : X.val = 128 * (t.val / 16 * 17 + t.val % 16 + 1) + r.val) :
    iblk m c 0 t (ix2 r k) = argH m c (ix2 X k) := by
  obtain ⟨e0, e1⟩ := idx0 t
  show V m c main_arg0 (((cfg0.win 0).blk t).view.emb (ix2 r k)) = _
  rw [V_main_arg0]
  refine congrArg _ (funext fun a => Fin.ext ?_)
  match a with
  | ⟨0, _⟩ => show win0_0.index t (0 : Fin 2) * 128 + 1 * r.val = X.val; omega
  | ⟨1, _⟩ => show win0_0.index t (1 : Fin 2) * 2048 + 1 * k.val = k.val; omega

theorem rd1 (c : Dev nD) (t : Fin cfg0.N) (j : Fin 2048) :
    iblk m c 1 t (ix2 (0 : Fin 1) j) = argG m c (ix1 j) := by
  obtain ⟨e0, e1⟩ := idx1 t
  rw [← V_gain]
  show V m c main_v0 (((cfg0.win 1).blk t).view.emb (ix2 (0 : Fin 1) j)) = _
  refine congrArg _ (funext fun a => Fin.ext ?_)
  match a with
  | ⟨0, _⟩ => show win0_1.index t (0 : Fin 2) * 1 + 1 * 0 = 0; omega
  | ⟨1, _⟩ => show win0_1.index t (1 : Fin 2) * 2048 + 1 * j.val = j.val; omega

/-- The kernel's result at any row and column: the norm of the row that holds that token, past its
    sequence's 112 padding rows and 16 first tokens. -/
theorem final (c : Dev nD) (X : Fin 8192) (J : Fin 2048) :
    (dats m 0 c).arrAt 2 cfg0.N (ix2 X J)
      = nrm (fun k => argH m c (ix2 (⟨X.val / 2048 * 2176 + 128 + X.val % 2048, by omega⟩ : Fin 8704) k)) (argG m c (ix1 J)) J := by
  have hX := X.isLt
  have hJ := J.isLt
  let t : Fin cfg0.N := ⟨X.val / 128, by rw [hN]; omega⟩
  have ht : t.val = X.val / 128 := rfl
  obtain ⟨e0, e1⟩ := idx2 t
  have hemb : ((cfg0.win 2).blk t).view.emb (ix2 (⟨X.val % 128, by omega⟩ : Fin 128) J) = ix2 X J := by
    refine funext fun a => Fin.ext ?_
    match a with
    | ⟨0, _⟩ => show win0_2.index t (0 : Fin 2) * 128 + 1 * (X.val % 128) = X.val; omega
    | ⟨1, _⟩ => show win0_2.index t (1 : Fin 2) * 2048 + 1 * J.val = J.val; omega
  have h := congrFun (blocks2 m c t (flush0_2 t)) (ix2 (⟨X.val % 128, by omega⟩ : Fin 128) J)
  rw [flushed2] at h
  refine (congrArg ((dats m 0 c).arrAt 2 cfg0.N) hemb.symm).trans (h.trans ?_)
  refine Eq.trans (b := out0_2 (iblk m c 0 t) (iblk m c 1 t) (ix2 (⟨X.val % 128, by omega⟩ : Fin 128) J)) rfl ?_
  rw [out_eq, pay_apply, rd1 m c t J]
  refine congrArg (fun f => nrm f _ J) (funext fun k => ?_)
  exact rd0 m c t _ k _ (by dsimp only; omega)

end Cert.Norm.Last
-- ==== Proof.Norm.LastClaims.lean ====
module

public import proofs.«01_k».proof.Defs
public import proofs.«01_k».proof.Proof.Gen.NormLast.Frame
public import proofs.«01_k».proof.Proof.Gen.NormLastIdeal.Frame
public import proofs.«01_k».proof.Proof.Gen.RefNormLastIdeal.Read
public import proofs.«01_k».proof.Proof.Norm.Last

@[expose] public section

/-! The claims of this norm. -/

noncomputable section

namespace Cert.Norm.Last

open Idealize.ShloMosaic Idealize.ShloMosaic.TcCoe Idealize.SL.Sem
open Idealize.ShloMosaic.ValueIdx

open Cert.RefNormLastIdeal Cert.RefNormLastIdeal.Read in
/-- The tokens of the reference: a row past its sequence's padding. -/
theorem ref_token (H : S8704x2048.Idx → EReal) (i : S4x2064x2048.Idx) (X : Fin 8704) (J : Fin 2048)
    (hX : X.val = 2176 * (i 0).val + 112 + (i 1).val) (hJ : J.val = (i 2).val) :
    val_main_v1 (F := Ideal) H i = H (ix2 X J) := by
  rw [val_main_v1_apply, val_main_v0_apply]
  have h2 : (i 2).val < 2048 := (i 2).isLt
  refine congrArg H (funext fun a => Fin.ext ?_)
  match a with
  | ⟨0, _⟩ => show (((i 0).val * 2176 + (112 + (i 1).val)) * 2048 + (i 2).val) / 2048 = X.val; omega
  | ⟨1, _⟩ => show (((i 0).val * 2176 + (112 + (i 1).val)) * 2048 + (i 2).val) % 2048 = J.val; omega

open Cert.RefNormLastIdeal Cert.RefNormLastIdeal.Read in
/-- The reference's sum of squares of a row. -/
theorem ref_squares (H : S8704x2048.Idx → EReal) (i : S4x2064.Idx) (X : Fin 8704)
    (hX : X.val = 2176 * (i 0).val + 112 + (i 1).val) :
    val_main_v3 (F := Ideal) H i = ∑ k : Fin 2048, H (ix2 X k) * H (ix2 X k) := by
  rw [val_main_v3_apply]
  refine Eq.trans (congrArg (· + _) (Ideal.ofBits_zero_f32 : (Ideal.ofBits .f32 0x00000000#32 : EReal) = 0)) ?_
  rw [zero_add]
  refine Finset.sum_congr rfl fun k _ => ?_
  rw [val_main_v2_apply, ref_token H (idx_main_v3 i k) X k hX rfl]
  rfl

open Cert.RefNormLastIdeal Cert.RefNormLastIdeal.Read in
/-- The reference's result at any row and column: the norm of the row that holds that token. -/
theorem ref_apply (H : S8704x2048.Idx → EReal) (G : S2048.Idx → EReal) (X : Fin 8192) (J : Fin 2048) :
    val_main_v16 (F := Ideal) H G (ix2 X J)
      = nrm (fun k => H (ix2 (⟨X.val / 2048 * 2176 + 128 + X.val % 2048, by omega⟩ : Fin 8704) k)) (G (ix1 J)) J := by
  have hX := X.isLt
  have hJ := J.isLt
  let Y : Fin 8704 := ⟨X.val / 2048 * 2176 + 128 + X.val % 2048, by omega⟩
  let b : Fin 4 := ⟨X.val / 2048, by omega⟩
  let n : Fin 2064 := ⟨16 + X.val % 2048, by omega⟩
  have hY : Y.val = 2176 * b.val + 112 + n.val := by
    show X.val / 2048 * 2176 + 128 + X.val % 2048 = 2176 * (X.val / 2048) + 112 + (16 + X.val % 2048)
    omega
  have hi : idx_main_v15 (idx_main_v16 (ix2 X J)) = ix3 b n J := funext fun a => Fin.ext (by
    match a with
    | ⟨0, _⟩ => show (X.val * 2048 + J.val) / 4194304 = X.val / 2048; omega
    | ⟨1, _⟩ => show 16 + (X.val * 2048 + J.val) / 2048 % 2048 = 16 + X.val % 2048; omega
    | ⟨2, _⟩ => show (X.val * 2048 + J.val) % 2048 = J.val; omega)
  have hs : val_main_v10 (F := Ideal) H (ix3 b n J) = scale fun k => H (ix2 Y k) := by
    rw [val_main_v10_apply, val_main_v9_apply, val_main_v8_apply, val_main_v6_apply, val_main_v4_apply,
      ref_squares H _ Y hY, val_main_v5_apply, val_main_v7_apply]
    rfl
  have hg : val_main_v13 (F := Ideal) G (ix3 b n J) = G (ix1 J) := by
    rw [val_main_v13_apply, val_main_v12_apply]
    refine congrArg G (funext fun a => ?_)
    match a with
    | ⟨0, _⟩ => rfl
  rw [val_main_v16_apply, val_main_v15_apply, hi, val_main_v14_apply, val_main_v11_apply,
    ref_token H (ix3 b n J) Y J hY rfl, hs, hg]
  rfl

/-- The printed kernel runs, leaves its arguments and every counter as they were. -/
theorem frameKernel : Cert.quiescent_NormLast := fun m ρ _ => Cert.NormLast.Gen.frame m ρ

/-- So does the idealized kernel. -/
theorem frameIdeal : Cert.quiescent_NormLastIdeal := fun m ρ _ => Cert.NormLastIdeal.Gen.frame m ρ

/-- So does the reference. -/
theorem frameRef : Cert.quiescent_RefNormLastIdeal := fun m ρ _ =>
  (θ_run Cert.RefNormLastIdeal.defs _ _).mono (fun r h => ⟨fun c => (h c).2, sem_eq_zero_of_no_sems (by decide) r.2⟩)
    (Cert.RefNormLastIdeal.Value.run m ρ)

/-- From any arguments the kernel and the reference end with equal results. -/
theorem same : Cert.algebraic_NormLastIdeal_RefNormLastIdeal := by
  intro m g m' g' _ hargs
  refine ⟨fun c => (Cert.NormLastIdeal.Gen.dats m 0 c).arrAt 2 Cert.NormLastIdeal.cfg0.N, ?_, ?_⟩
  · exact Cert.NormLastIdeal.Value.run_blocks m g
  · refine (θ_run Cert.RefNormLastIdeal.defs _ _).mono (fun r hr c => ⟨(hr c).1.trans ?_, (hr c).2⟩) (Cert.RefNormLastIdeal.Value.run m' g')
    rw [Cert.RefNormLastIdeal.Read.val_main_v16_eq]
    rw [(hargs c).1, (hargs c).2]
    funext i
    have ei : i = ix2 (i 0) (i 1) := funext fun a => by
      match a with
      | ⟨0, _⟩ => rfl
      | ⟨1, _⟩ => rfl
    have e := (ref_apply (argH m c) (argG m c) (i 0) (i 1)).trans (final m c (i 0) (i 1)).symm
    exact (congrArg (Cert.RefNormLastIdeal.Read.val_main_v16 (F := Ideal) (argH m c) (argG m c)) ei).trans
      (e.trans (congrArg ((Cert.NormLastIdeal.Gen.dats m 0 c).arrAt 2 Cert.NormLastIdeal.cfg0.N) ei.symm))

end Cert.Norm.Last
-- ==== Proof.Merge.Core.lean ====
module

public import proofs.«01_k».proof.Proof.Norm.Core

@[expose] public section

/-! The merge of the two branches, in terms of whole rows: each branch's output through its own matrix,
    weighted by its gate, the sum through the output matrix and added to the residual stream. -/

noncomputable section

namespace Cert.Joined

open Idealize.ShloMosaic Idealize.ShloMosaic.ValueIdx

/-- Entry `k` of the gated sum of the branches. -/
def mixed (a b : Fin 1024 → EReal) (ga gb : Fin 2048 → EReal) (wa wb : Fin 1024 → Fin 2048 → EReal) (k : Fin 2048) : EReal :=
  ga k * (∑ q, a q * wa q k) + gb k * ∑ q, b q * wb q k

/-- Entry `j` of the new residual row. -/
def stepped (h : Fin 2048 → EReal) (x : Fin 2048 → EReal) (wo : Fin 2048 → Fin 2048 → EReal) (j : Fin 2048) : EReal :=
  h j + ∑ k, x k * wo k j

variable (A B : (⟨2, ![8704, 1024]⟩ : Shape).Idx → EReal) (Gt : (⟨2, ![8704, 4096]⟩ : Shape).Idx → EReal)
  (H : (⟨2, ![8704, 2048]⟩ : Shape).Idx → EReal) (Wa Wb : (⟨2, ![1024, 2048]⟩ : Shape).Idx → EReal)
  (Wo : (⟨2, ![2048, 2048]⟩ : Shape).Idx → EReal)

/-- The gated sum of row `X`: the attention's gates are the first 2048 columns, the other branch's the next. -/
def mixRow (X : Fin 8704) : Fin 2048 → EReal :=
  mixed (fun q => A (ix2 X q)) (fun q => B (ix2 X q)) (fun k => Gt (ix2 X (⟨k.val, by omega⟩ : Fin 4096)))
    (fun k => Gt (ix2 X (⟨2048 + k.val, by omega⟩ : Fin 4096))) (fun q k => Wa (ix2 q k)) (fun q k => Wb (ix2 q k))

/-- The new residual row of a token. -/
def newRow (X : Fin 8704) : Fin 2048 → EReal :=
  stepped (fun k => H (ix2 X k)) (mixRow A B Gt Wa Wb X) (fun k j => Wo (ix2 k j))

/-- The new residual stream: a token's new row, and zeros in a sequence's 112 padding rows. -/
def newH (X : Fin 8704) (J : Fin 2048) : EReal :=
  if 112 ≤ X.val % 2176 then newRow A B Gt H Wa Wb Wo X J else 0

end Cert.Joined
-- ==== Proof.Merge.Tile.lean ====
module

public import proofs.«01_k».proof.Proof.Gen.MergeIdeal.Value
public import proofs.«01_k».proof.Proof.Merge.Core
public import Idealize.ShloMosaic.Lib.MatmulPlain
public import Idealize.ShloMosaic.Lib.Tactic.WordOmega

@[expose] public section

/-! One tile of the merge: what a grid step writes, read at a row and a column. -/

noncomputable section

namespace Cert.Joined

open Cert.MergeIdeal Cert.MergeIdeal.Gen Idealize.ShloMosaic Idealize.ShloMosaic.TcCoe
open Idealize.ShloMosaic.ValueIdx
open Cert.Norm (nrm scale spread_scale spread_gain off_zero)

theorem mulBranch (x : FVec Ideal S272x1024 .bf16) (w : FVec Ideal S1024x2048 .bf16) (r : Fin 272) (j : Fin 2048) :
    matmul (F := Ideal) (φ₁ := .bf16) (φ₂ := .bf16) dot_S272x1024_S1024x2048_S272x2048_1_0_0_1_n_n none x w (constant S272x2048 .f32 0x00000000#32) (ix2 r j)
      = ∑ q : Fin 1024, x (ix2 r q) * w (ix2 q j) := by
  refine Eq.trans (b := FloatOps.matmul (DotDims.plain 272 1024 2048) none x w (constant S272x2048 .f32 0x00000000#32) (ix2 r j)) rfl ?_
  rw [Ideal.matmul_plain_apply,
    show (constant S272x2048 .f32 0x00000000#32 : FVec Ideal S272x2048 .f32) (ix2 r j) = 0 from Ideal.ofBits_zero_f32, zero_add]

theorem mulOut (x : FVec Ideal S272x2048 .bf16) (w : FVec Ideal S2048x2048 .bf16) (r : Fin 272) (j : Fin 2048) :
    matmul (F := Ideal) (φ₁ := .bf16) (φ₂ := .bf16) dot_S272x2048_S2048x2048_S272x2048_1_0_0_1_n_n none x w (constant S272x2048 .f32 0x00000000#32) (ix2 r j)
      = ∑ k : Fin 2048, x (ix2 r k) * w (ix2 k j) := by
  refine Eq.trans (b := FloatOps.matmul (DotDims.plain 272 2048 2048) none x w (constant S272x2048 .f32 0x00000000#32) (ix2 r j)) rfl ?_
  rw [Ideal.matmul_plain_apply,
    show (constant S272x2048 .f32 0x00000000#32 : FVec Ideal S272x2048 .f32) (ix2 r j) = 0 from Ideal.ofBits_zero_f32, zero_add]

/-- What a tile adds to the residual stream. -/
theorem upd_apply (a : Vec Ideal S272x1024 .bf16) (wa : Vec Ideal S1024x2048 .bf16) (b : Vec Ideal S272x1024 .bf16)
    (wb : Vec Ideal S1024x2048 .bf16) (ga gb : Vec Ideal S272x2048 .bf16) (wo : Vec Ideal S2048x2048 .bf16)
    (r : Fin 272) (j : Fin 2048) :
    k0_pay2 a wa b wb ga gb wo (ix2 r j)
      = ∑ k, mixed (fun q => a (ix2 r q)) (fun q => b (ix2 r q)) (fun k => ga (ix2 r k)) (fun k => gb (ix2 r k))
          (fun q k => wa (ix2 q k)) (fun q k => wb (ix2 q k)) k * wo (ix2 k j) := by
  unfold k0_pay2
  simp only [shapeCast_self]
  refine (mulOut _ wo r j).trans (Finset.sum_congr rfl fun k _ => congrArg (fun y : EReal => y * wo (ix2 k j)) ?_)
  exact congrArg₂ (fun x y : EReal => ga (ix2 r k) * x + gb (ix2 r k) * y) (mulBranch a wa r k) (mulBranch b wb r k)

/-- The first row, within its sequence, of the tile at grid point `n`. -/
def start (n : Nat) : BitVec 32 :=
  Scalar.muli (Scalar.select
    (Scalar.andi (Scalar.xori (Scalar.cmpi .slt (Scalar.remsi (BitVec.ofNat 32 n) (Scalar.select (Scalar.cmpi .eq 8#32 0#32) 1#32 8#32)) 0#32)
        (Scalar.cmpi .slt (Scalar.select (Scalar.cmpi .eq 8#32 0#32) 1#32 8#32) 0#32))
      (Scalar.cmpi .ne (Scalar.remsi (BitVec.ofNat 32 n) (Scalar.select (Scalar.cmpi .eq 8#32 0#32) 1#32 8#32)) 0#32))
    (Scalar.addi (Scalar.remsi (BitVec.ofNat 32 n) (Scalar.select (Scalar.cmpi .eq 8#32 0#32) 1#32 8#32)) (Scalar.select (Scalar.cmpi .eq 8#32 0#32) 1#32 8#32))
    (Scalar.remsi (BitVec.ofNat 32 n) (Scalar.select (Scalar.cmpi .eq 8#32 0#32) 1#32 8#32))) 272#32

theorem start_eq : ∀ n : Fin 32, start n.val = BitVec.ofNat 32 (272 * (n.val % 8)) := by decide

theorem past_word (r s : Nat) (hr : r < 272) (hs : s < 2176) :
    IntOp.cmpi .sge (IntOp.addi (BitVec.ofNat 32 r) (BitVec.ofNat 32 s)) 112#32 = 1#1 ↔ 112 ≤ s + r := by
  word_omega

/-- Which rows of a tile are past their sequence's padding. -/
theorem past_apply (i : grid0.Coords) (r : Fin 272) (z : Fin 1) :
    k0_pay5 (k0_pay3 i) k0_pay4 (ix2 r z) = 1#1 ↔ 112 ≤ 272 * ((i 0).val % 8) + r.val := by
  have hi : (i 0).val < 32 := (i 0).isLt
  rw [← past_word r.val (272 * ((i 0).val % 8)) r.isLt (by omega), ← start_eq ⟨(i 0).val, hi⟩]
  have e : iota .tc S272x1 32 [0] iota_S272x1_d0_w32 (ix2 r z) = BitVec.ofNat 32 r.val := iota_single_apply _ _ _ _ _ _
  rw [← e]
  exact Iff.rfl

/-- A tile of the new residual stream. -/
theorem keep_apply (i : grid0.Coords) (u : FVec Ideal S272x2048 .f32) (h : Vec Ideal S272x2048 .f32) (r : Fin 272) (j : Fin 2048) :
    k0_pay6 u (k0_pay3 i) k0_pay4 h (ix2 r j)
      = if 112 ≤ 272 * ((i 0).val % 8) + r.val then h (ix2 r j) + u (ix2 r j) else 0 := by
  have hb : broadcastTo S272x2048 (k0_pay5 (k0_pay3 i) k0_pay4) broadcasts_S272x1_S272x2048 (ix2 r j)
      = k0_pay5 (k0_pay3 i) k0_pay4 (ix2 r (0 : Fin 1)) := by
    refine broadcastTo_apply _ _ _ _ fun a => ?_
    match a with
    | ⟨0, _⟩ => rfl
    | ⟨1, _⟩ => rfl
  unfold k0_pay6
  simp only [shapeCast_self]
  show Scalar.select (broadcastTo S272x2048 (k0_pay5 (k0_pay3 i) k0_pay4) broadcasts_S272x1_S272x2048 (ix2 r j))
    (h (ix2 r j) + u (ix2 r j)) (Ideal.ofBits .f32 0x00000000#32) = _
  rw [hb, Ideal.ofBits_zero_f32]
  by_cases hp : 112 ≤ 272 * ((i 0).val % 8) + r.val
  · rw [if_pos hp]
    exact if_pos ((past_apply i r 0).mpr hp)
  · rw [if_neg hp]
    exact if_neg (fun hc => hp ((past_apply i r 0).mp hc))

theorem lift_row (r : Fin 272) (k : Fin 2048) : reduces_S272x2048_S272.lift (ix1 r) k = ix2 r k := by
  funext a
  match a with
  | ⟨0, _⟩ => rfl
  | ⟨1, _⟩ => rfl

/-- A tile of the norm of the new residual stream. -/
theorem norm_apply (u : FVec Ideal S272x2048 .f32) (p q : IVec S272x1 32) (h : Vec Ideal S272x2048 .f32) (g : Vec Ideal S1x2048 .f32)
    (r : Fin 272) (j : Fin 2048) :
    k0_pay7 u p q h g (ix2 r j) = nrm (fun k => k0_pay6 u p q h (ix2 r k)) (g (ix2 (0 : Fin 1) j)) j := by
  have hs := spread_scale (k0_pay6 u p q h) reduces_S272x2048_S272 shapeCasts_S272_S272x1 broadcasts_S272x1_S272x2048 lift_row r j
  have hg := spread_gain g broadcasts_S1x2048_S272x2048 r j
  unfold k0_pay7
  simp only [shapeCast_self]
  exact congrArg₂ (fun a b : EReal => k0_pay6 u p q h (ix2 r j) * a * b) hs hg

variable (i : grid0.Coords) (x0 x1 : Vec Ideal S272x1024 .bf16) (x2 x3 : Vec Ideal S272x2048 .bf16) (x4 : Vec Ideal S272x2048 .f32)
  (x5 x6 : Vec Ideal S1024x2048 .bf16) (x7 : Vec Ideal S2048x2048 .bf16) (x8 : Vec Ideal S1x2048 .f32)
  (x9 x10 : Vec Ideal S2048x128 .bf16) (x11 : Vec Ideal S1x128 .f32)

/-- What a grid step writes of the new residual stream. -/
theorem out12_eq : out0_12 i x0 x1 x2 x3 x4 x5 x6 x7 x8 x9 x10 x11
    = k0_pay6 (k0_pay2 x0 x5 x1 x6 x2 x3 x7) (k0_pay3 i) k0_pay4 x4 := by
  unfold out0_12 k0_pay30 k0_pay31 k0_pay32
  rw [View.canon_unit_zero off_zero]
  repeat rw [View.ld_unit_zero off_zero]

/-- What a grid step writes of its norm. -/
theorem out13_eq : out0_13 i x0 x1 x2 x3 x4 x5 x6 x7 x8 x9 x10 x11
    = k0_pay7 (k0_pay2 x0 x5 x1 x6 x2 x3 x7) (k0_pay3 i) k0_pay4 x4 x8 := by
  unfold out0_13 k0_pay30 k0_pay31 k0_pay32
  rw [View.canon_unit_zero off_zero]
  repeat rw [View.ld_unit_zero off_zero]

end Cert.Joined
-- ==== Proof.Merge.Final.lean ====
module

public import proofs.«01_k».proof.Proof.Merge.Tile

@[expose] public section

/-! The merge's result arrays, read at any row and column. -/

noncomputable section

namespace Cert.Joined

open Cert.MergeIdeal Cert.MergeIdeal.Gen Cert.MergeIdeal.Value Idealize.ShloMosaic Idealize.ShloMosaic.TcCoe
open Idealize.ShloMosaic.Pipeline (Dat)
open Idealize.ShloMosaic.ValueIdx
open Cert.Norm (nrm)

variable (m : (ℓ : Loc nD τ sig) → Buf (Elt Ideal) ℓ)

/-- The attention's output, as the kernel was launched with it. -/
abbrev argA (c : Dev nD) : S8704x1024.Idx → EReal := m ((c : Thread nD τ).loc main_arg0)
/-- The other branch's output, as the kernel was launched with it. -/
abbrev argB (c : Dev nD) : S8704x1024.Idx → EReal := m ((c : Thread nD τ).loc main_arg1)
/-- The gates of both branches, as the kernel was launched with it. -/
abbrev argGt (c : Dev nD) : S8704x4096.Idx → EReal := m ((c : Thread nD τ).loc main_arg2)
/-- The residual stream, as the kernel was launched with it. -/
abbrev argH (c : Dev nD) : S8704x2048.Idx → EReal := m ((c : Thread nD τ).loc main_arg3)
/-- The attention branch's matrix, as the kernel was launched with it. -/
abbrev argWa (c : Dev nD) : S1024x2048.Idx → EReal := m ((c : Thread nD τ).loc main_arg4)
/-- The other branch's matrix, as the kernel was launched with it. -/
abbrev argWb (c : Dev nD) : S1024x2048.Idx → EReal := m ((c : Thread nD τ).loc main_arg5)
/-- The output matrix, as the kernel was launched with it. -/
abbrev argWo (c : Dev nD) : S2048x2048.Idx → EReal := m ((c : Thread nD τ).loc main_arg6)
/-- The gain of the norm, as the kernel was launched with it. -/
abbrev argG (c : Dev nD) : S2048.Idx → EReal := m ((c : Thread nD τ).loc main_arg7)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 1 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)
theorem at0 : ∀ t : Fin cfg0.N, ((grid0.coords t) 0).val = t.val :=
  (by decide +kernel : ∀ t : Fin grid0.N, _)
theorem hN : cfg0.N = 32 := by decide +kernel

theorem V_Wa (c : Dev nD) (q : Fin 1024) (k : Fin 2048) : V m c main_v11 (ix2 q k) = argWa m c (ix2 q k) := by
  have e : V m c main_v11 = truncf (F := Ideal) .bf16 (argWa m c) bitsLt_bf16_f32 := by
    show StableHlo.after hostOps0 _ (Proc.devRef .tc main_v11) = _
    after_results_simp
  rw [e]
  rfl

theorem V_Wb (c : Dev nD) (q : Fin 1024) (k : Fin 2048) : V m c main_v12 (ix2 q k) = argWb m c (ix2 q k) := by
  have e : V m c main_v12 = truncf (F := Ideal) .bf16 (argWb m c) bitsLt_bf16_f32 := by
    show StableHlo.after hostOps0 _ (Proc.devRef .tc main_v12) = _
    after_results_simp
  rw [e]
  rfl

theorem V_Wo (c : Dev nD) (q : Fin 2048) (k : Fin 2048) : V m c main_v13 (ix2 q k) = argWo m c (ix2 q k) := by
  have e : V m c main_v13 = truncf (F := Ideal) .bf16 (argWo m c) bitsLt_bf16_f32 := by
    show StableHlo.after hostOps0 _ (Proc.devRef .tc main_v13) = _
    after_results_simp
  rw [e]
  rfl

theorem V_gain (c : Dev nD) (J : Fin 2048) : V m c main_v14 (ix2 (0 : Fin 1) J) = argG m c (ix1 J) := by
  have e : V m c main_v14 = shapeCast S1x2048 (argG m c) shapeCasts_S2048_S1x2048 := by
    show StableHlo.after hostOps0 _ (Proc.devRef .tc main_v14) = _
    after_results_simp
    rfl
  rw [e]
  exact shapeCast_apply _ _ _ _ (by simp [Shape.rowMajor_val_one, Shape.rowMajor_val_two])

theorem rd0 (c : Dev nD) (t : Fin cfg0.N) (r : Fin 272) (q : Fin 1024) (X : Fin 8704) (hX : X.val = 272 * t.val + r.val) :
    iblk m c 0 t (ix2 r q) = argA m c (ix2 X q) := by
  obtain ⟨e0, e1⟩ := idx0 t
  show V m c main_arg0 (((cfg0.win 0).blk t).view.emb (ix2 r q)) = _
  rw [V_main_arg0]
  refine congrArg _ (funext fun a => Fin.ext ?_)
  match a with
  | ⟨0, _⟩ => show win0_0.index t (0 : Fin 2) * 272 + 1 * r.val = X.val; omega
  | ⟨1, _⟩ => show win0_0.index t (1 : Fin 2) * 1024 + 1 * q.val = q.val; omega

theorem rd1 (c : Dev nD) (t : Fin cfg0.N) (r : Fin 272) (q : Fin 1024) (X : Fin 8704) (hX : X.val = 272 * t.val + r.val) :
    iblk m c 1 t (ix2 r q) = argB m c (ix2 X q) := by
  obtain ⟨e0, e1⟩ := idx1 t
  show V m c main_arg1 (((cfg0.win 1).blk t).view.emb (ix2 r q)) = _
  rw [V_main_arg1]
  refine congrArg _ (funext fun a => Fin.ext ?_)
  match a with
  | ⟨0, _⟩ => show win0_1.index t (0 : Fin 2) * 272 + 1 * r.val = X.val; omega
  | ⟨1, _⟩ => show win0_1.index t (1 : Fin 2) * 1024 + 1 * q.val = q.val; omega

theorem rd2 (c : Dev nD) (t : Fin cfg0.N) (r : Fin 272) (k : Fin 2048) (X : Fin 8704) (hX : X.val = 272 * t.val + r.val) :
    iblk m c 2 t (ix2 r k) = argGt m c (ix2 X (⟨k.val, by omega⟩ : Fin 4096)) := by
  obtain ⟨e0, e1⟩ := idx2 t
  show V m c main_arg2 (((cfg0.win 2).blk t).view.emb (ix2 r k)) = _
  rw [V_main_arg2]
  refine congrArg _ (funext fun a => Fin.ext ?_)
  match a with
  | ⟨0, _⟩ => show win0_2.index t (0 : Fin 2) * 272 + 1 * r.val = X.val; omega
  | ⟨1, _⟩ => show win0_2.index t (1 : Fin 2) * 2048 + 1 * k.val = k.val; omega

theorem rd3 (c : Dev nD) (t : Fin cfg0.N) (r : Fin 272) (k : Fin 2048) (X : Fin 8704) (hX : X.val = 272 * t.val + r.val) :
    iblk m c 3 t (ix2 r k) = argGt m c (ix2 X (⟨2048 + k.val, by omega⟩ : Fin 4096)) := by
  obtain ⟨e0, e1⟩ := idx3 t
  show V m c main_arg2 (((cfg0.win 3).blk t).view.emb (ix2 r k)) = _
  rw [V_main_arg2]
  refine congrArg _ (funext fun a => Fin.ext ?_)
  match a with
  | ⟨0, _⟩ => show win0_3.index t (0 : Fin 2) * 272 + 1 * r.val = X.val; omega
  | ⟨1, _⟩ => show win0_3.index t (1 : Fin 2) * 2048 + 1 * k.val = 2048 + k.val; omega

theorem rd4 (c : Dev nD) (t : Fin cfg0.N) (r : Fin 272) (k : Fin 2048) (X : Fin 8704) (hX : X.val = 272 * t.val + r.val) :
    iblk m c 4 t (ix2 r k) = argH m c (ix2 X k) := by
  obtain ⟨e0, e1⟩ := idx4 t
  show V m c main_arg3 (((cfg0.win 4).blk t).view.emb (ix2 r k)) = _
  rw [V_main_arg3]
  refine congrArg _ (funext fun a => Fin.ext ?_)
  match a with
  | ⟨0, _⟩ => show win0_4.index t (0 : Fin 2) * 272 + 1 * r.val = X.val; omega
  | ⟨1, _⟩ => show win0_4.index t (1 : Fin 2) * 2048 + 1 * k.val = k.val; omega

theorem rd5 (c : Dev nD) (t : Fin cfg0.N) (q : Fin 1024) (k : Fin 2048) :
    iblk m c 5 t (ix2 q k) = argWa m c (ix2 q k) := by
  obtain ⟨e0, e1⟩ := idx5 t
  rw [← V_Wa]
  show V m c main_v11 (((cfg0.win 5).blk t).view.emb (ix2 q k)) = _
  refine congrArg _ (funext fun a => Fin.ext ?_)
  match a with
  | ⟨0, _⟩ => show win0_5.index t (0 : Fin 2) * 1024 + 1 * q.val = q.val; omega
  | ⟨1, _⟩ => show win0_5.index t (1 : Fin 2) * 2048 + 1 * k.val = k.val; omega

theorem rd6 (c : Dev nD) (t : Fin cfg0.N) (q : Fin 1024) (k : Fin 2048) :
    iblk m c 6 t (ix2 q k) = argWb m c (ix2 q k) := by
  obtain ⟨e0, e1⟩ := idx6 t
  rw [← V_Wb]
  show V m c main_v12 (((cfg0.win 6).blk t).view.emb (ix2 q k)) = _
  refine congrArg _ (funext fun a => Fin.ext ?_)
  match a with
  | ⟨0, _⟩ => show win0_6.index t (0 : Fin 2) * 1024 + 1 * q.val = q.val; omega
  | ⟨1, _⟩ => show win0_6.index t (1 : Fin 2) * 2048 + 1 * k.val = k.val; omega

theorem rd7 (c : Dev nD) (t : Fin cfg0.N) (q : Fin 2048) (k : Fin 2048) :
    iblk m c 7 t (ix2 q k) = argWo m c (ix2 q k) := by
  obtain ⟨e0, e1⟩ := idx7 t
  rw [← V_Wo]
  show V m c main_v13 (((cfg0.win 7).blk t).view.emb (ix2 q k)) = _
  refine congrArg _ (funext fun a => Fin.ext ?_)
  match a with
  | ⟨0, _⟩ => show win0_7.index t (0 : Fin 2) * 2048 + 1 * q.val = q.val; omega
  | ⟨1, _⟩ => show win0_7.index t (1 : Fin 2) * 2048 + 1 * k.val = k.val; omega

theorem rd8 (c : Dev nD) (t : Fin cfg0.N) (k : Fin 2048) :
    iblk m c 8 t (ix2 (0 : Fin 1) k) = argG m c (ix1 k) := by
  obtain ⟨e0, e1⟩ := idx8 t
  rw [← V_gain]
  show V m c main_v14 (((cfg0.win 8).blk t).view.emb (ix2 (0 : Fin 1) k)) = _
  refine congrArg _ (funext fun a => Fin.ext ?_)
  match a with
  | ⟨0, _⟩ => show win0_8.index t (0 : Fin 2) * 1 + 1 * 0 = 0; omega
  | ⟨1, _⟩ => show win0_8.index t (1 : Fin 2) * 2048 + 1 * k.val = k.val; omega

/-- A row of a grid step's tile is that row of the new residual stream. -/
theorem tile_row (c : Dev nD) (t : Fin cfg0.N) (r : Fin 272) (X : Fin 8704) (hX : X.val = 272 * t.val + r.val) (j : Fin 2048) :
    k0_pay6 (k0_pay2 (iblk m c 0 t) (iblk m c 5 t) (iblk m c 1 t) (iblk m c 6 t) (iblk m c 2 t) (iblk m c 3 t) (iblk m c 7 t))
        (k0_pay3 (grid0.coords t)) k0_pay4 (iblk m c 4 t) (ix2 r j)
      = newH (argA m c) (argB m c) (argGt m c) (argH m c) (argWa m c) (argWb m c) (argWo m c) X j := by
  have hr := r.isLt
  have e0 : (fun q : Fin 1024 => (iblk m c 0 t (ix2 r q) : EReal)) = fun q => argA m c (ix2 X q) := funext fun q => rd0 m c t r q X hX
  have e1 : (fun q : Fin 1024 => (iblk m c 1 t (ix2 r q) : EReal)) = fun q => argB m c (ix2 X q) := funext fun q => rd1 m c t r q X hX
  have e2 : (fun k : Fin 2048 => (iblk m c 2 t (ix2 r k) : EReal)) = fun k => argGt m c (ix2 X (⟨k.val, by omega⟩ : Fin 4096)) :=
    funext fun k => rd2 m c t r k X hX
  have e3 : (fun k : Fin 2048 => (iblk m c 3 t (ix2 r k) : EReal)) = fun k => argGt m c (ix2 X (⟨2048 + k.val, by omega⟩ : Fin 4096)) :=
    funext fun k => rd3 m c t r k X hX
  have e5 : (fun (q : Fin 1024) (k : Fin 2048) => (iblk m c 5 t (ix2 q k) : EReal)) = fun q k => argWa m c (ix2 q k) :=
    funext fun q => funext fun k => rd5 m c t q k
  have e6 : (fun (q : Fin 1024) (k : Fin 2048) => (iblk m c 6 t (ix2 q k) : EReal)) = fun q k => argWb m c (ix2 q k) :=
    funext fun q => funext fun k => rd6 m c t q k
  rw [keep_apply, upd_apply, e0, e1, e2, e3, e5, e6, rd4 m c t r j X hX, at0 t]
  have es : 272 * (t.val % 8) + r.val = X.val % 2176 := by omega
  rw [es]
  unfold newH newRow stepped
  refine congrArg (fun y : EReal => if 112 ≤ X.val % 2176 then argH m c (ix2 X j) + y else 0) (Finset.sum_congr rfl fun k _ => ?_)
  rw [rd7 m c t k j]
  rfl

/-- The kernel's new residual stream at any row and column. -/
theorem final12 (c : Dev nD) (X : Fin 8704) (J : Fin 2048) :
    (dats m 0 c).arrAt 12 cfg0.N (ix2 X J) = newH (argA m c) (argB m c) (argGt m c) (argH m c) (argWa m c) (argWb m c) (argWo m c) X J := by
  have hX := X.isLt
  have hJ := J.isLt
  let t : Fin cfg0.N := ⟨X.val / 272, by rw [hN]; omega⟩
  have ht : t.val = X.val / 272 := rfl
  obtain ⟨e0, e1⟩ := idx12 t
  have hemb : ((cfg0.win 12).blk t).view.emb (ix2 (⟨X.val % 272, by omega⟩ : Fin 272) J) = ix2 X J := by
    refine funext fun a => Fin.ext ?_
    match a with
    | ⟨0, _⟩ => show win0_12.index t (0 : Fin 2) * 272 + 1 * (X.val % 272) = X.val; omega
    | ⟨1, _⟩ => show win0_12.index t (1 : Fin 2) * 2048 + 1 * J.val = J.val; omega
  have h := congrFun (blocks12 m c t (flush0_12 t)) (ix2 (⟨X.val % 272, by omega⟩ : Fin 272) J)
  rw [flushed12] at h
  refine (congrArg ((dats m 0 c).arrAt 12 cfg0.N) hemb.symm).trans (h.trans ?_)
  refine Eq.trans (b := out0_12 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    (ix2 (⟨X.val % 272, by omega⟩ : Fin 272) J)) rfl ?_
  rw [out12_eq]
  exact tile_row m c t _ X (by dsimp only; omega) J

/-- The kernel's normalised stream at any row and column: the norm of the new residual stream's row. -/
theorem final13 (c : Dev nD) (X : Fin 8704) (J : Fin 2048) :
    (dats m 0 c).arrAt 13 cfg0.N (ix2 X J) = nrm (newH (argA m c) (argB m c) (argGt m c) (argH m c) (argWa m c) (argWb m c) (argWo m c) X) (argG m c (ix1 J)) J := by
  have hX := X.isLt
  have hJ := J.isLt
  let t : Fin cfg0.N := ⟨X.val / 272, by rw [hN]; omega⟩
  have ht : t.val = X.val / 272 := rfl
  obtain ⟨e0, e1⟩ := idx13 t
  have hemb : ((cfg0.win 13).blk t).view.emb (ix2 (⟨X.val % 272, by omega⟩ : Fin 272) J) = ix2 X J := by
    refine funext fun a => Fin.ext ?_
    match a with
    | ⟨0, _⟩ => show win0_13.index t (0 : Fin 2) * 272 + 1 * (X.val % 272) = X.val; omega
    | ⟨1, _⟩ => show win0_13.index t (1 : Fin 2) * 2048 + 1 * J.val = J.val; omega
  have h := congrFun (blocks13 m c t (flush0_13 t)) (ix2 (⟨X.val % 272, by omega⟩ : Fin 272) J)
  rw [flushed13] at h
  refine (congrArg ((dats m 0 c).arrAt 13 cfg0.N) hemb.symm).trans (h.trans ?_)
  refine Eq.trans (b := out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    (ix2 (⟨X.val % 272, by omega⟩ : Fin 272) J)) rfl ?_
  rw [out13_eq, norm_apply, rd8 m c t J]
  refine congrArg (fun f => nrm f _ J) (funext fun k => ?_)
  exact tile_row m c t _ X (by dsimp only; omega) k

end Cert.Joined
-- ==== Proof.Merge.Ref.lean ====
module

public import proofs.«01_k».proof.Proof.Gen.RefMergeIdeal.Read
public import proofs.«01_k».proof.Proof.Merge.Core
public import Idealize.ShloMosaic.Lib.KernelVsHost

@[expose] public section

/-! The reference of the merge, read at any row and column. -/

noncomputable section

namespace Cert.Joined

open Cert.RefMergeIdeal Cert.RefMergeIdeal.Gen Cert.RefMergeIdeal.Read Idealize.ShloMosaic Idealize.ShloMosaic.TcCoe
open Idealize.ShloMosaic.ValueIdx
open Cert.Norm (nrm nrm_zero scale)

/-- The gates of a token. -/
theorem tok_gate (U : S8704x4096.Idx → EReal) (b : Fin 4) (n : Fin 2064) (J : Fin 4096) (X : Fin 8704) (hX : X.val = 2176 * b.val + 112 + n.val) :
    val_main_v1 (F := Ideal) U (ix3 b n J) = U (ix2 X J) := by
  rw [val_main_v1_apply, val_main_v0_apply]
  have hJ := J.isLt
  refine congrArg U (funext fun a => Fin.ext ?_)
  match a with
  | ⟨0, _⟩ => show ((b.val * 2176 + (112 + n.val)) * 4096 + J.val) / 4096 = X.val; omega
  | ⟨1, _⟩ => show ((b.val * 2176 + (112 + n.val)) * 4096 + J.val) % 4096 = J.val; omega

/-- The attention's output of a token. -/
theorem tok_att (U : S8704x1024.Idx → EReal) (b : Fin 4) (n : Fin 2064) (J : Fin 1024) (X : Fin 8704) (hX : X.val = 2176 * b.val + 112 + n.val) :
    val_main_v6 (F := Ideal) U (ix3 b n J) = U (ix2 X J) := by
  rw [val_main_v6_apply, val_main_v5_apply]
  have hJ := J.isLt
  refine congrArg U (funext fun a => Fin.ext ?_)
  match a with
  | ⟨0, _⟩ => show ((b.val * 2176 + (112 + n.val)) * 1024 + J.val) / 1024 = X.val; omega
  | ⟨1, _⟩ => show ((b.val * 2176 + (112 + n.val)) * 1024 + J.val) % 1024 = J.val; omega

/-- The other branch's output of a token. -/
theorem tok_other (U : S8704x1024.Idx → EReal) (b : Fin 4) (n : Fin 2064) (J : Fin 1024) (X : Fin 8704) (hX : X.val = 2176 * b.val + 112 + n.val) :
    val_main_v9 (F := Ideal) U (ix3 b n J) = U (ix2 X J) := by
  rw [val_main_v9_apply, val_main_v8_apply]
  have hJ := J.isLt
  refine congrArg U (funext fun a => Fin.ext ?_)
  match a with
  | ⟨0, _⟩ => show ((b.val * 2176 + (112 + n.val)) * 1024 + J.val) / 1024 = X.val; omega
  | ⟨1, _⟩ => show ((b.val * 2176 + (112 + n.val)) * 1024 + J.val) % 1024 = J.val; omega

/-- The residual stream of a token. -/
theorem tok_h (U : S8704x2048.Idx → EReal) (b : Fin 4) (n : Fin 2064) (J : Fin 2048) (X : Fin 8704) (hX : X.val = 2176 * b.val + 112 + n.val) :
    val_main_v17 (F := Ideal) U (ix3 b n J) = U (ix2 X J) := by
  rw [val_main_v17_apply, val_main_v16_apply]
  have hJ := J.isLt
  refine congrArg U (funext fun a => Fin.ext ?_)
  match a with
  | ⟨0, _⟩ => show ((b.val * 2176 + (112 + n.val)) * 2048 + J.val) / 2048 = X.val; omega
  | ⟨1, _⟩ => show ((b.val * 2176 + (112 + n.val)) * 2048 + J.val) % 2048 = J.val; omega

variable (A B : S8704x1024.Idx → EReal) (Gt : S8704x4096.Idx → EReal) (H : S8704x2048.Idx → EReal)
  (Wa Wb : S1024x2048.Idx → EReal) (Wo : S2048x2048.Idx → EReal) (G : S2048.Idx → EReal)

/-- The attention branch through its matrix. -/
theorem dot_att (b : Fin 4) (n : Fin 2064) (k : Fin 2048) (X : Fin 8704) (hX : X.val = 2176 * b.val + 112 + n.val) :
    val_main_v11 (F := Ideal) A Wa (ix3 b n k) = ∑ q : Fin 1024, A (ix2 X q) * Wa (ix2 q k) := by
  rw [val_main_v11_apply]
  refine Finset.sum_congr rfl fun q _ => ?_
  have el : lidx_main_v11 (ix3 b n k) q = ix3 b n q := funext fun a => by
    match a with
    | ⟨0, _⟩ => rfl
    | ⟨1, _⟩ => rfl
    | ⟨2, _⟩ => rfl
  have er : ridx_main_v11 (ix3 b n k) q = ix2 q k := funext fun a => by
    match a with
    | ⟨0, _⟩ => rfl
    | ⟨1, _⟩ => rfl
  rw [el, er, val_main_v7_apply]
  exact congrArg (fun y : EReal => y * Wa (ix2 q k)) (tok_att A b n q X hX)

/-- The other branch through its matrix. -/
theorem dot_other (b : Fin 4) (n : Fin 2064) (k : Fin 2048) (X : Fin 8704) (hX : X.val = 2176 * b.val + 112 + n.val) :
    val_main_v13 (F := Ideal) B Wb (ix3 b n k) = ∑ q : Fin 1024, B (ix2 X q) * Wb (ix2 q k) := by
  rw [val_main_v13_apply]
  refine Finset.sum_congr rfl fun q _ => ?_
  have el : lidx_main_v13 (ix3 b n k) q = ix3 b n q := funext fun a => by
    match a with
    | ⟨0, _⟩ => rfl
    | ⟨1, _⟩ => rfl
    | ⟨2, _⟩ => rfl
  have er : ridx_main_v13 (ix3 b n k) q = ix2 q k := funext fun a => by
    match a with
    | ⟨0, _⟩ => rfl
    | ⟨1, _⟩ => rfl
  rw [el, er, val_main_v10_apply]
  exact congrArg (fun y : EReal => y * Wb (ix2 q k)) (tok_other B b n q X hX)

/-- The gated sum of a token. -/
theorem ref_mixed (b : Fin 4) (n : Fin 2064) (k : Fin 2048) (X : Fin 8704) (hX : X.val = 2176 * b.val + 112 + n.val) :
    val_main_v15 (F := Ideal) A B Gt Wa Wb (ix3 b n k) = mixRow A B Gt Wa Wb X k := by
  have ea : val_main_v3 (F := Ideal) Gt (ix3 b n k) = Gt (ix2 X (⟨k.val, by omega⟩ : Fin 4096)) := by
    rw [val_main_v3_apply, val_main_v2_apply]
    refine Eq.trans (congrArg (val_main_v1 (F := Ideal) Gt) (funext fun a => Fin.ext ?_)) (tok_gate Gt b n _ X hX)
    match a with
    | ⟨0, _⟩ => rfl
    | ⟨1, _⟩ => rfl
    | ⟨2, _⟩ => rfl
  have eb : val_main_v4 (F := Ideal) Gt (ix3 b n k) = Gt (ix2 X (⟨2048 + k.val, by omega⟩ : Fin 4096)) := by
    rw [val_main_v4_apply, val_main_v2_apply]
    refine Eq.trans (congrArg (val_main_v1 (F := Ideal) Gt) (funext fun a => Fin.ext ?_)) (tok_gate Gt b n _ X hX)
    match a with
    | ⟨0, _⟩ => rfl
    | ⟨1, _⟩ => rfl
    | ⟨2, _⟩ => rfl
  rw [val_main_v15_apply, val_main_v12_apply, val_main_v14_apply, ea, eb, dot_att A Wa b n k X hX, dot_other B Wb b n k X hX]
  rfl

/-- The new residual row of a token. -/
theorem ref_row (b : Fin 4) (n : Fin 2064) (J : Fin 2048) (X : Fin 8704) (hX : X.val = 2176 * b.val + 112 + n.val) :
    val_main_v19 (F := Ideal) A B Gt H Wa Wb Wo (ix3 b n J) = newRow A B Gt H Wa Wb Wo X J := by
  rw [val_main_v19_apply, tok_h H b n J X hX, val_main_v18_apply]
  refine congrArg (fun y : EReal => H (ix2 X J) + y) (Finset.sum_congr rfl fun k _ => ?_)
  have el : lidx_main_v18 (ix3 b n J) k = ix3 b n k := funext fun a => by
    match a with
    | ⟨0, _⟩ => rfl
    | ⟨1, _⟩ => rfl
    | ⟨2, _⟩ => rfl
  have er : ridx_main_v18 (ix3 b n J) k = ix2 k J := funext fun a => by
    match a with
    | ⟨0, _⟩ => rfl
    | ⟨1, _⟩ => rfl
  rw [el, er, ref_mixed A B Gt Wa Wb b n k X hX]

/-- The norm of the new residual row of a token. -/
theorem ref_norm (b : Fin 4) (n : Fin 2064) (J : Fin 2048) (X : Fin 8704) (hX : X.val = 2176 * b.val + 112 + n.val) :
    val_main_v32 (F := Ideal) A B Gt H Wa Wb Wo G (ix3 b n J) = nrm (newRow A B Gt H Wa Wb Wo X) (G (ix1 J)) J := by
  have hq : val_main_v21 (F := Ideal) A B Gt H Wa Wb Wo (ix2 b n)
      = ∑ k : Fin 2048, newRow A B Gt H Wa Wb Wo X k * newRow A B Gt H Wa Wb Wo X k := by
    rw [val_main_v21_apply]
    refine Eq.trans (congrArg (· + _) (Ideal.ofBits_zero_f32 : (Ideal.ofBits .f32 0x00000000#32 : EReal) = 0)) ?_
    rw [zero_add]
    refine Finset.sum_congr rfl fun k _ => ?_
    have e : idx_main_v21 (ix2 b n) k = ix3 b n k := funext fun a => by
      match a with
      | ⟨0, _⟩ => rfl
      | ⟨1, _⟩ => rfl
      | ⟨2, _⟩ => rfl
    rw [val_main_v20_apply, e, ref_row A B Gt H Wa Wb Wo b n k X hX]
    rfl
  have hs : val_main_v28 (F := Ideal) A B Gt H Wa Wb Wo (ix3 b n J) = scale (newRow A B Gt H Wa Wb Wo X) := by
    have e : idx_main_v22 (idx_main_v28 (ix3 b n J)) = ix2 b n := funext fun a => by
      match a with
      | ⟨0, _⟩ => rfl
      | ⟨1, _⟩ => rfl
    rw [val_main_v28_apply, val_main_v27_apply, val_main_v26_apply, val_main_v24_apply, val_main_v22_apply, e, hq,
      val_main_v23_apply, val_main_v25_apply]
    rfl
  have hg : val_main_v31 (F := Ideal) G (ix3 b n J) = G (ix1 J) := by
    rw [val_main_v31_apply, val_main_v30_apply]
    refine congrArg G (funext fun a => ?_)
    match a with
    | ⟨0, _⟩ => rfl
  rw [val_main_v32_apply, val_main_v29_apply, ref_row A B Gt H Wa Wb Wo b n J X hX, hs, hg]
  rfl

/-- A sequence's rows with 112 rows of zeros before them, laid end to end, read at any row and column. -/
theorem padded (x : S4x2064x2048.Idx → EReal) (z : S_.Idx → EReal) (hz : ∀ i, z i = 0)
    (f : Fin 8704 → Fin 2048 → EReal)
    (hf : ∀ (b : Fin 4) (n : Fin 2064) (J : Fin 2048) (X : Fin 8704), X.val = 2176 * b.val + 112 + n.val → x (ix3 b n J) = f X J)
    (X : Fin 8704) (J : Fin 2048) (i : S4x2176x2048.Idx) (h0 : (i 0).val = X.val / 2176) (h1 : (i 1).val = X.val % 2176) (h2 : (i 2).val = J.val) :
    pad S4x2176x2048 ![0, 112, 0] ![0, 0, 0] ![0, 0, 0] x z pads_S4x2064x2048_S4x2176x2048_000_11200_000 h_S_ i
      = if 112 ≤ X.val % 2176 then f X J else 0 := by
  have hX := X.isLt
  by_cases hp : 112 ≤ X.val % 2176
  · rw [if_pos hp]
    refine (pad_apply_of_inside _ _ _ _ _ _ _ _ (ix3 (⟨X.val / 2176, by omega⟩ : Fin 4) (⟨X.val % 2176 - 112, by omega⟩ : Fin 2064) J) (fun a => by
      match a with
      | ⟨0, _⟩ => show (i 0).val = 0 + X.val / 2176 * (0 + 1); omega
      | ⟨1, _⟩ => show (i 1).val = 112 + (X.val % 2176 - 112) * (0 + 1); omega
      | ⟨2, _⟩ => show (i 2).val = 0 + J.val * (0 + 1); omega)).trans ?_
    exact hf _ _ J X (by dsimp only; omega)
  · rw [if_neg hp]
    refine (pad_apply_of_not_inside _ _ _ _ _ _ _ _ (1 : Fin 3) (fun h => hp ?_)).trans (hz _)
    have := h.1
    change 112 ≤ (i 1).val at this
    omega

theorem zero_word : (((0#32 : BitVec 32).toInt : ℝ) : EReal) = 0 := by simp

/-- The reference's new residual stream. -/
theorem ref_h (X : Fin 8704) (J : Fin 2048) :
    val_main_v34 (F := Ideal) A B Gt H Wa Wb Wo (ix2 X J) = newH A B Gt H Wa Wb Wo X J := by
  have hX := X.isLt
  have hJ := J.isLt
  rw [val_main_v34_apply]
  unfold val_main_v33
  refine padded _ _ (fun i => zero_word) _ (fun b n J X hX => ref_row A B Gt H Wa Wb Wo b n J X hX) X J _ ?_ ?_ ?_
  · show (X.val * 2048 + J.val) / 4456448 = X.val / 2176; omega
  · show (X.val * 2048 + J.val) / 2048 % 2176 = X.val % 2176; omega
  · show (X.val * 2048 + J.val) % 2048 = J.val; omega

/-- The reference's norm of it. -/
theorem ref_xn (X : Fin 8704) (J : Fin 2048) :
    val_main_v36 (F := Ideal) A B Gt H Wa Wb Wo G (ix2 X J) = nrm (newH A B Gt H Wa Wb Wo X) (G (ix1 J)) J := by
  have hX := X.isLt
  have hJ := J.isLt
  rw [val_main_v36_apply]
  unfold val_main_v35
  refine (padded _ _ (fun i => zero_word) _ (fun b n J X hX => ref_norm A B Gt H Wa Wb Wo G b n J X hX) X J _ ?_ ?_ ?_).trans ?_
  · show (X.val * 2048 + J.val) / 4456448 = X.val / 2176; omega
  · show (X.val * 2048 + J.val) / 2048 % 2176 = X.val % 2176; omega
  · show (X.val * 2048 + J.val) % 2048 = J.val; omega
  · by_cases hp : 112 ≤ X.val % 2176
    · rw [if_pos hp]
      exact congrArg (fun f => nrm f _ J) (funext fun k => (if_pos hp).symm)
    · rw [if_neg hp]
      exact (nrm_zero _ _ _ (if_neg hp)).symm

end Cert.Joined
-- ==== Proof.Merge.Claims.lean ====
module

public import proofs.«01_k».proof.Defs
public import proofs.«01_k».proof.Proof.Gen.Merge.Frame
public import proofs.«01_k».proof.Proof.Gen.MergeIdeal.Frame
public import proofs.«01_k».proof.Proof.Merge.Final
public import proofs.«01_k».proof.Proof.Merge.Ref

@[expose] public section

/-! The claims of the merge. -/

noncomputable section

namespace Cert.Joined

open Idealize.ShloMosaic Idealize.ShloMosaic.TcCoe Idealize.SL.Sem
open Idealize.ShloMosaic.ValueIdx

/-- The printed kernel runs, leaves its arguments and every counter as they were. -/
theorem frameKernel : Cert.quiescent_Merge := fun m ρ _ => Cert.Merge.Gen.frame m ρ

/-- So does the idealized kernel. -/
theorem frameIdeal : Cert.quiescent_MergeIdeal := fun m ρ _ => Cert.MergeIdeal.Gen.frame m ρ

/-- So does the reference. -/
theorem frameRef : Cert.quiescent_RefMergeIdeal := fun m ρ _ =>
  (θ_run Cert.RefMergeIdeal.defs _ _).mono (fun r h => ⟨fun c => (h c).2.2, sem_eq_zero_of_no_sems (by decide) r.2⟩)
    (Cert.RefMergeIdeal.Value.run m ρ)

/-- From any arguments the kernel and the reference end with equal residual streams and equal norms of them. -/
theorem same : Cert.algebraic_MergeIdeal_RefMergeIdeal := by
  intro m g m' g' _ hargs
  refine ⟨fun c => (Cert.MergeIdeal.Gen.dats m 0 c).arrAt 12 Cert.MergeIdeal.cfg0.N,
    fun c => (Cert.MergeIdeal.Gen.dats m 0 c).arrAt 13 Cert.MergeIdeal.cfg0.N, ?_, ?_⟩
  · exact (θ_run Cert.MergeIdeal.defs _ _).mono (fun r h c => ⟨(h c).1, (h c).2.1, (h c).2.2.2⟩) (Cert.MergeIdeal.Value.run_blocks m g)
  · refine (θ_run Cert.RefMergeIdeal.defs _ _).mono (fun r hr c => ⟨(hr c).1.trans ?_, (hr c).2.1.trans ?_, (hr c).2.2⟩) (Cert.RefMergeIdeal.Value.run m' g')
    · obtain ⟨h0, h1, h2, h3, h4, h5, h6, h7, -⟩ := hargs c
      rw [Cert.RefMergeIdeal.Read.val_main_v34_eq, h0, h1, h2, h3, h4, h5, h6]
      funext i
      have ei : i = ix2 (i 0) (i 1) := funext fun a => by
        match a with
        | ⟨0, _⟩ => rfl
        | ⟨1, _⟩ => rfl
      have e := (ref_h (argA m c) (argB m c) (argGt m c) (argH m c) (argWa m c) (argWb m c) (argWo m c) (i 0) (i 1)).trans (final12 m c (i 0) (i 1)).symm
      exact (congrArg (Cert.RefMergeIdeal.Read.val_main_v34 (F := Ideal) (argA m c) (argB m c) (argGt m c) (argH m c) (argWa m c) (argWb m c) (argWo m c)) ei).trans
        (e.trans (congrArg ((Cert.MergeIdeal.Gen.dats m 0 c).arrAt 12 Cert.MergeIdeal.cfg0.N) ei.symm))
    · obtain ⟨h0, h1, h2, h3, h4, h5, h6, h7, -⟩ := hargs c
      rw [Cert.RefMergeIdeal.Read.val_main_v36_eq, h0, h1, h2, h3, h4, h5, h6, h7]
      funext i
      have ei : i = ix2 (i 0) (i 1) := funext fun a => by
        match a with
        | ⟨0, _⟩ => rfl
        | ⟨1, _⟩ => rfl
      have e := (ref_xn (argA m c) (argB m c) (argGt m c) (argH m c) (argWa m c) (argWb m c) (argWo m c) (argG m c) (i 0) (i 1)).trans (final13 m c (i 0) (i 1)).symm
      exact (congrArg (Cert.RefMergeIdeal.Read.val_main_v36 (F := Ideal) (argA m c) (argB m c) (argGt m c) (argH m c) (argWa m c) (argWb m c) (argWo m c) (argG m c)) ei).trans
        (e.trans (congrArg ((Cert.MergeIdeal.Gen.dats m 0 c).arrAt 13 Cert.MergeIdeal.cfg0.N) ei.symm))

end Cert.Joined
-- ==== Proof.Route.Pick.lean ====
module

public import Idealize.ShloMosaic.PureOps
public import Idealize.ShloMosaic.PureOps.Ideal.Laws
public import proofs.«01_k».proof.Proof.Attn.Core

@[expose] public section

/-! Picking the greatest of some numbers, the first of equal ones: over eight, and over lanes of which all but
    eight hold `-∞`. -/

noncomputable section

namespace Cert.Picked

open Idealize.ShloMosaic Finset
open Cert.Attn (Fini)

/-- `i` is, of the positions in `s`, the first at which `f` is greatest. -/
def Best {n : ℕ} (s : Finset (Fin n)) (f : Fin n → EReal) (i : Fin n) : Prop :=
  i ∈ s ∧ ∀ j ∈ s, f j ≤ f i ∧ (f j = f i → i ≤ j)

theorem Best.unique {n : ℕ} {s : Finset (Fin n)} {f : Fin n → EReal} {i k : Fin n} (hi : Best s f i) (hk : Best s f k) : i = k := by
  have e : f i = f k := le_antisymm (hk.2 i hi.1).1 (hi.2 k hk.1).1
  exact le_antisymm ((hi.2 k hk.1).2 e.symm) ((hk.2 i hi.1).2 e)

theorem exists_best {n : ℕ} (s : Finset (Fin n)) (hs : s.Nonempty) (f : Fin n → EReal) : ∃ i, Best s f i := by
  obtain ⟨a, ha, hm⟩ := s.exists_max_image f hs
  have hne : (s.filter fun j => f j = f a).Nonempty := ⟨a, mem_filter.mpr ⟨ha, rfl⟩⟩
  obtain ⟨i, hi, hl⟩ := (s.filter fun j => f j = f a).exists_min_image id hne
  obtain ⟨his, hie⟩ := mem_filter.mp hi
  exact ⟨i, his, fun j hj => ⟨hie ▸ hm j hj, fun e => hl j (mem_filter.mpr ⟨hj, e.trans hie⟩)⟩⟩

theorem erase_nonempty (i : Fin 8) : ((univ : Finset (Fin 8)).erase i).Nonempty := by
  revert i; decide

/-- The first position of the greatest of eight. -/
def fst (f : Fin 8 → EReal) : Fin 8 := Classical.choose (exists_best univ ⟨0, mem_univ _⟩ f)
theorem fst_best (f : Fin 8 → EReal) : Best univ f (fst f) := Classical.choose_spec (exists_best univ ⟨0, mem_univ _⟩ f)

/-- The first position of the greatest of the seven others. -/
def snd (f : Fin 8 → EReal) : Fin 8 := Classical.choose (exists_best _ (erase_nonempty (fst f)) f)
theorem snd_best (f : Fin 8 → EReal) : Best (univ.erase (fst f)) f (snd f) :=
  Classical.choose_spec (exists_best _ (erase_nonempty (fst f)) f)

/-- The probability of the greatest of eight logits under their softmax. -/
def prob (C : Fin 8 → EReal) : EReal := Ideal.div 1 (∑ j, Ideal.exp (C j - C (fst C)))

/-- The second greatest's share over the greatest's, under a softmax of the two. -/
def ratio (f : Fin 8 → EReal) : EReal := Ideal.exp (f (snd f) - f (fst f))

/-- The four numbers of a token: its two experts, then their weights; zeros after them. -/
def picked (C : Fin 8 → EReal) (Fl : Fin 8 → Fin 8 → EReal) (J : Fin 128) : EReal :=
  if J.val = 0 then (((fst C).val * 8 + (fst (Fl (fst C))).val : ℕ) : ℝ)
  else if J.val = 1 then (((fst C).val * 8 + (snd (Fl (fst C))).val : ℕ) : ℝ)
  else if J.val = 2 then Ideal.div (prob C) (1 + ratio (Fl (fst C)))
  else if J.val = 3 then Ideal.div (prob C * ratio (Fl (fst C))) (1 + ratio (Fl (fst C)))
  else 0

/-- The four numbers of an unused row: no expert, no weight. -/
def unused (J : Fin 128) : EReal := if J.val < 2 then ((64 : ℝ) : EReal) else 0

/-! ## The same over 128 lanes -/

/-- A lane's number. -/
def lane (j : Fin 128) : EReal := ((j.val : ℝ) : EReal)
def mx (f : Fin 128 → EReal) : EReal := univ.fold max ⊥ f
def mn (f : Fin 128 → EReal) : EReal := univ.fold min ⊤ f
/-- The numbers of the lanes at which `f` is `m`, 128 at the others. -/
def whereIs (f : Fin 128 → EReal) (m : EReal) (j : Fin 128) : EReal := if f j = m then lane j else ((128 : ℝ) : EReal)

theorem lane_inj {a b : Fin 128} (h : lane a = lane b) : a = b := by
  unfold lane at h
  exact Fin.ext (by exact_mod_cast h)

theorem mx_eq {s : Finset (Fin 128)} {f : Fin 128 → EReal} {i : Fin 128} (h : Best s f i) (ho : ∀ j, j ∉ s → f j = ⊥) : mx f = f i := by
  unfold mx
  refine le_antisymm (fold_max_le _ |>.mpr ⟨bot_le, fun j _ => ?_⟩) (le_fold_max _ |>.mpr (Or.inr ⟨i, mem_univ _, le_rfl⟩))
  by_cases hj : j ∈ s
  · exact (h.2 j hj).1
  · rw [ho j hj]; exact bot_le

theorem mn_eq {s : Finset (Fin 128)} {f : Fin 128 → EReal} {i : Fin 128} (h : Best s f i) (ho : ∀ j, j ∉ s → f j = ⊥) (hb : f i ≠ ⊥) :
    mn (whereIs f (mx f)) = lane i := by
  rw [mx_eq h ho]
  unfold mn
  refine le_antisymm (fold_min_le _ |>.mpr (Or.inr ⟨i, mem_univ _, by unfold whereIs; rw [if_pos rfl]⟩)) (le_fold_min _ |>.mpr ⟨le_top, fun j _ => ?_⟩)
  unfold whereIs lane
  split
  · rename_i e
    have hj : j ∈ s := by
      by_contra hn
      exact hb (e.symm.trans (ho j hn))
    have := (h.2 j hj).2 e
    exact EReal.coe_le_coe (by exact_mod_cast this)
  · exact EReal.coe_le_coe (by exact_mod_cast i.isLt.le)

theorem Best.image {s : Finset (Fin 8)} {f : Fin 8 → EReal} {i : Fin 8} (h : Best s f i) (e : Fin 8 → Fin 128)
    (he : ∀ a b, a ≤ b → e a ≤ e b) (F : Fin 128 → EReal) (hF : ∀ a ∈ s, F (e a) = f a) : Best (s.image e) F (e i) := by
  refine ⟨mem_image_of_mem _ h.1, fun j hj => ?_⟩
  obtain ⟨a, ha, rfl⟩ := mem_image.mp hj
  rw [hF a ha, hF i h.1]
  exact ⟨(h.2 a ha).1, fun q => he _ _ ((h.2 a ha).2 q)⟩

variable (L : Fin 128 → EReal)

/-- The lanes of the group logits. -/
def co (j : Fin 128) : EReal := if lane j < ((8 : ℝ) : EReal) then L j else ⊥
/-- The number of the chosen group. -/
def grpL : EReal := mn (whereIs (co L) (mx (co L)))
def loL : EReal := ((8 : ℝ) : EReal) + grpL L * ((8 : ℝ) : EReal)
/-- The lanes of the logits of the chosen group's experts. -/
def fi (j : Fin 128) : EReal := if loL L ≤ lane j ∧ lane j < loL L + ((8 : ℝ) : EReal) then L j else ⊥
def oneL : EReal := mn (whereIs (fi L) (mx (fi L)))
/-- The same with the first choice taken out. -/
def fi2 (j : Fin 128) : EReal := if lane j = oneL L then ⊥ else fi L j
def twoL : EReal := mn (whereIs (fi2 L) (mx (fi2 L)))
def probL : EReal := Ideal.div ((1 : ℝ) : EReal) (∑ j, Ideal.exp (co L j - mx (co L)))
def ratioL : EReal := Ideal.exp (mx (fi2 L) - mx (fi L))

/-- The four numbers, from the lanes of all logits. -/
def lanes (J : Fin 128) : EReal :=
  if lane J = ((0 : ℝ) : EReal) then oneL L - ((8 : ℝ) : EReal)
  else if lane J = ((1 : ℝ) : EReal) then twoL L - ((8 : ℝ) : EReal)
  else if lane J = ((2 : ℝ) : EReal) then Ideal.div (probL L) (((1 : ℝ) : EReal) + ratioL L)
  else if lane J = ((3 : ℝ) : EReal) then Ideal.div (probL L * ratioL L) (((1 : ℝ) : EReal) + ratioL L)
  else 0

variable {L} {C : Fin 8 → EReal} {Fl : Fin 8 → Fin 8 → EReal}

def eC (g : Fin 8) : Fin 128 := ⟨g.val, by omega⟩
def eF (g j : Fin 8) : Fin 128 := ⟨8 + 8 * g.val + j.val, by omega⟩

theorem lane_lt (j : Fin 128) (n : ℕ) : lane j < (((n : ℕ) : ℝ) : EReal) ↔ j.val < n := by
  unfold lane; rw [EReal.coe_lt_coe_iff]; exact_mod_cast Iff.rfl
theorem le_lane (j : Fin 128) (n : ℕ) : (((n : ℕ) : ℝ) : EReal) ≤ lane j ↔ n ≤ j.val := by
  unfold lane; rw [EReal.coe_le_coe_iff]; exact_mod_cast Iff.rfl
theorem lane_eq (j : Fin 128) (n : ℕ) : lane j = (((n : ℕ) : ℝ) : EReal) ↔ j.val = n := by
  unfold lane; rw [EReal.coe_eq_coe_iff]; exact_mod_cast Iff.rfl

section
variable (hC : ∀ g, L (eC g) = C g) (hF : ∀ g j, L (eF g j) = Fl g j) (fC : ∀ g, Fini (C g)) (fF : ∀ g j, Fini (Fl g j))

theorem co_at (j : Fin 128) : co L j = if j.val < 8 then L j else ⊥ := by
  unfold co
  exact if_congr (lane_lt j 8) rfl rfl

include hC in
theorem co_best : Best (univ.image eC) (co L) (eC (fst C)) :=
  (fst_best C).image eC (fun a b h => h) _ fun a _ => by rw [co_at, if_pos (show (eC a).val < 8 from a.isLt), hC]

theorem co_out (j : Fin 128) (hj : j ∉ univ.image eC) : co L j = ⊥ := by
  rw [co_at, if_neg]
  intro h
  exact hj (mem_image.mpr ⟨⟨j.val, h⟩, mem_univ _, rfl⟩)

include hC in
theorem co_top : co L (eC (fst C)) = C (fst C) := by
  rw [co_at, if_pos (show (eC (fst C)).val < 8 from (fst C).isLt), hC]

include hC in
theorem mx_co : mx (co L) = C (fst C) := (mx_eq (co_best hC) co_out).trans (co_top hC)

include hC fC in
theorem grpL_eq : grpL L = (((fst C).val : ℕ) : ℝ) := by
  unfold grpL
  rw [mn_eq (co_best hC) co_out (by rw [co_top hC]; exact (fC _).ne_bot)]
  rfl

include hC fC in
theorem loL_eq : loL L = ((8 + 8 * (fst C).val : ℕ) : ℝ) := by
  unfold loL
  rw [grpL_eq hC fC, ← EReal.coe_mul, ← EReal.coe_add]
  congr 1
  push_cast
  ring

include hC fC in
theorem fi_at (j : Fin 128) : fi L j = if 8 + 8 * (fst C).val ≤ j.val ∧ j.val < 8 + 8 * (fst C).val + 8 then L j else ⊥ := by
  unfold fi
  rw [loL_eq hC fC]
  refine if_congr (and_congr (le_lane _ _) ?_) rfl rfl
  rw [← lane_lt, ← EReal.coe_add]
  push_cast
  rfl

include hC hF fC in
theorem fi_in (j : Fin 8) : fi L (eF (fst C) j) = Fl (fst C) j := by
  rw [fi_at hC fC, if_pos ⟨by show _ ≤ 8 + 8 * (fst C).val + j.val; omega, by show 8 + 8 * (fst C).val + j.val < _; omega⟩, hF]

include hC fC in
theorem fi_out (j : Fin 128) (hj : j ∉ univ.image (eF (fst C))) : fi L j = ⊥ := by
  rw [fi_at hC fC, if_neg]
  intro h
  exact hj (mem_image.mpr ⟨⟨j.val - (8 + 8 * (fst C).val), by omega⟩, mem_univ _, Fin.ext (by show 8 + 8 * (fst C).val + (j.val - (8 + 8 * (fst C).val)) = j.val; omega)⟩)

theorem eF_mono (g : Fin 8) (a b : Fin 8) (h : a ≤ b) : eF g a ≤ eF g b := by
  show 8 + 8 * g.val + a.val ≤ 8 + 8 * g.val + b.val
  have : a.val ≤ b.val := h
  omega

theorem eF_inj (g : Fin 8) {a b : Fin 8} (h : eF g a = eF g b) : a = b := by
  have : 8 + 8 * g.val + a.val = 8 + 8 * g.val + b.val := congrArg Fin.val h
  exact Fin.ext (by omega)

include hC hF fC in
theorem fi_best : Best (univ.image (eF (fst C))) (fi L) (eF (fst C) (fst (Fl (fst C)))) :=
  (fst_best _).image _ (eF_mono _) _ fun a _ => fi_in hC hF fC a

include hC hF fC in
theorem mx_fi : mx (fi L) = Fl (fst C) (fst (Fl (fst C))) :=
  (mx_eq (fi_best hC hF fC) (fi_out hC fC)).trans (fi_in hC hF fC _)

include hC hF fC fF in
theorem oneL_eq : oneL L = lane (eF (fst C) (fst (Fl (fst C)))) := by
  unfold oneL
  exact mn_eq (fi_best hC hF fC) (fi_out hC fC) (by rw [fi_in hC hF fC]; exact (fF _ _).ne_bot)

include hC hF fC fF in
theorem fi2_in (j : Fin 8) (hj : j ≠ fst (Fl (fst C))) : fi2 L (eF (fst C) j) = Fl (fst C) j := by
  unfold fi2
  rw [oneL_eq hC hF fC fF, if_neg (fun h => hj (eF_inj _ (lane_inj h))), fi_in hC hF fC]

include hC hF fC fF in
theorem fi2_out (j : Fin 128) (hj : j ∉ (univ.erase (fst (Fl (fst C)))).image (eF (fst C))) : fi2 L j = ⊥ := by
  unfold fi2
  rw [oneL_eq hC hF fC fF]
  split
  · rfl
  · rename_i hn
    refine fi_out hC fC j fun h => ?_
    obtain ⟨a, -, rfl⟩ := mem_image.mp h
    exact hj (mem_image.mpr ⟨a, mem_erase.mpr ⟨fun e => hn (by rw [e]), mem_univ _⟩, rfl⟩)

include hC hF fC fF in
theorem fi2_best : Best ((univ.erase (fst (Fl (fst C)))).image (eF (fst C))) (fi2 L) (eF (fst C) (snd (Fl (fst C)))) :=
  (snd_best _).image _ (eF_mono _) _ fun a ha => fi2_in hC hF fC fF a (mem_erase.mp ha).1

include hC hF fC fF in
theorem fi2_top : fi2 L (eF (fst C) (snd (Fl (fst C)))) = Fl (fst C) (snd (Fl (fst C))) :=
  fi2_in hC hF fC fF _ (mem_erase.mp (snd_best _).1).1

include hC hF fC fF in
theorem mx_fi2 : mx (fi2 L) = Fl (fst C) (snd (Fl (fst C))) :=
  (mx_eq (fi2_best hC hF fC fF) (fi2_out hC hF fC fF)).trans (fi2_top hC hF fC fF)

include hC hF fC fF in
theorem twoL_eq : twoL L = lane (eF (fst C) (snd (Fl (fst C)))) := by
  unfold twoL
  exact mn_eq (fi2_best hC hF fC fF) (fi2_out hC hF fC fF) (by rw [fi2_top hC hF fC fF]; exact (fF _ _).ne_bot)

theorem bot_sub (x : EReal) : (⊥ : EReal) - x = ⊥ := by
  rw [sub_eq_add_neg, EReal.bot_add]

include hC in
theorem probL_eq : probL L = prob C := by
  unfold probL prob
  rw [mx_co hC]
  refine congrArg₂ Ideal.div rfl ?_
  have hi : Function.Injective eC := fun a b h => Fin.ext (congrArg (fun x : Fin 128 => x.val) h)
  have hs : ∑ j ∈ univ.image eC, Ideal.exp (co L j - C (fst C)) = ∑ g, Ideal.exp (C g - C (fst C)) := by
    rw [sum_image fun a _ b _ h => hi h]
    refine sum_congr rfl fun g _ => ?_
    rw [co_at, if_pos (show (eC g).val < 8 from g.isLt), hC]
  rw [← hs]
  refine (sum_subset (subset_univ _) fun j _ hj => ?_).symm
  rw [co_out j hj, bot_sub, Ideal.exp_bot]

include hC hF fC fF in
/-- From lanes holding the logits of the groups and of the experts the four numbers are those of the logits. -/
theorem lanes_eq (J : Fin 128) : lanes L J = picked C Fl J := by
  have er : ratioL L = ratio (Fl (fst C)) := by
    unfold ratioL ratio
    rw [mx_fi hC hF fC, mx_fi2 hC hF fC fF]
  have e1 : ∀ a : Fin 8, lane (eF (fst C) a) - ((8 : ℝ) : EReal) = (((fst C).val * 8 + a.val : ℕ) : ℝ) := fun a => by
    unfold lane eF
    rw [← EReal.coe_sub]
    congr 1
    push_cast
    ring
  unfold lanes picked
  rw [oneL_eq hC hF fC fF, twoL_eq hC hF fC fF, probL_eq hC, er, e1, e1]
  have h0 := lane_eq J 0
  have h1 := lane_eq J 1
  have h2 := lane_eq J 2
  have h3 := lane_eq J 3
  push_cast at h0 h1 h2 h3
  exact if_congr h0 rfl (if_congr h1 rfl (if_congr h2 rfl (if_congr h3 rfl rfl)))

end

end Cert.Picked
-- ==== Proof.Route.Tile.lean ====
module

public import proofs.«01_k».proof.Proof.Gen.RouteIdeal.Value
public import proofs.«01_k».proof.Proof.Merge.Core
public import proofs.«01_k».proof.Proof.Route.Pick
public import Idealize.ShloMosaic.Lib.MatmulPlain
public import Idealize.ShloMosaic.Lib.Tactic.WordOmega

@[expose] public section

/-! One tile of the merge: the residual rows and their norms, read at a row and a column. -/

noncomputable section

namespace Cert.Picked

open Cert.RouteIdeal Cert.RouteIdeal.Gen Idealize.ShloMosaic Idealize.ShloMosaic.TcCoe
open Idealize.ShloMosaic.ValueIdx
open Cert.Norm (nrm scale spread_scale spread_gain off_zero)
open Cert.Joined (mixed)

theorem mulBranch (x : FVec Ideal S272x1024 .bf16) (w : FVec Ideal S1024x2048 .bf16) (r : Fin 272) (j : Fin 2048) :
    matmul (F := Ideal) (φ₁ := .bf16) (φ₂ := .bf16) dot_S272x1024_S1024x2048_S272x2048_1_0_0_1_n_n none x w (constant S272x2048 .f32 0x00000000#32) (ix2 r j)
      = ∑ q : Fin 1024, x (ix2 r q) * w (ix2 q j) := by
  refine Eq.trans (b := FloatOps.matmul (DotDims.plain 272 1024 2048) none x w (constant S272x2048 .f32 0x00000000#32) (ix2 r j)) rfl ?_
  rw [Ideal.matmul_plain_apply,
    show (constant S272x2048 .f32 0x00000000#32 : FVec Ideal S272x2048 .f32) (ix2 r j) = 0 from Ideal.ofBits_zero_f32, zero_add]

theorem mulOut (x : FVec Ideal S272x2048 .bf16) (w : FVec Ideal S2048x2048 .bf16) (r : Fin 272) (j : Fin 2048) :
    matmul (F := Ideal) (φ₁ := .bf16) (φ₂ := .bf16) dot_S272x2048_S2048x2048_S272x2048_1_0_0_1_n_n none x w (constant S272x2048 .f32 0x00000000#32) (ix2 r j)
      = ∑ k : Fin 2048, x (ix2 r k) * w (ix2 k j) := by
  refine Eq.trans (b := FloatOps.matmul (DotDims.plain 272 2048 2048) none x w (constant S272x2048 .f32 0x00000000#32) (ix2 r j)) rfl ?_
  rw [Ideal.matmul_plain_apply,
    show (constant S272x2048 .f32 0x00000000#32 : FVec Ideal S272x2048 .f32) (ix2 r j) = 0 from Ideal.ofBits_zero_f32, zero_add]

/-- What a tile adds to the residual stream. -/
theorem upd_apply (a : Vec Ideal S272x1024 .bf16) (wa : Vec Ideal S1024x2048 .bf16) (b : Vec Ideal S272x1024 .bf16)
    (wb : Vec Ideal S1024x2048 .bf16) (ga gb : Vec Ideal S272x2048 .bf16) (wo : Vec Ideal S2048x2048 .bf16)
    (r : Fin 272) (j : Fin 2048) :
    k0_pay2 a wa b wb ga gb wo (ix2 r j)
      = ∑ k, mixed (fun q => a (ix2 r q)) (fun q => b (ix2 r q)) (fun k => ga (ix2 r k)) (fun k => gb (ix2 r k))
          (fun q k => wa (ix2 q k)) (fun q k => wb (ix2 q k)) k * wo (ix2 k j) := by
  unfold k0_pay2
  simp only [shapeCast_self]
  refine (mulOut _ wo r j).trans (Finset.sum_congr rfl fun k _ => congrArg (fun y : EReal => y * wo (ix2 k j)) ?_)
  exact congrArg₂ (fun x y : EReal => ga (ix2 r k) * x + gb (ix2 r k) * y) (mulBranch a wa r k) (mulBranch b wb r k)

/-- The first row, within its sequence, of the tile at grid point `n`. -/
def start (n : Nat) : BitVec 32 :=
  Scalar.muli (Scalar.select
    (Scalar.andi (Scalar.xori (Scalar.cmpi .slt (Scalar.remsi (BitVec.ofNat 32 n) (Scalar.select (Scalar.cmpi .eq 8#32 0#32) 1#32 8#32)) 0#32)
        (Scalar.cmpi .slt (Scalar.select (Scalar.cmpi .eq 8#32 0#32) 1#32 8#32) 0#32))
      (Scalar.cmpi .ne (Scalar.remsi (BitVec.ofNat 32 n) (Scalar.select (Scalar.cmpi .eq 8#32 0#32) 1#32 8#32)) 0#32))
    (Scalar.addi (Scalar.remsi (BitVec.ofNat 32 n) (Scalar.select (Scalar.cmpi .eq 8#32 0#32) 1#32 8#32)) (Scalar.select (Scalar.cmpi .eq 8#32 0#32) 1#32 8#32))
    (Scalar.remsi (BitVec.ofNat 32 n) (Scalar.select (Scalar.cmpi .eq 8#32 0#32) 1#32 8#32))) 272#32

theorem start_eq : ∀ n : Fin 32, start n.val = BitVec.ofNat 32 (272 * (n.val % 8)) := by decide

theorem past_word (r s : Nat) (hr : r < 272) (hs : s < 2176) :
    IntOp.cmpi .sge (IntOp.addi (BitVec.ofNat 32 r) (BitVec.ofNat 32 s)) 112#32 = 1#1 ↔ 112 ≤ s + r := by
  word_omega

/-- Which rows of a tile are past their sequence's padding. -/
theorem past_apply (i : grid0.Coords) (r : Fin 272) (z : Fin 1) :
    k0_pay5 (k0_pay3 i) k0_pay4 (ix2 r z) = 1#1 ↔ 112 ≤ 272 * ((i 0).val % 8) + r.val := by
  have hi : (i 0).val < 32 := (i 0).isLt
  rw [← past_word r.val (272 * ((i 0).val % 8)) r.isLt (by omega), ← start_eq ⟨(i 0).val, hi⟩]
  have e : iota .tc S272x1 32 [0] iota_S272x1_d0_w32 (ix2 r z) = BitVec.ofNat 32 r.val := iota_single_apply _ _ _ _ _ _
  rw [← e]
  exact Iff.rfl

/-- A tile of the new residual stream. -/
theorem keep_apply (i : grid0.Coords) (u : FVec Ideal S272x2048 .f32) (h : Vec Ideal S272x2048 .f32) (r : Fin 272) (j : Fin 2048) :
    k0_pay6 u (k0_pay3 i) k0_pay4 h (ix2 r j)
      = if 112 ≤ 272 * ((i 0).val % 8) + r.val then h (ix2 r j) + u (ix2 r j) else 0 := by
  have hb : broadcastTo S272x2048 (k0_pay5 (k0_pay3 i) k0_pay4) broadcasts_S272x1_S272x2048 (ix2 r j)
      = k0_pay5 (k0_pay3 i) k0_pay4 (ix2 r (0 : Fin 1)) := by
    refine broadcastTo_apply _ _ _ _ fun a => ?_
    match a with
    | ⟨0, _⟩ => rfl
    | ⟨1, _⟩ => rfl
  unfold k0_pay6
  simp only [shapeCast_self]
  show Scalar.select (broadcastTo S272x2048 (k0_pay5 (k0_pay3 i) k0_pay4) broadcasts_S272x1_S272x2048 (ix2 r j))
    (h (ix2 r j) + u (ix2 r j)) (Ideal.ofBits .f32 0x00000000#32) = _
  rw [hb, Ideal.ofBits_zero_f32]
  by_cases hp : 112 ≤ 272 * ((i 0).val % 8) + r.val
  · rw [if_pos hp]
    exact if_pos ((past_apply i r 0).mpr hp)
  · rw [if_neg hp]
    exact if_neg (fun hc => hp ((past_apply i r 0).mp hc))

theorem lift_row (r : Fin 272) (k : Fin 2048) : reduces_S272x2048_S272.lift (ix1 r) k = ix2 r k := by
  funext a
  match a with
  | ⟨0, _⟩ => rfl
  | ⟨1, _⟩ => rfl

/-- A tile of the norm of the new residual stream. -/
theorem norm_apply (u : FVec Ideal S272x2048 .f32) (p q : IVec S272x1 32) (h : Vec Ideal S272x2048 .f32) (g : Vec Ideal S1x2048 .f32)
    (r : Fin 272) (j : Fin 2048) :
    k0_pay7 u p q h g (ix2 r j) = nrm (fun k => k0_pay6 u p q h (ix2 r k)) (g (ix2 (0 : Fin 1) j)) j := by
  have hs := spread_scale (k0_pay6 u p q h) reduces_S272x2048_S272 shapeCasts_S272_S272x1 broadcasts_S272x1_S272x2048 lift_row r j
  have hg := spread_gain g broadcasts_S1x2048_S272x2048 r j
  unfold k0_pay7
  simp only [shapeCast_self]
  exact congrArg₂ (fun a b : EReal => k0_pay6 u p q h (ix2 r j) * a * b) hs hg

end Cert.Picked
-- ==== Proof.Route.Lanes.lean ====
module

public import proofs.«01_k».proof.Proof.Route.Tile

@[expose] public section

/-! One tile of the merge: the four numbers of a row, from the row's lanes of logits. -/

noncomputable section

namespace Cert.Picked

open Cert.RouteIdeal Cert.RouteIdeal.Gen Idealize.ShloMosaic Idealize.ShloMosaic.TcCoe
open Idealize.ShloMosaic.ValueIdx

theorem word0 : Ideal.ofBits .f32 0x00000000#32 = ((0 : ℝ) : EReal) := by
  simp [Ideal.ofBits, Ideal.ieee, -EReal.coe_mul]
theorem word1 : Ideal.ofBits .f32 0x3F800000#32 = ((1 : ℝ) : EReal) := by
  simp [Ideal.ofBits, Ideal.ieee, -EReal.coe_mul]; norm_num
theorem word2 : Ideal.ofBits .f32 0x40000000#32 = ((2 : ℝ) : EReal) := by
  simp [Ideal.ofBits, Ideal.ieee, -EReal.coe_mul]; norm_num
theorem word3 : Ideal.ofBits .f32 0x40400000#32 = ((3 : ℝ) : EReal) := by
  simp [Ideal.ofBits, Ideal.ieee, -EReal.coe_mul]; norm_num
theorem word8 : Ideal.ofBits .f32 0x41000000#32 = ((8 : ℝ) : EReal) := by
  simp [Ideal.ofBits, Ideal.ieee, -EReal.coe_mul]; norm_num
theorem word128 : Ideal.ofBits .f32 0x43000000#32 = ((128 : ℝ) : EReal) := by
  simp [Ideal.ofBits, Ideal.ieee, -EReal.coe_mul]; norm_num
theorem wordBot : Ideal.ofBits .f32 0xFF800000#32 = ⊥ := by simp [Ideal.ofBits, Ideal.ieee, -EReal.coe_mul]
theorem wordTop : Ideal.ofBits .f32 0x7F800000#32 = ⊤ := by simp [Ideal.ofBits, Ideal.ieee, -EReal.coe_mul]

theorem ofBool_one (P : Prop) [Decidable P] : BitVec.ofBool (decide P) = 1#1 ↔ P := by
  by_cases h : P <;> simp [h]

theorem sel_ofBool {α : Type} (P : Prop) [Decidable P] (a b : α) : Scalar.select (BitVec.ofBool (decide P)) a b = if P then a else b :=
  if_congr (ofBool_one P) rfl rfl

theorem sel_and {α : Type} (P Q : Prop) [Decidable P] [Decidable Q] (a b : α) :
    Scalar.select (IntOp.andi (BitVec.ofBool (decide P)) (BitVec.ofBool (decide Q))) a b = if P ∧ Q then a else b := by
  refine if_congr ?_ rfl rfl
  by_cases hP : P <;> by_cases hQ : Q <;> simp [hP, hQ, IntOp.andi]

theorem toCol (x : FVec Ideal S272 .f32) (r : Fin 272) : shapeCast S272x1 x shapeCasts_S272_S272x1 (ix2 r (0 : Fin 1)) = x (ix1 r) := by
  refine shapeCast_apply _ _ _ _ ?_
  rw [Shape.rowMajor_val_one, Shape.rowMajor_val_two]
  show r.val = r.val * 1 + 0
  omega

theorem spread (x : FVec Ideal S272x1 .f32) (r : Fin 272) (j : Fin 128) :
    broadcastTo S272x128 x broadcasts_S272x1_S272x128 (ix2 r j) = x (ix2 r (0 : Fin 1)) := by
  refine broadcastTo_apply _ _ _ _ fun a => ?_
  match a with
  | ⟨0, _⟩ => rfl
  | ⟨1, _⟩ => rfl

theorem lift_lane (r : Fin 272) (k : Fin 128) : reduces_S272x128_S272.lift (ix1 r) k = ix2 r k := by
  funext a
  match a with
  | ⟨0, _⟩ => rfl
  | ⟨1, _⟩ => rfl

section
variable (x : FVec Ideal S272x128 .f32) (r : Fin 272) (f : Fin 128 → EReal) (hx : ∀ j, x (ix2 r j) = f j)
include hx

theorem rowMax : shapeCast S272x1 (multiReduction .maximumf [1] S272 x 0xFF800000#32 reduces_S272x128_S272 (.inl rfl) rfl)
    shapeCasts_S272_S272x1 (ix2 r (0 : Fin 1)) = mx f := by
  refine (toCol _ r).trans ((Ideal.multiReduction_maximumf_single x _ _ _ _ (ix1 r)).trans ?_)
  rw [show (FloatOps.ofBits (F := Ideal) .f32 0xFF800000#32 : EReal) = ⊥ from wordBot]
  exact congrArg (Finset.fold max ⊥ · Finset.univ) (funext fun k => (congrArg x (lift_lane r k)).trans (hx k))

theorem rowMin : shapeCast S272x1 (multiReduction .minimumf [1] S272 x 0x7F800000#32 reduces_S272x128_S272 (.inl rfl) rfl)
    shapeCasts_S272_S272x1 (ix2 r (0 : Fin 1)) = mn f := by
  refine (toCol _ r).trans ((multiReduction_minimumf_eq_fold x _ _ _ _ (ix1 r)).trans ?_)
  refine (reduces_S272x128_S272.fold_filter_drop_single _ _ x (ix1 r)).trans ?_
  rw [show (FloatOps.ofBits (F := Ideal) .f32 0x7F800000#32 : EReal) = ⊤ from wordTop]
  exact congrArg (Finset.fold min ⊤ · Finset.univ) (funext fun k => (congrArg x (lift_lane r k)).trans (hx k))

theorem rowSum : shapeCast S272x1 (multiReduction .add [1] S272 x 0x00000000#32 reduces_S272x128_S272 (.inl rfl) rfl)
    shapeCasts_S272_S272x1 (ix2 r (0 : Fin 1)) = ∑ j, f j := by
  refine (toCol _ r).trans ((Ideal.multiReduction_add_single x _ _ _ _ (ix1 r)).trans ?_)
  exact Finset.sum_congr rfl fun k _ => (congrArg x (lift_lane r k)).trans (hx k)

end

theorem lane_toInt : ∀ j : Fin 128, (BitVec.ofNat 32 j.val).toInt = (j.val : ℤ) := by decide

theorem pay12_apply (r : Fin 272) (j : Fin 128) : k0_pay12 (F := Ideal) (ix2 r j) = lane j := by
  have e : iota .tc S272x128 32 [1] iota_S272x128_d1_w32 (ix2 r j) = BitVec.ofNat 32 j.val := iota_single_apply _ _ _ _ _ _
  show (((iota .tc S272x128 32 [1] iota_S272x128_d1_w32 (ix2 r j)).toInt : ℝ) : EReal) = _
  rw [e, lane_toInt]
  unfold lane
  push_cast
  rfl

/-- Where a row holds a given number: the lane's number, and 128 elsewhere. -/
theorem where_apply (x : FVec Ideal S272x128 .f32) (y : FVec Ideal S272x1 .f32) (r : Fin 272) (f : Fin 128 → EReal) (q : EReal)
    (hx : ∀ j, x (ix2 r j) = f j) (hy : y (ix2 r (0 : Fin 1)) = q) (j : Fin 128) :
    select (cmpf .oeq x (broadcastTo S272x128 y broadcasts_S272x1_S272x128)) (k0_pay12 (F := Ideal))
      (broadcast S272x128 (Scalar.ofBits (F := Ideal) .f32 0x43000000#32)) (ix2 r j) = whereIs f q j := by
  show Scalar.select (BitVec.ofBool (decide (x (ix2 r j) = broadcastTo S272x128 y broadcasts_S272x1_S272x128 (ix2 r j))))
    (k0_pay12 (F := Ideal) (ix2 r j)) (Ideal.ofBits .f32 0x43000000#32) = _
  rw [sel_ofBool, hx, spread, hy, pay12_apply, word128]
  rfl

section
variable (v77 v109 v115 : FVec Ideal S272x128 .f32) (v96 v111 : FVec Ideal S272x1 .f32) (v34 : IVec S272x1 1) (r : Fin 272)

theorem pay20_gen (j : Fin 128) : k0_pay20 v77 v109 v115 (ix2 r j)
    = if v77 (ix2 r j) = k0_pay19 v115 (ix2 r (0 : Fin 1)) then ⊥ else v109 (ix2 r j) := by
  show Scalar.select (BitVec.ofBool (decide (v77 (ix2 r j) = broadcastTo S272x128 (k0_pay19 v115) broadcasts_S272x1_S272x128 (ix2 r j))))
    (Ideal.ofBits .f32 0xFF800000#32) (v109 (ix2 r j)) = _
  rw [sel_ofBool, spread, wordBot]

theorem pay22_gen : k0_pay22 v77 v109 v111 v115 (ix2 r (0 : Fin 1))
    = Ideal.exp (k0_pay21 v77 v109 v115 (ix2 r (0 : Fin 1)) - v111 (ix2 r (0 : Fin 1))) := by
  unfold k0_pay22
  generalize k0_pay21 v77 v109 v115 = y
  rfl

theorem pay23_gen : k0_pay23 (F := Ideal) v34 v115 (ix2 r (0 : Fin 1))
    = if v34 (ix2 r (0 : Fin 1)) = 1#1 then k0_pay19 v115 (ix2 r (0 : Fin 1)) - Ideal.ofBits .f32 0x41000000#32
      else (((64#32 : BitVec 32).toInt : ℝ) : EReal) := rfl

theorem pay24_gen : k0_pay24 (F := Ideal) v34 v77 v109 v115 (ix2 r (0 : Fin 1))
    = if v34 (ix2 r (0 : Fin 1)) = 1#1 then
        shapeCast S272x1 (multiReduction .minimumf [1] S272 (select (cmpf .oeq (k0_pay20 v77 v109 v115)
          (broadcastTo S272x128 (k0_pay21 v77 v109 v115) broadcasts_S272x1_S272x128)) v77
          (broadcast S272x128 (Scalar.ofBits (F := Ideal) .f32 0x43000000#32))) 0x7F800000#32 reduces_S272x128_S272 (.inl rfl) rfl) shapeCasts_S272_S272x1 (ix2 r (0 : Fin 1))
          - Ideal.ofBits .f32 0x41000000#32
      else (((64#32 : BitVec 32).toInt : ℝ) : EReal) := rfl

theorem pay25_gen : k0_pay25 (F := Ideal) v34 v77 v96 v109 v111 v115 (ix2 r (0 : Fin 1))
    = if v34 (ix2 r (0 : Fin 1)) = 1#1 then
        Ideal.div (v96 (ix2 r (0 : Fin 1))) (Ideal.ofBits .f32 0x3F800000#32 + k0_pay22 v77 v109 v111 v115 (ix2 r (0 : Fin 1)))
      else Ideal.ofBits .f32 0x00000000#32 := by
  unfold k0_pay25
  generalize k0_pay22 v77 v109 v111 v115 = y
  rfl

theorem pay26_gen : k0_pay26 (F := Ideal) v34 v77 v96 v109 v111 v115 (ix2 r (0 : Fin 1))
    = if v34 (ix2 r (0 : Fin 1)) = 1#1 then
        Ideal.div (v96 (ix2 r (0 : Fin 1)) * k0_pay22 v77 v109 v111 v115 (ix2 r (0 : Fin 1)))
          (Ideal.ofBits .f32 0x3F800000#32 + k0_pay22 v77 v109 v111 v115 (ix2 r (0 : Fin 1)))
      else Ideal.ofBits .f32 0x00000000#32 := by
  unfold k0_pay26
  generalize k0_pay22 v77 v109 v111 v115 = y
  rfl

end

section
variable (v67 v70 : FVec Ideal S272x128 .f32) (v72 : Vec Ideal S1x128 .f32) (r : Fin 272)

/-- The lanes of a row's logits. -/
def row (j : Fin 128) : EReal := k0_pay11 v67 v70 v72 (ix2 r j)

theorem pay13_apply (j : Fin 128) : k0_pay13 v67 v70 v72 (ix2 r j) = co (row v67 v70 v72 r) j := by
  show Scalar.select (BitVec.ofBool (decide (k0_pay12 (F := Ideal) (ix2 r j) < Ideal.ofBits .f32 0x41000000#32)))
    (k0_pay11 v67 v70 v72 (ix2 r j)) (Ideal.ofBits .f32 0xFF800000#32) = _
  rw [sel_ofBool, pay12_apply, word8, wordBot]
  rfl

theorem pay14_apply : k0_pay14 v67 v70 v72 (ix2 r (0 : Fin 1)) = mx (co (row v67 v70 v72 r)) :=
  rowMax _ r _ (pay13_apply v67 v70 v72 r)

theorem pay15_apply : k0_pay15 v67 v70 v72 (ix2 r (0 : Fin 1)) = probL (row v67 v70 v72 r) := by
  have e : ∀ j, exp (subf (k0_pay13 v67 v70 v72) (broadcastTo S272x128 (k0_pay14 v67 v70 v72) broadcasts_S272x1_S272x128)) (ix2 r j)
      = Ideal.exp (co (row v67 v70 v72 r) j - mx (co (row v67 v70 v72 r))) := fun j => by
    show Ideal.exp (k0_pay13 v67 v70 v72 (ix2 r j) - broadcastTo S272x128 (k0_pay14 v67 v70 v72) broadcasts_S272x1_S272x128 (ix2 r j)) = _
    rw [pay13_apply, spread, pay14_apply]
  exact congrArg₂ Ideal.div word1 (rowSum _ r _ e)

theorem pay16_apply (j : Fin 128) : k0_pay16 v67 v70 v72 (ix2 r j) = fi (row v67 v70 v72 r) j := by
  have hg := rowMin _ r _ (where_apply _ _ r _ _ (pay13_apply v67 v70 v72 r) (pay14_apply v67 v70 v72 r))
  unfold k0_pay16
  dsimp only
  generalize shapeCast S272x1 (multiReduction .minimumf [1] S272 (select (cmpf .oeq (k0_pay13 v67 v70 v72) (broadcastTo S272x128 (k0_pay14 v67 v70 v72) broadcasts_S272x1_S272x128)) (k0_pay12 (F := Ideal))
      (broadcast S272x128 (Scalar.ofBits (F := Ideal) .f32 0x43000000#32))) 0x7F800000#32 reduces_S272x128_S272 (.inl rfl) rfl) shapeCasts_S272_S272x1 = y at hg ⊢
  show Scalar.select (IntOp.andi
      (BitVec.ofBool (decide (broadcastTo S272x128 (addf (broadcast S272x1 (Scalar.ofBits (F := Ideal) .f32 0x41000000#32)) (mulf y (broadcast S272x1 (Scalar.ofBits (F := Ideal) .f32 0x41000000#32)))) broadcasts_S272x1_S272x128 (ix2 r j) ≤ k0_pay12 (F := Ideal) (ix2 r j))))
      (BitVec.ofBool (decide (k0_pay12 (F := Ideal) (ix2 r j) < broadcastTo S272x128 (addf (addf (broadcast S272x1 (Scalar.ofBits (F := Ideal) .f32 0x41000000#32)) (mulf y (broadcast S272x1 (Scalar.ofBits (F := Ideal) .f32 0x41000000#32)))) (broadcast S272x1 (Scalar.ofBits (F := Ideal) .f32 0x41000000#32))) broadcasts_S272x1_S272x128 (ix2 r j)))))
    (k0_pay11 v67 v70 v72 (ix2 r j)) (Ideal.ofBits .f32 0xFF800000#32) = _
  rw [sel_and, spread, spread, pay12_apply, wordBot]
  have e1 : addf (broadcast S272x1 (Scalar.ofBits (F := Ideal) .f32 0x41000000#32)) (mulf y (broadcast S272x1 (Scalar.ofBits (F := Ideal) .f32 0x41000000#32))) (ix2 r (0 : Fin 1)) = loL (row v67 v70 v72 r) := by
    show Ideal.ofBits .f32 0x41000000#32 + y (ix2 r (0 : Fin 1)) * Ideal.ofBits .f32 0x41000000#32 = _
    rw [hg, word8]
    rfl
  refine if_congr (and_congr (by rw [e1]) ?_) rfl rfl
  show _ < addf (broadcast S272x1 (Scalar.ofBits (F := Ideal) .f32 0x41000000#32)) (mulf y (broadcast S272x1 (Scalar.ofBits (F := Ideal) .f32 0x41000000#32))) (ix2 r (0 : Fin 1)) + Ideal.ofBits .f32 0x41000000#32 ↔ _
  rw [e1, word8]

theorem pay17_apply : k0_pay17 v67 v70 v72 (ix2 r (0 : Fin 1)) = mx (fi (row v67 v70 v72 r)) :=
  rowMax _ r _ (pay16_apply v67 v70 v72 r)

theorem pay18_apply (j : Fin 128) : k0_pay18 v67 v70 v72 (ix2 r j) = whereIs (fi (row v67 v70 v72 r)) (mx (fi (row v67 v70 v72 r))) j :=
  where_apply _ _ r _ _ (pay16_apply v67 v70 v72 r) (pay17_apply v67 v70 v72 r) j

theorem pay19_apply : k0_pay19 (k0_pay18 v67 v70 v72) (ix2 r (0 : Fin 1)) = oneL (row v67 v70 v72 r) :=
  rowMin _ r _ (pay18_apply v67 v70 v72 r)

theorem pay20_apply (j : Fin 128) :
    k0_pay20 (k0_pay12 (F := Ideal)) (k0_pay16 v67 v70 v72) (k0_pay18 v67 v70 v72) (ix2 r j) = fi2 (row v67 v70 v72 r) j := by
  rw [pay20_gen, pay12_apply, pay19_apply, pay16_apply]
  rfl

theorem pay21_apply : k0_pay21 (k0_pay12 (F := Ideal)) (k0_pay16 v67 v70 v72) (k0_pay18 v67 v70 v72) (ix2 r (0 : Fin 1))
    = mx (fi2 (row v67 v70 v72 r)) :=
  rowMax _ r _ (pay20_apply v67 v70 v72 r)

theorem pay22_apply : k0_pay22 (k0_pay12 (F := Ideal)) (k0_pay16 v67 v70 v72) (k0_pay17 v67 v70 v72) (k0_pay18 v67 v70 v72) (ix2 r (0 : Fin 1))
    = ratioL (row v67 v70 v72 r) := by
  rw [pay22_gen, pay21_apply, pay17_apply]
  rfl

theorem two_apply : shapeCast S272x1 (multiReduction .minimumf [1] S272 (select (cmpf .oeq (k0_pay20 (k0_pay12 (F := Ideal)) (k0_pay16 v67 v70 v72) (k0_pay18 v67 v70 v72))
      (broadcastTo S272x128 (k0_pay21 (k0_pay12 (F := Ideal)) (k0_pay16 v67 v70 v72) (k0_pay18 v67 v70 v72)) broadcasts_S272x1_S272x128)) (k0_pay12 (F := Ideal))
      (broadcast S272x128 (Scalar.ofBits (F := Ideal) .f32 0x43000000#32))) 0x7F800000#32 reduces_S272x128_S272 (.inl rfl) rfl) shapeCasts_S272_S272x1 (ix2 r (0 : Fin 1))
    = twoL (row v67 v70 v72 r) :=
  rowMin _ r _ (where_apply _ _ r _ _ (pay20_apply v67 v70 v72 r) (pay21_apply v67 v70 v72 r))

variable (v34 : IVec S272x1 1)

theorem word64 : (((64#32 : BitVec 32).toInt : ℝ) : EReal) = ((64 : ℝ) : EReal) := by
  rw [show (64#32 : BitVec 32).toInt = 64 by decide]; push_cast; rfl

theorem pay23_apply : k0_pay23 (F := Ideal) v34 (k0_pay18 v67 v70 v72) (ix2 r (0 : Fin 1))
    = if v34 (ix2 r (0 : Fin 1)) = 1#1 then oneL (row v67 v70 v72 r) - ((8 : ℝ) : EReal) else ((64 : ℝ) : EReal) := by
  rw [pay23_gen, pay19_apply, word8, word64]

theorem pay24_apply : k0_pay24 (F := Ideal) v34 (k0_pay12 (F := Ideal)) (k0_pay16 v67 v70 v72) (k0_pay18 v67 v70 v72) (ix2 r (0 : Fin 1))
    = if v34 (ix2 r (0 : Fin 1)) = 1#1 then twoL (row v67 v70 v72 r) - ((8 : ℝ) : EReal) else ((64 : ℝ) : EReal) := by
  rw [pay24_gen, two_apply, word8, word64]

theorem pay25_apply : k0_pay25 (F := Ideal) v34 (k0_pay12 (F := Ideal)) (k0_pay15 v67 v70 v72) (k0_pay16 v67 v70 v72) (k0_pay17 v67 v70 v72) (k0_pay18 v67 v70 v72) (ix2 r (0 : Fin 1))
    = if v34 (ix2 r (0 : Fin 1)) = 1#1 then Ideal.div (probL (row v67 v70 v72 r)) (((1 : ℝ) : EReal) + ratioL (row v67 v70 v72 r)) else ((0 : ℝ) : EReal) := by
  rw [pay25_gen, pay15_apply, pay22_apply, word1, word0]

theorem pay26_apply : k0_pay26 (F := Ideal) v34 (k0_pay12 (F := Ideal)) (k0_pay15 v67 v70 v72) (k0_pay16 v67 v70 v72) (k0_pay17 v67 v70 v72) (k0_pay18 v67 v70 v72) (ix2 r (0 : Fin 1))
    = if v34 (ix2 r (0 : Fin 1)) = 1#1 then Ideal.div (probL (row v67 v70 v72 r) * ratioL (row v67 v70 v72 r)) (((1 : ℝ) : EReal) + ratioL (row v67 v70 v72 r)) else ((0 : ℝ) : EReal) := by
  rw [pay26_gen, pay15_apply, pay22_apply, word1, word0]

/-- Four columns side by side in the first four lanes, zeros in the others. -/
theorem pay1_apply (a b c d : FVec Ideal S272x1 .f32) (J : Fin 128) :
    k0_pay1 (k0_pay12 (F := Ideal)) a b c d (k0_pay27 (k0_pay12 (F := Ideal))) (k0_pay28 (k0_pay12 (F := Ideal))) (k0_pay29 (k0_pay12 (F := Ideal)))
        (Scalar.ofBits .f32 0x40400000#32) (ix2 r J)
      = if lane J = ((0 : ℝ) : EReal) then a (ix2 r (0 : Fin 1)) else if lane J = ((1 : ℝ) : EReal) then b (ix2 r (0 : Fin 1))
        else if lane J = ((2 : ℝ) : EReal) then c (ix2 r (0 : Fin 1)) else if lane J = ((3 : ℝ) : EReal) then d (ix2 r (0 : Fin 1)) else 0 := by
  unfold k0_pay1
  simp only [shapeCast_self]
  show Scalar.select (BitVec.ofBool (decide (k0_pay12 (F := Ideal) (ix2 r J) = Ideal.ofBits .f32 0x00000000#32)))
    (broadcastTo S272x128 a broadcasts_S272x1_S272x128 (ix2 r J))
    (Scalar.select (BitVec.ofBool (decide (k0_pay12 (F := Ideal) (ix2 r J) = Ideal.ofBits .f32 0x3F800000#32)))
    (broadcastTo S272x128 b broadcasts_S272x1_S272x128 (ix2 r J))
    (Scalar.select (BitVec.ofBool (decide (k0_pay12 (F := Ideal) (ix2 r J) = Ideal.ofBits .f32 0x40000000#32)))
    (broadcastTo S272x128 c broadcasts_S272x1_S272x128 (ix2 r J))
    (Scalar.select (BitVec.ofBool (decide (k0_pay12 (F := Ideal) (ix2 r J) = Ideal.ofBits .f32 0x40400000#32)))
    (broadcastTo S272x128 d broadcasts_S272x1_S272x128 (ix2 r J)) (Ideal.ofBits .f32 0x00000000#32)))) = _
  rw [sel_ofBool, sel_ofBool, sel_ofBool, sel_ofBool, spread, spread, spread, spread, pay12_apply, word1, word2, word3, Ideal.ofBits_zero_f32]
  rfl

/-- The four numbers of a row: of a token from its logits, of a padding row no expert and no weight. -/
theorem four_apply (J : Fin 128) :
    k0_pay1 (k0_pay12 (F := Ideal)) (k0_pay23 v34 (k0_pay18 v67 v70 v72))
        (k0_pay24 v34 (k0_pay12 (F := Ideal)) (k0_pay16 v67 v70 v72) (k0_pay18 v67 v70 v72))
        (k0_pay25 v34 (k0_pay12 (F := Ideal)) (k0_pay15 v67 v70 v72) (k0_pay16 v67 v70 v72) (k0_pay17 v67 v70 v72) (k0_pay18 v67 v70 v72))
        (k0_pay26 v34 (k0_pay12 (F := Ideal)) (k0_pay15 v67 v70 v72) (k0_pay16 v67 v70 v72) (k0_pay17 v67 v70 v72) (k0_pay18 v67 v70 v72))
        (k0_pay27 (k0_pay12 (F := Ideal))) (k0_pay28 (k0_pay12 (F := Ideal))) (k0_pay29 (k0_pay12 (F := Ideal)))
        (Scalar.ofBits .f32 0x40400000#32) (ix2 r J)
      = if v34 (ix2 r (0 : Fin 1)) = 1#1 then lanes (row v67 v70 v72 r) J else unused J := by
  rw [pay1_apply, pay23_apply, pay24_apply, pay25_apply, pay26_apply]
  by_cases hp : v34 (ix2 r (0 : Fin 1)) = 1#1
  · simp only [if_pos hp]
    rfl
  · simp only [if_neg hp]
    unfold unused
    have h0 : lane J = ((0 : ℝ) : EReal) ↔ J.val = 0 := by have h := lane_eq J 0; rwa [Nat.cast_zero] at h
    have h1 : lane J = ((1 : ℝ) : EReal) ↔ J.val = 1 := by have h := lane_eq J 1; rwa [Nat.cast_one] at h
    by_cases q0 : J.val = 0
    · rw [if_pos (h0.mpr q0), if_pos (by omega)]
    · rw [if_neg (fun h => q0 (h0.mp h))]
      by_cases q1 : J.val = 1
      · rw [if_pos (h1.mpr q1), if_pos (by omega)]
      · rw [if_neg (fun h => q1 (h1.mp h)), if_neg (show ¬ J.val < 2 by omega)]
        simp

end

end Cert.Picked
-- ==== Proof.Route.Core.lean ====
module

public import proofs.«01_k».proof.Proof.Merge.Core
public import proofs.«01_k».proof.Proof.Route.Pick

@[expose] public section

/-! A token's logits, in terms of whole rows: the norm of its new residual row through the router's two
    matrices; they are finite where the gains, the matrices and the offsets are. -/

noncomputable section

namespace Cert.Picked

open Idealize.ShloMosaic Idealize.ShloMosaic.ValueIdx
open Cert.Attn (Fini)
open Cert.Norm (nrm scale)
open Cert.Joined (mixed stepped mixRow newRow newH)

theorem fini_sum {n : ℕ} (f : Fin n → EReal) (h : ∀ i, Fini (f i)) : Fini (∑ i, f i) := Fini.sum _ _ fun i _ => h i

theorem eps_pos : ∃ e : ℝ, 0 < e ∧ Ideal.ofBits .f32 0x3727C5AC#32 = (e : EReal) :=
  ⟨10995116 / 1099511627776, by norm_num, by simp [Ideal.ofBits, Ideal.ieee, -EReal.coe_mul]; norm_num⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem size_word : Ideal.ofBits .f32 0x45000000#32 = ((2048 : ℝ) : EReal) := by
  simp [Ideal.ofBits, Ideal.ieee, -EReal.coe_mul]; norm_num

theorem sum_sq (x : Fin 2048 → EReal) (h : ∀ k, Fini (x k)) : ∃ s : ℝ, 0 ≤ s ∧ ∑ k, x k * x k = (s : EReal) := by
  choose y hy using h
  refine ⟨∑ k, y k * y k, Finset.sum_nonneg fun k _ => mul_self_nonneg _, ?_⟩
  have e : (fun k => x k * x k) = fun k => ((y k * y k : ℝ) : EReal) := funext fun k => by rw [hy k, ← EReal.coe_mul]
  rw [e]
  exact (coe_sum _ _).symm

theorem scale_fini (x : Fin 2048 → EReal) (h : ∀ k, Fini (x k)) : Fini (scale x) := by
  obtain ⟨s, hs, es⟩ := sum_sq x h
  obtain ⟨e, he, ee⟩ := eps_pos
  have hd : Ideal.div (s : EReal) ((2048 : ℝ) : EReal) = ((s / 2048 : ℝ) : EReal) := by
    unfold Ideal.div
    rw [if_neg (by rw [← EReal.coe_zero, EReal.coe_eq_coe_iff]; norm_num)]
    exact (EReal.coe_div _ _).symm
  have hp : 0 < s / 2048 + e := by positivity
  unfold scale
  rw [es, ee, size_word, hd, ← EReal.coe_add, Ideal.rsqrt_coe, if_neg (not_lt.mpr hp.le), if_neg hp.ne']
  exact Fini.coe _

/-- A square is not negative, of an infinite number either. -/
theorem sq_nonneg (x : EReal) : 0 ≤ x * x := by
  induction x with
  | bot => rw [EReal.bot_mul_bot]; exact le_top
  | coe r => rw [← EReal.coe_mul, ← EReal.coe_zero, EReal.coe_le_coe_iff]; exact mul_self_nonneg r
  | top => rw [EReal.top_mul_top]; exact le_top

/-- The squares of a row with an infinite entry add up to infinity. -/
theorem sum_sq_top (x : Fin 2048 → EReal) (k : Fin 2048) (h : ¬ Fini (x k)) : ∑ k, x k * x k = ⊤ := by
  have e : x k * x k = ⊤ := by
    by_cases ht : x k = ⊤
    · rw [ht, EReal.top_mul_top]
    · by_cases hb : x k = ⊥
      · rw [hb, EReal.bot_mul_bot]
      · exact absurd (Fini.of_ne ht hb) h
  have hr : 0 ≤ ∑ q ∈ Finset.univ.erase k, x q * x q := Finset.sum_nonneg fun q _ => sq_nonneg (x q)
  rw [← Finset.add_sum_erase Finset.univ (fun q => x q * x q) (Finset.mem_univ k)]
  show x k * x k + _ = ⊤
  rw [e]
  exact EReal.top_add_of_ne_bot fun hb => absurd (hb ▸ hr) (by simp)

/-- The scale of a row with an infinite entry is zero. -/
theorem scale_zero (x : Fin 2048 → EReal) (k : Fin 2048) (h : ¬ Fini (x k)) : scale x = 0 := by
  obtain ⟨e, he, ee⟩ := eps_pos
  have hd : Ideal.div ⊤ ((2048 : ℝ) : EReal) = ⊤ := by
    unfold Ideal.div
    rw [if_neg (by rw [← EReal.coe_zero, EReal.coe_eq_coe_iff]; norm_num), ← EReal.coe_inv]
    exact EReal.top_mul_coe_of_pos (by norm_num)
  unfold scale
  rw [sum_sq_top x k h, ee, size_word, hd, EReal.top_add_coe, Ideal.rsqrt_top]

/-- The norm of any row is finite where its gain is: with an infinite entry all of it is zero. -/
theorem nrm_fini (x : Fin 2048 → EReal) (g : EReal) (j : Fin 2048) (hg : Fini g) : Fini (nrm x g j) := by
  by_cases h : ∀ k, Fini (x k)
  · exact ((h j).mul (scale_fini x h)).mul hg
  · obtain ⟨k, hk⟩ := not_forall.mp h
    unfold nrm
    rw [scale_zero x k hk, mul_zero, zero_mul]
    exact Fini.zero

variable (A B : (⟨2, ![8704, 1024]⟩ : Shape).Idx → EReal) (Gt : (⟨2, ![8704, 4096]⟩ : Shape).Idx → EReal)
  (H : (⟨2, ![8704, 2048]⟩ : Shape).Idx → EReal) (Wa Wb : (⟨2, ![1024, 2048]⟩ : Shape).Idx → EReal)
  (Wo : (⟨2, ![2048, 2048]⟩ : Shape).Idx → EReal) (G : (⟨1, ![2048]⟩ : Shape).Idx → EReal)
  (Wc : (⟨2, ![2048, 8]⟩ : Shape).Idx → EReal) (bc : (⟨1, ![8]⟩ : Shape).Idx → EReal)
  (Wf : (⟨3, ![2048, 8, 8]⟩ : Shape).Idx → EReal) (bf : (⟨2, ![8, 8]⟩ : Shape).Idx → EReal)

/-- The norm of a token's new residual row. -/
def normed (X : Fin 8704) (j : Fin 2048) : EReal := nrm (newRow A B Gt H Wa Wb Wo X) (G (ix1 j)) j

/-- A token's logit of a group. -/
def coarse (X : Fin 8704) (g : Fin 8) : EReal := (∑ k, normed A B Gt H Wa Wb Wo G X k * Wc (ix2 k g)) + bc (ix1 g)

/-- A token's logit of an expert of a group. -/
def fine (X : Fin 8704) (g j : Fin 8) : EReal := (∑ k, normed A B Gt H Wa Wb Wo G X k * Wf (ix3 k g j)) + bf (ix2 g j)

section
variable (hG : ∀ i, Fini (G i))
include hG

theorem normed_fini (X : Fin 8704) (j : Fin 2048) : Fini (normed A B Gt H Wa Wb Wo G X j) := nrm_fini _ _ _ (hG _)

theorem coarse_fini (hWc : ∀ i, Fini (Wc i)) (hbc : ∀ i, Fini (bc i)) (X : Fin 8704) (g : Fin 8) :
    Fini (coarse A B Gt H Wa Wb Wo G Wc bc X g) :=
  (fini_sum _ fun k => (normed_fini A B Gt H Wa Wb Wo G hG X k).mul (hWc _)).add (hbc _)

theorem fine_fini (hWf : ∀ i, Fini (Wf i)) (hbf : ∀ i, Fini (bf i)) (X : Fin 8704) (g j : Fin 8) :
    Fini (fine A B Gt H Wa Wb Wo G Wf bf X g j) :=
  (fini_sum _ fun k => (normed_fini A B Gt H Wa Wb Wo G hG X k).mul (hWf _)).add (hbf _)

end

/-- Split products of finite numbers add up to the product. -/
theorem split_sum (x w : Fin 2048 → EReal) (hx : ∀ k, Fini (x k)) (hw : ∀ k, Fini (w k)) :
    ((∑ k, x k * w k) + ∑ k, x k * (w k - w k)) + ∑ k, (x k - x k) * w k = ∑ k, x k * w k := by
  have z : ∀ y : EReal, Fini y → y - y = 0 := fun y h => by
    obtain ⟨r, rfl⟩ := h
    rw [← EReal.coe_sub, sub_self, EReal.coe_zero]
  have e1 : (∑ k, x k * (w k - w k)) = 0 := Finset.sum_eq_zero fun k _ => by rw [z _ (hw k), mul_zero]
  have e2 : (∑ k, (x k - x k) * w k) = 0 := Finset.sum_eq_zero fun k _ => by rw [z _ (hx k), zero_mul]
  rw [e1, e2, add_zero, add_zero]

end Cert.Picked
-- ==== Proof.Route.Final.lean ====
module

public import proofs.«01_k».proof.Proof.Route.Lanes
public import proofs.«01_k».proof.Proof.Route.Core

@[expose] public section

/-! The merge's routing array, read at any row and lane. -/

noncomputable section

namespace Cert.Picked

open Cert.RouteIdeal Cert.RouteIdeal.Gen Cert.RouteIdeal.Value Idealize.ShloMosaic Idealize.ShloMosaic.TcCoe
open Idealize.ShloMosaic.Pipeline (Dat)
open Idealize.ShloMosaic.ValueIdx
open Cert.Norm (nrm off_zero)
open Cert.Attn (Fini)
open Cert.Joined (mixed stepped mixRow newRow newH)

variable (m : (ℓ : Loc nD τ sig) → Buf (Elt Ideal) ℓ)

/-- The attention's output, as the kernel was launched with it. -/
abbrev argA (c : Dev nD) : S8704x1024.Idx → EReal := m ((c : Thread nD τ).loc main_arg0)
/-- The other branch's output, as the kernel was launched with it. -/
abbrev argB (c : Dev nD) : S8704x1024.Idx → EReal := m ((c : Thread nD τ).loc main_arg1)
/-- The gates of both branches, as the kernel was launched with it. -/
abbrev argGt (c : Dev nD) : S8704x4096.Idx → EReal := m ((c : Thread nD τ).loc main_arg2)
/-- The residual stream, as the kernel was launched with it. -/
abbrev argH (c : Dev nD) : S8704x2048.Idx → EReal := m ((c : Thread nD τ).loc main_arg3)
/-- The attention branch's matrix, as the kernel was launched with it. -/
abbrev argWa (c : Dev nD) : S1024x2048.Idx → EReal := m ((c : Thread nD τ).loc main_arg4)
/-- The other branch's matrix, as the kernel was launched with it. -/
abbrev argWb (c : Dev nD) : S1024x2048.Idx → EReal := m ((c : Thread nD τ).loc main_arg5)
/-- The output matrix, as the kernel was launched with it. -/
abbrev argWo (c : Dev nD) : S2048x2048.Idx → EReal := m ((c : Thread nD τ).loc main_arg6)
/-- The gain of the norm, as the kernel was launched with it. -/
abbrev argG (c : Dev nD) : S2048.Idx → EReal := m ((c : Thread nD τ).loc main_arg7)

/-- The router's group matrix, as the kernel was launched with it. -/
abbrev argWc (c : Dev nD) : S2048x8.Idx → EReal := m ((c : Thread nD τ).loc main_arg8)
/-- The router's group bias, as the kernel was launched with it. -/
abbrev argBc (c : Dev nD) : S8.Idx → EReal := m ((c : Thread nD τ).loc main_arg9)
/-- The router's expert matrices, as the kernel was launched with it. -/
abbrev argWf (c : Dev nD) : S2048x8x8.Idx → EReal := m ((c : Thread nD τ).loc main_arg10)
/-- The router's expert biases, as the kernel was launched with it. -/
abbrev argBf (c : Dev nD) : S8x8.Idx → EReal := m ((c : Thread nD τ).loc main_arg11)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 1 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx14 : ∀ t : Fin cfg0.N, win0_14.index t (0 : Fin 2) = t.val ∧ win0_14.index t (1 : Fin 2) = 0 :=
  (by decide +kernel : ∀ t : Fin grid0.N, _)
theorem at0 : ∀ t : Fin cfg0.N, ((grid0.coords t) 0).val = t.val :=
  (by decide +kernel : ∀ t : Fin grid0.N, _)
theorem hN : cfg0.N = 32 := by decide +kernel

theorem V_Wa (c : Dev nD) (q : Fin 1024) (k : Fin 2048) : V m c main_v11 (ix2 q k) = argWa m c (ix2 q k) := by
  have e : V m c main_v11 = truncf (F := Ideal) .bf16 (argWa m c) bitsLt_bf16_f32 := by
    show StableHlo.after hostOps0 _ (Proc.devRef .tc main_v11) = _
    after_results_simp
  rw [e]
  rfl

theorem V_Wb (c : Dev nD) (q : Fin 1024) (k : Fin 2048) : V m c main_v12 (ix2 q k) = argWb m c (ix2 q k) := by
  have e : V m c main_v12 = truncf (F := Ideal) .bf16 (argWb m c) bitsLt_bf16_f32 := by
    show StableHlo.after hostOps0 _ (Proc.devRef .tc main_v12) = _
    after_results_simp
  rw [e]
  rfl

theorem V_Wo (c : Dev nD) (q : Fin 2048) (k : Fin 2048) : V m c main_v13 (ix2 q k) = argWo m c (ix2 q k) := by
  have e : V m c main_v13 = truncf (F := Ideal) .bf16 (argWo m c) bitsLt_bf16_f32 := by
    show StableHlo.after hostOps0 _ (Proc.devRef .tc main_v13) = _
    after_results_simp
  rw [e]
  rfl

theorem V_gain (c : Dev nD) (J : Fin 2048) : V m c main_v14 (ix2 (0 : Fin 1) J) = argG m c (ix1 J) := by
  have e : V m c main_v14 = shapeCast S1x2048 (argG m c) shapeCasts_S2048_S1x2048 := by
    show StableHlo.after hostOps0 _ (Proc.devRef .tc main_v14) = _
    after_results_simp
    rfl
  rw [e]
  exact shapeCast_apply _ _ _ _ (by simp [Shape.rowMajor_val_one, Shape.rowMajor_val_two])

/-- The router's matrices side by side, and zeros in the last 56 columns. -/
def sideW (Wc : S2048x8.Idx → EReal) (Wf : S2048x8x8.Idx → EReal) : S2048x128.Idx → EReal :=
  concatenate S2048x128 1 [⟨S2048x8, Wc⟩, ⟨S2048x64, shapeCast S2048x64 Wf shapeCasts_S2048x8x8_S2048x64⟩,
    ⟨S2048x56, broadcastInDim S2048x56 ![] bcast_S_S2048x56 (constant (F := Ideal) S_ .f32 0x00000000#32)⟩] concatenates_S2048x8_S2048x64_S2048x56_S2048x128_d1

/-- The router's biases side by side, and zeros in the last 56 places. -/
def sideB (bc : S8.Idx → EReal) (bf : S8x8.Idx → EReal) : S128.Idx → EReal :=
  concatenate S128 0 [⟨S8, bc⟩, ⟨S64, shapeCast S64 bf shapeCasts_S8x8_S64⟩,
    ⟨S56, broadcastInDim S56 ![] bcast_S_S56 (constant (F := Ideal) S_ .f32 0x00000000#32)⟩] concatenates_S8_S64_S56_S128_d0

theorem sideW_coarse (Wc : S2048x8.Idx → EReal) (Wf : S2048x8x8.Idx → EReal) (k : Fin 2048) (g : Fin 8) :
    sideW Wc Wf (ix2 k (eC g)) = Wc (ix2 k g) := by
  refine concatenate_apply_piece (t := S2048x128) 1 _ _ (ix2 k (eC g)) 0 (by show 0 < 3; omega) S2048x8 Wc rfl rfl 0 rfl (ix2 k g) (fun b hb => ?_) ?_
  · match b with
    | ⟨0, _⟩ => rfl
    | ⟨1, _⟩ => exact absurd rfl hb
  · show 0 + g.val = g.val; omega

theorem sideW_fine (Wc : S2048x8.Idx → EReal) (Wf : S2048x8x8.Idx → EReal) (k : Fin 2048) (g j : Fin 8) :
    sideW Wc Wf (ix2 k (eF g j)) = Wf (ix3 k g j) := by
  refine (concatenate_apply_piece (t := S2048x128) 1 _ _ (ix2 k (eF g j)) 1 (by show 1 < 3; omega) S2048x64 _ rfl rfl 8 rfl
    (ix2 k (⟨8 * g.val + j.val, by omega⟩ : Fin 64)) (fun b hb => ?_) ?_).trans ?_
  · match b with
    | ⟨0, _⟩ => rfl
    | ⟨1, _⟩ => exact absurd rfl hb
  · show 8 + (8 * g.val + j.val) = 8 + 8 * g.val + j.val; omega
  · refine shapeCast_apply _ _ _ (ix3 k g j) ?_
    rw [Shape.rowMajor_val_three, Shape.rowMajor_val_two]
    show (k.val * 8 + g.val) * 8 + j.val = k.val * 64 + (8 * g.val + j.val)
    omega

theorem sideB_coarse (bc : S8.Idx → EReal) (bf : S8x8.Idx → EReal) (g : Fin 8) : sideB bc bf (ix1 (eC g)) = bc (ix1 g) := by
  refine concatenate_apply_piece (t := S128) 0 _ _ (ix1 (eC g)) 0 (by show 0 < 3; omega) S8 bc rfl rfl 0 rfl (ix1 g) (fun b hb => ?_) ?_
  · match b with
    | ⟨0, _⟩ => exact absurd rfl hb
  · show 0 + g.val = g.val; omega

theorem sideB_fine (bc : S8.Idx → EReal) (bf : S8x8.Idx → EReal) (g j : Fin 8) : sideB bc bf (ix1 (eF g j)) = bf (ix2 g j) := by
  refine (concatenate_apply_piece (t := S128) 0 _ _ (ix1 (eF g j)) 1 (by show 1 < 3; omega) S64 _ rfl rfl 8 rfl
    (ix1 (⟨8 * g.val + j.val, by omega⟩ : Fin 64)) (fun b hb => ?_) ?_).trans ?_
  · match b with
    | ⟨0, _⟩ => exact absurd rfl hb
  · show 8 + (8 * g.val + j.val) = 8 + 8 * g.val + j.val; omega
  · refine shapeCast_apply _ _ _ (ix2 g j) ?_
    rw [Shape.rowMajor_val_two, Shape.rowMajor_val_one]
    show g.val * 8 + j.val = 8 * g.val + j.val
    omega

theorem V_hi (c : Dev nD) (k : Fin 2048) (L : Fin 128) : V m c main_v7 (ix2 k L) = sideW (argWc m c) (argWf m c) (ix2 k L) := by
  have e : V m c main_v7 = truncf (F := Ideal) .bf16 (sideW (argWc m c) (argWf m c)) bitsLt_bf16_f32 := by
    show StableHlo.after hostOps0 _ (Proc.devRef .tc main_v7) = _
    after_results_simp
    rfl
  rw [e]
  rfl

theorem V_lo (c : Dev nD) (k : Fin 2048) (L : Fin 128) :
    V m c main_v10 (ix2 k L) = sideW (argWc m c) (argWf m c) (ix2 k L) - sideW (argWc m c) (argWf m c) (ix2 k L) := by
  have e : V m c main_v10 = truncf (F := Ideal) .bf16 (subf (sideW (argWc m c) (argWf m c))
      (extf (F := Ideal) .f32 (truncf (F := Ideal) .bf16 (sideW (argWc m c) (argWf m c)) bitsLt_bf16_f32) bitsLt_bf16_f32)) bitsLt_bf16_f32 := by
    show StableHlo.after hostOps0 _ (Proc.devRef .tc main_v10) = _
    after_results_simp
    rfl
  rw [e]
  rfl

theorem V_bias (c : Dev nD) (L : Fin 128) : V m c main_v6 (ix2 (0 : Fin 1) L) = sideB (argBc m c) (argBf m c) (ix1 L) := by
  have e : V m c main_v6 = shapeCast S1x128 (sideB (argBc m c) (argBf m c)) shapeCasts_S128_S1x128 := by
    show StableHlo.after hostOps0 _ (Proc.devRef .tc main_v6) = _
    after_results_simp
    rfl
  rw [e]
  exact shapeCast_apply _ _ _ _ (by simp [Shape.rowMajor_val_one, Shape.rowMajor_val_two])

theorem rd0 (c : Dev nD) (t : Fin cfg0.N) (r : Fin 272) (q : Fin 1024) (X : Fin 8704) (hX : X.val = 272 * t.val + r.val) :
    iblk m c 0 t (ix2 r q) = argA m c (ix2 X q) := by
  obtain ⟨e0, e1⟩ := idx0 t
  show V m c main_arg0 (((cfg0.win 0).blk t).view.emb (ix2 r q)) = _
  rw [V_main_arg0]
  refine congrArg _ (funext fun a => Fin.ext ?_)
  match a with
  | ⟨0, _⟩ => show win0_0.index t (0 : Fin 2) * 272 + 1 * r.val = X.val; omega
  | ⟨1, _⟩ => show win0_0.index t (1 : Fin 2) * 1024 + 1 * q.val = q.val; omega

theorem rd1 (c : Dev nD) (t : Fin cfg0.N) (r : Fin 272) (q : Fin 1024) (X : Fin 8704) (hX : X.val = 272 * t.val + r.val) :
    iblk m c 1 t (ix2 r q) = argB m c (ix2 X q) := by
  obtain ⟨e0, e1⟩ := idx1 t
  show V m c main_arg1 (((cfg0.win 1).blk t).view.emb (ix2 r q)) = _
  rw [V_main_arg1]
  refine congrArg _ (funext fun a => Fin.ext ?_)
  match a with
  | ⟨0, _⟩ => show win0_1.index t (0 : Fin 2) * 272 + 1 * r.val = X.val; omega
  | ⟨1, _⟩ => show win0_1.index t (1 : Fin 2) * 1024 + 1 * q.val = q.val; omega

theorem rd2 (c : Dev nD) (t : Fin cfg0.N) (r : Fin 272) (k : Fin 2048) (X : Fin 8704) (hX : X.val = 272 * t.val + r.val) :
    iblk m c 2 t (ix2 r k) = argGt m c (ix2 X (⟨k.val, by omega⟩ : Fin 4096)) := by
  obtain ⟨e0, e1⟩ := idx2 t
  show V m c main_arg2 (((cfg0.win 2).blk t).view.emb (ix2 r k)) = _
  rw [V_main_arg2]
  refine congrArg _ (funext fun a => Fin.ext ?_)
  match a with
  | ⟨0, _⟩ => show win0_2.index t (0 : Fin 2) * 272 + 1 * r.val = X.val; omega
  | ⟨1, _⟩ => show win0_2.index t (1 : Fin 2) * 2048 + 1 * k.val = k.val; omega

theorem rd3 (c : Dev nD) (t : Fin cfg0.N) (r : Fin 272) (k : Fin 2048) (X : Fin 8704) (hX : X.val = 272 * t.val + r.val) :
    iblk m c 3 t (ix2 r k) = argGt m c (ix2 X (⟨2048 + k.val, by omega⟩ : Fin 4096)) := by
  obtain ⟨e0, e1⟩ := idx3 t
  show V m c main_arg2 (((cfg0.win 3).blk t).view.emb (ix2 r k)) = _
  rw [V_main_arg2]
  refine congrArg _ (funext fun a => Fin.ext ?_)
  match a with
  | ⟨0, _⟩ => show win0_3.index t (0 : Fin 2) * 272 + 1 * r.val = X.val; omega
  | ⟨1, _⟩ => show win0_3.index t (1 : Fin 2) * 2048 + 1 * k.val = 2048 + k.val; omega

theorem rd4 (c : Dev nD) (t : Fin cfg0.N) (r : Fin 272) (k : Fin 2048) (X : Fin 8704) (hX : X.val = 272 * t.val + r.val) :
    iblk m c 4 t (ix2 r k) = argH m c (ix2 X k) := by
  obtain ⟨e0, e1⟩ := idx4 t
  show V m c main_arg3 (((cfg0.win 4).blk t).view.emb (ix2 r k)) = _
  rw [V_main_arg3]
  refine congrArg _ (funext fun a => Fin.ext ?_)
  match a with
  | ⟨0, _⟩ => show win0_4.index t (0 : Fin 2) * 272 + 1 * r.val = X.val; omega
  | ⟨1, _⟩ => show win0_4.index t (1 : Fin 2) * 2048 + 1 * k.val = k.val; omega

theorem rd5 (c : Dev nD) (t : Fin cfg0.N) (q : Fin 1024) (k : Fin 2048) :
    iblk m c 5 t (ix2 q k) = argWa m c (ix2 q k) := by
  obtain ⟨e0, e1⟩ := idx5 t
  rw [← V_Wa]
  show V m c main_v11 (((cfg0.win 5).blk t).view.emb (ix2 q k)) = _
  refine congrArg _ (funext fun a => Fin.ext ?_)
  match a with
  | ⟨0, _⟩ => show win0_5.index t (0 : Fin 2) * 1024 + 1 * q.val = q.val; omega
  | ⟨1, _⟩ => show win0_5.index t (1 : Fin 2) * 2048 + 1 * k.val = k.val; omega

theorem rd6 (c : Dev nD) (t : Fin cfg0.N) (q : Fin 1024) (k : Fin 2048) :
    iblk m c 6 t (ix2 q k) = argWb m c (ix2 q k) := by
  obtain ⟨e0, e1⟩ := idx6 t
  rw [← V_Wb]
  show V m c main_v12 (((cfg0.win 6).blk t).view.emb (ix2 q k)) = _
  refine congrArg _ (funext fun a => Fin.ext ?_)
  match a with
  | ⟨0, _⟩ => show win0_6.index t (0 : Fin 2) * 1024 + 1 * q.val = q.val; omega
  | ⟨1, _⟩ => show win0_6.index t (1 : Fin 2) * 2048 + 1 * k.val = k.val; omega

theorem rd7 (c : Dev nD) (t : Fin cfg0.N) (q : Fin 2048) (k : Fin 2048) :
    iblk m c 7 t (ix2 q k) = argWo m c (ix2 q k) := by
  obtain ⟨e0, e1⟩ := idx7 t
  rw [← V_Wo]
  show V m c main_v13 (((cfg0.win 7).blk t).view.emb (ix2 q k)) = _
  refine congrArg _ (funext fun a => Fin.ext ?_)
  match a with
  | ⟨0, _⟩ => show win0_7.index t (0 : Fin 2) * 2048 + 1 * q.val = q.val; omega
  | ⟨1, _⟩ => show win0_7.index t (1 : Fin 2) * 2048 + 1 * k.val = k.val; omega

theorem rd8 (c : Dev nD) (t : Fin cfg0.N) (k : Fin 2048) :
    iblk m c 8 t (ix2 (0 : Fin 1) k) = argG m c (ix1 k) := by
  obtain ⟨e0, e1⟩ := idx8 t
  rw [← V_gain]
  show V m c main_v14 (((cfg0.win 8).blk t).view.emb (ix2 (0 : Fin 1) k)) = _
  refine congrArg _ (funext fun a => Fin.ext ?_)
  match a with
  | ⟨0, _⟩ => show win0_8.index t (0 : Fin 2) * 1 + 1 * 0 = 0; omega
  | ⟨1, _⟩ => show win0_8.index t (1 : Fin 2) * 2048 + 1 * k.val = k.val; omega

theorem rd9 (c : Dev nD) (t : Fin cfg0.N) (q : Fin 2048) (L : Fin 128) : iblk m c 9 t (ix2 q L) = V m c main_v7 (ix2 q L) := by
  obtain ⟨e0, e1⟩ := idx9 t
  show V m c main_v7 (((cfg0.win 9).blk t).view.emb (ix2 q L)) = _
  refine congrArg _ (funext fun a => Fin.ext ?_)
  match a with
  | ⟨0, _⟩ => show win0_9.index t (0 : Fin 2) * 2048 + 1 * q.val = q.val; omega
  | ⟨1, _⟩ => show win0_9.index t (1 : Fin 2) * 128 + 1 * L.val = L.val; omega

theorem rd10 (c : Dev nD) (t : Fin cfg0.N) (q : Fin 2048) (L : Fin 128) : iblk m c 10 t (ix2 q L) = V m c main_v10 (ix2 q L) := by
  obtain ⟨e0, e1⟩ := idx10 t
  show V m c main_v10 (((cfg0.win 10).blk t).view.emb (ix2 q L)) = _
  refine congrArg _ (funext fun a => Fin.ext ?_)
  match a with
  | ⟨0, _⟩ => show win0_10.index t (0 : Fin 2) * 2048 + 1 * q.val = q.val; omega
  | ⟨1, _⟩ => show win0_10.index t (1 : Fin 2) * 128 + 1 * L.val = L.val; omega

theorem rd11 (c : Dev nD) (t : Fin cfg0.N) (L : Fin 128) : iblk m c 11 t (ix2 (0 : Fin 1) L) = V m c main_v6 (ix2 (0 : Fin 1) L) := by
  obtain ⟨e0, e1⟩ := idx11 t
  show V m c main_v6 (((cfg0.win 11).blk t).view.emb (ix2 (0 : Fin 1) L)) = _
  refine congrArg _ (funext fun a => Fin.ext ?_)
  match a with
  | ⟨0, _⟩ => show win0_11.index t (0 : Fin 2) * 1 + 1 * 0 = 0; omega
  | ⟨1, _⟩ => show win0_11.index t (1 : Fin 2) * 128 + 1 * L.val = L.val; omega

/-- A row of a grid step's tile is that row of the new residual stream. -/
theorem tile_row (c : Dev nD) (t : Fin cfg0.N) (r : Fin 272) (X : Fin 8704) (hX : X.val = 272 * t.val + r.val) (j : Fin 2048) :
    k0_pay6 (k0_pay2 (iblk m c 0 t) (iblk m c 5 t) (iblk m c 1 t) (iblk m c 6 t) (iblk m c 2 t) (iblk m c 3 t) (iblk m c 7 t))
        (k0_pay3 (grid0.coords t)) k0_pay4 (iblk m c 4 t) (ix2 r j)
      = newH (argA m c) (argB m c) (argGt m c) (argH m c) (argWa m c) (argWb m c) (argWo m c) X j := by
  have hr := r.isLt
  have e0 : (fun q : Fin 1024 => (iblk m c 0 t (ix2 r q) : EReal)) = fun q => argA m c (ix2 X q) := funext fun q => rd0 m c t r q X hX
  have e1 : (fun q : Fin 1024 => (iblk m c 1 t (ix2 r q) : EReal)) = fun q => argB m c (ix2 X q) := funext fun q => rd1 m c t r q X hX
  have e2 : (fun k : Fin 2048 => (iblk m c 2 t (ix2 r k) : EReal)) = fun k => argGt m c (ix2 X (⟨k.val, by omega⟩ : Fin 4096)) :=
    funext fun k => rd2 m c t r k X hX
  have e3 : (fun k : Fin 2048 => (iblk m c 3 t (ix2 r k) : EReal)) = fun k => argGt m c (ix2 X (⟨2048 + k.val, by omega⟩ : Fin 4096)) :=
    funext fun k => rd3 m c t r k X hX
  have e5 : (fun (q : Fin 1024) (k : Fin 2048) => (iblk m c 5 t (ix2 q k) : EReal)) = fun q k => argWa m c (ix2 q k) :=
    funext fun q => funext fun k => rd5 m c t q k
  have e6 : (fun (q : Fin 1024) (k : Fin 2048) => (iblk m c 6 t (ix2 q k) : EReal)) = fun q k => argWb m c (ix2 q k) :=
    funext fun q => funext fun k => rd6 m c t q k
  rw [keep_apply, upd_apply, e0, e1, e2, e3, e5, e6, rd4 m c t r j X hX, at0 t]
  have es : 272 * (t.val % 8) + r.val = X.val % 2176 := by omega
  rw [es]
  unfold newH newRow stepped
  refine congrArg (fun y : EReal => if 112 ≤ X.val % 2176 then argH m c (ix2 X j) + y else 0) (Finset.sum_congr rfl fun k _ => ?_)
  rw [rd7 m c t k j]
  rfl

theorem mulLogit (x : FVec Ideal S272x2048 .bf16) (w : FVec Ideal S2048x128 .bf16) (r : Fin 272) (j : Fin 128) :
    matmul (F := Ideal) (φ₁ := .bf16) (φ₂ := .bf16) dot_S272x2048_S2048x128_S272x128_1_0_0_1_n_n none x w (constant S272x128 .f32 0x00000000#32) (ix2 r j)
      = ∑ q : Fin 2048, x (ix2 r q) * w (ix2 q j) := by
  refine Eq.trans (b := FloatOps.matmul (DotDims.plain 272 2048 128) none x w (constant S272x128 .f32 0x00000000#32) (ix2 r j)) rfl ?_
  rw [Ideal.matmul_plain_apply,
    show (constant S272x128 .f32 0x00000000#32 : FVec Ideal S272x128 .f32) (ix2 r j) = 0 from Ideal.ofBits_zero_f32, zero_add]

section
variable (u : FVec Ideal S272x2048 .f32) (p q : IVec S272x1 32) (h : Vec Ideal S272x2048 .f32) (g : Vec Ideal S1x2048 .f32)
  (hi lo : Vec Ideal S2048x128 .bf16) (b : Vec Ideal S1x128 .f32) (r : Fin 272) (j : Fin 128)

theorem pay9_apply : k0_pay9 u p q h g hi lo (ix2 r j)
    = (∑ k, k0_pay7 u p q h g (ix2 r k) * hi (ix2 k j)) + ∑ k, k0_pay7 u p q h g (ix2 r k) * lo (ix2 k j) := by
  unfold k0_pay9 k0_pay8
  simp only [shapeCast_self]
  exact congrArg₂ (fun x y : EReal => x + y) (mulLogit _ hi r j) (mulLogit _ lo r j)

theorem pay10_apply : k0_pay10 u p q h g hi (ix2 r j)
    = ∑ k, (k0_pay7 u p q h g (ix2 r k) - k0_pay7 u p q h g (ix2 r k)) * hi (ix2 k j) := by
  unfold k0_pay10 k0_pay8
  simp only [shapeCast_self]
  exact mulLogit _ hi r j

theorem pay11_apply (x y : FVec Ideal S272x128 .f32) : k0_pay11 x y b (ix2 r j) = x (ix2 r j) + y (ix2 r j) + b (ix2 (0 : Fin 1) j) := by
  have e : broadcastTo S272x128 b broadcasts_S1x128_S272x128 (ix2 r j) = b (ix2 (0 : Fin 1) j) := by
    refine broadcastTo_apply _ _ _ _ fun a => ?_
    match a with
    | ⟨0, _⟩ => rfl
    | ⟨1, _⟩ => rfl
  unfold k0_pay11
  simp only [shapeCast_self]
  exact congrArg (fun z : EReal => x (ix2 r j) + y (ix2 r j) + z) e

end

/-- What a grid step stores: the four numbers of each of its rows. -/
theorem out14_apply (i : grid0.Coords) (x0 x1 : Vec Ideal S272x1024 .bf16) (x2 x3 : Vec Ideal S272x2048 .bf16) (x4 : Vec Ideal S272x2048 .f32)
    (x5 x6 : Vec Ideal S1024x2048 .bf16) (x7 : Vec Ideal S2048x2048 .bf16) (x8 : Vec Ideal S1x2048 .f32) (x9 x10 : Vec Ideal S2048x128 .bf16)
    (x11 : Vec Ideal S1x128 .f32) (r : Fin 272) (J : Fin 128) :
    out0_14 i x0 x1 x2 x3 x4 x5 x6 x7 x8 x9 x10 x11 (ix2 r J)
      = if 112 ≤ 272 * ((i 0).val % 8) + r.val then
          lanes (row (k0_pay9 (k0_pay2 x0 x5 x1 x6 x2 x3 x7) (k0_pay3 i) k0_pay4 x4 x8 x9 x10)
            (k0_pay10 (k0_pay2 x0 x5 x1 x6 x2 x3 x7) (k0_pay3 i) k0_pay4 x4 x8 x9) x11 r) J
        else unused J := by
  unfold out0_14 k0_pay40 k0_pay39 k0_pay38 k0_pay37 k0_pay36 k0_pay35 k0_pay34 k0_pay33 k0_pay32 k0_pay31 k0_pay30
  rw [View.canon_unit_zero off_zero]
  repeat rw [View.ld_unit_zero off_zero]
  rw [four_apply]
  exact if_congr (past_apply i r 0) rfl rfl

section
variable (c : Dev nD) (hG : ∀ i, Fini (argG m c i))
  (hWc : ∀ i, Fini (argWc m c i)) (hbc : ∀ i, Fini (argBc m c i)) (hWf : ∀ i, Fini (argWf m c i)) (hbf : ∀ i, Fini (argBf m c i))

/-- A token's row of logits at a lane whose column of the matrices is finite. -/
theorem logit (t : Fin cfg0.N) (r : Fin 272) (X : Fin 8704) (hX : X.val = 272 * t.val + r.val) (hp : 112 ≤ X.val % 2176) (L : Fin 128)
    (hx : ∀ k, Fini (normed (argA m c) (argB m c) (argGt m c) (argH m c) (argWa m c) (argWb m c) (argWo m c) (argG m c) X k))
    (hw : ∀ k, Fini (sideW (argWc m c) (argWf m c) (ix2 k L))) :
    row (k0_pay9 (k0_pay2 (iblk m c 0 t) (iblk m c 5 t) (iblk m c 1 t) (iblk m c 6 t) (iblk m c 2 t) (iblk m c 3 t) (iblk m c 7 t))
          (k0_pay3 (grid0.coords t)) k0_pay4 (iblk m c 4 t) (iblk m c 8 t) (iblk m c 9 t) (iblk m c 10 t))
        (k0_pay10 (k0_pay2 (iblk m c 0 t) (iblk m c 5 t) (iblk m c 1 t) (iblk m c 6 t) (iblk m c 2 t) (iblk m c 3 t) (iblk m c 7 t))
          (k0_pay3 (grid0.coords t)) k0_pay4 (iblk m c 4 t) (iblk m c 8 t) (iblk m c 9 t)) (iblk m c 11 t) r L
      = (∑ k, normed (argA m c) (argB m c) (argGt m c) (argH m c) (argWa m c) (argWb m c) (argWo m c) (argG m c) X k
            * sideW (argWc m c) (argWf m c) (ix2 k L)) + sideB (argBc m c) (argBf m c) (ix1 L) := by
  have hk : ∀ k : Fin 2048, k0_pay7 (k0_pay2 (iblk m c 0 t) (iblk m c 5 t) (iblk m c 1 t) (iblk m c 6 t) (iblk m c 2 t) (iblk m c 3 t) (iblk m c 7 t))
          (k0_pay3 (grid0.coords t)) k0_pay4 (iblk m c 4 t) (iblk m c 8 t) (ix2 r k)
      = normed (argA m c) (argB m c) (argGt m c) (argH m c) (argWa m c) (argWb m c) (argWo m c) (argG m c) X k := fun k => by
    rw [norm_apply, rd8 m c t k]
    refine congrArg (fun f => nrm f _ k) (funext fun q => ?_)
    exact (tile_row m c t r X hX q).trans (if_pos hp)
  have h9 : ∀ k : Fin 2048, (iblk m c 9 t (ix2 k L) : EReal) = sideW (argWc m c) (argWf m c) (ix2 k L) := fun k => (rd9 m c t k L).trans (V_hi m c k L)
  have h10 : ∀ k : Fin 2048, (iblk m c 10 t (ix2 k L) : EReal)
      = sideW (argWc m c) (argWf m c) (ix2 k L) - sideW (argWc m c) (argWf m c) (ix2 k L) := fun k => (rd10 m c t k L).trans (V_lo m c k L)
  unfold row
  rw [pay11_apply, pay9_apply, pay10_apply, rd11, V_bias]
  refine congrArg (fun y : EReal => y + sideB (argBc m c) (argBf m c) (ix1 L)) ?_
  refine Eq.trans ?_ (split_sum _ _ hx hw)
  refine congrArg₂ (fun x y : EReal => x + y) (congrArg₂ (fun x y : EReal => x + y) ?_ ?_) ?_
  · exact Finset.sum_congr rfl fun k _ => congrArg₂ (fun x y : EReal => x * y) (hk k) (h9 k)
  · exact Finset.sum_congr rfl fun k _ => congrArg₂ (fun x y : EReal => x * y) (hk k) (h10 k)
  · exact Finset.sum_congr rfl fun k _ => congrArg₂ (fun x y : EReal => x * y) (congrArg₂ (fun x y : EReal => x - y) (hk k) (hk k)) (h9 k)

include hG hWc hbc hWf hbf

/-- The kernel's routing array at any row and lane: of a token the picks of its logits, of a padding row no expert. -/
theorem final14 (X : Fin 8704) (J : Fin 128) :
    (dats m 0 c).arrAt 14 cfg0.N (ix2 X J)
      = if 112 ≤ X.val % 2176 then
          picked (coarse (argA m c) (argB m c) (argGt m c) (argH m c) (argWa m c) (argWb m c) (argWo m c) (argG m c) (argWc m c) (argBc m c) X)
            (fine (argA m c) (argB m c) (argGt m c) (argH m c) (argWa m c) (argWb m c) (argWo m c) (argG m c) (argWf m c) (argBf m c) X) J
        else unused J := by
  have hX := X.isLt
  have hJ := J.isLt
  let t : Fin cfg0.N := ⟨X.val / 272, by rw [hN]; omega⟩
  have ht : t.val = X.val / 272 := rfl
  obtain ⟨e0, e1⟩ := idx14 t
  have hemb : ((cfg0.win 14).blk t).view.emb (ix2 (⟨X.val % 272, by omega⟩ : Fin 272) J) = ix2 X J := by
    refine funext fun a => Fin.ext ?_
    match a with
    | ⟨0, _⟩ => show win0_14.index t (0 : Fin 2) * 272 + 1 * (X.val % 272) = X.val; omega
    | ⟨1, _⟩ => show win0_14.index t (1 : Fin 2) * 128 + 1 * J.val = J.val; omega
  have h := congrFun (blocks14 m c t (flush0_14 t)) (ix2 (⟨X.val % 272, by omega⟩ : Fin 272) J)
  rw [flushed14] at h
  refine (congrArg ((dats m 0 c).arrAt 14 cfg0.N) hemb.symm).trans (h.trans ?_)
  refine Eq.trans (b := out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    (ix2 (⟨X.val % 272, by omega⟩ : Fin 272) J)) rfl ?_
  rw [out14_apply, at0 t]
  have es : 272 * (t.val % 8) + X.val % 272 = X.val % 2176 := by omega
  dsimp only
  rw [es]
  by_cases hp : 112 ≤ X.val % 2176
  · rw [if_pos hp, if_pos hp]
    have hx := normed_fini (argA m c) (argB m c) (argGt m c) (argH m c) (argWa m c) (argWb m c) (argWo m c) (argG m c) hG X
    refine lanes_eq (fun g => ?_) (fun g j => ?_) (coarse_fini (argA m c) (argB m c) (argGt m c) (argH m c) (argWa m c) (argWb m c) (argWo m c) (argG m c) _ _ hG hWc hbc X)
      (fine_fini (argA m c) (argB m c) (argGt m c) (argH m c) (argWa m c) (argWb m c) (argWo m c) (argG m c) _ _ hG hWf hbf X) J
    · refine (logit m c t _ X (by dsimp only; omega) hp (eC g) hx fun k => by rw [sideW_coarse]; exact hWc _).trans ?_
      rw [sideB_coarse]
      refine congrArg (fun y : EReal => y + argBc m c (ix1 g)) (Finset.sum_congr rfl fun k _ => ?_)
      rw [sideW_coarse]
    · refine (logit m c t _ X (by dsimp only; omega) hp (eF g j) hx fun k => by rw [sideW_fine]; exact hWf _).trans ?_
      rw [sideB_fine]
      refine congrArg (fun y : EReal => y + argBf m c (ix2 g j)) (Finset.sum_congr rfl fun k _ => ?_)
      rw [sideW_fine]
  · rw [if_neg hp, if_neg hp]

end

end Cert.Picked
-- ==== Proof.Route.Reads.lean ====
module

public import proofs.«01_k».proof.Proof.Gen.RefRouteIdeal.Read
public import proofs.«01_k».proof.Proof.Route.Core
public import Idealize.ShloMosaic.Lib.KernelVsHost

@[expose] public section

/-! The reference's greatest values along an axis. -/

noncomputable section

namespace Cert.Picked

open Cert.RefRouteIdeal Cert.RefRouteIdeal.Gen Idealize.ShloMosaic Idealize.ShloMosaic.TcCoe Idealize.ShloMosaic.StableHlo

theorem negInf : (FloatOps.ofBits (F := Ideal) .f32 0xFF800000#32 : EReal) = ⊥ := by
  show Ideal.ofBits .f32 0xFF800000#32 = ⊥
  simp [Ideal.ofBits, Ideal.ieee, -EReal.coe_mul]

/-- The greatest along a row of eight. -/
theorem eight_max (y : S8256x8.Idx → EReal) (r : Fin 8256) :
    Host.reduce (FloatOps.maximumf (F := Ideal) (φ := .f32)) y (constant (φ := .f32) S_ (0xFF800000#32)) reducesTo_S8256x8_S8256_d1 h_S_ (ValueIdx.ix1 r)
      = Finset.univ.fold max ⊥ fun k : Fin 8 => y (ValueIdx.ix2 r k) := by
  refine (congrFun (hostReduce_maximumf_eq_multiReduction (F := Ideal) (φ := .f32) y 0xFF800000#32
    reducesTo_S8256x8_S8256_d1 h_S_ (by decide) (.inl rfl) rfl) (ValueIdx.ix1 r)).trans ?_
  refine (Ideal.multiReduction_maximumf_single _ _ _ _ _ _).trans ?_
  rw [negInf]
  refine congrArg (Finset.fold max ⊥ · Finset.univ) (funext fun x => congrArg y (funext fun a => ?_))
  match a with
  | ⟨0, _⟩ => rfl
  | ⟨1, _⟩ => rfl

/-- The greater of two. -/
theorem two_max (y : S8256x2.Idx → EReal) (r : Fin 8256) :
    Host.reduce (FloatOps.maximumf (F := Ideal) (φ := .f32)) y (constant (φ := .f32) S_ (0xFF800000#32)) reducesTo_S8256x2_S8256_d1 h_S_ (ValueIdx.ix1 r)
      = Finset.univ.fold max ⊥ fun k : Fin 2 => y (ValueIdx.ix2 r k) := by
  refine (congrFun (hostReduce_maximumf_eq_multiReduction (F := Ideal) (φ := .f32) y 0xFF800000#32
    reducesTo_S8256x2_S8256_d1 h_S_ (by decide) (.inl rfl) rfl) (ValueIdx.ix1 r)).trans ?_
  refine (Ideal.multiReduction_maximumf_single _ _ _ _ _ _).trans ?_
  rw [negInf]
  refine congrArg (Finset.fold max ⊥ · Finset.univ) (funext fun x => congrArg y (funext fun a => ?_))
  match a with
  | ⟨0, _⟩ => rfl
  | ⟨1, _⟩ => rfl

end Cert.Picked
-- ==== Proof.Route.RefNorm.lean ====
module

public import proofs.«01_k».proof.Proof.Gen.RefRouteIdeal.Read
public import proofs.«01_k».proof.Proof.Route.Reads
public import Idealize.ShloMosaic.Lib.KernelVsHost

@[expose] public section

/-! The norm of a token's new residual row, as the reference computes it. -/

noncomputable section

namespace Cert.Picked

open Cert.Joined (mixed stepped mixRow newRow newH)

open Cert.RefRouteIdeal Cert.RefRouteIdeal.Gen Cert.RefRouteIdeal.Read Idealize.ShloMosaic Idealize.ShloMosaic.TcCoe
open Idealize.ShloMosaic.ValueIdx
open Cert.Norm (nrm nrm_zero scale)

/-- The gates of a token. -/
theorem tok_gate (U : S8704x4096.Idx → EReal) (b : Fin 4) (n : Fin 2064) (J : Fin 4096) (X : Fin 8704) (hX : X.val = 2176 * b.val + 112 + n.val) :
    val_main_v1 (F := Ideal) U (ix3 b n J) = U (ix2 X J) := by
  rw [val_main_v1_apply, val_main_v0_apply]
  have hJ := J.isLt
  refine congrArg U (funext fun a => Fin.ext ?_)
  match a with
  | ⟨0, _⟩ => show ((b.val * 2176 + (112 + n.val)) * 4096 + J.val) / 4096 = X.val; omega
  | ⟨1, _⟩ => show ((b.val * 2176 + (112 + n.val)) * 4096 + J.val) % 4096 = J.val; omega

/-- The attention's output of a token. -/
theorem tok_att (U : S8704x1024.Idx → EReal) (b : Fin 4) (n : Fin 2064) (J : Fin 1024) (X : Fin 8704) (hX : X.val = 2176 * b.val + 112 + n.val) :
    val_main_v6 (F := Ideal) U (ix3 b n J) = U (ix2 X J) := by
  rw [val_main_v6_apply, val_main_v5_apply]
  have hJ := J.isLt
  refine congrArg U (funext fun a => Fin.ext ?_)
  match a with
  | ⟨0, _⟩ => show ((b.val * 2176 + (112 + n.val)) * 1024 + J.val) / 1024 = X.val; omega
  | ⟨1, _⟩ => show ((b.val * 2176 + (112 + n.val)) * 1024 + J.val) % 1024 = J.val; omega

/-- The other branch's output of a token. -/
theorem tok_other (U : S8704x1024.Idx → EReal) (b : Fin 4) (n : Fin 2064) (J : Fin 1024) (X : Fin 8704) (hX : X.val = 2176 * b.val + 112 + n.val) :
    val_main_v9 (F := Ideal) U (ix3 b n J) = U (ix2 X J) := by
  rw [val_main_v9_apply, val_main_v8_apply]
  have hJ := J.isLt
  refine congrArg U (funext fun a => Fin.ext ?_)
  match a with
  | ⟨0, _⟩ => show ((b.val * 2176 + (112 + n.val)) * 1024 + J.val) / 1024 = X.val; omega
  | ⟨1, _⟩ => show ((b.val * 2176 + (112 + n.val)) * 1024 + J.val) % 1024 = J.val; omega

/-- The residual stream of a token. -/
theorem tok_h (U : S8704x2048.Idx → EReal) (b : Fin 4) (n : Fin 2064) (J : Fin 2048) (X : Fin 8704) (hX : X.val = 2176 * b.val + 112 + n.val) :
    val_main_v17 (F := Ideal) U (ix3 b n J) = U (ix2 X J) := by
  rw [val_main_v17_apply, val_main_v16_apply]
  have hJ := J.isLt
  refine congrArg U (funext fun a => Fin.ext ?_)
  match a with
  | ⟨0, _⟩ => show ((b.val * 2176 + (112 + n.val)) * 2048 + J.val) / 2048 = X.val; omega
  | ⟨1, _⟩ => show ((b.val * 2176 + (112 + n.val)) * 2048 + J.val) % 2048 = J.val; omega

variable (A B : S8704x1024.Idx → EReal) (Gt : S8704x4096.Idx → EReal) (H : S8704x2048.Idx → EReal)
  (Wa Wb : S1024x2048.Idx → EReal) (Wo : S2048x2048.Idx → EReal) (G : S2048.Idx → EReal)

/-- The attention branch through its matrix. -/
theorem dot_att (b : Fin 4) (n : Fin 2064) (k : Fin 2048) (X : Fin 8704) (hX : X.val = 2176 * b.val + 112 + n.val) :
    val_main_v11 (F := Ideal) A Wa (ix3 b n k) = ∑ q : Fin 1024, A (ix2 X q) * Wa (ix2 q k) := by
  rw [val_main_v11_apply]
  refine Finset.sum_congr rfl fun q _ => ?_
  have el : lidx_main_v11 (ix3 b n k) q = ix3 b n q := funext fun a => by
    match a with
    | ⟨0, _⟩ => rfl
    | ⟨1, _⟩ => rfl
    | ⟨2, _⟩ => rfl
  have er : ridx_main_v11 (ix3 b n k) q = ix2 q k := funext fun a => by
    match a with
    | ⟨0, _⟩ => rfl
    | ⟨1, _⟩ => rfl
  rw [el, er, val_main_v7_apply]
  exact congrArg (fun y : EReal => y * Wa (ix2 q k)) (tok_att A b n q X hX)

/-- The other branch through its matrix. -/
theorem dot_other (b : Fin 4) (n : Fin 2064) (k : Fin 2048) (X : Fin 8704) (hX : X.val = 2176 * b.val + 112 + n.val) :
    val_main_v13 (F := Ideal) B Wb (ix3 b n k) = ∑ q : Fin 1024, B (ix2 X q) * Wb (ix2 q k) := by
  rw [val_main_v13_apply]
  refine Finset.sum_congr rfl fun q _ => ?_
  have el : lidx_main_v13 (ix3 b n k) q = ix3 b n q := funext fun a => by
    match a with
    | ⟨0, _⟩ => rfl
    | ⟨1, _⟩ => rfl
    | ⟨2, _⟩ => rfl
  have er : ridx_main_v13 (ix3 b n k) q = ix2 q k := funext fun a => by
    match a with
    | ⟨0, _⟩ => rfl
    | ⟨1, _⟩ => rfl
  rw [el, er, val_main_v10_apply]
  exact congrArg (fun y : EReal => y * Wb (ix2 q k)) (tok_other B b n q X hX)

/-- The gated sum of a token. -/
theorem ref_mixed (b : Fin 4) (n : Fin 2064) (k : Fin 2048) (X : Fin 8704) (hX : X.val = 2176 * b.val + 112 + n.val) :
    val_main_v15 (F := Ideal) A B Gt Wa Wb (ix3 b n k) = mixRow A B Gt Wa Wb X k := by
  have ea : val_main_v3 (F := Ideal) Gt (ix3 b n k) = Gt (ix2 X (⟨k.val, by omega⟩ : Fin 4096)) := by
    rw [val_main_v3_apply, val_main_v2_apply]
    refine Eq.trans (congrArg (val_main_v1 (F := Ideal) Gt) (funext fun a => Fin.ext ?_)) (tok_gate Gt b n _ X hX)
    match a with
    | ⟨0, _⟩ => rfl
    | ⟨1, _⟩ => rfl
    | ⟨2, _⟩ => rfl
  have eb : val_main_v4 (F := Ideal) Gt (ix3 b n k) = Gt (ix2 X (⟨2048 + k.val, by omega⟩ : Fin 4096)) := by
    rw [val_main_v4_apply, val_main_v2_apply]
    refine Eq.trans (congrArg (val_main_v1 (F := Ideal) Gt) (funext fun a => Fin.ext ?_)) (tok_gate Gt b n _ X hX)
    match a with
    | ⟨0, _⟩ => rfl
    | ⟨1, _⟩ => rfl
    | ⟨2, _⟩ => rfl
  rw [val_main_v15_apply, val_main_v12_apply, val_main_v14_apply, ea, eb, dot_att A Wa b n k X hX, dot_other B Wb b n k X hX]
  rfl

/-- The new residual row of a token. -/
theorem ref_row (b : Fin 4) (n : Fin 2064) (J : Fin 2048) (X : Fin 8704) (hX : X.val = 2176 * b.val + 112 + n.val) :
    val_main_v19 (F := Ideal) A B Gt H Wa Wb Wo (ix3 b n J) = newRow A B Gt H Wa Wb Wo X J := by
  rw [val_main_v19_apply, tok_h H b n J X hX, val_main_v18_apply]
  refine congrArg (fun y : EReal => H (ix2 X J) + y) (Finset.sum_congr rfl fun k _ => ?_)
  have el : lidx_main_v18 (ix3 b n J) k = ix3 b n k := funext fun a => by
    match a with
    | ⟨0, _⟩ => rfl
    | ⟨1, _⟩ => rfl
    | ⟨2, _⟩ => rfl
  have er : ridx_main_v18 (ix3 b n J) k = ix2 k J := funext fun a => by
    match a with
    | ⟨0, _⟩ => rfl
    | ⟨1, _⟩ => rfl
  rw [el, er, ref_mixed A B Gt Wa Wb b n k X hX]

/-- The norm of the new residual row of a token. -/
theorem ref_norm (b : Fin 4) (n : Fin 2064) (J : Fin 2048) (X : Fin 8704) (hX : X.val = 2176 * b.val + 112 + n.val) :
    val_main_v32 (F := Ideal) A B Gt H Wa Wb Wo G (ix3 b n J) = nrm (newRow A B Gt H Wa Wb Wo X) (G (ix1 J)) J := by
  have hq : val_main_v21 (F := Ideal) A B Gt H Wa Wb Wo (ix2 b n)
      = ∑ k : Fin 2048, newRow A B Gt H Wa Wb Wo X k * newRow A B Gt H Wa Wb Wo X k := by
    rw [val_main_v21_apply]
    refine Eq.trans (congrArg (· + _) (Ideal.ofBits_zero_f32 : (Ideal.ofBits .f32 0x00000000#32 : EReal) = 0)) ?_
    rw [zero_add]
    refine Finset.sum_congr rfl fun k _ => ?_
    have e : idx_main_v21 (ix2 b n) k = ix3 b n k := funext fun a => by
      match a with
      | ⟨0, _⟩ => rfl
      | ⟨1, _⟩ => rfl
      | ⟨2, _⟩ => rfl
    rw [val_main_v20_apply, e, ref_row A B Gt H Wa Wb Wo b n k X hX]
    rfl
  have hs : val_main_v28 (F := Ideal) A B Gt H Wa Wb Wo (ix3 b n J) = scale (newRow A B Gt H Wa Wb Wo X) := by
    have e : idx_main_v22 (idx_main_v28 (ix3 b n J)) = ix2 b n := funext fun a => by
      match a with
      | ⟨0, _⟩ => rfl
      | ⟨1, _⟩ => rfl
    rw [val_main_v28_apply, val_main_v27_apply, val_main_v26_apply, val_main_v24_apply, val_main_v22_apply, e, hq,
      val_main_v23_apply, val_main_v25_apply]
    rfl
  have hg : val_main_v31 (F := Ideal) G (ix3 b n J) = G (ix1 J) := by
    rw [val_main_v31_apply, val_main_v30_apply]
    refine congrArg G (funext fun a => ?_)
    match a with
    | ⟨0, _⟩ => rfl
  rw [val_main_v32_apply, val_main_v29_apply, ref_row A B Gt H Wa Wb Wo b n J X hX, hs, hg]
  rfl

end Cert.Picked
-- ==== Proof.Route.Sort.lean ====
module

public import proofs.«01_k».proof.Proof.Route.Pick
public import Idealize.ShloMosaic.Lib.SortFacts
public import Idealize.ShloMosaic.Lib.ValueIdx
public import Idealize.ShloMosaic.Lib.Pipeline.Value

@[expose] public section

/-! A stable sort's first two positions are the best two. -/

noncomputable section

namespace Cert.Picked

open Idealize.ShloMosaic Finset
open Idealize.ShloMosaic.ValueIdx

variable {n : ℕ} (f : Fin n → EReal)

/-- One entry sorts before another when it is greater. -/
def bef (k k' : Fin n) : Bool := (FloatOps.cmpfTotal (F := Ideal) (φ := .f32) .gt (f k) (f k') == 1#1)

theorem bef_iff (k k' : Fin n) : bef f k k' = true ↔ f k' < f k := by
  unfold bef
  rw [beq_iff_eq]
  show BitVec.ofBool (decide (f k > f k')) = 1#1 ↔ _
  by_cases h : f k' < f k
  · simp [h]
  · simp [h]

/-- The order of a stable sort: the greater first, of equal ones the earlier. -/
def Ord (a b : Fin n) : Prop := f b ≤ f a ∧ (f b = f a → a < b)

theorem pairwise_insert (a : Fin n) (l : List (Fin n)) (hl : l.Pairwise (Ord f)) (ha : ∀ b ∈ l, a < b) :
    (insertBefore (bef f) a l).Pairwise (Ord f) := by
  induction l with
  | nil => exact List.pairwise_singleton _ _
  | cons b l ih =>
    rw [List.pairwise_cons] at hl
    unfold insertBefore
    split
    · rename_i h
      have hb := (bef_iff f b a).mp h
      refine List.pairwise_cons.mpr ⟨fun c hc => ?_, ih hl.2 fun c hc => ha c (List.mem_cons_of_mem _ hc)⟩
      rcases List.mem_cons.mp ((perm_insertBefore (bef f) a l).mem_iff.mp hc) with rfl | hc'
      · exact ⟨hb.le, fun e => absurd e hb.ne⟩
      · exact hl.1 c hc'
    · rename_i h
      have hb : f b ≤ f a := not_lt.mp fun hx => h ((bef_iff f b a).mpr hx)
      refine List.pairwise_cons.mpr ⟨fun c hc => ⟨?_, fun _ => ha c hc⟩, List.pairwise_cons.mpr hl⟩
      rcases List.mem_cons.mp hc with rfl | hc'
      · exact hb
      · exact (hl.1 c hc').1.trans hb

theorem pairwise_sort (l : List (Fin n)) (hl : l.Pairwise (· < ·)) : (stableSort (bef f) l).Pairwise (Ord f) := by
  induction l with
  | nil => exact List.Pairwise.nil
  | cons a l ih =>
    rw [List.pairwise_cons] at hl
    unfold stableSort
    exact pairwise_insert f a _ (ih hl.2) fun b hb => hl.1 b ((perm_stableSort (bef f) l).mem_iff.mp hb)

theorem sorted_ord (i j : Fin n) (hij : i < j) : Ord f (sortedFrom (bef f) i) (sortedFrom (bef f) j) := by
  have hp := List.pairwise_iff_get.mp (pairwise_sort f (List.finRange n) (List.pairwise_lt_finRange n))
  unfold sortedFrom
  exact hp (i.cast (length_sortPositions n (bef f)).symm) (j.cast (length_sortPositions n (bef f)).symm) hij

theorem sorted_fst (f : Fin 8 → EReal) : sortedFrom (bef f) 0 = fst f := by
  refine Best.unique ⟨mem_univ _, fun j _ => ?_⟩ (fst_best f)
  obtain ⟨k, rfl⟩ := sortedFrom_surjective (bef f) j
  by_cases hk : k = 0
  · rw [hk]; exact ⟨le_rfl, fun _ => le_rfl⟩
  · have h := sorted_ord f 0 k (Fin.pos_of_ne_zero hk)
    exact ⟨h.1, fun e => (h.2 e).le⟩

theorem sorted_snd (f : Fin 8 → EReal) : sortedFrom (bef f) 1 = snd f := by
  refine Best.unique ⟨mem_erase.mpr ⟨fun e => ?_, mem_univ _⟩, fun j hj => ?_⟩ (snd_best f)
  · exact absurd (sortedFrom_injective (bef f) (e.trans (sorted_fst f).symm)) (by decide)
  · obtain ⟨k, rfl⟩ := sortedFrom_surjective (bef f) j
    have h0 : k ≠ 0 := fun e => (mem_erase.mp hj).1 (by rw [e]; exact sorted_fst f)
    by_cases hk : k = 1
    · rw [hk]; exact ⟨le_rfl, fun _ => le_rfl⟩
    · have h := sorted_ord f 1 k (by
        have h0' : k.val ≠ 0 := fun e => h0 (Fin.ext e)
        have h1' : k.val ≠ 1 := fun e => hk (Fin.ext e)
        show 1 < k.val
        omega)
      exact ⟨h.1, fun e => (h.2 e).le⟩

variable {N K : ℕ}

theorem along_eq (r : Fin N) (c k : Fin 8) :
    (ix2 r c : (⟨2, ![N, 8]⟩ : Shape).Idx).along (1 : Fin 2) k = ix2 r k := by
  unfold Shape.Idx.along
  funext a
  match a with
  | ⟨0, _⟩ => rfl
  | ⟨1, _⟩ => rfl

/-- A row's entries sorted by a comparison of them alone. -/
theorem sort2_fst {α β : Type} (gt : α → α → BitVec 1) (x : (⟨2, ![N, 8]⟩ : Shape).Idx → α) (y : (⟨2, ![N, 8]⟩ : Shape).Idx → β) (r : Fin N) (k : Fin 8) :
    (Host.sort2 ⟨2, ![N, 8]⟩ 1 (fun l r => gt l.1 r.1) x y).1 (ix2 r k)
      = x (ix2 r (sortedFrom (fun a b => gt (x (ix2 r a)) (x (ix2 r b)) == 1#1) k)) := by
  unfold Host.sort2
  rw [dif_pos (show 1 < (⟨2, ![N, 8]⟩ : Shape).rank from Nat.one_lt_two)]
  refine (congrArg x (along_eq r k _)).trans (congrArg (fun B => x (ix2 r (sortedFrom B k))) ?_)
  funext a b
  exact congrArg₂ (fun p q => gt (x p) (x q) == 1#1) (along_eq r k a) (along_eq r k b)

theorem sort2_snd {α β : Type} (gt : α → α → BitVec 1) (x : (⟨2, ![N, 8]⟩ : Shape).Idx → α) (y : (⟨2, ![N, 8]⟩ : Shape).Idx → β) (r : Fin N) (k : Fin 8) :
    (Host.sort2 ⟨2, ![N, 8]⟩ 1 (fun l r => gt l.1 r.1) x y).2 (ix2 r k)
      = y (ix2 r (sortedFrom (fun a b => gt (x (ix2 r a)) (x (ix2 r b)) == 1#1) k)) := by
  unfold Host.sort2
  rw [dif_pos (show 1 < (⟨2, ![N, 8]⟩ : Shape).rank from Nat.one_lt_two)]
  refine (congrArg y (along_eq r k _)).trans (congrArg (fun B => y (ix2 r (sortedFrom B k))) ?_)
  funext a b
  exact congrArg₂ (fun p q => gt (x p) (x q) == 1#1) (along_eq r k a) (along_eq r k b)

variable (x : (⟨2, ![N, 8]⟩ : Shape).Idx → EReal) (h : (⟨2, ![N, 8]⟩ : Shape).Slices (fun _ => 0) ⟨2, ![N, K]⟩) (r : Fin N)

/-- The values of the greatest entries of a row. -/
theorem topK_value (k : Fin K) (k' : Fin 8) (hk : k'.val = k.val) :
    (Host.topK ⟨2, ![N, K]⟩ 1 (FloatOps.cmpfTotal (F := Ideal) (φ := .f32) .gt) x h).1 (ix2 r k)
      = x (ix2 r (sortedFrom (bef fun c => x (ix2 r c)) k')) := by
  have key : ∀ j, j = ix2 r k' → (Host.sort2 ⟨2, ![N, 8]⟩ 1 (fun l r => FloatOps.cmpfTotal (F := Ideal) (φ := .f32) .gt l.1 r.1) x
      (fun i => if hd : 1 < (⟨2, ![N, 8]⟩ : Shape).rank then iotaInDim ⟨2, ![N, 8]⟩ 32 ⟨1, hd⟩ i else 0#32)).1 j = x (ix2 r (sortedFrom (bef fun c => x (ix2 r c)) k')) := fun j hj => by
    rw [hj]
    exact sort2_fst (FloatOps.cmpfTotal (F := Ideal) (φ := .f32) .gt) x _ r k'
  refine Eq.trans (key _ (funext fun a => Fin.ext ?_)) rfl
  match a with
  | ⟨0, _⟩ => show 0 + r.val = r.val; omega
  | ⟨1, _⟩ => show 0 + k.val = k'.val; omega

/-- Their positions. -/
theorem topK_index (k : Fin K) (k' : Fin 8) (hk : k'.val = k.val) :
    (Host.topK ⟨2, ![N, K]⟩ 1 (FloatOps.cmpfTotal (F := Ideal) (φ := .f32) .gt) x h).2 (ix2 r k)
      = BitVec.ofNat 32 (sortedFrom (bef fun c => x (ix2 r c)) k').val := by
  have key : ∀ j, j = ix2 r k' → (Host.sort2 ⟨2, ![N, 8]⟩ 1 (fun l r => FloatOps.cmpfTotal (F := Ideal) (φ := .f32) .gt l.1 r.1) x
      (fun i => if hd : 1 < (⟨2, ![N, 8]⟩ : Shape).rank then iotaInDim ⟨2, ![N, 8]⟩ 32 ⟨1, hd⟩ i else 0#32)).2 j = BitVec.ofNat 32 (sortedFrom (bef fun c => x (ix2 r c)) k').val := fun j hj => by
    rw [hj]
    exact sort2_snd (FloatOps.cmpfTotal (F := Ideal) (φ := .f32) .gt) x _ r k'
  refine Eq.trans (key _ (funext fun a => Fin.ext ?_)) rfl
  match a with
  | ⟨0, _⟩ => show 0 + r.val = r.val; omega
  | ⟨1, _⟩ => show 0 + k.val = k'.val; omega

end Cert.Picked
-- ==== Proof.Route.RefPick.lean ====
module

public import proofs.«01_k».proof.Proof.Route.RefNorm
public import proofs.«01_k».proof.Proof.Route.Sort

@[expose] public section

/-! What the reference picks for a token: the group of greatest probability, that probability, and the logits of
    that group's experts. -/

noncomputable section

namespace Cert.Picked

open Cert.Joined (mixed stepped mixRow newRow newH)
open Cert.RefRouteIdeal Cert.RefRouteIdeal.Gen Cert.RefRouteIdeal.Read
open Idealize.ShloMosaic Idealize.ShloMosaic.TcCoe Idealize.ShloMosaic.ValueIdx Idealize.ShloMosaic.StableHlo
open Cert.Attn (Fini)

variable (A B : S8704x1024.Idx → EReal) (Gt : S8704x4096.Idx → EReal) (H : S8704x2048.Idx → EReal)
  (Wa Wb : S1024x2048.Idx → EReal) (Wo : S2048x2048.Idx → EReal) (G : S2048.Idx → EReal)
  (Wc : S2048x8.Idx → EReal) (bc : S8.Idx → EReal) (Wf : S2048x8x8.Idx → EReal) (bf : S8x8.Idx → EReal)

/-- The row of the residual stream that holds a token. -/
def rowOf (R : Fin 8256) : Fin 8704 := ⟨2176 * (R.val / 2064) + 112 + R.val % 2064, by omega⟩

theorem ref_tok (R : Fin 8256) (k : Fin 2048) :
    val_main_v33 (F := Ideal) A B Gt H Wa Wb Wo G (ix2 R k) = normed A B Gt H Wa Wb Wo G (rowOf R) k := by
  have hR := R.isLt
  have hk := k.isLt
  rw [val_main_v33_apply]
  refine Eq.trans (congrArg (val_main_v32 (F := Ideal) A B Gt H Wa Wb Wo G) (funext fun a => Fin.ext ?_))
    (ref_norm A B Gt H Wa Wb Wo G (⟨R.val / 2064, by omega⟩ : Fin 4) (⟨R.val % 2064, by omega⟩ : Fin 2064) k (rowOf R) rfl)
  match a with
  | ⟨0, _⟩ => show (R.val * 2048 + k.val) / 4227072 = R.val / 2064; omega
  | ⟨1, _⟩ => show (R.val * 2048 + k.val) / 2048 % 2064 = R.val % 2064; omega
  | ⟨2, _⟩ => show (R.val * 2048 + k.val) % 2048 = k.val; omega

/-- The reference's group logits. -/
theorem ref_coarse (R : Fin 8256) (g : Fin 8) :
    val_main_v37 (F := Ideal) A B Gt H Wa Wb Wo G Wc bc (ix2 R g) = coarse A B Gt H Wa Wb Wo G Wc bc (rowOf R) g := by
  rw [val_main_v37_apply, val_main_v34_apply, val_main_v36_apply, val_main_v35_apply]
  refine congrArg₂ (fun x y : EReal => x + y) (Finset.sum_congr rfl fun k _ => congrArg₂ (· * ·) ?_ (congrArg Wc (funext fun a => ?_))) (congrArg bc (funext fun a => ?_))
  · refine (congrArg (val_main_v33 (F := Ideal) A B Gt H Wa Wb Wo G) (funext fun a => ?_)).trans (ref_tok A B Gt H Wa Wb Wo G R k)
    match a with
    | ⟨0, _⟩ => rfl
    | ⟨1, _⟩ => rfl
  · match a with
    | ⟨0, _⟩ => rfl
    | ⟨1, _⟩ => rfl
  · match a with
    | ⟨0, _⟩ => rfl

/-- The reference's logits of all experts. -/
theorem ref_fine (R : Fin 8256) (g j : Fin 8) :
    val_main_v53 (F := Ideal) A B Gt H Wa Wb Wo G Wf bf (ix3 R g j) = fine A B Gt H Wa Wb Wo G Wf bf (rowOf R) g j := by
  rw [val_main_v53_apply, val_main_v50_apply, val_main_v52_apply, val_main_v51_apply]
  refine congrArg₂ (fun x y : EReal => x + y) (Finset.sum_congr rfl fun k _ => congrArg₂ (· * ·) ?_ (congrArg Wf (funext fun a => ?_))) (congrArg bf (funext fun a => ?_))
  · refine (congrArg (val_main_v33 (F := Ideal) A B Gt H Wa Wb Wo G) (funext fun a => ?_)).trans (ref_tok A B Gt H Wa Wb Wo G R k)
    match a with
    | ⟨0, _⟩ => rfl
    | ⟨1, _⟩ => rfl
  · match a with
    | ⟨0, _⟩ => rfl
    | ⟨1, _⟩ => rfl
    | ⟨2, _⟩ => rfl
  · match a with
    | ⟨0, _⟩ => rfl
    | ⟨1, _⟩ => rfl

theorem fold_fst (f : Fin 8 → EReal) : Finset.univ.fold max ⊥ f = f (fst f) :=
  le_antisymm ((Finset.fold_max_le _).mpr ⟨bot_le, fun j hj => ((fst_best f).2 j hj).1⟩)
    ((Finset.le_fold_max _).mpr (Or.inr ⟨fst f, Finset.mem_univ _, le_rfl⟩))

section
variable (R : Fin 8256) (C : Fin 8 → EReal) (hC : ∀ g, val_main_v37 (F := Ideal) A B Gt H Wa Wb Wo G Wc bc (ix2 R g) = C g)
include hC

theorem ref_value : val_main_v47 (F := Ideal) A B Gt H Wa Wb Wo G Wc bc (ix1 R) = C (fst C) := by
  have hR := R.isLt
  have e : (fun c => val_main_v37 (F := Ideal) A B Gt H Wa Wb Wo G Wc bc (ix2 R c)) = C := funext hC
  rw [val_main_v47_apply]
  refine (congrArg (val_main_values (F := Ideal) A B Gt H Wa Wb Wo G Wc bc) (funext fun a => Fin.ext ?_ : _ = ix2 R (0 : Fin 1))).trans ?_
  · match a with
    | ⟨0, _⟩ => show R.val / 1 = R.val; omega
    | ⟨1, _⟩ => rfl
  · unfold val_main_values
    refine (topK_value _ _ R (0 : Fin 1) 0 rfl).trans ?_
    rw [e, sorted_fst, hC]

theorem ref_group : val_main_v38 (F := Ideal) A B Gt H Wa Wb Wo G Wc bc (ix1 R) = BitVec.ofNat 32 (fst C).val := by
  have hR := R.isLt
  have e : (fun c => val_main_v37 (F := Ideal) A B Gt H Wa Wb Wo G Wc bc (ix2 R c)) = C := funext hC
  rw [val_main_v38_apply]
  refine (congrArg (val_main_indices (F := Ideal) A B Gt H Wa Wb Wo G Wc bc) (funext fun a => Fin.ext ?_ : _ = ix2 R (0 : Fin 1))).trans ?_
  · match a with
    | ⟨0, _⟩ => show R.val / 1 = R.val; omega
    | ⟨1, _⟩ => rfl
  · unfold val_main_indices
    refine (topK_index _ _ R (0 : Fin 1) 0 rfl).trans ?_
    rw [e, sorted_fst]

theorem ref_max : val_main_v39 (F := Ideal) A B Gt H Wa Wb Wo G Wc bc (ix1 R) = C (fst C) := by
  unfold val_main_v39 val_main_cst_2
  refine (eight_max _ R).trans ?_
  rw [show (fun k => val_main_v37 (F := Ideal) A B Gt H Wa Wb Wo G Wc bc (ix2 R k)) = C from funext hC, fold_fst]

theorem ref_total : val_main_v44 (F := Ideal) A B Gt H Wa Wb Wo G Wc bc (ix1 R) = ∑ j, Ideal.exp (C j - C (fst C)) := by
  rw [val_main_v44_apply]
  refine Eq.trans (congrArg (· + _) (Ideal.ofBits_zero_f32 : (Ideal.ofBits .f32 0x00000000#32 : EReal) = 0)) ?_
  rw [zero_add]
  refine Finset.sum_congr rfl fun k _ => ?_
  have e : idx_main_v44 (ix1 R) k = ix2 R k := funext fun a => by
    match a with
    | ⟨0, _⟩ => rfl
    | ⟨1, _⟩ => rfl
  have e' : idx_main_v40 (idx_main_v41 (ix2 R k)) = ix1 R := funext fun a => by
    match a with
    | ⟨0, _⟩ => rfl
  rw [val_main_v43_apply, val_main_v42_apply, val_main_v41_apply, val_main_v40_apply, e, e', hC, ref_max A B Gt H Wa Wb Wo G Wc bc R C hC]
  rfl

/-- The reference's probability of the group. -/
theorem ref_prob (hf : ∀ g, Fini (C g)) : val_main_v49 (F := Ideal) A B Gt H Wa Wb Wo G Wc bc (ix1 R) = prob C := by
  choose y hy using hf
  have hs : ∑ j, Ideal.exp (C j - C (fst C)) = ((∑ j, Real.exp (y j - y (fst C)) : ℝ) : EReal) := by
    rw [coe_sum]
    refine Finset.sum_congr rfl fun j _ => ?_
    rw [hy j, hy (fst C), ← EReal.coe_sub, Ideal.exp_coe]
  have hp : 0 < ∑ j, Real.exp (y j - y (fst C)) := Finset.sum_pos (fun j _ => Real.exp_pos _) ⟨0, Finset.mem_univ _⟩
  rw [val_main_v49_apply, val_main_v48_apply, val_main_v46_apply, val_main_v45_apply, ref_value A B Gt H Wa Wb Wo G Wc bc R C hC,
    ref_max A B Gt H Wa Wb Wo G Wc bc R C hC, ref_total A B Gt H Wa Wb Wo G Wc bc R C hC]
  unfold prob
  rw [hs]
  generalize ∑ j, Real.exp (y j - y (fst C)) = s at hp
  rw [hy (fst C)]
  show Ideal.exp ((y (fst C) : EReal) - (Ideal.log (s : EReal) + (y (fst C) : EReal))) = Ideal.div 1 (s : EReal)
  rw [Ideal.log_coe, if_neg (not_le.mpr hp)]
  refine (congrArg Ideal.exp (?_ : (y (fst C) : EReal) - ((Real.log s : EReal) + (y (fst C) : EReal)) = ((-Real.log s : ℝ) : EReal))).trans ?_
  · rw [← EReal.coe_add, ← EReal.coe_sub, EReal.coe_eq_coe_iff]; ring
  · unfold Ideal.div
    rw [Ideal.exp_coe, if_neg (by rw [← EReal.coe_zero, EReal.coe_eq_coe_iff]; exact hp.ne'), Real.exp_neg, Real.exp_log hp, one_mul, EReal.coe_inv]
end

end Cert.Picked
-- ==== Proof.Route.RefFine.lean ====
module

public import proofs.«01_k».proof.Proof.Route.RefPick

@[expose] public section

/-! The logits of the chosen group's experts, as the reference takes them, and its choice of two of them. -/

noncomputable section

namespace Cert.Picked

open Cert.RefRouteIdeal Cert.RefRouteIdeal.Gen Cert.RefRouteIdeal.Read
open Idealize.ShloMosaic Idealize.ShloMosaic.TcCoe Idealize.ShloMosaic.ValueIdx Idealize.ShloMosaic.StableHlo
open Cert.Attn (Fini)

theorem word_select (g : Fin 8) : Scalar.select (IntOp.cmpi .slt (BitVec.ofNat 32 g.val) 0#32) (IntOp.addi (BitVec.ofNat 32 g.val) 8#32) (BitVec.ofNat 32 g.val)
    = BitVec.ofNat 32 g.val := by
  revert g; decide

theorem word_inside (g : Fin 8) : IntOp.andi (IntOp.cmpi .sge (BitVec.ofNat 32 g.val) 0#32) (IntOp.cmpi .sle (BitVec.ofNat 32 g.val) 7#32) = 1#1 := by
  revert g; decide

theorem word_clamp (g : Fin 8) : min (BitVec.ofNat 32 g.val).toInt.toNat 7 = g.val := by
  revert g; decide

theorem foldl_ones {ι : Type} (l : List ι) (x : ι → BitVec 1) (h : ∀ i, x i = 1#1) : l.foldl (fun r n => IntOp.andi r (x n)) 1#1 = 1#1 := by
  induction l with
  | nil => rfl
  | cons a l ih =>
    rw [List.foldl_cons, h a]
    exact ih

variable (A B : S8704x1024.Idx → EReal) (Gt : S8704x4096.Idx → EReal) (H : S8704x2048.Idx → EReal)
  (Wa Wb : S1024x2048.Idx → EReal) (Wo : S2048x2048.Idx → EReal) (G : S2048.Idx → EReal)
  (Wc : S2048x8.Idx → EReal) (bc : S8.Idx → EReal) (Wf : S2048x8x8.Idx → EReal) (bf : S8x8.Idx → EReal)

theorem ref_word (i : S8256x1x1.Idx) : ∃ g : Fin 8, val_main_call0_v4 (F := Ideal) A B Gt H Wa Wb Wo G Wc bc i = BitVec.ofNat 32 g.val
    ∧ (∀ C : Fin 8 → EReal, (∀ k, val_main_v37 (F := Ideal) A B Gt H Wa Wb Wo G Wc bc (ix2 (i 0) k) = C k) → g = fst C) := by
  refine ⟨fst fun k => val_main_v37 (F := Ideal) A B Gt H Wa Wb Wo G Wc bc (ix2 (i 0) k), ?_, fun C hC => congrArg fst (funext hC)⟩
  have e : idx_main_v54 i = ix1 (i 0) := funext fun a => by
    match a with
    | ⟨0, _⟩ => rfl
  have h : val_main_v54 (F := Ideal) A B Gt H Wa Wb Wo G Wc bc i = BitVec.ofNat 32 (fst fun k => val_main_v37 (F := Ideal) A B Gt H Wa Wb Wo G Wc bc (ix2 (i 0) k)).val := by
    rw [val_main_v54_apply, e]
    exact ref_group A B Gt H Wa Wb Wo G Wc bc (i 0) _ fun _ => rfl
  rw [val_main_call0_v4_apply, val_main_call0_v1_apply, val_main_call0_v3_apply, val_main_call0_v0_apply, val_main_call0_v2_apply,
    val_main_call0_c_apply, val_main_call0_c_0_apply, h]
  exact word_select _

theorem ref_inside (j : S8256x1.Idx) : val_main_call0_v11 (F := Ideal) A B Gt H Wa Wb Wo G Wc bc j = 1#1 := by
  unfold val_main_call0_v11
  show List.foldl _ (val_main_call0_c_3 (F := Ideal) _) _ = 1#1
  rw [val_main_call0_c_3_apply]
  refine foldl_ones _ (fun n => val_main_call0_v10 (F := Ideal) A B Gt H Wa Wb Wo G Wc bc (S8256x1x1.rowMajor.symm n)) fun n => ?_
  obtain ⟨g, hg, -⟩ := ref_word A B Gt H Wa Wb Wo G Wc bc (S8256x1x1.rowMajor.symm n)
  rw [val_main_call0_v10_apply, val_main_call0_v6_apply, val_main_call0_v9_apply, val_main_call0_v5_apply, val_main_call0_v8_apply,
    val_main_call0_v7_apply, val_main_call0_c_1_apply, val_main_call0_c_2_apply, hg]
  exact word_inside g

/-- Taking along the middle axis at a row's own word. -/
theorem take_at (x : S8256x8x8.Idx → EReal) (w : S8256x1x1.Idx → BitVec 32) (R : Fin 8256) (g j : Fin 8)
    (hw : w (ix3 R 0 0) = BitVec.ofNat 32 g.val) :
    Host.gather gather_S8256x8x8_S8256x1x1_S8256x1x8_2_1_0_0_1_2_118 x w (ix3 R 0 j) = x (ix3 R g j) := by
  let d := gather_S8256x8x8_S8256x1x1_S8256x1x8_2_1_0_0_1_2_118
  refine congrArg x (funext fun a => Fin.ext ?_)
  show d.start (ix3 R 0 j) w a + d.batchCoord (ix3 R 0 j) a + d.offCoord (ix3 R 0 j) a = _
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ d.operandBatchingDims from List.mem_singleton.mpr rfl)]
    rfl
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ d.startIndexMap from List.mem_singleton.mpr rfl)]
    have hsi : d.siIdx (ix3 R 0 j) ⟨List.idxOf (1 : Fin 3) d.startIndexMap,
        List.idxOf_lt_length_iff.2 (List.mem_singleton.mpr rfl)⟩ = ix3 R 0 0 := by
      funext b; refine Fin.ext ?_
      match b with
      | ⟨0, _⟩ => rfl
      | ⟨1, _⟩ => rfl
      | ⟨2, _⟩ => rfl
    refine (congrArg (fun v : BitVec 32 => min v.toInt.toNat 7) ((congrArg w hsi).trans hw)).trans (word_clamp g)
  · rw [GatherDims.batchCoord_eq_zero _ _ _ (by decide)]
    unfold GatherDims.start GatherDims.offCoord
    rw [dif_neg (by decide), dif_pos (by decide)]
    simp only [Nat.zero_add]
    rfl

section
variable (R : Fin 8256) (C : Fin 8 → EReal) (hC : ∀ g, val_main_v37 (F := Ideal) A B Gt H Wa Wb Wo G Wc bc (ix2 R g) = C g)
  (Fl : Fin 8 → Fin 8 → EReal) (hF : ∀ g j, val_main_v53 (F := Ideal) A B Gt H Wa Wb Wo G Wf bf (ix3 R g j) = Fl g j)
include hC hF

/-- The logits of the chosen group's experts. -/
theorem ref_taken (j : Fin 8) : val_main_v56 (F := Ideal) A B Gt H Wa Wb Wo G Wc bc Wf bf (ix2 R j) = Fl (fst C) j := by
  have hR := R.isLt
  have hj := j.isLt
  rw [val_main_v56_apply]
  refine (congrArg (val_main_v55 (F := Ideal) A B Gt H Wa Wb Wo G Wc bc Wf bf) (funext fun a => Fin.ext ?_ : _ = ix3 R (0 : Fin 1) j)).trans ?_
  · match a with
    | ⟨0, _⟩ => show (R.val * 8 + j.val) / 8 = R.val; omega
    | ⟨1, _⟩ => rfl
    | ⟨2, _⟩ => show (R.val * 8 + j.val) % 8 = j.val; omega
  · obtain ⟨g, hg, hu⟩ := ref_word A B Gt H Wa Wb Wo G Wc bc (ix3 R (0 : Fin 1) (0 : Fin 1))
    rw [val_main_v55_apply, val_main_call0_v13_apply, ref_inside A B Gt H Wa Wb Wo G Wc bc]
    refine (if_pos rfl).trans ?_
    unfold val_main_call0_v12
    refine (take_at _ _ R g j hg).trans ?_
    rw [hF, hu C hC]

theorem ref_val0 : val_main_values_4 (F := Ideal) A B Gt H Wa Wb Wo G Wc bc Wf bf (ix2 R (0 : Fin 2)) = Fl (fst C) (fst (Fl (fst C))) := by
  have e : (fun j => val_main_v56 (F := Ideal) A B Gt H Wa Wb Wo G Wc bc Wf bf (ix2 R j)) = Fl (fst C) := funext (ref_taken A B Gt H Wa Wb Wo G Wc bc Wf bf R C hC Fl hF)
  unfold val_main_values_4
  refine (topK_value _ _ R (0 : Fin 2) 0 rfl).trans ?_
  rw [e, sorted_fst, ref_taken A B Gt H Wa Wb Wo G Wc bc Wf bf R C hC Fl hF]

theorem ref_val1 : val_main_values_4 (F := Ideal) A B Gt H Wa Wb Wo G Wc bc Wf bf (ix2 R (1 : Fin 2)) = Fl (fst C) (snd (Fl (fst C))) := by
  have e : (fun j => val_main_v56 (F := Ideal) A B Gt H Wa Wb Wo G Wc bc Wf bf (ix2 R j)) = Fl (fst C) := funext (ref_taken A B Gt H Wa Wb Wo G Wc bc Wf bf R C hC Fl hF)
  unfold val_main_values_4
  refine (topK_value _ _ R (1 : Fin 2) 1 rfl).trans ?_
  rw [e, sorted_snd, ref_taken A B Gt H Wa Wb Wo G Wc bc Wf bf R C hC Fl hF]

theorem ref_idx0 : val_main_indices_5 (F := Ideal) A B Gt H Wa Wb Wo G Wc bc Wf bf (ix2 R (0 : Fin 2)) = BitVec.ofNat 32 (fst (Fl (fst C))).val := by
  have e : (fun j => val_main_v56 (F := Ideal) A B Gt H Wa Wb Wo G Wc bc Wf bf (ix2 R j)) = Fl (fst C) := funext (ref_taken A B Gt H Wa Wb Wo G Wc bc Wf bf R C hC Fl hF)
  unfold val_main_indices_5
  refine (topK_index _ _ R (0 : Fin 2) 0 rfl).trans ?_
  rw [e, sorted_fst]

theorem ref_idx1 : val_main_indices_5 (F := Ideal) A B Gt H Wa Wb Wo G Wc bc Wf bf (ix2 R (1 : Fin 2)) = BitVec.ofNat 32 (snd (Fl (fst C))).val := by
  have e : (fun j => val_main_v56 (F := Ideal) A B Gt H Wa Wb Wo G Wc bc Wf bf (ix2 R j)) = Fl (fst C) := funext (ref_taken A B Gt H Wa Wb Wo G Wc bc Wf bf R C hC Fl hF)
  unfold val_main_indices_5
  refine (topK_index _ _ R (1 : Fin 2) 1 rfl).trans ?_
  rw [e, sorted_snd]
end

end Cert.Picked
-- ==== Proof.Route.RefOut.lean ====
module

public import proofs.«01_k».proof.Proof.Route.RefFine

@[expose] public section

/-! The reference's router result, read at any row and column. -/

noncomputable section

namespace Cert.Picked

open Cert.RefRouteIdeal Cert.RefRouteIdeal.Gen Cert.RefRouteIdeal.Read
open Idealize.ShloMosaic Idealize.ShloMosaic.TcCoe Idealize.ShloMosaic.ValueIdx Idealize.ShloMosaic.StableHlo
open Cert.Attn (Fini)

theorem fold_two (f : Fin 2 → EReal) (h : f 1 ≤ f 0) : Finset.univ.fold max ⊥ f = f 0 := by
  refine le_antisymm ((Finset.fold_max_le _).mpr ⟨bot_le, fun j _ => ?_⟩) ((Finset.le_fold_max _).mpr (Or.inr ⟨0, Finset.mem_univ _, le_rfl⟩))
  match j with
  | ⟨0, _⟩ => exact le_rfl
  | ⟨1, _⟩ => exact h

theorem div_mul_swap (a p d : EReal) (hd : d ≠ 0) : Ideal.div a d * p = Ideal.div (p * a) d := by
  unfold Ideal.div
  rw [if_neg hd, if_neg hd, mul_comm p a, mul_assoc, mul_comm _ p, ← mul_assoc]

theorem expert_word (g s : Fin 8) : (IntOp.addi (IntOp.muli (BitVec.ofNat 32 g.val) 8#32) (BitVec.ofNat 32 s.val)).toInt = ((g.val * 8 + s.val : ℕ) : ℤ) := by
  revert g s; decide

variable (A B : S8704x1024.Idx → EReal) (Gt : S8704x4096.Idx → EReal) (H : S8704x2048.Idx → EReal)
  (Wa Wb : S1024x2048.Idx → EReal) (Wo : S2048x2048.Idx → EReal) (G : S2048.Idx → EReal)
  (Wc : S2048x8.Idx → EReal) (bc : S8.Idx → EReal) (Wf : S2048x8x8.Idx → EReal) (bf : S8x8.Idx → EReal)

section
variable (R : Fin 8256) (C : Fin 8 → EReal) (hC : ∀ g, val_main_v37 (F := Ideal) A B Gt H Wa Wb Wo G Wc bc (ix2 R g) = C g)
  (Fl : Fin 8 → Fin 8 → EReal) (hF : ∀ g j, val_main_v53 (F := Ideal) A B Gt H Wa Wb Wo G Wf bf (ix3 R g j) = Fl g j)
include hC hF

theorem ref_top : val_main_v57 (F := Ideal) A B Gt H Wa Wb Wo G Wc bc Wf bf (ix1 R) = Fl (fst C) (fst (Fl (fst C))) := by
  unfold val_main_v57 val_main_cst_6
  refine (two_max _ R).trans ((fold_two _ ?_).trans (ref_val0 A B Gt H Wa Wb Wo G Wc bc Wf bf R C hC Fl hF))
  show val_main_values_4 (F := Ideal) A B Gt H Wa Wb Wo G Wc bc Wf bf (ix2 R (1 : Fin 2)) ≤ val_main_values_4 (F := Ideal) A B Gt H Wa Wb Wo G Wc bc Wf bf (ix2 R (0 : Fin 2))
  rw [ref_val0 A B Gt H Wa Wb Wo G Wc bc Wf bf R C hC Fl hF, ref_val1 A B Gt H Wa Wb Wo G Wc bc Wf bf R C hC Fl hF]
  exact ((fst_best _).2 _ (Finset.mem_univ _)).1

theorem ref_shift (t : Fin 2) : val_main_v61 (F := Ideal) A B Gt H Wa Wb Wo G Wc bc Wf bf (ix2 R t) = Fl (fst C) (fst (Fl (fst C))) := by
  have e : idx_main_v60 (idx_main_v61 (ix2 R t)) = ix1 R := funext fun a => by
    match a with
    | ⟨0, _⟩ => rfl
  rw [val_main_v61_apply, val_main_v60_apply, e, val_main_v59_apply, val_main_v58_apply, val_main_cst_7_apply, negInf, ref_top A B Gt H Wa Wb Wo G Wc bc Wf bf R C hC Fl hF]
  exact max_eq_right bot_le

theorem ref_exp0 (hf : ∀ g j, Fini (Fl g j)) : val_main_v63 (F := Ideal) A B Gt H Wa Wb Wo G Wc bc Wf bf (ix2 R (0 : Fin 2)) = 1 := by
  obtain ⟨y, hy⟩ := hf (fst C) (fst (Fl (fst C)))
  rw [val_main_v63_apply, val_main_v62_apply, ref_val0 A B Gt H Wa Wb Wo G Wc bc Wf bf R C hC Fl hF, ref_shift A B Gt H Wa Wb Wo G Wc bc Wf bf R C hC Fl hF, hy]
  show Ideal.exp ((y : EReal) - (y : EReal)) = 1
  rw [← EReal.coe_sub, sub_self, Ideal.exp_coe, Real.exp_zero, EReal.coe_one]

theorem ref_exp1 : val_main_v63 (F := Ideal) A B Gt H Wa Wb Wo G Wc bc Wf bf (ix2 R (1 : Fin 2)) = ratio (Fl (fst C)) := by
  rw [val_main_v63_apply, val_main_v62_apply, ref_val1 A B Gt H Wa Wb Wo G Wc bc Wf bf R C hC Fl hF, ref_shift A B Gt H Wa Wb Wo G Wc bc Wf bf R C hC Fl hF]
  rfl

theorem ref_both (hf : ∀ g j, Fini (Fl g j)) (t : Fin 2) : val_main_v66 (F := Ideal) A B Gt H Wa Wb Wo G Wc bc Wf bf (ix2 R t) = 1 + ratio (Fl (fst C)) := by
  have e : idx_main_v65 (idx_main_v66 (ix2 R t)) = ix1 R := funext fun a => by
    match a with
    | ⟨0, _⟩ => rfl
  have e' (k : Fin 2) : idx_main_v64 (ix1 R) k = ix2 R k := funext fun a => by
    match a with
    | ⟨0, _⟩ => rfl
    | ⟨1, _⟩ => rfl
  rw [val_main_v66_apply, val_main_v65_apply, e, val_main_v64_apply]
  refine Eq.trans (congrArg (· + _) (Ideal.ofBits_zero_f32 : (Ideal.ofBits .f32 0x00000000#32 : EReal) = 0)) ?_
  rw [zero_add, Fin.sum_univ_two, e', e', ref_exp0 A B Gt H Wa Wb Wo G Wc bc Wf bf R C hC Fl hF hf, ref_exp1 A B Gt H Wa Wb Wo G Wc bc Wf bf R C hC Fl hF]

theorem ratio_pos (hf : ∀ g j, Fini (Fl g j)) : 1 + ratio (Fl (fst C)) ≠ 0 := by
  obtain ⟨y, hy⟩ := hf (fst C) (fst (Fl (fst C)))
  obtain ⟨z, hz⟩ := hf (fst C) (snd (Fl (fst C)))
  have hp : (1 : ℝ) + Real.exp (z - y) ≠ 0 := by positivity
  unfold ratio
  rw [hy, hz, ← EReal.coe_sub, Ideal.exp_coe, ← EReal.coe_one, ← EReal.coe_add, ← EReal.coe_zero]
  exact fun h => hp (EReal.coe_eq_coe_iff.mp h)

theorem ref_grp (t : Fin 2) (hc : ∀ g, Fini (C g)) : val_main_v69 (F := Ideal) A B Gt H Wa Wb Wo G Wc bc (ix2 R t) = prob C := by
  have e : idx_main_v68 (idx_main_v69 (ix2 R t)) = ix1 R := funext fun a => by
    match a with
    | ⟨0, _⟩ => rfl
  rw [val_main_v69_apply, val_main_v68_apply, e, ref_prob A B Gt H Wa Wb Wo G Wc bc R C hC hc]

/-- The reference's weight of the first expert. -/
theorem ref_w0 (hc : ∀ g, Fini (C g)) (hf : ∀ g j, Fini (Fl g j)) :
    val_main_v70 (F := Ideal) A B Gt H Wa Wb Wo G Wc bc Wf bf (ix2 R (0 : Fin 2)) = Ideal.div (prob C) (1 + ratio (Fl (fst C))) := by
  rw [val_main_v70_apply, val_main_v67_apply, ref_exp0 A B Gt H Wa Wb Wo G Wc bc Wf bf R C hC Fl hF hf, ref_both A B Gt H Wa Wb Wo G Wc bc Wf bf R C hC Fl hF hf, ref_grp A B Gt H Wa Wb Wo G Wc bc Wf bf R C hC Fl hF _ hc]
  refine (div_mul_swap 1 _ _ (ratio_pos A B Gt H Wa Wb Wo G Wc bc Wf bf R C hC Fl hF hf)).trans ?_
  rw [mul_one]

/-- The reference's weight of the second expert. -/
theorem ref_w1 (hc : ∀ g, Fini (C g)) (hf : ∀ g j, Fini (Fl g j)) :
    val_main_v70 (F := Ideal) A B Gt H Wa Wb Wo G Wc bc Wf bf (ix2 R (1 : Fin 2)) = Ideal.div (prob C * ratio (Fl (fst C))) (1 + ratio (Fl (fst C))) := by
  rw [val_main_v70_apply, val_main_v67_apply, ref_exp1 A B Gt H Wa Wb Wo G Wc bc Wf bf R C hC Fl hF, ref_both A B Gt H Wa Wb Wo G Wc bc Wf bf R C hC Fl hF hf, ref_grp A B Gt H Wa Wb Wo G Wc bc Wf bf R C hC Fl hF _ hc]
  exact div_mul_swap _ _ _ (ratio_pos A B Gt H Wa Wb Wo G Wc bc Wf bf R C hC Fl hF hf)

theorem ref_base (t : Fin 2) : val_main_v74 (F := Ideal) A B Gt H Wa Wb Wo G Wc bc (ix2 R t) = IntOp.muli (BitVec.ofNat 32 (fst C).val) 8#32 := by
  have e : idx_main_v71 (idx_main_v74 (ix2 R t)) = ix1 R := funext fun a => by
    match a with
    | ⟨0, _⟩ => rfl
  rw [val_main_v74_apply, val_main_v73_apply, val_main_v71_apply, e, val_main_v72_apply, val_main_c_apply, ref_group A B Gt H Wa Wb Wo G Wc bc R C hC]

theorem ref_e0 : (val_main_v75 (F := Ideal) A B Gt H Wa Wb Wo G Wc bc Wf bf (ix2 R (0 : Fin 2))).toInt = (((fst C).val * 8 + (fst (Fl (fst C))).val : ℕ) : ℤ) := by
  rw [val_main_v75_apply, ref_base A B Gt H Wa Wb Wo G Wc bc Wf bf R C hC Fl hF, ref_idx0 A B Gt H Wa Wb Wo G Wc bc Wf bf R C hC Fl hF]
  exact expert_word _ _

theorem ref_e1 : (val_main_v75 (F := Ideal) A B Gt H Wa Wb Wo G Wc bc Wf bf (ix2 R (1 : Fin 2))).toInt = (((fst C).val * 8 + (snd (Fl (fst C))).val : ℕ) : ℤ) := by
  rw [val_main_v75_apply, ref_base A B Gt H Wa Wb Wo G Wc bc Wf bf R C hC Fl hF, ref_idx1 A B Gt H Wa Wb Wo G Wc bc Wf bf R C hC Fl hF]
  exact expert_word _ _
end

/-- The token that a row of the residual stream holds. -/
def tokOf (X : Fin 8704) (h : 112 ≤ X.val % 2176) : Fin 8256 := ⟨2064 * (X.val / 2176) + (X.val % 2176 - 112), by have := X.isLt; omega⟩

theorem rowOf_tokOf (X : Fin 8704) (h : 112 ≤ X.val % 2176) : rowOf (tokOf X h) = X := by
  have := X.isLt
  refine Fin.ext ?_
  show 2176 * ((2064 * (X.val / 2176) + (X.val % 2176 - 112)) / 2064) + 112 + (2064 * (X.val / 2176) + (X.val % 2176 - 112)) % 2064 = X.val
  omega

section
variable {α : Type} (x : S4x2064x2.Idx → α) (z : S_.Idx → α) (X : Fin 8704) (t : Fin 2) (i : S4x2176x2.Idx)
  (h0 : (i 0).val = X.val / 2176) (h1 : (i 1).val = X.val % 2176) (h2 : (i 2).val = t.val)
include h0 h1 h2

theorem padded_in (h : 112 ≤ X.val % 2176) :
    pad S4x2176x2 ![0, 112, 0] ![0, 0, 0] ![0, 0, 0] x z pads_S4x2064x2_S4x2176x2_000_11200_000 h_S_ i
      = x (ix3 (⟨X.val / 2176, by have := X.isLt; omega⟩ : Fin 4) (⟨X.val % 2176 - 112, by omega⟩ : Fin 2064) t) := by
  refine pad_apply_of_inside _ _ _ _ _ _ _ _ _ (fun a => ?_)
  match a with
  | ⟨0, _⟩ => show (i 0).val = 0 + X.val / 2176 * (0 + 1); omega
  | ⟨1, _⟩ => show (i 1).val = 112 + (X.val % 2176 - 112) * (0 + 1); omega
  | ⟨2, _⟩ => show (i 2).val = 0 + t.val * (0 + 1); omega

theorem padded_out (h : ¬112 ≤ X.val % 2176) :
    pad S4x2176x2 ![0, 112, 0] ![0, 0, 0] ![0, 0, 0] x z pads_S4x2064x2_S4x2176x2_000_11200_000 h_S_ i = z (Shape.Idx.first h_S_) := by
  refine pad_apply_of_not_inside _ _ _ _ _ _ _ _ (1 : Fin 3) (fun q => h ?_)
  have := q.1
  change 112 ≤ (i 1).val at this
  omega
end

theorem split_row (X : Fin 8704) (t : Fin 2) (i : S4x2176x2.Idx) (hi : i = idx_main_v78 (ix2 X t)) :
    (i 0).val = X.val / 2176 ∧ (i 1).val = X.val % 2176 ∧ (i 2).val = t.val := by
  have hX := X.isLt
  have ht := t.isLt
  subst hi
  refine ⟨?_, ?_, ?_⟩
  · show (X.val * 2 + t.val) / 4352 = X.val / 2176; omega
  · show (X.val * 2 + t.val) / 2 % 2176 = X.val % 2176; omega
  · show (X.val * 2 + t.val) % 2 = t.val; omega

theorem ref_experts_in (X : Fin 8704) (t : Fin 2) (h : 112 ≤ X.val % 2176) :
    val_main_v79 (F := Ideal) A B Gt H Wa Wb Wo G Wc bc Wf bf (ix2 X t) = (((val_main_v75 (F := Ideal) A B Gt H Wa Wb Wo G Wc bc Wf bf (ix2 (tokOf X h) t)).toInt : ℝ) : EReal) := by
  have hX := X.isLt
  have ht := t.isLt
  obtain ⟨h0, h1, h2⟩ := split_row X t _ rfl
  rw [val_main_v79_apply, val_main_v78_apply]
  refine congrArg (fun w : BitVec 32 => ((w.toInt : ℝ) : EReal)) ?_
  unfold val_main_v77
  refine (padded_in _ _ X t _ h0 h1 h2 h).trans ?_
  rw [val_main_v76_apply]
  refine congrArg (val_main_v75 (F := Ideal) A B Gt H Wa Wb Wo G Wc bc Wf bf) (funext fun a => Fin.ext ?_)
  match a with
  | ⟨0, _⟩ => show ((X.val / 2176 * 2064 + (X.val % 2176 - 112)) * 2 + t.val) / 2 = 2064 * (X.val / 2176) + (X.val % 2176 - 112); omega
  | ⟨1, _⟩ => show ((X.val / 2176 * 2064 + (X.val % 2176 - 112)) * 2 + t.val) % 2 = t.val; omega

theorem ref_experts_out (X : Fin 8704) (t : Fin 2) (h : ¬112 ≤ X.val % 2176) :
    val_main_v79 (F := Ideal) A B Gt H Wa Wb Wo G Wc bc Wf bf (ix2 X t) = ((64 : ℝ) : EReal) := by
  obtain ⟨h0, h1, h2⟩ := split_row X t _ rfl
  rw [val_main_v79_apply, val_main_v78_apply]
  unfold val_main_v77
  rw [padded_out _ _ X t _ h0 h1 h2 h]
  show (((64#32 : BitVec 32).toInt : ℝ) : EReal) = ((64 : ℝ) : EReal)
  rw [show (64#32 : BitVec 32).toInt = 64 by decide]
  norm_num

theorem ref_weights_in (X : Fin 8704) (t : Fin 2) (h : 112 ≤ X.val % 2176) :
    val_main_v82 (F := Ideal) A B Gt H Wa Wb Wo G Wc bc Wf bf (ix2 X t) = val_main_v70 (F := Ideal) A B Gt H Wa Wb Wo G Wc bc Wf bf (ix2 (tokOf X h) t) := by
  have hX := X.isLt
  have ht := t.isLt
  obtain ⟨h0, h1, h2⟩ := split_row X t _ rfl
  rw [val_main_v82_apply]
  unfold val_main_v81
  refine (padded_in _ _ X t _ h0 h1 h2 h).trans ?_
  rw [val_main_v80_apply]
  refine congrArg (val_main_v70 (F := Ideal) A B Gt H Wa Wb Wo G Wc bc Wf bf) (funext fun a => Fin.ext ?_)
  match a with
  | ⟨0, _⟩ => show ((X.val / 2176 * 2064 + (X.val % 2176 - 112)) * 2 + t.val) / 2 = 2064 * (X.val / 2176) + (X.val % 2176 - 112); omega
  | ⟨1, _⟩ => show ((X.val / 2176 * 2064 + (X.val % 2176 - 112)) * 2 + t.val) % 2 = t.val; omega

theorem ref_weights_out (X : Fin 8704) (t : Fin 2) (h : ¬112 ≤ X.val % 2176) : val_main_v82 (F := Ideal) A B Gt H Wa Wb Wo G Wc bc Wf bf (ix2 X t) = 0 := by
  obtain ⟨h0, h1, h2⟩ := split_row X t _ rfl
  rw [val_main_v82_apply]
  unfold val_main_v81
  refine (padded_out _ _ X t _ h0 h1 h2 h).trans ?_
  exact Ideal.ofBits_zero_f32

theorem ref_left (X : Fin 8704) (t : Fin 2) : val_main_v83 (F := Ideal) A B Gt H Wa Wb Wo G Wc bc Wf bf (ix2 X (⟨t.val, by omega⟩ : Fin 4)) = val_main_v79 (F := Ideal) A B Gt H Wa Wb Wo G Wc bc Wf bf (ix2 X t) := by
  unfold val_main_v83
  refine concatenate_apply_piece (t := S8704x4) 1 _ _ _ 0 (by show 0 < 2; omega) S8704x2 _ rfl rfl 0 rfl (ix2 X t) (fun b hb => ?_) ?_
  · match b with
    | ⟨0, _⟩ => rfl
    | ⟨1, _⟩ => exact absurd rfl hb
  · show 0 + t.val = t.val; omega

theorem ref_right (X : Fin 8704) (t : Fin 2) : val_main_v83 (F := Ideal) A B Gt H Wa Wb Wo G Wc bc Wf bf (ix2 X (⟨2 + t.val, by omega⟩ : Fin 4)) = val_main_v82 (F := Ideal) A B Gt H Wa Wb Wo G Wc bc Wf bf (ix2 X t) := by
  unfold val_main_v83
  refine concatenate_apply_piece (t := S8704x4) 1 _ _ _ 1 (by show 1 < 2; omega) S8704x2 _ rfl rfl 2 rfl (ix2 X t) (fun b hb => ?_) ?_
  · match b with
    | ⟨0, _⟩ => rfl
    | ⟨1, _⟩ => exact absurd rfl hb
  · show 2 + t.val = 2 + t.val; rfl

theorem ref_wide (X : Fin 8704) (J : Fin 128) :
    val_main_v84 (F := Ideal) A B Gt H Wa Wb Wo G Wc bc Wf bf (ix2 X J) = if h : J.val < 4 then val_main_v83 (F := Ideal) A B Gt H Wa Wb Wo G Wc bc Wf bf (ix2 X (⟨J.val, h⟩ : Fin 4)) else 0 := by
  unfold val_main_v84
  by_cases h : J.val < 4
  · rw [dif_pos h]
    refine pad_apply_of_inside _ _ _ _ _ _ _ _ _ (fun a => ?_)
    match a with
    | ⟨0, _⟩ => show X.val = 0 + X.val * (0 + 1); omega
    | ⟨1, _⟩ => show J.val = 0 + J.val * (0 + 1); omega
  · rw [dif_neg h]
    refine (pad_apply_of_not_inside _ _ _ _ _ _ _ _ (1 : Fin 2) (fun q => h ?_)).trans ?_
    · have := q.2.2
      change (J.val - 0) / (0 + 1) < 4 at this
      omega
    · show (((0#32 : BitVec 32).toInt : ℝ) : EReal) = 0
      simp

/-- The reference's router result. -/
theorem ref_route (X : Fin 8704) (J : Fin 128)
    (hc : ∀ g, Fini (coarse A B Gt H Wa Wb Wo G Wc bc X g)) (hf : ∀ g j, Fini (fine A B Gt H Wa Wb Wo G Wf bf X g j)) :
    val_main_v84 (F := Ideal) A B Gt H Wa Wb Wo G Wc bc Wf bf (ix2 X J)
      = if 112 ≤ X.val % 2176 then picked (coarse A B Gt H Wa Wb Wo G Wc bc X) (fine A B Gt H Wa Wb Wo G Wf bf X) J else unused J := by
  rw [ref_wide]
  by_cases h : 112 ≤ X.val % 2176
  · rw [if_pos h]
    have hC (g : Fin 8) : val_main_v37 (F := Ideal) A B Gt H Wa Wb Wo G Wc bc (ix2 (tokOf X h) g) = coarse A B Gt H Wa Wb Wo G Wc bc X g := by
      rw [ref_coarse, rowOf_tokOf]
    have hF (g j : Fin 8) : val_main_v53 (F := Ideal) A B Gt H Wa Wb Wo G Wf bf (ix3 (tokOf X h) g j) = fine A B Gt H Wa Wb Wo G Wf bf X g j := by
      rw [ref_fine, rowOf_tokOf]
    generalize coarse A B Gt H Wa Wb Wo G Wc bc X = C at hC hc
    generalize fine A B Gt H Wa Wb Wo G Wf bf X = Fl at hF hf
    unfold picked
    by_cases j0 : J.val = 0
    · rw [dif_pos (by omega), if_pos j0, show (⟨J.val, by omega⟩ : Fin 4) = ⟨(0 : Fin 2).val, by decide⟩ from Fin.ext j0, ref_left, ref_experts_in A B Gt H Wa Wb Wo G Wc bc Wf bf X 0 h,
        ref_e0 A B Gt H Wa Wb Wo G Wc bc Wf bf _ C hC Fl hF]
      norm_cast
    rw [if_neg j0]
    by_cases j1 : J.val = 1
    · rw [dif_pos (by omega), if_pos j1, show (⟨J.val, by omega⟩ : Fin 4) = ⟨(1 : Fin 2).val, by decide⟩ from Fin.ext j1, ref_left, ref_experts_in A B Gt H Wa Wb Wo G Wc bc Wf bf X 1 h,
        ref_e1 A B Gt H Wa Wb Wo G Wc bc Wf bf _ C hC Fl hF]
      norm_cast
    rw [if_neg j1]
    by_cases j2 : J.val = 2
    · rw [dif_pos (by omega), if_pos j2, show (⟨J.val, by omega⟩ : Fin 4) = ⟨2 + (0 : Fin 2).val, by decide⟩ from Fin.ext j2, ref_right, ref_weights_in A B Gt H Wa Wb Wo G Wc bc Wf bf X 0 h,
        ref_w0 A B Gt H Wa Wb Wo G Wc bc Wf bf _ C hC Fl hF hc hf]
    rw [if_neg j2]
    by_cases j3 : J.val = 3
    · rw [dif_pos (by omega), if_pos j3, show (⟨J.val, by omega⟩ : Fin 4) = ⟨2 + (1 : Fin 2).val, by decide⟩ from Fin.ext j3, ref_right, ref_weights_in A B Gt H Wa Wb Wo G Wc bc Wf bf X 1 h,
        ref_w1 A B Gt H Wa Wb Wo G Wc bc Wf bf _ C hC Fl hF hc hf]
    rw [if_neg j3, dif_neg (by omega)]
  · rw [if_neg h]
    unfold unused
    by_cases j2 : J.val < 2
    · rw [dif_pos (by omega), if_pos j2]
      exact (ref_left A B Gt H Wa Wb Wo G Wc bc Wf bf X ⟨J.val, j2⟩).trans (ref_experts_out A B Gt H Wa Wb Wo G Wc bc Wf bf X _ h)
    rw [if_neg j2]
    by_cases j4 : J.val < 4
    · rw [dif_pos j4, show (⟨J.val, j4⟩ : Fin 4) = ⟨2 + (⟨J.val - 2, by omega⟩ : Fin 2).val, by show 2 + (J.val - 2) < 4; omega⟩ from Fin.ext (by show J.val = 2 + (J.val - 2); omega),
        ref_right, ref_weights_out A B Gt H Wa Wb Wo G Wc bc Wf bf X _ h]
    rw [dif_neg j4]

end Cert.Picked
-- ==== Proof.Route.Claims.lean ====
module

public import proofs.«01_k».proof.Defs
public import proofs.«01_k».proof.Proof.Gen.Route.Frame
public import proofs.«01_k».proof.Proof.Gen.RouteIdeal.Frame
public import proofs.«01_k».proof.Proof.Route.Final
public import proofs.«01_k».proof.Proof.Route.RefOut
public import proofs.«01_k».proof.Proof.Attn.Claims

@[expose] public section

/-! The claims of the router's result of the merge. -/

noncomputable section

namespace Cert.Picked

open Idealize.ShloMosaic Idealize.ShloMosaic.TcCoe Idealize.SL.Sem
open Idealize.ShloMosaic.ValueIdx
open Cert.Attn (Fini fini_of_word)

/-- The side conditions of the predicate that the router's weights are finite. -/
theorem factsFinite : Cert.Pre_finite_route.Facts where
  bcast_S_S2048 := by decide
  bcast_S_S2048x8 := by decide
  bcast_S_S8 := by decide
  bcast_S_S2048x8x8 := by decide
  bcast_S_S8x8 := by decide

/-- The printed kernel runs, leaves its arguments and every counter as they were. -/
theorem frameKernel : Cert.quiescent_Route := fun m ρ _ => Cert.Route.Gen.frame m ρ

/-- So does the idealized kernel. -/
theorem frameIdeal : Cert.quiescent_RouteIdeal := fun m ρ _ => Cert.RouteIdeal.Gen.frame m ρ

/-- The same from finite router's weights. -/
theorem frameIdealFinite (h : Cert.Pre_finite_route.Facts) : Cert.quiescent_RouteIdeal_pre_finite_route (hPre_finite_route := h) :=
  fun m ρ _ => Cert.RouteIdeal.Gen.frame m ρ

/-- The reference runs, leaves its arguments and every counter as they were. -/
theorem frameRef : Cert.quiescent_RefRouteIdeal := fun m ρ _ =>
  (θ_run Cert.RefRouteIdeal.defs _ _).mono (fun r h => ⟨fun c => (h c).2, sem_eq_zero_of_no_sems (by decide) r.2⟩)
    (Cert.RefRouteIdeal.Value.run m ρ)

/-- The same from finite router's weights. -/
theorem frameRefFinite (h : Cert.Pre_finite_route.Facts) : Cert.quiescent_RefRouteIdeal_pre_finite_route (hPre_finite_route := h) :=
  fun m ρ _ => frameRef m ρ trivial

/-- From finite router's weights, and any other arguments, the kernel and the reference end with equal router results. -/
theorem same (h : Cert.Pre_finite_route.Facts) : Cert.algebraic_RouteIdeal_RefRouteIdeal_pre_finite_route (hPre_finite_route := h) := by
  intro m g m' g' hp hargs
  refine ⟨fun c => (Cert.RouteIdeal.Gen.dats m 0 c).arrAt 14 Cert.RouteIdeal.cfg0.N, ?_, ?_⟩
  · exact (θ_run Cert.RouteIdeal.defs _ _).mono (fun r h c => ⟨(h c).2.2.1, (h c).2.2.2⟩) (Cert.RouteIdeal.Value.run_blocks m g)
  · refine (θ_run Cert.RefRouteIdeal.defs _ _).mono (fun r hr c => ⟨(hr c).1.trans ?_, (hr c).2⟩) (Cert.RefRouteIdeal.Value.run m' g')
    have hG : ∀ i, Fini (argG m c i) := fun i => fini_of_word _ (congrFun (hp c).1 i)
    have hWc : ∀ i, Fini (argWc m c i) := fun i => fini_of_word _ (congrFun (hp c).2.1 i)
    have hbc : ∀ i, Fini (argBc m c i) := fun i => fini_of_word _ (congrFun (hp c).2.2.1 i)
    have hWf : ∀ i, Fini (argWf m c i) := fun i => fini_of_word _ (congrFun (hp c).2.2.2.1 i)
    have hbf : ∀ i, Fini (argBf m c i) := fun i => fini_of_word _ (congrFun (hp c).2.2.2.2 i)
    obtain ⟨h0, h1, h2, h3, h4, h5, h6, h7, h8, h9, h10, h11⟩ := hargs c
    rw [Cert.RefRouteIdeal.Read.val_main_v84_eq]
    change Cert.RefRouteIdeal.Read.val_main_v84 (F := Ideal)
      (m' ((c : Thread Cert.RefRouteIdeal.nD Cert.RefRouteIdeal.τ).loc Cert.RefRouteIdeal.main_arg0))
      (m' ((c : Thread Cert.RefRouteIdeal.nD Cert.RefRouteIdeal.τ).loc Cert.RefRouteIdeal.main_arg1))
      (m' ((c : Thread Cert.RefRouteIdeal.nD Cert.RefRouteIdeal.τ).loc Cert.RefRouteIdeal.main_arg2))
      (m' ((c : Thread Cert.RefRouteIdeal.nD Cert.RefRouteIdeal.τ).loc Cert.RefRouteIdeal.main_arg3))
      (m' ((c : Thread Cert.RefRouteIdeal.nD Cert.RefRouteIdeal.τ).loc Cert.RefRouteIdeal.main_arg4))
      (m' ((c : Thread Cert.RefRouteIdeal.nD Cert.RefRouteIdeal.τ).loc Cert.RefRouteIdeal.main_arg5))
      (m' ((c : Thread Cert.RefRouteIdeal.nD Cert.RefRouteIdeal.τ).loc Cert.RefRouteIdeal.main_arg6))
      (m' ((c : Thread Cert.RefRouteIdeal.nD Cert.RefRouteIdeal.τ).loc Cert.RefRouteIdeal.main_arg7))
      (m' ((c : Thread Cert.RefRouteIdeal.nD Cert.RefRouteIdeal.τ).loc Cert.RefRouteIdeal.main_arg8))
      (m' ((c : Thread Cert.RefRouteIdeal.nD Cert.RefRouteIdeal.τ).loc Cert.RefRouteIdeal.main_arg9))
      (m' ((c : Thread Cert.RefRouteIdeal.nD Cert.RefRouteIdeal.τ).loc Cert.RefRouteIdeal.main_arg10))
      (m' ((c : Thread Cert.RefRouteIdeal.nD Cert.RefRouteIdeal.τ).loc Cert.RefRouteIdeal.main_arg11)) = _
    rw [h0, h1, h2, h3, h4, h5, h6, h7, h8, h9, h10, h11]
    funext i
    have ei : i = ix2 (i 0) (i 1) := funext fun a => by
      match a with
      | ⟨0, _⟩ => rfl
      | ⟨1, _⟩ => rfl
    have e := (ref_route (argA m c) (argB m c) (argGt m c) (argH m c) (argWa m c) (argWb m c) (argWo m c) (argG m c) (argWc m c) (argBc m c) (argWf m c) (argBf m c) (i 0) (i 1)
      (coarse_fini (argA m c) (argB m c) (argGt m c) (argH m c) (argWa m c) (argWb m c) (argWo m c) (argG m c) (argWc m c) (argBc m c) hG hWc hbc (i 0))
      (fine_fini (argA m c) (argB m c) (argGt m c) (argH m c) (argWa m c) (argWb m c) (argWo m c) (argG m c) (argWf m c) (argBf m c) hG hWf hbf (i 0))).trans
      (final14 m c hG hWc hbc hWf hbf (i 0) (i 1)).symm
    exact (congrArg (Cert.RefRouteIdeal.Read.val_main_v84 (F := Ideal) (argA m c) (argB m c) (argGt m c) (argH m c) (argWa m c) (argWb m c) (argWo m c) (argG m c) (argWc m c) (argBc m c) (argWf m c) (argBf m c)) ei).trans
      (e.trans (congrArg ((Cert.RouteIdeal.Gen.dats m 0 c).arrAt 14 Cert.RouteIdeal.cfg0.N) ei.symm))

end Cert.Picked
-- ==== Proof.Rwkv.Core.lean ====
module

public import Idealize.ShloMosaic.Lib.ValueIdx
public import Idealize.ShloMosaic.Lib.KernelVsHost
public import Idealize.ShloMosaic.Lib.IdealHost

@[expose] public section

/-! The value projection with its token shift: the mathematics of the recurrence's second result. -/

noncomputable section

namespace Cert.Recur

open Idealize.ShloMosaic Idealize.ShloMosaic.TcCoe Idealize.ShloMosaic.ValueIdx

/-- The projected rows of all sequences. -/
abbrev Rows : Shape := ⟨2, ![8704, 3328]⟩
/-- The mixing weights of the token shift. -/
abbrev Mix : Shape := ⟨1, ![3264]⟩

/-- The projected rows at a row and a column given as numbers. -/
def rd (A : Rows.Idx → EReal) (R C : ℕ) : EReal :=
  if h : R < 8704 ∧ C < 3328 then A (ix2 (⟨R, h.1⟩ : Fin 8704) (⟨C, h.2⟩ : Fin 3328)) else 0

/-- Reading at an index is reading at its two numbers. -/
theorem rd_eq (A : Rows.Idx → EReal) (i : Rows.Idx) (R C : ℕ) (hR : (i 0).val = R) (hC : (i 1).val = C) : A i = rd A R C := by
  have h0 : R < 8704 := hR ▸ (i 0).isLt
  have h1 : C < 3328 := hC ▸ (i 1).isLt
  unfold rd
  rw [dif_pos ⟨h0, h1⟩]
  refine congrArg A (funext fun a => Fin.ext ?_)
  match a with
  | ⟨0, _⟩ => exact hR
  | ⟨1, _⟩ => exact hC

/-- The row before row `r` of sequence `b`; zero before the first. -/
def before (A : Rows.Idx → EReal) (b r C : ℕ) : EReal := if r = 0 then 0 else rd A (2176 * b + (r - 1)) C

/-- Row `r` of sequence `b`, column `2048 + j`, mixed with the row before it. -/
def shifted (A : Rows.Idx → EReal) (M : Mix.Idx → EReal) (b r : ℕ) (j : Fin 1024) : EReal :=
  rd A (2176 * b + r) (2048 + j.val)
    + (before A b r (2048 + j.val) - rd A (2176 * b + r) (2048 + j.val)) * M (ix1 (⟨2048 + j.val, by omega⟩ : Fin 3264))

end Cert.Recur
-- ==== Proof.Rwkv.Tile.lean ====
module

public import proofs.«01_k».proof.Proof.Gen.RwkvIdeal.Skeleton
public import proofs.«01_k».proof.Proof.Rwkv.Core

@[expose] public section

/-! What a grid step of the recurrence writes of its second result, read at a sequence, a row and a column. -/

noncomputable section

namespace Cert.Recur

open Cert.RwkvIdeal Cert.RwkvIdeal.Gen Idealize.ShloMosaic Idealize.ShloMosaic.TcCoe
open Idealize.ShloMosaic.ValueIdx

/-- A grid step's block of values: of its rows, of the four rows before them and of the mixing weights. -/
def tile {F : FTy → Type} [FloatOps F] (i : grid0.Coords) (z : Vec F S4x64x3328 .f32) (p0 p1 p2 p3 : Vec F S1x1x3328 .f32) (mu : Vec F S1x3328 .f32) :
    FVec F S4x64x1024 .f32 :=
  k0_pay26 (k0_pay21 (k0_pay11 (k0_pay3 z) (iota .tc S256x1 32 [0] iota_S256x1_d0_w32) k0_pay4 (k0_pay6 i p2) (k0_pay7 i p3) k0_pay8
    (k0_pay9 i p1) (k0_pay10 i p0) mu))

/-- A choice entry by entry. -/
theorem select_at {s : Shape} {α : Type} (c : IVec s 1) (x y : s.Idx → α) (i : s.Idx) (P : Prop) [Decidable P] (h : c i = 1#1 ↔ P) :
    select c x y i = if P then x i else y i := by
  show (if c i = 1 then x i else y i) = _
  by_cases hp : P
  · rw [if_pos hp]; exact if_pos (h.mpr hp)
  · rw [if_neg hp]; exact if_neg fun hc => hp (h.mp hc)

theorem col_spread {α : Type} (v : S256x1.Idx → α) (r : Fin 256) (C : Fin 3328) :
    broadcastTo S256x3328 v broadcasts_S256x1_S256x3328 (ix2 r C) = v (ix2 r (0 : Fin 1)) := by
  refine broadcastTo_apply _ _ _ _ fun a => ?_
  match a with
  | ⟨0, _⟩ => rfl
  | ⟨1, _⟩ => rfl

theorem row_spread {α : Type} (v : S1x3328.Idx → α) (r : Fin 256) (C : Fin 3328) :
    broadcastTo S256x3328 v broadcasts_S1x3328_S256x3328 (ix2 r C) = v (ix2 (0 : Fin 1) C) := by
  refine broadcastTo_apply _ _ _ _ fun a => ?_
  match a with
  | ⟨0, _⟩ => rfl
  | ⟨1, _⟩ => rfl

theorem row_number (r : Fin 256) : iota .tc S256x1 32 [0] iota_S256x1_d0_w32 (ix2 r (0 : Fin 1)) = BitVec.ofNat 32 r.val :=
  iota_single_apply _ _ _ _ _ _

theorem word_first : ∀ r : Fin 256, IntOp.cmpi .eq (IntOp.andi (BitVec.ofNat 32 r.val) 63#32) 0#32 = 1#1 ↔ r.val % 64 = 0 := by
  decide +kernel
theorem word_64 : ∀ r : Fin 256, IntOp.cmpi .sge (BitVec.ofNat 32 r.val) 64#32 = 1#1 ↔ 64 ≤ r.val := by decide +kernel
theorem word_128 : ∀ r : Fin 256, IntOp.cmpi .sge (BitVec.ofNat 32 r.val) 128#32 = 1#1 ↔ 128 ≤ r.val := by decide +kernel
theorem word_192 : ∀ r : Fin 256, IntOp.cmpi .sge (BitVec.ofNat 32 r.val) 192#32 = 1#1 ↔ 192 ≤ r.val := by decide +kernel

/-- Rows counted from a bound on. -/
theorem past (k : BitVec 32) (n : ℕ) (hk : ∀ r : Fin 256, IntOp.cmpi .sge (BitVec.ofNat 32 r.val) k = 1#1 ↔ n ≤ r.val) (r : Fin 256) (C : Fin 3328) :
    broadcastTo S256x3328 (cmpi .sge (iota .tc S256x1 32 [0] iota_S256x1_d0_w32) (broadcast S256x1 k)) broadcasts_S256x1_S256x3328 (ix2 r C) = 1#1
      ↔ n ≤ r.val := by
  rw [col_spread, ← hk r, ← row_number r]
  exact Iff.rfl

/-- The first rows of the four sequences' chunks. -/
theorem first (r : Fin 256) (C : Fin 3328) :
    broadcastTo S256x3328 (cmpi .eq k0_pay4 (broadcast S256x1 0#32)) broadcasts_S256x1_S256x3328 (ix2 r C) = 1#1 ↔ r.val % 64 = 0 := by
  rw [col_spread, ← word_first r, ← row_number r]
  exact Iff.rfl

/-- The row above, the last coming round to the first. -/
theorem above (v : FVec Ideal S256x3328 .f32) (r : Fin 256) (C : Fin 3328) :
    dynamicRotate 0 1#32 none v rotates_S256x3328_d0 (ix2 r C) = v (ix2 (⟨(r.val + 255) % 256, by omega⟩ : Fin 256) C) := by
  refine dynamicRotate_apply _ _ _ _ _ _ fun b => ?_
  match b with
  | ⟨0, _⟩ => show (r.val + 255) % 256 = (r.val + 256 - 1 % 256) % 256; omega
  | ⟨1, _⟩ => rfl

/-- A block's rows, each mixed with the row before it. -/
theorem mix_apply (v5 : FVec Ideal S256x3328 .f32) (v22 v26 : FVec Ideal S1x3328 .f32) (v32 v34 : FVec Ideal S256x3328 .f32)
    (mu : Vec Ideal S1x3328 .f32) (r : Fin 256) (C : Fin 3328) :
    k0_pay11 v5 (iota .tc S256x1 32 [0] iota_S256x1_d0_w32) k0_pay4 v22 v26 k0_pay8 v32 v34 mu (ix2 r C)
      = v5 (ix2 r C) + ((if r.val % 64 = 0 then
            (if 192 ≤ r.val then v26 (ix2 (0 : Fin 1) C) else if 128 ≤ r.val then v22 (ix2 (0 : Fin 1) C)
              else if 64 ≤ r.val then v32 (ix2 r C) else v34 (ix2 r C))
          else v5 (ix2 (⟨(r.val + 255) % 256, by omega⟩ : Fin 256) C)) - v5 (ix2 r C)) * mu (ix2 (0 : Fin 1) C) := by
  unfold k0_pay11 k0_pay8
  simp only [shapeCast_self]
  refine congrArg₂ (fun a b : EReal => v5 (ix2 r C) + (a - v5 (ix2 r C)) * b) ?_ (row_spread mu r C)
  rw [select_at _ _ _ _ _ (first r C), select_at _ _ _ _ _ (past _ _ word_192 r C), select_at _ _ _ _ _ (past _ _ word_128 r C),
    select_at _ _ _ _ _ (past _ _ word_64 r C), above, row_spread, row_spread]

/-- Whether a step has rows before it. -/
def live (i : grid0.Coords) : EReal := if 0 < (i 1).val then 1 else 0

theorem live_eq (i : grid0.Coords) : k0_pay5 (F := Ideal) i = live i := by
  have hi : (i 1).val < 34 := (i 1).isLt
  have h : ∀ n : Fin 34, Scalar.cmpi .sgt (BitVec.ofNat 32 n.val) 0#32 = 1#1 ↔ 0 < n.val := by decide +kernel
  have h' := h ⟨(i 1).val, hi⟩
  show (if Scalar.cmpi .sgt (BitVec.ofNat 32 (i 1).val) 0#32 = 1 then Ideal.ofBits .f32 0x3F800000#32 else Ideal.ofBits .f32 0x00000000#32) = _
  unfold live
  rw [Ideal.ofBits_one_f32, Ideal.ofBits_zero_f32]
  by_cases hp : 0 < (i 1).val
  · rw [if_pos hp]; exact if_pos (h'.mpr hp)
  · rw [if_neg hp]; exact if_neg fun hc => hp (h'.mp hc)

/-- One row before, dropped at the first step. -/
theorem one_before (i : grid0.Coords) (p : Vec Ideal S1x1x3328 .f32) (C : Fin 3328) :
    mulf (F := Ideal) (φ := .f32) (shapeCast S1x3328 p shapeCasts_S1x1x3328_S1x3328) (broadcast S1x3328 (k0_pay5 (F := Ideal) i)) (ix2 (0 : Fin 1) C)
      = p (ix3 (0 : Fin 1) (0 : Fin 1) C) * live i := by
  refine congrArg₂ (fun a b : EReal => a * b) (shapeCast_apply _ _ _ (ix3 (0 : Fin 1) (0 : Fin 1) C) ?_) (live_eq i)
  rw [Shape.rowMajor_val_three, Shape.rowMajor_val_two]
  show (0 * 1 + 0) * 3328 + C.val = 0 * 3328 + C.val
  omega

/-- The rows of the four sequences, one under another. -/
theorem stacked (z : Vec Ideal S4x64x3328 .f32) (r : Fin 256) (C : Fin 3328) (b : Fin 4) (s : Fin 64) (h : r.val = 64 * b.val + s.val) :
    k0_pay3 z (ix2 r C) = z (ix3 b s C) := by
  unfold k0_pay3
  simp only [shapeCast_self]
  refine shapeCast_apply _ _ _ _ ?_
  rw [Shape.rowMajor_val_three, Shape.rowMajor_val_two]
  show (b.val * 64 + s.val) * 3328 + C.val = r.val * 3328 + C.val
  rw [h, Nat.mul_comm 64]

/-- A grid step's value at row `s` of its chunk of sequence `b`, column `j`. -/
theorem tile_apply (i : grid0.Coords) (z : Vec Ideal S4x64x3328 .f32) (p : Fin 4 → Vec Ideal S1x1x3328 .f32) (mu : Vec Ideal S1x3328 .f32)
    (b : Fin 4) (s : Fin 64) (j : Fin 1024) (C : Fin 3328) (hC : C.val = 2048 + j.val) :
    tile i z (p 0) (p 1) (p 2) (p 3) mu (ix3 b s j)
      = z (ix3 b s C) + ((if s.val = 0 then p b (ix3 (0 : Fin 1) (0 : Fin 1) C) * live i
          else z (ix3 b (⟨s.val - 1, by omega⟩ : Fin 64) C)) - z (ix3 b s C)) * mu (ix2 (0 : Fin 1) C) := by
  have hb := b.isLt
  have hs := s.isLt
  let r : Fin 256 := ⟨64 * b.val + s.val, by omega⟩
  have hr : r.val = 64 * b.val + s.val := rfl
  unfold tile k0_pay26 k0_pay21
  dsimp only
  refine (shapeCast_apply _ _ _ (ix2 r j) ?_).trans ?_
  · rw [Shape.rowMajor_val_three, Shape.rowMajor_val_two]
    show (64 * b.val + s.val) * 1024 + j.val = (b.val * 64 + s.val) * 1024 + j.val
    omega
  refine (extractStridedSlice_apply _ _ _ _ (ix2 r C) fun a => ?_).trans ?_
  · match a with
    | ⟨0, _⟩ => show r.val = 0 + r.val; omega
    | ⟨1, _⟩ => exact hC
  rw [mix_apply, stacked z r C b s hr]
  refine congrArg (fun a : EReal => z (ix3 b s C) + (a - z (ix3 b s C)) * mu (ix2 (0 : Fin 1) C)) ?_
  by_cases h0 : s.val = 0
  · rw [if_pos (by omega : r.val % 64 = 0), if_pos h0]
    have e0 : k0_pay10 (F := Ideal) i (p 0) (ix2 r C) = p 0 (ix3 (0 : Fin 1) (0 : Fin 1) C) * live i := by
      unfold k0_pay10
      simp only [shapeCast_self]
      exact (row_spread _ r C).trans (one_before i (p 0) C)
    have e1 : k0_pay9 (F := Ideal) i (p 1) (ix2 r C) = p 1 (ix3 (0 : Fin 1) (0 : Fin 1) C) * live i := by
      unfold k0_pay9
      simp only [shapeCast_self]
      exact (row_spread _ r C).trans (one_before i (p 1) C)
    have e2 : k0_pay6 (F := Ideal) i (p 2) (ix2 (0 : Fin 1) C) = p 2 (ix3 (0 : Fin 1) (0 : Fin 1) C) * live i := one_before i (p 2) C
    have e3 : k0_pay7 (F := Ideal) i (p 3) (ix2 (0 : Fin 1) C) = p 3 (ix3 (0 : Fin 1) (0 : Fin 1) C) * live i := one_before i (p 3) C
    rw [e0, e1, e2, e3]
    match b with
    | 0 => rw [if_neg (by rw [hr, h0]; decide), if_neg (by rw [hr, h0]; decide), if_neg (by rw [hr, h0]; decide)]
    | 1 => rw [if_neg (by rw [hr, h0]; decide), if_neg (by rw [hr, h0]; decide), if_pos (by rw [hr, h0]; decide)]
    | 2 => rw [if_neg (by rw [hr, h0]; decide), if_pos (by rw [hr, h0]; decide)]
    | 3 => rw [if_pos (by rw [hr, h0]; decide)]
  · rw [if_neg (by omega : ¬ r.val % 64 = 0), if_neg h0]
    exact stacked z _ C b _ (by show (r.val + 255) % 256 = 64 * b.val + (s.val - 1); omega)

end Cert.Recur
-- ==== Proof.Rwkv.Final.lean ====
module

public import proofs.«01_k».proof.Proof.Gen.RwkvIdeal.Value
public import proofs.«01_k».proof.Proof.Rwkv.Tile

@[expose] public section

/-! The recurrence's second result array, read at a sequence, a row and a column. -/

set_option maxRecDepth 65536

noncomputable section

namespace Cert.Recur

open Cert.RwkvIdeal Cert.RwkvIdeal.Gen Cert.RwkvIdeal.Value Idealize.ShloMosaic Idealize.ShloMosaic.TcCoe Idealize.SL.Sem Idealize.ShloMosaic.Tactic
open Idealize.ShloMosaic.Pipeline (Dat)
open Idealize.ShloMosaic.ValueIdx

variable (m : (ℓ : Loc nD τ sig) → Buf (Elt Ideal) ℓ)

theorem off3 : (![0, 0, 0] : Fin 3 → Nat) = fun _ => 0 := by decide
theorem off2 : (![0, 0] : Fin 2 → Nat) = fun _ => 0 := by decide

/-- The four rows before a block, out of the four blocks before it. -/
def lastRow {F : FTy → Type} [FloatOps F] (x : Vec F S4x8x3328 .f32) : Fin 4 → Vec F S1x1x3328 .f32
  | 0 => View.ld x (Rect.unit (s := S4x8x3328) ![0, 7, 0] S1x1x3328.size inb_S4x8x3328_S1x1x3328_0_7_0)
  | 1 => View.ld x (Rect.unit (s := S4x8x3328) ![1, 7, 0] S1x1x3328.size inb_S4x8x3328_S1x1x3328_1_7_0)
  | 2 => View.ld x (Rect.unit (s := S4x8x3328) ![2, 7, 0] S1x1x3328.size inb_S4x8x3328_S1x1x3328_2_7_0)
  | 3 => View.ld x (Rect.unit (s := S4x8x3328) ![3, 7, 0] S1x1x3328.size inb_S4x8x3328_S1x1x3328_3_7_0)

theorem lastRow_apply (x : Vec Ideal S4x8x3328 .f32) (b : Fin 4) (C : Fin 3328) :
    lastRow x b (ix3 (0 : Fin 1) (0 : Fin 1) C) = x (ix3 b (7 : Fin 8) C) := by
  match b with
  | 0 | 1 | 2 | 3 =>
    refine congrArg x (funext fun a => Fin.ext ?_)
    match a with
    | ⟨0, _⟩ => rfl
    | ⟨1, _⟩ => rfl
    | ⟨2, _⟩ => show 0 + 1 * C.val = C.val; omega

section Steps
variable {F : FTy → Type} [FloatOps F]

set_option maxHeartbeats 4000000 in
/-- What the first grid step leaves of the second result. -/
theorem step_first (c : Dev nD) (i : grid0.Coords) (arg2 : Memref sig .tc .vmem S4x64x3328 .f32) (harg2 : arg2.IsWhole)
    (arg3 : Memref sig .tc .vmem S4x8x3328 .f32) (harg3 : arg3.IsWhole) (arg4 : Memref sig .tc .vmem S1x3328 .f32) (harg4 : arg4.IsWhole)
    (arg5 : Memref sig .tc .vmem S8x1024 .f32) (harg5 : arg5.IsWhole) (arg6 : Memref sig .tc .vmem S256x1024 .bf16) (harg6 : arg6.IsWhole)
    (arg7 : Memref sig .tc .vmem S256x1024 .bf16) (harg7 : arg7.IsWhole) (arg8 : Memref sig .tc .vmem S256x1024 .bf16) (harg8 : arg8.IsWhole)
    (arg9 : Memref sig .tc .vmem S4x64x1024 .bf16) (harg9 : arg9.IsWhole) (arg10 : Memref sig .tc .vmem S4x64x1024 .f32) (harg10 : arg10.IsWhole)
    (arg11 : Memref sig .tc .vmem S32x128x128 .f32) (harg11 : arg11.IsWhole) (hc0 : cond0_0 i)
    (x0 : Vec F S4x64x3328 .f32) (x1 : Vec F S4x8x3328 .f32) (x2 : Vec F S1x3328 .f32) (x3 : Vec F S8x1024 .f32)
    (x4 x5 x6 : Vec F S256x1024 .bf16) :
    out0_A_8 c i arg2 harg2 arg3 harg3 arg4 harg4 arg5 harg5 arg6 harg6 arg7 harg7 arg8 harg8 arg9 harg9 arg10 harg10 arg11 harg11 hc0 x0 x1 x2 x3 x4 x5 x6
      = tile i x0 (lastRow x1 0) (lastRow x1 1) (lastRow x1 2) (lastRow x1 3) x2 := by
  unfold out0_A_8
  rw [View.read_writes_eq_canon _ _ _ (cover0_A_8 c _ _ _ _ _ _ _ _ _ _ _ _ _ _ _ _ _ _ _ _ _ _ _ _ _ _ _ _ _)]
  unfold kernelRun0_A
  dsimp only
  sl_unfold_words
  rw [View.canon_unit_zero off3]
  unfold tile
  simp only [View.readAt_eq_ld, harg2.read_unread, harg3.read_unread, harg4.read_unread]
  rw [View.ld_unit_zero off3, View.ld_unit_zero off2]
  rfl

set_option maxHeartbeats 4000000 in
/-- What a later grid step leaves of the second result. -/
theorem step_later (c : Dev nD) (i : grid0.Coords) (arg2 : Memref sig .tc .vmem S4x64x3328 .f32) (harg2 : arg2.IsWhole)
    (arg3 : Memref sig .tc .vmem S4x8x3328 .f32) (harg3 : arg3.IsWhole) (arg4 : Memref sig .tc .vmem S1x3328 .f32) (harg4 : arg4.IsWhole)
    (arg5 : Memref sig .tc .vmem S8x1024 .f32) (harg5 : arg5.IsWhole) (arg6 : Memref sig .tc .vmem S256x1024 .bf16) (harg6 : arg6.IsWhole)
    (arg7 : Memref sig .tc .vmem S256x1024 .bf16) (harg7 : arg7.IsWhole) (arg8 : Memref sig .tc .vmem S256x1024 .bf16) (harg8 : arg8.IsWhole)
    (arg9 : Memref sig .tc .vmem S4x64x1024 .bf16) (harg9 : arg9.IsWhole) (arg10 : Memref sig .tc .vmem S4x64x1024 .f32) (harg10 : arg10.IsWhole)
    (arg11 : Memref sig .tc .vmem S32x128x128 .f32) (harg11 : arg11.IsWhole) (hc0 : ¬cond0_0 i)
    (x0 : Vec F S4x64x3328 .f32) (x1 : Vec F S4x8x3328 .f32) (x2 : Vec F S1x3328 .f32) (x3 : Vec F S8x1024 .f32)
    (x4 x5 x6 : Vec F S256x1024 .bf16) (xs : Vec F S32x128x128 .f32) :
    out0_B_8 c i arg2 harg2 arg3 harg3 arg4 harg4 arg5 harg5 arg6 harg6 arg7 harg7 arg8 harg8 arg9 harg9 arg10 harg10 arg11 harg11 hc0 x0 x1 x2 x3 x4 x5 x6 xs
      = tile i x0 (lastRow x1 0) (lastRow x1 1) (lastRow x1 2) (lastRow x1 3) x2 := by
  unfold out0_B_8
  rw [View.read_writes_eq_canon _ _ _ (cover0_B_8 c _ _ _ _ _ _ _ _ _ _ _ _ _ _ _ _ _ _ _ _ _ _ _ _ _ _ _ _ _ _)]
  unfold kernelRun0_B
  dsimp only
  sl_unfold_words
  rw [View.canon_unit_zero off3]
  unfold tile
  simp only [View.readAt_eq_ld, harg2.read_unread, harg3.read_unread, harg4.read_unread]
  rw [View.ld_unit_zero off3, View.ld_unit_zero off2]
  rfl

end Steps

/-- The projected rows as the kernel was launched with them. -/
abbrev argZ (c : Dev nD) : S8704x3328.Idx → EReal := m ((c : Thread nD τ).loc main_arg0)
/-- The mixing weights as the kernel was launched with them. -/
abbrev argM (c : Dev nD) : S3264.Idx → EReal := m ((c : Thread nD τ).loc main_arg1)

theorem hN : cfg0.N = 34 := by decide +kernel
theorem at1 : ∀ t : Fin cfg0.N, ((grid0.coords t) 1).val = t.val := (by decide +kernel : ∀ t : Fin grid0.N, _)
theorem idx0 : ∀ t : Fin cfg0.N, win0_0.index t (0 : Fin 3) = 0 ∧ win0_0.index t (1 : Fin 3) = t.val ∧ win0_0.index t (2 : Fin 3) = 0 :=
  (by decide +kernel : ∀ t : Fin grid0.N, _)
theorem idx1 : ∀ t : Fin cfg0.N, win0_1.index t (0 : Fin 3) = 0 ∧ win0_1.index t (1 : Fin 3) = 8 * t.val - 1 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx8 : ∀ t : Fin cfg0.N, win0_8.index t (0 : Fin 3) = 0 ∧ win0_8.index t (1 : Fin 3) = t.val ∧ win0_8.index t (2 : Fin 3) = 0 :=
  (by decide +kernel : ∀ t : Fin grid0.N, _)

theorem V_rows (c : Dev nD) (i : S4x2176x3328.Idx) :
    V m c main_v26 i = rd (argZ m c) (2176 * (i 0).val + (i 1).val) (i 2).val := by
  have h0 : (i 0).val < 4 := (i 0).isLt
  have h1 : (i 1).val < 2176 := (i 1).isLt
  have h2 : (i 2).val < 3328 := (i 2).isLt
  have e : V m c main_v26 = shapeCast S4x2176x3328 (argZ m c) shapeCasts_S8704x3328_S4x2176x3328 := by
    show StableHlo.after hostOps0 _ (Proc.devRef .tc main_v26) = _
    after_results_simp
    rfl
  rw [e]
  refine (shapeCast_apply _ _ _ (ix2 (⟨2176 * (i 0).val + (i 1).val, by omega⟩ : Fin 8704) (⟨(i 2).val, h2⟩ : Fin 3328)) ?_).trans
    (rd_eq _ _ _ _ rfl rfl)
  rw [Shape.rowMajor_val_three, Shape.rowMajor_val_two]
  show (2176 * (i 0).val + (i 1).val) * 3328 + (i 2).val = ((i 0).val * 2176 + (i 1).val) * 3328 + (i 2).val
  rw [Nat.mul_comm 2176]

theorem V_mix (c : Dev nD) (C : Fin 3328) (K : Fin 3264) (h : C.val = K.val) : V m c main_v2 (ix2 (0 : Fin 1) C) = argM m c (ix1 K) := by
  have e : V m c main_v2 = shapeCast S1x3328 (concatenate S3328 0 [⟨S3264, argM m c⟩,
      ⟨S64, broadcastInDim S64 ![] bcast_S_S64 (constant (F := Ideal) S_ .f32 0x00000000#32)⟩] concatenates_S3264_S64_S3328_d0) shapeCasts_S3328_S1x3328 := by
    show StableHlo.after hostOps0 _ (Proc.devRef .tc main_v2) = _
    after_results_simp
    rfl
  rw [e]
  refine (shapeCast_apply _ _ _ (ix1 C) (by simp [Shape.rowMajor_val_one, Shape.rowMajor_val_two])).trans ?_
  refine concatenate_apply_piece (t := S3328) 0 _ _ (ix1 C) 0 (by simp) S3264 (argM m c) rfl rfl 0 rfl (ix1 K) ?_ ?_
  · intro a ha
    match a with
    | ⟨0, _⟩ => exact absurd rfl ha
  · show 0 + K.val = C.val; omega

theorem read0 (c : Dev nD) (t : Fin cfg0.N) (b : Fin 4) (s : Fin 64) (C : Fin 3328) :
    iblk m c 0 t (ix3 b s C) = rd (argZ m c) (2176 * b.val + (64 * t.val + s.val)) C.val := by
  obtain ⟨e0, e1, e2⟩ := idx0 t
  show V m c main_v26 (((cfg0.win 0).blk t).view.emb (ix3 b s C)) = _
  rw [V_rows]
  have g0 : ((((cfg0.win 0).blk t).view.emb (ix3 b s C)) 0).val = b.val := by
    show win0_0.index t (0 : Fin 3) * 4 + 1 * b.val = b.val; omega
  have g1 : ((((cfg0.win 0).blk t).view.emb (ix3 b s C)) 1).val = 64 * t.val + s.val := by
    show win0_0.index t (1 : Fin 3) * 64 + 1 * s.val = 64 * t.val + s.val; omega
  have g2 : ((((cfg0.win 0).blk t).view.emb (ix3 b s C)) 2).val = C.val := by
    show win0_0.index t (2 : Fin 3) * 3328 + 1 * C.val = C.val; omega
  exact congr (congrArg (rd (argZ m c)) (congr (congrArg (fun x y => 2176 * x + y) g0) g1)) g2

theorem read1 (c : Dev nD) (t : Fin cfg0.N) (b : Fin 4) (C : Fin 3328) :
    iblk m c 1 t (ix3 b (7 : Fin 8) C) = rd (argZ m c) (2176 * b.val + (8 * (8 * t.val - 1) + 7)) C.val := by
  obtain ⟨e0, e1, e2⟩ := idx1 t
  show V m c main_v26 (((cfg0.win 1).blk t).view.emb (ix3 b (7 : Fin 8) C)) = _
  rw [V_rows]
  have g0 : ((((cfg0.win 1).blk t).view.emb (ix3 b (7 : Fin 8) C)) 0).val = b.val := by
    show win0_1.index t (0 : Fin 3) * 4 + 1 * b.val = b.val; omega
  have g1 : ((((cfg0.win 1).blk t).view.emb (ix3 b (7 : Fin 8) C)) 1).val = 8 * (8 * t.val - 1) + 7 := by
    show win0_1.index t (1 : Fin 3) * 8 + 1 * 7 = 8 * (8 * t.val - 1) + 7; omega
  have g2 : ((((cfg0.win 1).blk t).view.emb (ix3 b (7 : Fin 8) C)) 2).val = C.val := by
    show win0_1.index t (2 : Fin 3) * 3328 + 1 * C.val = C.val; omega
  exact congr (congrArg (rd (argZ m c)) (congr (congrArg (fun x y => 2176 * x + y) g0) g1)) g2

theorem read2 (c : Dev nD) (t : Fin cfg0.N) (C : Fin 3328) (K : Fin 3264) (h : C.val = K.val) :
    iblk m c 2 t (ix2 (0 : Fin 1) C) = argM m c (ix1 K) := by
  obtain ⟨e0, e1⟩ := idx2 t
  refine Eq.trans ?_ (V_mix m c C K h)
  show V m c main_v2 (((cfg0.win 2).blk t).view.emb (ix2 (0 : Fin 1) C)) = _
  refine congrArg _ (funext fun a => Fin.ext ?_)
  match a with
  | ⟨0, _⟩ => show win0_2.index t (0 : Fin 2) * 1 + 1 * 0 = 0; omega
  | ⟨1, _⟩ => show win0_2.index t (1 : Fin 2) * 3328 + 1 * C.val = C.val; omega

/-- What grid step `t` writes of the second result. -/
theorem written (c : Dev nD) (t : Fin cfg0.N) :
    (dats m 0 c).flushed 8 t = (cfg0.win 8).cut (grid0.coords t)
      (tile (F := Ideal) (grid0.coords t) (iblk m c 0 t) (lastRow (iblk m c 1 t) 0) (lastRow (iblk m c 1 t) 1) (lastRow (iblk m c 1 t) 2)
        (lastRow (iblk m c 1 t) 3) (iblk m c 2 t)) := by
  by_cases h0 : t.val % 34 = 0
  · rw [flushed8_A m c t h0, step_first]
  · rw [flushed8_B m c t h0, step_later]

/-- The kernel's second result at any sequence, row and column. -/
theorem final_v (c : Dev nD) (b : Fin 4) (R : Fin 2176) (j : Fin 1024) :
    (dats m 0 c).arrAt 8 cfg0.N (ix3 b R j) = shifted (argZ m c) (argM m c) b.val R.val j := by
  have hR := R.isLt
  have hj := j.isLt
  have hb := b.isLt
  let t : Fin cfg0.N := ⟨R.val / 64, by rw [hN]; omega⟩
  let s : Fin 64 := ⟨R.val % 64, by omega⟩
  let C : Fin 3328 := ⟨2048 + j.val, by omega⟩
  have ht : t.val = R.val / 64 := rfl
  have hs : s.val = R.val % 64 := rfl
  obtain ⟨e0, e1, e2⟩ := idx8 t
  have hemb : ((cfg0.win 8).blk t).view.emb (ix3 b s j) = ix3 b R j := by
    refine funext fun a => Fin.ext ?_
    match a with
    | ⟨0, _⟩ => show win0_8.index t (0 : Fin 3) * 4 + 1 * b.val = b.val; omega
    | ⟨1, _⟩ => show win0_8.index t (1 : Fin 3) * 64 + 1 * s.val = R.val; omega
    | ⟨2, _⟩ => show win0_8.index t (2 : Fin 3) * 1024 + 1 * j.val = j.val; omega
  have h := congrFun (blocks8 m c t (flush0_8 t)) (ix3 b s j)
  rw [written] at h
  refine (congrArg ((dats m 0 c).arrAt 8 cfg0.N) hemb.symm).trans (h.trans ?_)
  refine Eq.trans (b := tile (F := Ideal) (grid0.coords t) (iblk m c 0 t) (lastRow (iblk m c 1 t) 0) (lastRow (iblk m c 1 t) 1)
    (lastRow (iblk m c 1 t) 2) (lastRow (iblk m c 1 t) 3) (iblk m c 2 t) (ix3 b s j)) rfl ?_
  rw [tile_apply _ _ (lastRow (iblk m c 1 t)) _ b s j C rfl, lastRow_apply, read0, read0, read1, read2 m c t C (⟨2048 + j.val, by omega⟩ : Fin 3264) rfl]
  unfold shifted
  have ez : 64 * t.val + s.val = R.val := by omega
  rw [ez]
  refine congrArg (fun a : EReal => rd (argZ m c) (2176 * b.val + R.val) (2048 + j.val)
    + (a - rd (argZ m c) (2176 * b.val + R.val) (2048 + j.val)) * argM m c (ix1 (⟨2048 + j.val, by omega⟩ : Fin 3264))) ?_
  unfold before live
  rw [at1 t]
  by_cases hz : s.val = 0
  · rw [if_pos hz]
    by_cases hR0 : R.val = 0
    · rw [if_pos hR0, if_neg (by omega), mul_zero]
    · rw [if_neg hR0, if_pos (by omega), mul_one]
      exact congrArg (fun n => rd (argZ m c) (2176 * b.val + n) (2048 + j.val)) (by omega)
  · rw [if_neg hz, if_neg (by omega)]
    exact congrArg (fun n => rd (argZ m c) (2176 * b.val + n) (2048 + j.val)) (by show 64 * t.val + (s.val - 1) = R.val - 1; omega)

end Cert.Recur
-- ==== Proof.Rwkv.Ref.lean ====
module

public import proofs.«01_k».proof.Proof.Gen.RefRwkvFirstIdeal.Read
public import proofs.«01_k».proof.Proof.Rwkv.Core

@[expose] public section

/-! The reference's result, read at a sequence, a row and a column. -/

noncomputable section

namespace Cert.Recur

open Cert.RefRwkvFirstIdeal Cert.RefRwkvFirstIdeal.Gen Cert.RefRwkvFirstIdeal.Read Idealize.ShloMosaic Idealize.ShloMosaic.TcCoe
open Idealize.ShloMosaic.StableHlo Idealize.ShloMosaic.ValueIdx

variable (A : S8704x3328.Idx → EReal) (M : S3264.Idx → EReal)

/-- The rows the reference shifts are the projected rows. -/
theorem ref_row (i : S4x2176x3264.Idx) :
    val_main_v1 (F := Ideal) A i = rd A (2176 * (i 0).val + (i 1).val) (i 2).val := by
  have h2 : (i 2).val < 3264 := (i 2).isLt
  rw [val_main_v1_apply, val_main_v0_apply]
  refine rd_eq A _ _ _ ?_ ?_
  · show (((i 0).val * 2176 + (i 1).val) * 3328 + (i 2).val) / 3328 = _
    omega
  · show (((i 0).val * 2176 + (i 1).val) * 3328 + (i 2).val) % 3328 = _
    omega

/-- The shifted rows are the rows before. -/
theorem ref_before (i : S4x2176x3264.Idx) :
    val_main_v3 (F := Ideal) A i = before A (i 0).val (i 1).val (i 2).val := by
  have h1 : (i 1).val < 2176 := (i 1).isLt
  rw [val_main_v3_apply]
  unfold val_main_v2 before
  by_cases hr : (i 1).val = 0
  · rw [if_pos hr]
    refine (pad_apply_of_not_inside _ _ _ _ _ _ _ _ (1 : Fin 3) ?_).trans ?_
    · intro h
      have h' : 1 ≤ (i 1).val := h.1
      omega
    · show (((0#32 : BitVec 32).toInt : ℝ) : EReal) = 0
      simp
  · rw [if_neg hr]
    refine (pad_apply_of_inside _ _ _ _ _ _ _ _ (fun a => match a with
      | ⟨0, _⟩ => ⟨(i 0).val, (i 0).isLt⟩
      | ⟨1, _⟩ => ⟨(i 1).val - 1, by show (i 1).val - 1 < 2176; omega⟩
      | ⟨2, _⟩ => ⟨(i 2).val, (i 2).isLt⟩ : S4x2176x3264.Idx) ?_).trans ?_
    · intro a
      match a with
      | ⟨0, _⟩ => show (i 0).val = 0 + (i 0).val * 1; omega
      | ⟨1, _⟩ => show (i 1).val = 1 + ((i 1).val - 1) * 1; omega
      | ⟨2, _⟩ => show (i 2).val = 0 + (i 2).val * 1; omega
    · exact ref_row A _

/-- The reference's result is the value projection with its token shift. -/
theorem ref_value (b : Fin 4) (r : Fin 2176) (j : Fin 1024) :
    val_main_v9 (F := Ideal) A M (ix3 b r j) = shifted A M b.val r.val j := by
  rw [val_main_v9_apply, val_main_v8_apply, val_main_v7_apply, val_main_v4_apply, val_main_v6_apply, val_main_v5_apply,
    ref_row, ref_before]
  unfold shifted
  refine congrArg (fun x : EReal => rd A (2176 * b.val + r.val) (2048 + j.val)
    + (before A b.val r.val (2048 + j.val) - rd A (2176 * b.val + r.val) (2048 + j.val)) * x) (congrArg M (funext fun a => ?_))
  match a with
  | ⟨0, _⟩ => rfl

end Cert.Recur
-- ==== Proof.Rwkv.Claims.lean ====
module

public import proofs.«01_k».proof.Defs
public import proofs.«01_k».proof.Proof.Gen.Rwkv.Frame
public import proofs.«01_k».proof.Proof.Gen.RwkvIdeal.Frame
public import proofs.«01_k».proof.Proof.Rwkv.Final
public import proofs.«01_k».proof.Proof.Rwkv.Ref

@[expose] public section

/-! The claims of the recurrence's second result. -/

noncomputable section

namespace Cert.Recur

open Idealize.ShloMosaic Idealize.ShloMosaic.TcCoe Idealize.SL.Sem
open Idealize.ShloMosaic.ValueIdx

/-- The printed kernel runs, leaves its arguments and every counter as they were. -/
theorem frameKernel : Cert.quiescent_Rwkv := fun m ρ _ => Cert.Rwkv.Gen.frame m ρ

/-- So does the idealized kernel. -/
theorem frameIdeal : Cert.quiescent_RwkvIdeal := fun m ρ _ => Cert.RwkvIdeal.Gen.frame m ρ

/-- The reference runs, leaves its arguments and every counter as they were. -/
theorem frameRef : Cert.quiescent_RefRwkvFirstIdeal := fun m ρ _ =>
  (θ_run Cert.RefRwkvFirstIdeal.defs _ _).mono (fun r h => ⟨fun c => (h c).2, sem_eq_zero_of_no_sems (by decide) r.2⟩)
    (Cert.RefRwkvFirstIdeal.Value.run m ρ)

/-- From any arguments the kernel and the reference end with equal values. -/
theorem same : Cert.algebraic_RwkvIdeal_RefRwkvFirstIdeal := by
  intro m g m' g' hp hargs
  refine ⟨fun c => (Cert.RwkvIdeal.Gen.dats m 0 c).arrAt 8 Cert.RwkvIdeal.cfg0.N, ?_, ?_⟩
  · exact (θ_run Cert.RwkvIdeal.defs _ _).mono (fun r h c => ⟨(h c).2.1, (h c).2.2⟩) (Cert.RwkvIdeal.Value.run_blocks m g)
  · refine (θ_run Cert.RefRwkvFirstIdeal.defs _ _).mono (fun r hr c => ⟨(hr c).1.trans ?_, (hr c).2⟩) (Cert.RefRwkvFirstIdeal.Value.run m' g')
    obtain ⟨h0, h1, -⟩ := hargs c
    rw [Cert.RefRwkvFirstIdeal.Read.val_main_v9_eq]
    change Cert.RefRwkvFirstIdeal.Read.val_main_v9 (F := Ideal)
      (m' ((c : Thread Cert.RefRwkvFirstIdeal.nD Cert.RefRwkvFirstIdeal.τ).loc Cert.RefRwkvFirstIdeal.main_arg0))
      (m' ((c : Thread Cert.RefRwkvFirstIdeal.nD Cert.RefRwkvFirstIdeal.τ).loc Cert.RefRwkvFirstIdeal.main_arg1)) = _
    rw [h0, h1]
    funext i
    have ei : i = ix3 (i 0) (i 1) (i 2) := funext fun a => by
      match a with
      | ⟨0, _⟩ => rfl
      | ⟨1, _⟩ => rfl
      | ⟨2, _⟩ => rfl
    have e := (ref_value (argZ m c) (argM m c) (i 0) (i 1) (i 2)).trans (final_v m c (i 0) (i 1) (i 2)).symm
    exact (congrArg (Cert.RefRwkvFirstIdeal.Read.val_main_v9 (F := Ideal) (argZ m c) (argM m c)) ei).trans
      (e.trans (congrArg ((Cert.RwkvIdeal.Gen.dats m 0 c).arrAt 8 Cert.RwkvIdeal.cfg0.N) ei.symm))

end Cert.Recur
-- ==== Proof.lean ====
module

public import proofs.«01_k».proof.Defs
public import proofs.«01_k».proof.Proof.Gen.ProjQkv.Frame
public import proofs.«01_k».proof.Proof.Gen.ProjQkvIdeal.Frame
public import proofs.«01_k».proof.Proof.Gen.ProjQkvIdeal.Value
public import proofs.«01_k».proof.Proof.Gen.RefQkvIdeal.Read
public import proofs.«01_k».proof.Proof.Gen.ProjGate.Frame
public import proofs.«01_k».proof.Proof.Gen.ProjGateIdeal.Frame
public import proofs.«01_k».proof.Proof.Gen.ProjGateIdeal.Value
public import proofs.«01_k».proof.Proof.Gen.RefGateIdeal.Read
public import proofs.«01_k».proof.Proof.Gen.ProjRwkv.Frame
public import proofs.«01_k».proof.Proof.Gen.ProjRwkvIdeal.Frame
public import proofs.«01_k».proof.Proof.Gen.ProjRwkvIdeal.Value
public import proofs.«01_k».proof.Proof.Gen.RefRwkvIdeal.Read
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Read
public import proofs.«01_k».proof.Proof.Gen.NormMix.Frame
public import proofs.«01_k».proof.Proof.Gen.NormMixIdeal.Frame
public import proofs.«01_k».proof.Proof.Gen.NormMixIdeal.Value
public import proofs.«01_k».proof.Proof.Gen.RefNormMixIdeal.Read
public import proofs.«01_k».proof.Proof.Gen.NormLast.Frame
public import proofs.«01_k».proof.Proof.Gen.NormLastIdeal.Frame
public import proofs.«01_k».proof.Proof.Gen.NormLastIdeal.Value
public import proofs.«01_k».proof.Proof.Gen.RefNormLastIdeal.Read
public import proofs.«01_k».proof.Proof.Gen.Merge.Frame
public import proofs.«01_k».proof.Proof.Gen.MergeIdeal.Frame
public import proofs.«01_k».proof.Proof.Gen.MergeIdeal.Value
public import proofs.«01_k».proof.Proof.Gen.RefMergeIdeal.Read
public import proofs.«01_k».proof.Proof.Gen.Route.Frame
public import proofs.«01_k».proof.Proof.Gen.RouteIdeal.Frame
public import proofs.«01_k».proof.Proof.Gen.RouteIdeal.Value
public import proofs.«01_k».proof.Proof.Gen.RefRouteIdeal.Read
public import proofs.«01_k».proof.Proof.Gen.Rwkv.Frame
public import proofs.«01_k».proof.Proof.Gen.RwkvIdeal.Frame
public import proofs.«01_k».proof.Proof.Gen.RwkvIdeal.Value
public import proofs.«01_k».proof.Proof.Gen.RefRwkvFirstIdeal.Read
public import proofs.«01_k».proof.Proof.Attn.Claims
public import proofs.«01_k».proof.Proof.Proj.QkvClaims
public import proofs.«01_k».proof.Proof.Proj.GateClaims
public import proofs.«01_k».proof.Proof.Proj.RwkvClaims
public import proofs.«01_k».proof.Proof.Norm.MixClaims
public import proofs.«01_k».proof.Proof.Norm.LastClaims
public import proofs.«01_k».proof.Proof.Merge.Claims
public import proofs.«01_k».proof.Proof.Route.Claims
public import proofs.«01_k».proof.Proof.Rwkv.Claims

@[expose] public section

/-! The certificate: every claim of the attention kernel, of the three projections, of the two norms, of
    the merge, of its router and of the recurrence's values. -/

noncomputable section

namespace Cert.Proof

open Cert

/-- Everything the certificate claims. -/
theorem claim : Cert.Claim :=
  ⟨Kernel.Gen.facts, KernelIdeal.Gen.facts, ReferenceIdeal.Gen.facts,
    ProjQkv.Gen.facts, ProjQkvIdeal.Gen.facts, RefQkvIdeal.Gen.facts,
    ProjGate.Gen.facts, ProjGateIdeal.Gen.facts, RefGateIdeal.Gen.facts,
    ProjRwkv.Gen.facts, ProjRwkvIdeal.Gen.facts, RefRwkvIdeal.Gen.facts,
    NormMix.Gen.facts, NormMixIdeal.Gen.facts, RefNormMixIdeal.Gen.facts,
    NormLast.Gen.facts, NormLastIdeal.Gen.facts, RefNormLastIdeal.Gen.facts,
    Merge.Gen.facts, MergeIdeal.Gen.facts, RefMergeIdeal.Gen.facts,
    Route.Gen.facts, RouteIdeal.Gen.facts, RefRouteIdeal.Gen.facts,
    Rwkv.Gen.facts, RwkvIdeal.Gen.facts, RefRwkvFirstIdeal.Gen.facts, Attn.factsFinite, Picked.factsFinite,
    Attn.frameKernel, Attn.frameIdeal, Attn.frameIdealFinite Attn.factsFinite, Attn.frameRef, Attn.frameRefFinite Attn.factsFinite,
    Proj.Qkv.frameKernel, Proj.Qkv.frameIdeal, Proj.Qkv.frameRef,
    Proj.Gate.frameKernel, Proj.Gate.frameIdeal, Proj.Gate.frameRef,
    Proj.Rwkv.frameKernel, Proj.Rwkv.frameIdeal, Proj.Rwkv.frameRef,
    Norm.Mix.frameKernel, Norm.Mix.frameIdeal, Norm.Mix.frameRef,
    Norm.Last.frameKernel, Norm.Last.frameIdeal, Norm.Last.frameRef,
    Joined.frameKernel, Joined.frameIdeal, Joined.frameRef,
    Picked.frameKernel, Picked.frameIdeal, Picked.frameIdealFinite Picked.factsFinite, Picked.frameRef,
    Picked.frameRefFinite Picked.factsFinite,
    Recur.frameKernel, Recur.frameIdeal, Recur.frameRef,
    Attn.keeps, Attn.same Attn.factsFinite, trivial, Proj.Qkv.same, trivial, Proj.Gate.same, trivial, Proj.Rwkv.same,
    trivial, Norm.Mix.same, trivial, Norm.Last.same, trivial, Joined.same,
    trivial, Picked.same Picked.factsFinite, trivial, Recur.same⟩

end Cert.Proof
